-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "never" .f32 0xC7C34F80#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S32x64x256 : Shape := ⟨3, ![32, 64, 256]⟩
abbrev S32x64x1024 : Shape := ⟨3, ![32, 64, 1024]⟩
abbrev S256x768 : Shape := ⟨2, ![256, 768]⟩
abbrev S1536 : Shape := ⟨1, ![1536]⟩
abbrev S256x256 : Shape := ⟨2, ![256, 256]⟩
abbrev S1024x256 : Shape := ⟨2, ![1024, 256]⟩
abbrev S256x1024 : Shape := ⟨2, ![256, 1024]⟩
abbrev S1024 : Shape := ⟨1, ![1024]⟩
abbrev S512x256 : Shape := ⟨2, ![512, 256]⟩
abbrev S256 : Shape := ⟨1, ![256]⟩
abbrev S_ : Shape := ⟨0, ![]⟩

class Facts : Prop where
  bcast_S_S32x64x1024 : S_.BroadcastsInDim S32x64x1024 (![] : Fin 0 → Fin S32x64x1024.rank)
  bcast_S_S256x1024 : S_.BroadcastsInDim S256x1024 (![] : Fin 0 → Fin S256x1024.rank)
  bcast_S_S1024 : S_.BroadcastsInDim S1024 (![] : Fin 0 → Fin S1024.rank)

variable [Facts]

def fn {F : FTy → Type} [FloatOps F] (main_arg0 : FVec F S32x64x256 .f32) (main_arg1 : FVec F S32x64x1024 .f32) (main_arg2 : FVec F S256x768 .f32) (main_arg3 : FVec F S256x768 .f32) (main_arg4 : FVec F S1536 .f32) (main_arg5 : FVec F S256x256 .f32) (main_arg6 : FVec F S256x256 .f32) (main_arg7 : FVec F S1024x256 .f32) (main_arg8 : FVec F S256x1024 .f32) (main_arg9 : FVec F S1024 .f32) (main_arg10 : FVec F S512x256 .f32) (main_arg11 : FVec F S256 .f32) : IVec S32x64x1024 1 × IVec S256x1024 1 × IVec S1024 1 :=
  let main_cst : FVec F S_ .f32 := constant S_ .f32 0x00000000#32
  let main_v0 : FVec F S32x64x1024 .f32 := broadcastInDim S32x64x1024 ![] bcast_S_S32x64x1024 main_cst
  let main_v1 : IVec S32x64x1024 1 := cmpf .oge main_arg1 main_v0
  let main_cst_0 : FVec F S_ .f32 := constant S_ .f32 0x3F800000#32
  let main_v2 : FVec F S32x64x1024 .f32 := broadcastInDim S32x64x1024 ![] bcast_S_S32x64x1024 main_cst_0
  let main_v3 : IVec S32x64x1024 1 := cmpf .ole main_arg1 main_v2
  let main_v4 : IVec S32x64x1024 1 := andi main_v1 main_v3
  let main_v5 : FVec F S256x1024 .f32 := Host.absf main_arg8
  let main_cst_1 : FVec F S_ .f32 := constant S_ .f32 0x7F800000#32
  let main_v6 : FVec F S256x1024 .f32 := broadcastInDim S256x1024 ![] bcast_S_S256x1024 main_cst_1
  let main_v7 : IVec S256x1024 1 := cmpf .olt main_v5 main_v6
  let main_v8 : FVec F S1024 .f32 := Host.absf main_arg9
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  (main_v4, main_v7, main_v10)
-- ==== Kernel.lean ====
abbrev S32x64x256 : Shape := ⟨3, ![32, 64, 256]⟩
abbrev S32x64x1024 : Shape := ⟨3, ![32, 64, 1024]⟩
abbrev S256x768 : Shape := ⟨2, ![256, 768]⟩
abbrev S1536 : Shape := ⟨1, ![1536]⟩
abbrev S256x256 : Shape := ⟨2, ![256, 256]⟩
abbrev S1024x256 : Shape := ⟨2, ![1024, 256]⟩
abbrev S256x1024 : Shape := ⟨2, ![256, 1024]⟩
abbrev S1024 : Shape := ⟨1, ![1024]⟩
abbrev S512x256 : Shape := ⟨2, ![512, 256]⟩
abbrev S256 : Shape := ⟨1, ![256]⟩
abbrev S768 : Shape := ⟨1, ![768]⟩
abbrev S1x768 : Shape := ⟨2, ![1, 768]⟩
abbrev S1x1024 : Shape := ⟨2, ![1, 1024]⟩
abbrev S1x256 : Shape := ⟨2, ![1, 256]⟩
abbrev S8x64x256 : Shape := ⟨3, ![8, 64, 256]⟩
abbrev S8x64x1024 : Shape := ⟨3, ![8, 64, 1024]⟩
abbrev S64x256 : Shape := ⟨2, ![64, 256]⟩
abbrev S64x1024 : Shape := ⟨2, ![64, 1024]⟩
abbrev S1x64x256 : Shape := ⟨3, ![1, 64, 256]⟩
abbrev S64x768 : Shape := ⟨2, ![64, 768]⟩
abbrev S1x64x1024 : Shape := ⟨3, ![1, 64, 1024]⟩
abbrev S64 : Shape := ⟨1, ![64]⟩
abbrev S64x1 : Shape := ⟨2, ![64, 1]⟩

abbrev nBuf : Space → Nat
  | .hbm => 21
  | .vmem => 22
  | .smem => 0
  | _ => 0

abbrev bufTy : (tb : Table) → Fin (tcTables nBuf tb) → BufTy
  | .hbm, ⟨0, _⟩ => ⟨S32x64x256, .f32⟩
  | .hbm, ⟨1, _⟩ => ⟨S32x64x1024, .f32⟩
  | .hbm, ⟨2, _⟩ => ⟨S256x768, .f32⟩
  | .hbm, ⟨3, _⟩ => ⟨S256x768, .f32⟩
  | .hbm, ⟨4, _⟩ => ⟨S1536, .f32⟩
  | .hbm, ⟨5, _⟩ => ⟨S256x256, .f32⟩
  | .hbm, ⟨6, _⟩ => ⟨S256x256, .f32⟩
  | .hbm, ⟨7, _⟩ => ⟨S1024x256, .f32⟩
  | .hbm, ⟨8, _⟩ => ⟨S256x1024, .f32⟩
  | .hbm, ⟨9, _⟩ => ⟨S1024, .f32⟩
  | .hbm, ⟨10, _⟩ => ⟨S512x256, .f32⟩
  | .hbm, ⟨11, _⟩ => ⟨S256, .f32⟩
  | .hbm, ⟨12, _⟩ => ⟨S768, .f32⟩
  | .hbm, ⟨13, _⟩ => ⟨S1x768, .f32⟩
  | .hbm, ⟨14, _⟩ => ⟨S768, .f32⟩
  | .hbm, ⟨15, _⟩ => ⟨S1x768, .f32⟩
  | .hbm, ⟨16, _⟩ => ⟨S1x1024, .f32⟩
  | .hbm, ⟨17, _⟩ => ⟨S1x256, .f32⟩
  | .hbm, ⟨18, _⟩ => ⟨S256x256, .f32⟩
  | .hbm, ⟨19, _⟩ => ⟨S256x256, .f32⟩
  | .hbm, ⟨20, _⟩ => ⟨S32x64x256, .f32⟩
  | .local _ .vmem, ⟨0, _⟩ => ⟨S8x64x256, .f32⟩
  | .local _ .vmem, ⟨1, _⟩ => ⟨S8x64x256, .f32⟩
  | .local _ .vmem, ⟨2, _⟩ => ⟨S8x64x1024, .f32⟩
  | .local _ .vmem, ⟨3, _⟩ => ⟨S8x64x1024, .f32⟩
  | .local _ .vmem, ⟨4, _⟩ => ⟨S256x768, .f32⟩
  | .local _ .vmem, ⟨5, _⟩ => ⟨S256x768, .f32⟩
  | .local _ .vmem, ⟨6, _⟩ => ⟨S1x768, .f32⟩
  | .local _ .vmem, ⟨7, _⟩ => ⟨S1x768, .f32⟩
  | .local _ .vmem, ⟨8, _⟩ => ⟨S256x256, .f32⟩
  | .local _ .vmem, ⟨9, _⟩ => ⟨S256x256, .f32⟩
  | .local _ .vmem, ⟨10, _⟩ => ⟨S1024x256, .f32⟩
  | .local _ .vmem, ⟨11, _⟩ => ⟨S256x1024, .f32⟩
  | .local _ .vmem, ⟨12, _⟩ => ⟨S1x1024, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S8x64x256, .f32⟩
  | .local _ .vmem, ⟨17, _⟩ => ⟨S8x64x256, .f32⟩
  | .local _ .vmem, ⟨18, _⟩ => ⟨S64x256, .f32⟩
  | .local _ .vmem, ⟨19, _⟩ => ⟨S64x1024, .f32⟩
  | .local _ .vmem, ⟨20, _⟩ => ⟨S64x256, .f32⟩
  | .local _ .vmem, ⟨21, _⟩ => ⟨S32x64x256, .f32⟩
  | _, _ => ⟨S32x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![4], ![false]⟩

def k0_off1 (i : grid0.Coords) (c0_i32_23 : BitVec 32) : Fin 3 → Nat :=
  let arg0 : BitVec 32 := BitVec.ofNat 32 (i 0).val
  let c8_i32 : BitVec 32 := 8#32
  let v25 : BitVec 32 := Scalar.muli arg0 c8_i32
  let v26 : BitVec 32 := Scalar.addi v25 c0_i32_23
  let v318 : Index := Scalar.indexCast v26
  let c0_156 : Index := 0#32
  let c0_157 : Index := 0#32
  ![v318.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "never" => some ⊥
  | _ => none
-- ==== ReferenceIdeal.lean ====
abbrev S32x64x256 : Shape := ⟨3, ![32, 64, 256]⟩
abbrev S32x64x1024 : Shape := ⟨3, ![32, 64, 1024]⟩
abbrev S256x768 : Shape := ⟨2, ![256, 768]⟩
abbrev S1536 : Shape := ⟨1, ![1536]⟩
abbrev S256x256 : Shape := ⟨2, ![256, 256]⟩
abbrev S1024x256 : Shape := ⟨2, ![1024, 256]⟩
abbrev S256x1024 : Shape := ⟨2, ![256, 1024]⟩
abbrev S1024 : Shape := ⟨1, ![1024]⟩
abbrev S512x256 : Shape := ⟨2, ![512, 256]⟩
abbrev S256 : Shape := ⟨1, ![256]⟩
abbrev S768 : Shape := ⟨1, ![768]⟩
abbrev S_ : Shape := ⟨0, ![]⟩
abbrev S64x256 : Shape := ⟨2, ![64, 256]⟩
abbrev S64x1024x256 : Shape := ⟨3, ![64, 1024, 256]⟩
abbrev S64x1024 : Shape := ⟨2, ![64, 1024]⟩
abbrev S1x64x256 : Shape := ⟨3, ![1, 64, 256]⟩
abbrev S1x64x1024 : Shape := ⟨3, ![1, 64, 1024]⟩
abbrev S64x1x256 : Shape := ⟨3, ![64, 1, 256]⟩
abbrev S1x1024 : Shape := ⟨2, ![1, 1024]⟩
abbrev S64 : Shape := ⟨1, ![64]⟩
abbrev S64x1 : Shape := ⟨2, ![64, 1]⟩
abbrev S64x512 : Shape := ⟨2, ![64, 512]⟩
abbrev S1x256 : Shape := ⟨2, ![1, 256]⟩
abbrev S64x768 : Shape := ⟨2, ![64, 768]⟩
abbrev S1x768 : Shape := ⟨2, ![1, 768]⟩

abbrev nBuf : Space → Nat
  | .hbm => 201
  | .vmem => 0
  | .smem => 0
  | _ => 0

abbrev hbmTy0_0 (i : Nat) : BufTy := match i % 128 with
  | 0 => ⟨S32x64x256, .f32⟩
  | 1 => ⟨S32x64x1024, .f32⟩
  | 2 => ⟨S256x768, .f32⟩
  | 3 => ⟨S256x768, .f32⟩
  | 4 => ⟨S1536, .f32⟩
  | 5 => ⟨S256x256, .f32⟩
  | 6 => ⟨S256x256, .f32⟩
  | 7 => ⟨S1024x256, .f32⟩
  | 8 => ⟨S256x1024, .f32⟩
  | 9 => ⟨S1024, .f32⟩
  | 10 => ⟨S512x256, .f32⟩
  | 11 => ⟨S256, .f32⟩
  | 12 => ⟨S768, .f32⟩
  | 13 => ⟨S768, .f32⟩
  | 14 => ⟨S_, .f32⟩
  | 15 => ⟨S64x256, .f32⟩
  | 16 => ⟨S_, .f32⟩
  | 17 => ⟨S64x1024x256, .f32⟩
  | 18 => ⟨S_, .f32⟩
  | 19 => ⟨S64x1024, .f32⟩
  | 20 => ⟨S_, .f32⟩
  | 21 => ⟨S32x64x256, .f32⟩
  | 22 => ⟨S_, .i32⟩
  | 23 => ⟨S_, .i32⟩
  | 24 => ⟨S32x64x256, .f32⟩
  | 25 => ⟨S32x64x1024, .f32⟩
  | 26 => ⟨S256x256, .f32⟩
  | 27 => ⟨S256x256, .f32⟩
  | 28 => ⟨S1024x256, .f32⟩
  | 29 => ⟨S256x1024, .f32⟩
  | 30 => ⟨S1024, .f32⟩
  | 31 => ⟨S512x256, .f32⟩
  | 32 => ⟨S256, .f32⟩
  | 33 => ⟨S256x768, .f32⟩
  | 34 => ⟨S768, .f32⟩
  | 35 => ⟨S256x768, .f32⟩
  | 36 => ⟨S768, .f32⟩
  | 37 => ⟨S_, .i32⟩
  | 38 => ⟨S_, .i32⟩
  | 39 => ⟨S64x256, .f32⟩
  | 40 => ⟨S64x1024x256, .f32⟩
  | 41 => ⟨S64x1024, .f32⟩
  | 42 => ⟨S32x64x256, .f32⟩
  | 43 => ⟨S_, .i32⟩
  | 44 => ⟨S_, .i1⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S1x64x256, .f32⟩
  | 56 => ⟨S64x256, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S1x64x1024, .f32⟩
  | 66 => ⟨S64x1024, .f32⟩
  | 67 => ⟨S64x1x256, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S64x1024x256, .f32⟩
  | 77 => ⟨S64x1024, .f32⟩
  | 78 => ⟨S64x1024, .f32⟩
  | 79 => ⟨S_, .f32⟩
  | 80 => ⟨S64x1024, .f32⟩
  | 81 => ⟨S64x1024, .f32⟩
  | 82 => ⟨S_, .f32⟩
  | 83 => ⟨S64x1024, .f32⟩
  | 84 => ⟨S64x1024, .f32⟩
  | 85 => ⟨S64x256, .f32⟩
  | 86 => ⟨S64x256, .f32⟩
  | 87 => ⟨S64x256, .f32⟩
  | 88 => ⟨S64x256, .f32⟩
  | 89 => ⟨S64x256, .f32⟩
  | 90 => ⟨S64x256, .f32⟩
  | 91 => ⟨S64x1024, .f32⟩
  | 92 => ⟨S1x1024, .f32⟩
  | 93 => ⟨S64x1024, .f32⟩
  | 94 => ⟨S64x1024, .f32⟩
  | 95 => ⟨S_, .f32⟩
  | 96 => ⟨S64x1024, .f32⟩
  | 97 => ⟨S64x1024, .f32⟩
  | 98 => ⟨S64x1024, .f32⟩
  | 99 => ⟨S_, .f32⟩
  | 100 => ⟨S64x1024, .f32⟩
  | 101 => ⟨S64x1024, .f32⟩
  | 102 => ⟨S64x1024, .f32⟩
  | 103 => ⟨S64x1024, .f32⟩
  | 104 => ⟨S64x1024, .f32⟩
  | 105 => ⟨S_, .f32⟩
  | 106 => ⟨S64, .f32⟩
  | 107 => ⟨S_, .f32⟩
  | 108 => ⟨S64, .f32⟩
  | 109 => ⟨S64, .f32⟩
  | 110 => ⟨S64x1, .f32⟩
  | 111 => ⟨S64x1024, .f32⟩
  | 112 => ⟨S64x1024, .f32⟩
  | 113 => ⟨S64x1024, .f32⟩
  | 114 => ⟨S_, .f32⟩
  | 115 => ⟨S64, .f32⟩
  | 116 => ⟨S64x1, .f32⟩
  | 117 => ⟨S64x1024, .f32⟩
  | 118 => ⟨S64x1024, .f32⟩
  | 119 => ⟨S64x1024, .i32⟩
  | 120 => ⟨S_, .f32⟩
  | 121 => ⟨S_, .i32⟩
  | 122 => ⟨S64, .f32⟩
  | 123 => ⟨S64, .i32⟩
  | 124 => ⟨S64x1, .i32⟩
  | 125 => ⟨S1x1024, .i32⟩
  | 126 => ⟨S64x1024, .i32⟩
  | 127 => ⟨S64x1024, .i32⟩
  | _ => ⟨S32x64x256, .f32⟩

abbrev hbmTy0_1 (i : Nat) : BufTy := match i % 128 with
  | 0 => ⟨S64x1024, .i1⟩
  | 1 => ⟨S64x1024, .f32⟩
  | 2 => ⟨S64x1024, .f32⟩
  | 3 => ⟨S64x1024, .f32⟩
  | 4 => ⟨S64x256, .f32⟩
  | 5 => ⟨S_, .f32⟩
  | 6 => ⟨S64x1024, .f32⟩
  | 7 => ⟨S64x1024, .i1⟩
  | 8 => ⟨S_, .f32⟩
  | 9 => ⟨S_, .f32⟩
  | 10 => ⟨S64x1024, .f32⟩
  | 11 => ⟨S64x1024, .f32⟩
  | 12 => ⟨S_, .f32⟩
  | 13 => ⟨S64x1024, .f32⟩
  | 14 => ⟨S64x1024, .f32⟩
  | 15 => ⟨S64x512, .f32⟩
  | 16 => ⟨S64x256, .f32⟩
  | 17 => ⟨S1x256, .f32⟩
  | 18 => ⟨S64x256, .f32⟩
  | 19 => ⟨S64x256, .f32⟩
  | 20 => ⟨S64x768, .f32⟩
  | 21 => ⟨S1x768, .f32⟩
  | 22 => ⟨S64x768, .f32⟩
  | 23 => ⟨S64x768, .f32⟩
  | 24 => ⟨S64x768, .f32⟩
  | 25 => ⟨S1x768, .f32⟩
  | 26 => ⟨S64x768, .f32⟩
  | 27 => ⟨S64x768, .f32⟩
  | 28 => ⟨S64x256, .f32⟩
  | 29 => ⟨S64x256, .f32⟩
  | 30 => ⟨S64x256, .f32⟩
  | 31 => ⟨S64x256, .f32⟩
  | 32 => ⟨S64x256, .f32⟩
  | 33 => ⟨S64x256, .f32⟩
  | 34 => ⟨S64x256, .f32⟩
  | 35 => ⟨S64x256, .f32⟩
  | 36 => ⟨S64x256, .f32⟩
  | 37 => ⟨S_, .f32⟩
  | 38 => ⟨S64x256, .f32⟩
  | 39 => ⟨S64x256, .f32⟩
  | 40 => ⟨S_, .f32⟩
  | 41 => ⟨S64x256, .f32⟩
  | 42 => ⟨S64x256, .f32⟩
  | 43 => ⟨S64x256, .f32⟩
  | 44 => ⟨S64x256, .f32⟩
  | 45 => ⟨S64x256, .f32⟩
  | 46 => ⟨S_, .f32⟩
  | 47 => ⟨S64x256, .f32⟩
  | 48 => ⟨S64x256, .f32⟩
  | 49 => ⟨S_, .f32⟩
  | 50 => ⟨S64x256, .f32⟩
  | 51 => ⟨S64x256, .f32⟩
  | 52 => ⟨S64x256, .f32⟩
  | 53 => ⟨S64x256, .f32⟩
  | 54 => ⟨S64x256, .f32⟩
  | 55 => ⟨S_, .f32⟩
  | 56 => ⟨S64x256, .f32⟩
  | 57 => ⟨S64x256, .f32⟩
  | 58 => ⟨S64x256, .f32⟩
  | 59 => ⟨S64x256, .f32⟩
  | 60 => ⟨S64x256, .f32⟩
  | 61 => ⟨S1x64x256, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S32x64x256, .f32⟩
  | 71 => ⟨S_, .i32⟩
  | 72 => ⟨S_, .i32⟩
  | _ => ⟨S32x64x256, .f32⟩

abbrev hbmTy (i : Nat) : BufTy := match i / 128 with
  | 0 => hbmTy0_0 i
  | 1 => hbmTy0_1 i
  | _ => ⟨S32x64x256, .f32⟩

abbrev bufTy : (tb : Table) → Fin (tcTables nBuf tb) → BufTy
  | .hbm, ⟨i, _⟩ => hbmTy i
  | _, _ => ⟨S32x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_c : Ref sig .tc := ⟨.hbm, 22, rfl⟩
abbrev main_c_3 : Ref sig .tc := ⟨.hbm, 23, rfl⟩
abbrev main_v6_0 : Ref sig .tc := ⟨.hbm, 24, rfl⟩
abbrev main_v6_1 : Ref sig .tc := ⟨.hbm, 25, rfl⟩
abbrev main_v6_2 : Ref sig .tc := ⟨.hbm, 26, rfl⟩
abbrev main_v6_3 : Ref sig .tc := ⟨.hbm, 27, rfl⟩
abbrev main_v6_4 : Ref sig .tc := ⟨.hbm, 28, rfl⟩
abbrev main_v6_5 : Ref sig .tc := ⟨.hbm, 29, rfl⟩
abbrev main_v6_6 : Ref sig .tc := ⟨.hbm, 30, rfl⟩
abbrev main_v6_7 : Ref sig .tc := ⟨.hbm, 31, rfl⟩
abbrev main_v6_8 : Ref sig .tc := ⟨.hbm, 32, rfl⟩
abbrev main_v6_9 : Ref sig .tc := ⟨.hbm, 33, rfl⟩
abbrev main_v6_10 : Ref sig .tc := ⟨.hbm, 34, rfl⟩
abbrev main_v6_11 : Ref sig .tc := ⟨.hbm, 35, rfl⟩
abbrev main_v6_12 : Ref sig .tc := ⟨.hbm, 36, rfl⟩
abbrev main_v6_13 : Ref sig .tc := ⟨.hbm, 37, rfl⟩
abbrev main_v6_14 : Ref sig .tc := ⟨.hbm, 38, rfl⟩
abbrev main_v6_15 : Ref sig .tc := ⟨.hbm, 39, rfl⟩
abbrev main_v6_16 : Ref sig .tc := ⟨.hbm, 40, rfl⟩
abbrev main_v6_17 : Ref sig .tc := ⟨.hbm, 41, rfl⟩
abbrev main_v6_18 : Ref sig .tc := ⟨.hbm, 42, rfl⟩
abbrev main_while0c_c_22 : Ref sig .tc := ⟨.hbm, 43, rfl⟩
abbrev main_while0c_v7 : Ref sig .tc := ⟨.hbm, 44, rfl⟩
abbrev main_while0b_c_22 : Ref sig .tc := ⟨.hbm, 45, rfl⟩
abbrev main_while0b_v7 : Ref sig .tc := ⟨.hbm, 46, rfl⟩
abbrev main_while0b_call0_c : Ref sig .tc := ⟨.hbm, 47, rfl⟩
abbrev main_while0b_call0_v0 : Ref sig .tc := ⟨.hbm, 48, rfl⟩
abbrev main_while0b_call0_v1 : Ref sig .tc := ⟨.hbm, 49, rfl⟩
abbrev main_while0b_call0_c_0 : Ref sig .tc := ⟨.hbm, 50, rfl⟩
abbrev main_while0b_call0_v2 : Ref sig .tc := ⟨.hbm, 51, rfl⟩
abbrev main_while0b_call0_v3 : Ref sig .tc := ⟨.hbm, 52, rfl⟩
abbrev main_while0b_call0_c_1 : Ref sig .tc := ⟨.hbm, 53, rfl⟩
abbrev main_while0b_call0_c_2 : Ref sig .tc := ⟨.hbm, 54, rfl⟩
abbrev main_while0b_call0_v4 : Ref sig .tc := ⟨.hbm, 55, rfl⟩
abbrev main_while0b_v8 : Ref sig .tc := ⟨.hbm, 56, rfl⟩
abbrev main_while0b_call1_c : Ref sig .tc := ⟨.hbm, 57, rfl⟩
abbrev main_while0b_call1_v0 : Ref sig .tc := ⟨.hbm, 58, rfl⟩
abbrev main_while0b_call1_v1 : Ref sig .tc := ⟨.hbm, 59, rfl⟩
abbrev main_while0b_call1_c_0 : Ref sig .tc := ⟨.hbm, 60, rfl⟩
abbrev main_while0b_call1_v2 : Ref sig .tc := ⟨.hbm, 61, rfl⟩
abbrev main_while0b_call1_v3 : Ref sig .tc := ⟨.hbm, 62, rfl⟩
abbrev main_while0b_call1_c_1 : Ref sig .tc := ⟨.hbm, 63, rfl⟩
abbrev main_while0b_call1_c_2 : Ref sig .tc := ⟨.hbm, 64, rfl⟩
abbrev main_while0b_call1_v4 : Ref sig .tc := ⟨.hbm, 65, rfl⟩
abbrev main_while0b_v9 : Ref sig .tc := ⟨.hbm, 66, rfl⟩
abbrev main_while0b_call2_v0 : Ref sig .tc := ⟨.hbm, 67, rfl⟩
abbrev main_while0b_call2_c : Ref sig .tc := ⟨.hbm, 68, rfl⟩
abbrev main_while0b_call2_v1 : Ref sig .tc := ⟨.hbm, 69, rfl⟩
abbrev main_while0b_call2_v2 : Ref sig .tc := ⟨.hbm, 70, rfl⟩
abbrev main_while0b_call2_c_0 : Ref sig .tc := ⟨.hbm, 71, rfl⟩
abbrev main_while0b_call2_v3 : Ref sig .tc := ⟨.hbm, 72, rfl⟩
abbrev main_while0b_call2_v4 : Ref sig .tc := ⟨.hbm, 73, rfl⟩
abbrev main_while0b_call2_c_1 : Ref sig .tc := ⟨.hbm, 74, rfl⟩
abbrev main_while0b_call2_c_2 : Ref sig .tc := ⟨.hbm, 75, rfl⟩
abbrev main_while0b_v10 : Ref sig .tc := ⟨.hbm, 76, rfl⟩
abbrev main_while0b_v11 : Ref sig .tc := ⟨.hbm, 77, rfl⟩
abbrev main_while0b_v12 : Ref sig .tc := ⟨.hbm, 78, rfl⟩
abbrev main_while0b_cst_23 : Ref sig .tc := ⟨.hbm, 79, rfl⟩
abbrev main_while0b_v13 : Ref sig .tc := ⟨.hbm, 80, rfl⟩
abbrev main_while0b_v14 : Ref sig .tc := ⟨.hbm, 81, rfl⟩
abbrev main_while0b_cst_24 : Ref sig .tc := ⟨.hbm, 82, rfl⟩
abbrev main_while0b_v15 : Ref sig .tc := ⟨.hbm, 83, rfl⟩
abbrev main_while0b_v16 : Ref sig .tc := ⟨.hbm, 84, rfl⟩
abbrev main_while0b_v17 : Ref sig .tc := ⟨.hbm, 85, rfl⟩
abbrev main_while0b_v18 : Ref sig .tc := ⟨.hbm, 86, rfl⟩
abbrev main_while0b_v19 : Ref sig .tc := ⟨.hbm, 87, rfl⟩
abbrev main_while0b_v20 : Ref sig .tc := ⟨.hbm, 88, rfl⟩
abbrev main_while0b_v21 : Ref sig .tc := ⟨.hbm, 89, rfl⟩
abbrev main_while0b_v22 : Ref sig .tc := ⟨.hbm, 90, rfl⟩
abbrev main_while0b_v23 : Ref sig .tc := ⟨.hbm, 91, rfl⟩
abbrev main_while0b_v24 : Ref sig .tc := ⟨.hbm, 92, rfl⟩
abbrev main_while0b_v25 : Ref sig .tc := ⟨.hbm, 93, rfl⟩
abbrev main_while0b_v26 : Ref sig .tc := ⟨.hbm, 94, rfl⟩
abbrev main_while0b_cst_25 : Ref sig .tc := ⟨.hbm, 95, rfl⟩
abbrev main_while0b_v27 : Ref sig .tc := ⟨.hbm, 96, rfl⟩
abbrev main_while0b_v28 : Ref sig .tc := ⟨.hbm, 97, rfl⟩
abbrev main_while0b_v29 : Ref sig .tc := ⟨.hbm, 98, rfl⟩
abbrev main_while0b_cst_26 : Ref sig .tc := ⟨.hbm, 99, rfl⟩
abbrev main_while0b_v30 : Ref sig .tc := ⟨.hbm, 100, rfl⟩
abbrev main_while0b_v31 : Ref sig .tc := ⟨.hbm, 101, rfl⟩
abbrev main_while0b_v32 : Ref sig .tc := ⟨.hbm, 102, rfl⟩
abbrev main_while0b_v33 : Ref sig .tc := ⟨.hbm, 103, rfl⟩
abbrev main_while0b_v34 : Ref sig .tc := ⟨.hbm, 104, rfl⟩
abbrev main_while0b_cst_27 : Ref sig .tc := ⟨.hbm, 105, rfl⟩
abbrev main_while0b_v35 : Ref sig .tc := ⟨.hbm, 106, rfl⟩
abbrev main_while0b_cst_28 : Ref sig .tc := ⟨.hbm, 107, rfl⟩
abbrev main_while0b_v36 : Ref sig .tc := ⟨.hbm, 108, rfl⟩
abbrev main_while0b_v37 : Ref sig .tc := ⟨.hbm, 109, rfl⟩
abbrev main_while0b_v38 : Ref sig .tc := ⟨.hbm, 110, rfl⟩
abbrev main_while0b_v39 : Ref sig .tc := ⟨.hbm, 111, rfl⟩
abbrev main_while0b_v40 : Ref sig .tc := ⟨.hbm, 112, rfl⟩
abbrev main_while0b_v41 : Ref sig .tc := ⟨.hbm, 113, rfl⟩
abbrev main_while0b_cst_29 : Ref sig .tc := ⟨.hbm, 114, rfl⟩
abbrev main_while0b_v42 : Ref sig .tc := ⟨.hbm, 115, rfl⟩
abbrev main_while0b_v43 : Ref sig .tc := ⟨.hbm, 116, rfl⟩
abbrev main_while0b_v44 : Ref sig .tc := ⟨.hbm, 117, rfl⟩
abbrev main_while0b_v45 : Ref sig .tc := ⟨.hbm, 118, rfl⟩
abbrev main_while0b_call3_v0 : Ref sig .tc := ⟨.hbm, 119, rfl⟩
abbrev main_while0b_call3_cst : Ref sig .tc := ⟨.hbm, 120, rfl⟩
abbrev main_while0b_call3_c : Ref sig .tc := ⟨.hbm, 121, rfl⟩
abbrev main_while0b_call3_v1_0 : Ref sig .tc := ⟨.hbm, 122, rfl⟩
abbrev main_while0b_v46 : Ref sig .tc := ⟨.hbm, 123, rfl⟩
abbrev main_while0b_call4_v0 : Ref sig .tc := ⟨.hbm, 124, rfl⟩
abbrev main_while0b_call4_v1 : Ref sig .tc := ⟨.hbm, 125, rfl⟩
abbrev main_while0b_call4_v2 : Ref sig .tc := ⟨.hbm, 126, rfl⟩
abbrev main_while0b_call4_v3 : Ref sig .tc := ⟨.hbm, 127, rfl⟩
abbrev main_while0b_call4_v4 : Ref sig .tc := ⟨.hbm, 128, rfl⟩
abbrev main_while0b_v47 : Ref sig .tc := ⟨.hbm, 129, rfl⟩
abbrev main_while0b_v48 : Ref sig .tc := ⟨.hbm, 130, rfl⟩
abbrev main_while0b_v49 : Ref sig .tc := ⟨.hbm, 131, rfl⟩
abbrev main_while0b_v50 : Ref sig .tc := ⟨.hbm, 132, rfl⟩
abbrev main_while0b_cst_30 : Ref sig .tc := ⟨.hbm, 133, rfl⟩
abbrev main_while0b_v51 : Ref sig .tc := ⟨.hbm, 134, rfl⟩
abbrev main_while0b_v52 : Ref sig .tc := ⟨.hbm, 135, rfl⟩
abbrev main_while0b_cst_31 : Ref sig .tc := ⟨.hbm, 136, rfl⟩
abbrev main_while0b_call5_v0 : Ref sig .tc := ⟨.hbm, 137, rfl⟩
abbrev main_while0b_call5_v1 : Ref sig .tc := ⟨.hbm, 138, rfl⟩
abbrev main_while0b_v53 : Ref sig .tc := ⟨.hbm, 139, rfl⟩
abbrev main_while0b_cst_32 : Ref sig .tc := ⟨.hbm, 140, rfl⟩
abbrev main_while0b_v54 : Ref sig .tc := ⟨.hbm, 141, rfl⟩
abbrev main_while0b_v55 : Ref sig .tc := ⟨.hbm, 142, rfl⟩
abbrev main_while0b_v56 : Ref sig .tc := ⟨.hbm, 143, rfl⟩
abbrev main_while0b_v57 : Ref sig .tc := ⟨.hbm, 144, rfl⟩
abbrev main_while0b_v58 : Ref sig .tc := ⟨.hbm, 145, rfl⟩
abbrev main_while0b_v59 : Ref sig .tc := ⟨.hbm, 146, rfl⟩
abbrev main_while0b_v60 : Ref sig .tc := ⟨.hbm, 147, rfl⟩
abbrev main_while0b_v61 : Ref sig .tc := ⟨.hbm, 148, rfl⟩
abbrev main_while0b_v62 : Ref sig .tc := ⟨.hbm, 149, rfl⟩
abbrev main_while0b_v63 : Ref sig .tc := ⟨.hbm, 150, rfl⟩
abbrev main_while0b_v64 : Ref sig .tc := ⟨.hbm, 151, rfl⟩
abbrev main_while0b_v65 : Ref sig .tc := ⟨.hbm, 152, rfl⟩
abbrev main_while0b_v66 : Ref sig .tc := ⟨.hbm, 153, rfl⟩
abbrev main_while0b_v67 : Ref sig .tc := ⟨.hbm, 154, rfl⟩
abbrev main_while0b_v68 : Ref sig .tc := ⟨.hbm, 155, rfl⟩
abbrev main_while0b_v69 : Ref sig .tc := ⟨.hbm, 156, rfl⟩
abbrev main_while0b_v70 : Ref sig .tc := ⟨.hbm, 157, rfl⟩
abbrev main_while0b_v71 : Ref sig .tc := ⟨.hbm, 158, rfl⟩
abbrev main_while0b_v72 : Ref sig .tc := ⟨.hbm, 159, rfl⟩
abbrev main_while0b_v73 : Ref sig .tc := ⟨.hbm, 160, rfl⟩
abbrev main_while0b_v74 : Ref sig .tc := ⟨.hbm, 161, rfl⟩
abbrev main_while0b_v75 : Ref sig .tc := ⟨.hbm, 162, rfl⟩
abbrev main_while0b_v76 : Ref sig .tc := ⟨.hbm, 163, rfl⟩
abbrev main_while0b_v77 : Ref sig .tc := ⟨.hbm, 164, rfl⟩
abbrev main_while0b_cst_33 : Ref sig .tc := ⟨.hbm, 165, rfl⟩
abbrev main_while0b_v78 : Ref sig .tc := ⟨.hbm, 166, rfl⟩
abbrev main_while0b_v79 : Ref sig .tc := ⟨.hbm, 167, rfl⟩
abbrev main_while0b_cst_34 : Ref sig .tc := ⟨.hbm, 168, rfl⟩
abbrev main_while0b_v80 : Ref sig .tc := ⟨.hbm, 169, rfl⟩
abbrev main_while0b_v81 : Ref sig .tc := ⟨.hbm, 170, rfl⟩
abbrev main_while0b_v82 : Ref sig .tc := ⟨.hbm, 171, rfl⟩
abbrev main_while0b_v83 : Ref sig .tc := ⟨.hbm, 172, rfl⟩
abbrev main_while0b_v84 : Ref sig .tc := ⟨.hbm, 173, rfl⟩
abbrev main_while0b_cst_35 : Ref sig .tc := ⟨.hbm, 174, rfl⟩
abbrev main_while0b_v85 : Ref sig .tc := ⟨.hbm, 175, rfl⟩
abbrev main_while0b_v86 : Ref sig .tc := ⟨.hbm, 176, rfl⟩
abbrev main_while0b_cst_36 : Ref sig .tc := ⟨.hbm, 177, rfl⟩
abbrev main_while0b_v87 : Ref sig .tc := ⟨.hbm, 178, rfl⟩
abbrev main_while0b_v88 : Ref sig .tc := ⟨.hbm, 179, rfl⟩
abbrev main_while0b_v89 : Ref sig .tc := ⟨.hbm, 180, rfl⟩
abbrev main_while0b_v90 : Ref sig .tc := ⟨.hbm, 181, rfl⟩
abbrev main_while0b_v91 : Ref sig .tc := ⟨.hbm, 182, rfl⟩
abbrev main_while0b_cst_37 : Ref sig .tc := ⟨.hbm, 183, rfl⟩
abbrev main_while0b_v92 : Ref sig .tc := ⟨.hbm, 184, rfl⟩
abbrev main_while0b_v93 : Ref sig .tc := ⟨.hbm, 185, rfl⟩
abbrev main_while0b_v94 : Ref sig .tc := ⟨.hbm, 186, rfl⟩
abbrev main_while0b_v95 : Ref sig .tc := ⟨.hbm, 187, rfl⟩
abbrev main_while0b_v96 : Ref sig .tc := ⟨.hbm, 188, rfl⟩
abbrev main_while0b_call6_v0 : Ref sig .tc := ⟨.hbm, 189, rfl⟩
abbrev main_while0b_call6_c : Ref sig .tc := ⟨.hbm, 190, rfl⟩
abbrev main_while0b_call6_v1 : Ref sig .tc := ⟨.hbm, 191, rfl⟩
abbrev main_while0b_call6_v2 : Ref sig .tc := ⟨.hbm, 192, rfl⟩
abbrev main_while0b_call6_c_0 : Ref sig .tc := ⟨.hbm, 193, rfl⟩
abbrev main_while0b_call6_v3 : Ref sig .tc := ⟨.hbm, 194, rfl⟩
abbrev main_while0b_call6_v4 : Ref sig .tc := ⟨.hbm, 195, rfl⟩
abbrev main_while0b_call6_c_1 : Ref sig .tc := ⟨.hbm, 196, rfl⟩
abbrev main_while0b_call6_c_2 : Ref sig .tc := ⟨.hbm, 197, rfl⟩
abbrev main_while0b_v97 : Ref sig .tc := ⟨.hbm, 198, rfl⟩
abbrev main_while0b_c_38 : Ref sig .tc := ⟨.hbm, 199, rfl⟩
abbrev main_while0b_v98 : Ref sig .tc := ⟨.hbm, 200, rfl⟩

abbrev nD : Nat := 1
abbrev τ : Topo := Topo.v7x

variable {F : FTy → Type} [FloatOps F]

abbrev main_while0_count : Scf.Loop 32 := ⟨0#32, 32#32, 1#32⟩
-- ==== Proof.RefRun1.lean ====
/- The reference's run, part 1: @main as stretches around one loop of 32 trips, and the run as a fold over the trips. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1316

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 31 host operations of @main, in order. -/
abbrev hostOps0 : List (HloOp τ sig (Elt F)) :=
  [ StableHlo.unary main_arg4 main_v0 ((extractStridedSlice S768 ![0] · slices_S1536_S768_0) : (⟨S1536, .f32⟩ : BufTy).Contents (Elt F) → (⟨S768, .f32⟩ : BufTy).Contents (Elt F)),
    StableHlo.unary main_arg4 main_v1 ((extractStridedSlice S768 ![768] · slices_S1536_S768_768) : (⟨S1536, .f32⟩ : BufTy).Contents (Elt F) → (⟨S768, .f32⟩ : BufTy).Contents (Elt F)),
    StableHlo.nullary main_cst (constant S_ .f32 0x00000000#32),
    StableHlo.unary main_cst main_v2 (broadcastInDim S64x256 ![] bcast_S_S64x256 : (⟨S_, .f32⟩ : BufTy).Contents (Elt F) → (⟨S64x256, .f32⟩ : BufTy).Contents (Elt F)),
    StableHlo.nullary main_cst_0 (constant S_ .f32 0x00000000#32),
    StableHlo.unary main_cst_0 main_v3 (broadcastInDim S64x1024x256 ![] bcast_S_S64x1024x256 : (⟨S_, .f32⟩ : BufTy).Contents (Elt F) → (⟨S64x1024x256, .f32⟩ : BufTy).Contents (Elt F)),
    StableHlo.nullary main_cst_1 (constant S_ .f32 0xFF800000#32),
    StableHlo.unary main_cst_1 main_v4 (broadcastInDim S64x1024 ![] bcast_S_S64x1024 : (⟨S_, .f32⟩ : BufTy).Contents (Elt F) → (⟨S64x1024, .f32⟩ : BufTy).Contents (Elt F)),
    StableHlo.nullary main_cst_2 (constant S_ .f32 0x00000000#32),
    StableHlo.unary main_cst_2 main_v5 (broadcastInDim S32x64x256 ![] bcast_S_S32x64x256 : (⟨S_, .f32⟩ : BufTy).Contents (Elt F) → (⟨S32x64x256, .f32⟩ : BufTy).Contents (Elt F)),
    StableHlo.nullary main_c (constantI S_ 32 0#32),
    StableHlo.nullary main_c_3 (constantI S_ 32 0#32),
    StableHlo.unary main_arg0 main_v6_0 id,
    StableHlo.unary main_arg1 main_v6_1 id,
    StableHlo.unary main_arg5 main_v6_2 id,
    StableHlo.unary main_arg6 main_v6_3 id,
    StableHlo.unary main_arg7 main_v6_4 id,
    StableHlo.unary main_arg8 main_v6_5 id,
    StableHlo.unary main_arg9 main_v6_6 id,
    StableHlo.unary main_arg10 main_v6_7 id,
    StableHlo.unary main_arg11 main_v6_8 id,
    StableHlo.unary main_arg2 main_v6_9 id,
    StableHlo.unary main_v0 main_v6_10 id,
    StableHlo.unary main_arg3 main_v6_11 id,
    StableHlo.unary main_v1 main_v6_12 id,
    StableHlo.unary main_c_3 main_v6_13 id,
    StableHlo.unary main_c main_v6_14 id,
    StableHlo.unary main_v2 main_v6_15 id,
    StableHlo.unary main_v3 main_v6_16 id,
    StableHlo.unary main_v4 main_v6_17 id,
    StableHlo.unary main_v5 main_v6_18 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    HostLoop.enter 0 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons]
  chain_rfl

-- no `main_segs` (the loop-free kit's `Seg.run` equation) for this @main: it has a host loop; a certificate takes `main_chain` (Lib/Pipeline/RegionsLoop.lean)

/-- 2 host operations of host loop 0's body region, in order. -/
abbrev while0Ops0 : List (HloOp τ sig (Elt F)) :=
  [ StableHlo.nullary main_while0b_c_22 (constantI S_ 32 1#32),
    StableHlo.binary main_v6_14 main_while0b_c_22 main_while0b_v7 (addi : (⟨S_, .i32⟩ : BufTy).Contents (Elt F) → (⟨S_, .i32⟩ : BufTy).Contents (Elt F) → (⟨S_, .i32⟩ : BufTy).Contents (Elt F)) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub ..⟩
/-- 10 host operations of @dynamic_index_in_dim (main_while0b_call0), in order. -/
abbrev while0Ops0_1 : List (HloOp τ sig (Elt F)) :=
  [ StableHlo.TRef.nullary (.of main_while0b_call0_c : StableHlo.TRef sig ⟨S_, .i32⟩) (constantI S_ 32 0#32),
    StableHlo.TRef.binary (.of main_v6_14 : StableHlo.TRef sig ⟨S_, .i32⟩) (.of main_while0b_call0_c : StableHlo.TRef sig ⟨S_, .i32⟩) (.of main_while0b_call0_v0 : StableHlo.TRef sig ⟨S_, .i1⟩) (cmpi .slt),
    StableHlo.TRef.unary (.of main_v6_14 : StableHlo.TRef sig ⟨S_, .i32⟩) (.of main_while0b_call0_v1 : StableHlo.TRef sig ⟨S_, .i32⟩) id,
    StableHlo.TRef.nullary (.of main_while0b_call0_c_0 : StableHlo.TRef sig ⟨S_, .i32⟩) (constantI S_ 32 32#32),
    StableHlo.TRef.binary (.of main_while0b_call0_v1 : StableHlo.TRef sig ⟨S_, .i32⟩) (.of main_while0b_call0_c_0 : StableHlo.TRef sig ⟨S_, .i32⟩) (.of main_while0b_call0_v2 : StableHlo.TRef sig ⟨S_, .i32⟩) addi,
    StableHlo.TRef.ternary (.of main_while0b_call0_v0 : StableHlo.TRef sig ⟨S_, .i1⟩) (.of main_while0b_call0_v2 : StableHlo.TRef sig ⟨S_, .i32⟩) (.of main_v6_14 : StableHlo.TRef sig ⟨S_, .i32⟩) (.of main_while0b_call0_v3 : StableHlo.TRef sig ⟨S_, .i32⟩) select,
    StableHlo.TRef.nullary (.of main_while0b_call0_c_1 : StableHlo.TRef sig ⟨S_, .i32⟩) (constantI S_ 32 0#32),
    StableHlo.TRef.nullary (.of main_while0b_call0_c_2 : StableHlo.TRef sig ⟨S_, .i32⟩) (constantI S_ 32 0#32),
    StableHlo.TRef.unaryIndexed (.of main_v6_0 : StableHlo.TRef sig ⟨S32x64x256, .f32⟩) ![(.of main_while0b_call0_v3 : StableHlo.TRef sig ⟨S_, .i32⟩), (.of main_while0b_call0_c_1 : StableHlo.TRef sig ⟨S_, .i32⟩), (.of main_while0b_call0_c_2 : StableHlo.TRef sig ⟨S_, .i32⟩)] (.of main_while0b_call0_v4 : StableHlo.TRef sig ⟨S1x64x256, .f32⟩) (fun x i => Host.dynamicSlice S1x64x256 x (fun k => (i k (Shape.Idx.first h_S_)).toInt) sliceFits_S32x64x256_S1x64x256),
    StableHlo.TRef.reshape (.of main_while0b_call0_v4 : StableHlo.TRef sig ⟨S1x64x256, .f32⟩) (.of main_while0b_v8 : StableHlo.TRef sig ⟨S64x256, .f32⟩) (rfl : (.f32 : EltTy) = .f32) shapeCasts_S1x64x256_S64x256 ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.reshape_bufs_sub ..⟩
/-- 10 host operations of @dynamic_index_in_dim_0 (main_while0b_call1), in order. -/
abbrev while0Ops0_2 : List (HloOp τ sig (Elt F)) :=
  [ StableHlo.TRef.nullary (.of main_while0b_call1_c : StableHlo.TRef sig ⟨S_, .i32⟩) (constantI S_ 32 0#32),
    StableHlo.TRef.binary (.of main_v6_14 : StableHlo.TRef sig ⟨S_, .i32⟩) (.of main_while0b_call1_c : StableHlo.TRef sig ⟨S_, .i32⟩) (.of main_while0b_call1_v0 : StableHlo.TRef sig ⟨S_, .i1⟩) (cmpi .slt),
    StableHlo.TRef.unary (.of main_v6_14 : StableHlo.TRef sig ⟨S_, .i32⟩) (.of main_while0b_call1_v1 : StableHlo.TRef sig ⟨S_, .i32⟩) id,
    StableHlo.TRef.nullary (.of main_while0b_call1_c_0 : StableHlo.TRef sig ⟨S_, .i32⟩) (constantI S_ 32 32#32),
    StableHlo.TRef.binary (.of main_while0b_call1_v1 : StableHlo.TRef sig ⟨S_, .i32⟩) (.of main_while0b_call1_c_0 : StableHlo.TRef sig ⟨S_, .i32⟩) (.of main_while0b_call1_v2 : StableHlo.TRef sig ⟨S_, .i32⟩) addi,
    StableHlo.TRef.ternary (.of main_while0b_call1_v0 : StableHlo.TRef sig ⟨S_, .i1⟩) (.of main_while0b_call1_v2 : StableHlo.TRef sig ⟨S_, .i32⟩) (.of main_v6_14 : StableHlo.TRef sig ⟨S_, .i32⟩) (.of main_while0b_call1_v3 : StableHlo.TRef sig ⟨S_, .i32⟩) select,
    StableHlo.TRef.nullary (.of main_while0b_call1_c_1 : StableHlo.TRef sig ⟨S_, .i32⟩) (constantI S_ 32 0#32),
    StableHlo.TRef.nullary (.of main_while0b_call1_c_2 : StableHlo.TRef sig ⟨S_, .i32⟩) (constantI S_ 32 0#32),
    StableHlo.TRef.unaryIndexed (.of main_v6_1 : StableHlo.TRef sig ⟨S32x64x1024, .f32⟩) ![(.of main_while0b_call1_v3 : StableHlo.TRef sig ⟨S_, .i32⟩), (.of main_while0b_call1_c_1 : StableHlo.TRef sig ⟨S_, .i32⟩), (.of main_while0b_call1_c_2 : StableHlo.TRef sig ⟨S_, .i32⟩)] (.of main_while0b_call1_v4 : StableHlo.TRef sig ⟨S1x64x1024, .f32⟩) (fun x i => Host.dynamicSlice S1x64x1024 x (fun k => (i k (Shape.Idx.first h_S_)).toInt) sliceFits_S32x64x1024_S1x64x1024),
    StableHlo.TRef.reshape (.of main_while0b_call1_v4 : StableHlo.TRef sig ⟨S1x64x1024, .f32⟩) (.of main_while0b_v9 : StableHlo.TRef sig ⟨S64x1024, .f32⟩) (rfl : (.f32 : EltTy) = .f32) shapeCasts_S1x64x1024_S64x1024 ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.reshape_bufs_sub ..⟩
/-- 10 host operations of @dynamic_update_index_in_dim (main_while0b_call2), in order. -/
abbrev while0Ops0_3 : List (HloOp τ sig (Elt F)) :=
  [ StableHlo.TRef.unary (.of main_v6_15 : StableHlo.TRef sig ⟨S64x256, .f32⟩) (.of main_while0b_call2_v0 : StableHlo.TRef sig ⟨S64x1x256, .f32⟩) (broadcastInDim S64x1x256 ![0, 2] bcast_S64x256_S64x1x256_0_2),
    StableHlo.TRef.nullary (.of main_while0b_call2_c : StableHlo.TRef sig ⟨S_, .i32⟩) (constantI S_ 32 0#32),
    StableHlo.TRef.binary (.of main_v6_14 : StableHlo.TRef sig ⟨S_, .i32⟩) (.of main_while0b_call2_c : StableHlo.TRef sig ⟨S_, .i32⟩) (.of main_while0b_call2_v1 : StableHlo.TRef sig ⟨S_, .i1⟩) (cmpi .slt),
    StableHlo.TRef.unary (.of main_v6_14 : StableHlo.TRef sig ⟨S_, .i32⟩) (.of main_while0b_call2_v2 : StableHlo.TRef sig ⟨S_, .i32⟩) id,
    StableHlo.TRef.nullary (.of main_while0b_call2_c_0 : StableHlo.TRef sig ⟨S_, .i32⟩) (constantI S_ 32 1024#32),
    StableHlo.TRef.binary (.of main_while0b_call2_v2 : StableHlo.TRef sig ⟨S_, .i32⟩) (.of main_while0b_call2_c_0 : StableHlo.TRef sig ⟨S_, .i32⟩) (.of main_while0b_call2_v3 : StableHlo.TRef sig ⟨S_, .i32⟩) addi,
    StableHlo.TRef.ternary (.of main_while0b_call2_v1 : StableHlo.TRef sig ⟨S_, .i1⟩) (.of main_while0b_call2_v3 : StableHlo.TRef sig ⟨S_, .i32⟩) (.of main_v6_14 : StableHlo.TRef sig ⟨S_, .i32⟩) (.of main_while0b_call2_v4 : StableHlo.TRef sig ⟨S_, .i32⟩) select,
    StableHlo.TRef.nullary (.of main_while0b_call2_c_1 : StableHlo.TRef sig ⟨S_, .i32⟩) (constantI S_ 32 0#32),
    StableHlo.TRef.nullary (.of main_while0b_call2_c_2 : StableHlo.TRef sig ⟨S_, .i32⟩) (constantI S_ 32 0#32),
    StableHlo.TRef.binaryIndexed (.of main_v6_16 : StableHlo.TRef sig ⟨S64x1024x256, .f32⟩) (.of main_while0b_call2_v0 : StableHlo.TRef sig ⟨S64x1x256, .f32⟩) ![(.of main_while0b_call2_c_1 : StableHlo.TRef sig ⟨S_, .i32⟩), (.of main_while0b_call2_v4 : StableHlo.TRef sig ⟨S_, .i32⟩), (.of main_while0b_call2_c_2 : StableHlo.TRef sig ⟨S_, .i32⟩)] (.of main_while0b_v10 : StableHlo.TRef sig ⟨S64x1024x256, .f32⟩) (fun x u i => Host.dynamicUpdateSlice x u (fun k => (i k (Shape.Idx.first h_S_)).toInt) updateFits_S64x1024x256_S64x1x256) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.binaryIndexed_bufs_sub ..⟩
/-- 42 host operations of host loop 0's body region, in order. -/
abbrev while0Ops0_4 : List (HloOp τ sig (Elt F)) :=
  ( StableHlo.unary main_v6_17 main_while0b_v11 (Host.negf : (⟨S64x1024, .f32⟩ : BufTy).Contents (Elt F) → (⟨S64x1024, .f32⟩ : BufTy).Contents (Elt F))
  :: StableHlo.unary main_while0b_v11 main_while0b_v12 (Host.exp : (⟨S64x1024, .f32⟩ : BufTy).Contents (Elt F) → (⟨S64x1024, .f32⟩ : BufTy).Contents (Elt F))
  :: StableHlo.nullary main_while0b_cst_23 (constant S_ .f32 0x3F800000#32)
  :: StableHlo.unary main_while0b_cst_23 main_while0b_v13 (broadcastInDim S64x1024 ![] bcast_S_S64x1024 : (⟨S_, .f32⟩ : BufTy).Contents (Elt F) → (⟨S64x1024, .f32⟩ : BufTy).Contents (Elt F))
  :: StableHlo.binary main_while0b_v13 main_while0b_v12 main_while0b_v14 (addf : (⟨S64x1024, .f32⟩ : BufTy).Contents (Elt F) → (⟨S64x1024, .f32⟩ : BufTy).Contents (Elt F) → (⟨S64x1024, .f32⟩ : BufTy).Contents (Elt F))
  :: StableHlo.nullary main_while0b_cst_24 (constant S_ .f32 0x3F800000#32)
  :: StableHlo.unary main_while0b_cst_24 main_while0b_v15 (broadcastInDim S64x1024 ![] bcast_S_S64x1024 : (⟨S_, .f32⟩ : BufTy).Contents (Elt F) → (⟨S64x1024, .f32⟩ : BufTy).Contents (Elt F))
  :: StableHlo.binary main_while0b_v15 main_while0b_v14 main_while0b_v16 (Host.divf : (⟨S64x1024, .f32⟩ : BufTy).Contents (Elt F) → (⟨S64x1024, .f32⟩ : BufTy).Contents (Elt F) → (⟨S64x1024, .f32⟩ : BufTy).Contents (Elt F))
  :: StableHlo.binary main_while0b_v8 main_v6_2 main_while0b_v17 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F))
  :: StableHlo.binary main_v6_15 main_v6_3 main_while0b_v18 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F))
  :: StableHlo.binary main_while0b_v17 main_while0b_v18 main_while0b_v19 (addf : (⟨S64x256, .f32⟩ : BufTy).Contents (Elt F) → (⟨S64x256, .f32⟩ : BufTy).Contents (Elt F) → (⟨S64x256, .f32⟩ : BufTy).Contents (Elt F))
  :: StableHlo.binary main_while0b_v16 main_v6_4 main_while0b_v20 ((fun l r => Host.dotGeneral dot_S64x1024_S1024x256_S64x256_1_0_0_1_n_n none l r) : (⟨S64x1024, .f32⟩ : BufTy).Contents (Elt F) → (⟨S1024x256, .f32⟩ : BufTy).Contents (Elt F) → (⟨S64x256, .f32⟩ : BufTy).Contents (Elt F))
  :: StableHlo.binary main_while0b_v19 main_while0b_v20 main_while0b_v21 (addf : (⟨S64x256, .f32⟩ : BufTy).Contents (Elt F) → (⟨S64x256, .f32⟩ : BufTy).Contents (Elt F) → (⟨S64x256, .f32⟩ : BufTy).Contents (Elt F))
  :: StableHlo.unary main_while0b_v21 main_while0b_v22 (Host.tanh : (⟨S64x256, .f32⟩ : BufTy).Contents (Elt F) → (⟨S64x256, .f32⟩ : BufTy).Contents (Elt F))
  :: StableHlo.binary main_while0b_v22 main_v6_5 main_while0b_v23 ((fun l r => Host.dotGeneral dot_S64x256_S256x1024_S64x1024_1_0_0_1_n_n none l r) : (⟨S64x256, .f32⟩ : BufTy).Contents (Elt F) → (⟨S256x1024, .f32⟩ : BufTy).Contents (Elt F) → (⟨S64x1024, .f32⟩ : BufTy).Contents (Elt F))
  :: StableHlo.unary main_v6_6 main_while0b_v24 (broadcastInDim S1x1024 ![1] bcast_S1024_S1x1024_1 : (⟨S1024, .f32⟩ : BufTy).Contents (Elt F) → (⟨S1x1024, .f32⟩ : BufTy).Contents (Elt F))
  :: StableHlo.unary main_while0b_v24 main_while0b_v25 (broadcastInDim S64x1024 ![0, 1] bcast_S1x1024_S64x1024_0_1 : (⟨S1x1024, .f32⟩ : BufTy).Contents (Elt F) → (⟨S64x1024, .f32⟩ : BufTy).Contents (Elt F))
  :: StableHlo.binary main_while0b_v23 main_while0b_v25 main_while0b_v26 (addf : (⟨S64x1024, .f32⟩ : BufTy).Contents (Elt F) → (⟨S64x1024, .f32⟩ : BufTy).Contents (Elt F) → (⟨S64x1024, .f32⟩ : BufTy).Contents (Elt F))
  :: StableHlo.nullary main_while0b_cst_25 (constant S_ .f32 0x1E3CE508#32)
  :: StableHlo.unary main_while0b_cst_25 main_while0b_v27 (broadcastInDim S64x1024 ![] bcast_S_S64x1024 : (⟨S_, .f32⟩ : BufTy).Contents (Elt F) → (⟨S64x1024, .f32⟩ : BufTy).Contents (Elt F))
  :: StableHlo.binary main_while0b_v27 main_while0b_v9 main_while0b_v28 (addf : (⟨S64x1024, .f32⟩ : BufTy).Contents (Elt F) → (⟨S64x1024, .f32⟩ : BufTy).Contents (Elt F) → (⟨S64x1024, .f32⟩ : BufTy).Contents (Elt F))
  :: StableHlo.unary main_while0b_v28 main_while0b_v29 (Host.log : (⟨S64x1024, .f32⟩ : BufTy).Contents (Elt F) → (⟨S64x1024, .f32⟩ : BufTy).Contents (Elt F))
  :: StableHlo.nullary main_while0b_cst_26 (constant S_ .f32 0x1E3CE508#32)
  :: StableHlo.unary main_while0b_cst_26 main_while0b_v30 (broadcastInDim S64x1024 ![] bcast_S_S64x1024 : (⟨S_, .f32⟩ : BufTy).Contents (Elt F) → (⟨S64x1024, .f32⟩ : BufTy).Contents (Elt F))
  :: StableHlo.binary main_while0b_v30 main_while0b_v29 main_while0b_v31 (subf : (⟨S64x1024, .f32⟩ : BufTy).Contents (Elt F) → (⟨S64x1024, .f32⟩ : BufTy).Contents (Elt F) → (⟨S64x1024, .f32⟩ : BufTy).Contents (Elt F))
  :: StableHlo.unary main_while0b_v31 main_while0b_v32 (Host.log : (⟨S64x1024, .f32⟩ : BufTy).Contents (Elt F) → (⟨S64x1024, .f32⟩ : BufTy).Contents (Elt F))
  :: StableHlo.unary main_while0b_v32 main_while0b_v33 (Host.negf : (⟨S64x1024, .f32⟩ : BufTy).Contents (Elt F) → (⟨S64x1024, .f32⟩ : BufTy).Contents (Elt F))
  :: StableHlo.binary main_while0b_v26 main_while0b_v33 main_while0b_v34 (addf : (⟨S64x1024, .f32⟩ : BufTy).Contents (Elt F) → (⟨S64x1024, .f32⟩ : BufTy).Contents (Elt F) → (⟨S64x1024, .f32⟩ : BufTy).Contents (Elt F))
  :: StableHlo.nullary main_while0b_cst_27 (constant S_ .f32 0xFF800000#32)
  :: StableHlo.binary main_while0b_v34 main_while0b_cst_27 main_while0b_v35 ((fun x v => Host.reduce FloatOps.maximumf x v reducesTo_S64x1024_S64_d1 h_S_) : (⟨S64x1024, .f32⟩ : BufTy).Contents (Elt F) → (⟨S_, .f32⟩ : BufTy).Contents (Elt F) → (⟨S64, .f32⟩ : BufTy).Contents (Elt F))
  :: StableHlo.nullary main_while0b_cst_28 (constant S_ .f32 0xFF800000#32)
  :: StableHlo.unary main_while0b_cst_28 main_while0b_v36 (broadcastInDim S64 ![] bcast_S_S64 : (⟨S_, .f32⟩ : BufTy).Contents (Elt F) → (⟨S64, .f32⟩ : BufTy).Contents (Elt F))
  :: StableHlo.binary main_while0b_v36 main_while0b_v35 main_while0b_v37 (maximumf : (⟨S64, .f32⟩ : BufTy).Contents (Elt F) → (⟨S64, .f32⟩ : BufTy).Contents (Elt F) → (⟨S64, .f32⟩ : BufTy).Contents (Elt F))
  :: StableHlo.unary main_while0b_v37 main_while0b_v38 (broadcastInDim S64x1 ![0] bcast_S64_S64x1_0 : (⟨S64, .f32⟩ : BufTy).Contents (Elt F) → (⟨S64x1, .f32⟩ : BufTy).Contents (Elt F))
  :: StableHlo.unary main_while0b_v38 main_while0b_v39 (broadcastInDim S64x1024 ![0, 1] bcast_S64x1_S64x1024_0_1 : (⟨S64x1, .f32⟩ : BufTy).Contents (Elt F) → (⟨S64x1024, .f32⟩ : BufTy).Contents (Elt F))
  :: StableHlo.binary main_while0b_v34 main_while0b_v39 main_while0b_v40 (subf : (⟨S64x1024, .f32⟩ : BufTy).Contents (Elt F) → (⟨S64x1024, .f32⟩ : BufTy).Contents (Elt F) → (⟨S64x1024, .f32⟩ : BufTy).Contents (Elt F))
  :: StableHlo.unary main_while0b_v40 main_while0b_v41 (Host.exp : (⟨S64x1024, .f32⟩ : BufTy).Contents (Elt F) → (⟨S64x1024, .f32⟩ : BufTy).Contents (Elt F))
  :: StableHlo.nullary main_while0b_cst_29 (constant S_ .f32 0x00000000#32)
  :: StableHlo.binary main_while0b_v41 main_while0b_cst_29 main_while0b_v42 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F))
  :: StableHlo.unary main_while0b_v42 main_while0b_v43 (broadcastInDim S64x1 ![0] bcast_S64_S64x1_0 : (⟨S64, .f32⟩ : BufTy).Contents (Elt F) → (⟨S64x1, .f32⟩ : BufTy).Contents (Elt F))
  :: StableHlo.unary main_while0b_v43 main_while0b_v44 (broadcastInDim S64x1024 ![0, 1] bcast_S64x1_S64x1024_0_1 : (⟨S64x1, .f32⟩ : BufTy).Contents (Elt F) → (⟨S64x1024, .f32⟩ : BufTy).Contents (Elt F))
  :: StableHlo.binary main_while0b_v41 main_while0b_v44 main_while0b_v45 (Host.divf : (⟨S64x1024, .f32⟩ : BufTy).Contents (Elt F) → (⟨S64x1024, .f32⟩ : BufTy).Contents (Elt F) → (⟨S64x1024, .f32⟩ : BufTy).Contents (Elt F))
  :: [] )
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- 5 host operations of @argmax (main_while0b_call3), in order. -/
abbrev while0Ops0_5 : List (HloOp τ sig (Elt F)) :=
  [ StableHlo.TRef.nullary (.of main_while0b_call3_v0 : StableHlo.TRef sig ⟨S64x1024, .i32⟩) (iotaInDim S64x1024 32 1),
    StableHlo.TRef.nullary (.of main_while0b_call3_cst : StableHlo.TRef sig ⟨S_, .f32⟩) (constant S_ .f32 0xFF800000#32),
    StableHlo.TRef.nullary (.of main_while0b_call3_c : StableHlo.TRef sig ⟨S_, .i32⟩) (constantI S_ 32 0#32),
    StableHlo.TRef.quaternary (.of main_while0b_v45 : StableHlo.TRef sig ⟨S64x1024, .f32⟩) (.of main_while0b_call3_v0 : StableHlo.TRef sig ⟨S64x1024, .i32⟩) (.of main_while0b_call3_cst : StableHlo.TRef sig ⟨S_, .f32⟩) (.of main_while0b_call3_c : StableHlo.TRef sig ⟨S_, .i32⟩) (.of main_while0b_call3_v1_0 : StableHlo.TRef sig ⟨S64, .f32⟩) (fun x y u v j => (Host.argReduce reducer_argmax_f32_i32 x y u v reducesTo_S64x1024_S64_d1 h_S_ j).1),
    StableHlo.TRef.quaternary (.of main_while0b_v45 : StableHlo.TRef sig ⟨S64x1024, .f32⟩) (.of main_while0b_call3_v0 : StableHlo.TRef sig ⟨S64x1024, .i32⟩) (.of main_while0b_call3_cst : StableHlo.TRef sig ⟨S_, .f32⟩) (.of main_while0b_call3_c : StableHlo.TRef sig ⟨S_, .i32⟩) (.of main_while0b_v46 : StableHlo.TRef sig ⟨S64, .i32⟩) (fun x y u v j => (Host.argReduce reducer_argmax_f32_i32 x y u v reducesTo_S64x1024_S64_d1 h_S_ j).2) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 6 host operations of @_one_hot (main_while0b_call4), in order. -/
abbrev while0Ops0_6 : List (HloOp τ sig (Elt F)) :=
  [ StableHlo.TRef.unary (.of main_while0b_v46 : StableHlo.TRef sig ⟨S64, .i32⟩) (.of main_while0b_call4_v0 : StableHlo.TRef sig ⟨S64x1, .i32⟩) (broadcastInDim S64x1 ![0] bcast_S64_S64x1_0),
    StableHlo.TRef.nullary (.of main_while0b_call4_v1 : StableHlo.TRef sig ⟨S1x1024, .i32⟩) (iotaInDim S1x1024 32 1),
    StableHlo.TRef.unary (.of main_while0b_call4_v0 : StableHlo.TRef sig ⟨S64x1, .i32⟩) (.of main_while0b_call4_v2 : StableHlo.TRef sig ⟨S64x1024, .i32⟩) (broadcastInDim S64x1024 ![0, 1] bcast_S64x1_S64x1024_0_1),
    StableHlo.TRef.unary (.of main_while0b_call4_v1 : StableHlo.TRef sig ⟨S1x1024, .i32⟩) (.of main_while0b_call4_v3 : StableHlo.TRef sig ⟨S64x1024, .i32⟩) (broadcastInDim S64x1024 ![0, 1] bcast_S1x1024_S64x1024_0_1),
    StableHlo.TRef.binary (.of main_while0b_call4_v2 : StableHlo.TRef sig ⟨S64x1024, .i32⟩) (.of main_while0b_call4_v3 : StableHlo.TRef sig ⟨S64x1024, .i32⟩) (.of main_while0b_call4_v4 : StableHlo.TRef sig ⟨S64x1024, .i1⟩) (cmpi .eq),
    StableHlo.TRef.unary (.of main_while0b_call4_v4 : StableHlo.TRef sig ⟨S64x1024, .i1⟩) (.of main_while0b_v47 : StableHlo.TRef sig ⟨S64x1024, .f32⟩) (uitofp .f32) ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
/-- 7 host operations of host loop 0's body region, in order. -/
abbrev while0Ops0_7 : List (HloOp τ sig (Elt F)) :=
  [ StableHlo.binary main_while0b_v47 main_while0b_v45 main_while0b_v48 (subf : (⟨S64x1024, .f32⟩ : BufTy).Contents (Elt F) → (⟨S64x1024, .f32⟩ : BufTy).Contents (Elt F) → (⟨S64x1024, .f32⟩ : BufTy).Contents (Elt F)),
    StableHlo.binary main_while0b_v48 main_while0b_v45 main_while0b_v49 (addf : (⟨S64x1024, .f32⟩ : BufTy).Contents (Elt F) → (⟨S64x1024, .f32⟩ : BufTy).Contents (Elt F) → (⟨S64x1024, .f32⟩ : BufTy).Contents (Elt F)),
    StableHlo.binary main_while0b_v49 main_while0b_v10 main_while0b_v50 ((fun l r => Host.dotGeneral dot_S64x1024_S64x1024x256_S64x256_1_1_n_2_0_0 none l r) : (⟨S64x1024, .f32⟩ : BufTy).Contents (Elt F) → (⟨S64x1024x256, .f32⟩ : BufTy).Contents (Elt F) → (⟨S64x256, .f32⟩ : BufTy).Contents (Elt F)),
    StableHlo.nullary main_while0b_cst_30 (constant S_ .f32 0x3F800000#32),
    StableHlo.unary main_while0b_cst_30 main_while0b_v51 (broadcastInDim S64x1024 ![] bcast_S_S64x1024 : (⟨S_, .f32⟩ : BufTy).Contents (Elt F) → (⟨S64x1024, .f32⟩ : BufTy).Contents (Elt F)),
    StableHlo.binary main_while0b_v47 main_while0b_v51 main_while0b_v52 (cmpf .oeq : (⟨S64x1024, .f32⟩ : BufTy).Contents (Elt F) → (⟨S64x1024, .f32⟩ : BufTy).Contents (Elt F) → (⟨S64x1024, .i1⟩ : BufTy).Contents (Elt F)),
    StableHlo.nullary main_while0b_cst_31 (constant S_ .f32 0x00000000#32) ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.binary_bufs_sub .., StableHlo.binary_bufs_sub .., StableHlo.binary_bufs_sub .., StableHlo.nullary_bufs_sub .., StableHlo.unary_bufs_sub .., StableHlo.binary_bufs_sub .., StableHlo.nullary_bufs_sub ..⟩
/-- 3 host operations of @_where (main_while0b_call5), in order. -/
abbrev while0Ops0_8 : List (HloOp τ sig (Elt F)) :=
  [ StableHlo.TRef.unary (.of main_while0b_cst_31 : StableHlo.TRef sig ⟨S_, .f32⟩) (.of main_while0b_call5_v0 : StableHlo.TRef sig ⟨S_, .f32⟩) id,
    StableHlo.TRef.unary (.of main_while0b_call5_v0 : StableHlo.TRef sig ⟨S_, .f32⟩) (.of main_while0b_call5_v1 : StableHlo.TRef sig ⟨S64x1024, .f32⟩) (broadcastInDim S64x1024 ![] bcast_S_S64x1024),
    StableHlo.TRef.ternary (.of main_while0b_v52 : StableHlo.TRef sig ⟨S64x1024, .i1⟩) (.of main_while0b_call5_v1 : StableHlo.TRef sig ⟨S64x1024, .f32⟩) (.of main_v6_17 : StableHlo.TRef sig ⟨S64x1024, .f32⟩) (.of main_while0b_v53 : StableHlo.TRef sig ⟨S64x1024, .f32⟩) select ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  ⟨StableHlo.unary_bufs_sub .., StableHlo.unary_bufs_sub .., StableHlo.ternary_bufs_sub ..⟩
/-- 49 host operations of host loop 0's body region, in order. -/
abbrev while0Ops0_9 : List (HloOp τ sig (Elt F)) :=
  ( StableHlo.nullary main_while0b_cst_32 (constant S_ .f32 0x3F800000#32)
  :: StableHlo.unary main_while0b_cst_32 main_while0b_v54 (broadcastInDim S64x1024 ![] bcast_S_S64x1024 : (⟨S_, .f32⟩ : BufTy).Contents (Elt F) → (⟨S64x1024, .f32⟩ : BufTy).Contents (Elt F))
  :: StableHlo.binary main_while0b_v53 main_while0b_v54 main_while0b_v55 (subf : (⟨S64x1024, .f32⟩ : BufTy).Contents (Elt F) → (⟨S64x1024, .f32⟩ : BufTy).Contents (Elt F) → (⟨S64x1024, .f32⟩ : BufTy).Contents (Elt F))
  :: StableHlo.binary main_while0b_v50 main_v6_15 main_while0b_v56 ((fun a b => concatenate S64x512 1 [⟨S64x256, a⟩, ⟨S64x256, b⟩] concatenates_S64x256_S64x256_S64x512_d1) : (⟨S64x256, .f32⟩ : BufTy).Contents (Elt F) → (⟨S64x256, .f32⟩ : BufTy).Contents (Elt F) → (⟨S64x512, .f32⟩ : BufTy).Contents (Elt F))
  :: StableHlo.binary main_while0b_v56 main_v6_7 main_while0b_v57 ((fun l r => Host.dotGeneral dot_S64x512_S512x256_S64x256_1_0_0_1_n_n none l r) : (⟨S64x512, .f32⟩ : BufTy).Contents (Elt F) → (⟨S512x256, .f32⟩ : BufTy).Contents (Elt F) → (⟨S64x256, .f32⟩ : BufTy).Contents (Elt F))
  :: StableHlo.unary main_v6_8 main_while0b_v58 (broadcastInDim S1x256 ![1] bcast_S256_S1x256_1 : (⟨S256, .f32⟩ : BufTy).Contents (Elt F) → (⟨S1x256, .f32⟩ : BufTy).Contents (Elt F))
  :: StableHlo.unary main_while0b_v58 main_while0b_v59 (broadcastInDim S64x256 ![0, 1] bcast_S1x256_S64x256_0_1 : (⟨S1x256, .f32⟩ : BufTy).Contents (Elt F) → (⟨S64x256, .f32⟩ : BufTy).Contents (Elt F))
  :: StableHlo.binary main_while0b_v57 main_while0b_v59 main_while0b_v60 (addf : (⟨S64x256, .f32⟩ : BufTy).Contents (Elt F) → (⟨S64x256, .f32⟩ : BufTy).Contents (Elt F) → (⟨S64x256, .f32⟩ : BufTy).Contents (Elt F))
  :: StableHlo.binary main_while0b_v8 main_v6_9 main_while0b_v61 ((fun l r => Host.dotGeneral dot_S64x256_S256x768_S64x768_1_0_0_1_n_n none l r) : (⟨S64x256, .f32⟩ : BufTy).Contents (Elt F) → (⟨S256x768, .f32⟩ : BufTy).Contents (Elt F) → (⟨S64x768, .f32⟩ : BufTy).Contents (Elt F))
  :: StableHlo.unary main_v6_10 main_while0b_v62 (broadcastInDim S1x768 ![1] bcast_S768_S1x768_1 : (⟨S768, .f32⟩ : BufTy).Contents (Elt F) → (⟨S1x768, .f32⟩ : BufTy).Contents (Elt F))
  :: StableHlo.unary main_while0b_v62 main_while0b_v63 (broadcastInDim S64x768 ![0, 1] bcast_S1x768_S64x768_0_1 : (⟨S1x768, .f32⟩ : BufTy).Contents (Elt F) → (⟨S64x768, .f32⟩ : BufTy).Contents (Elt F))
  :: StableHlo.binary main_while0b_v61 main_while0b_v63 main_while0b_v64 (addf : (⟨S64x768, .f32⟩ : BufTy).Contents (Elt F) → (⟨S64x768, .f32⟩ : BufTy).Contents (Elt F) → (⟨S64x768, .f32⟩ : BufTy).Contents (Elt F))
  :: StableHlo.binary main_while0b_v60 main_v6_11 main_while0b_v65 ((fun l r => Host.dotGeneral dot_S64x256_S256x768_S64x768_1_0_0_1_n_n none l r) : (⟨S64x256, .f32⟩ : BufTy).Contents (Elt F) → (⟨S256x768, .f32⟩ : BufTy).Contents (Elt F) → (⟨S64x768, .f32⟩ : BufTy).Contents (Elt F))
  :: StableHlo.unary main_v6_12 main_while0b_v66 (broadcastInDim S1x768 ![1] bcast_S768_S1x768_1 : (⟨S768, .f32⟩ : BufTy).Contents (Elt F) → (⟨S1x768, .f32⟩ : BufTy).Contents (Elt F))
  :: StableHlo.unary main_while0b_v66 main_while0b_v67 (broadcastInDim S64x768 ![0, 1] bcast_S1x768_S64x768_0_1 : (⟨S1x768, .f32⟩ : BufTy).Contents (Elt F) → (⟨S64x768, .f32⟩ : BufTy).Contents (Elt F))
  :: StableHlo.binary main_while0b_v65 main_while0b_v67 main_while0b_v68 (addf : (⟨S64x768, .f32⟩ : BufTy).Contents (Elt F) → (⟨S64x768, .f32⟩ : BufTy).Contents (Elt F) → (⟨S64x768, .f32⟩ : BufTy).Contents (Elt F))
  :: StableHlo.unary main_while0b_v64 main_while0b_v69 ((extractStridedSlice S64x256 ![0, 0] · slices_S64x768_S64x256_0_0) : (⟨S64x768, .f32⟩ : BufTy).Contents (Elt F) → (⟨S64x256, .f32⟩ : BufTy).Contents (Elt F))
  :: StableHlo.unary main_while0b_v64 main_while0b_v70 ((extractStridedSlice S64x256 ![0, 256] · slices_S64x768_S64x256_0_256) : (⟨S64x768, .f32⟩ : BufTy).Contents (Elt F) → (⟨S64x256, .f32⟩ : BufTy).Contents (Elt F))
  :: StableHlo.unary main_while0b_v64 main_while0b_v71 ((extractStridedSlice S64x256 ![0, 512] · slices_S64x768_S64x256_0_512) : (⟨S64x768, .f32⟩ : BufTy).Contents (Elt F) → (⟨S64x256, .f32⟩ : BufTy).Contents (Elt F))
  :: StableHlo.unary main_while0b_v68 main_while0b_v72 ((extractStridedSlice S64x256 ![0, 0] · slices_S64x768_S64x256_0_0) : (⟨S64x768, .f32⟩ : BufTy).Contents (Elt F) → (⟨S64x256, .f32⟩ : BufTy).Contents (Elt F))
  :: StableHlo.unary main_while0b_v68 main_while0b_v73 ((extractStridedSlice S64x256 ![0, 256] · slices_S64x768_S64x256_0_256) : (⟨S64x768, .f32⟩ : BufTy).Contents (Elt F) → (⟨S64x256, .f32⟩ : BufTy).Contents (Elt F))
  :: StableHlo.unary main_while0b_v68 main_while0b_v74 ((extractStridedSlice S64x256 ![0, 512] · slices_S64x768_S64x256_0_512) : (⟨S64x768, .f32⟩ : BufTy).Contents (Elt F) → (⟨S64x256, .f32⟩ : BufTy).Contents (Elt F))
  :: StableHlo.binary main_while0b_v69 main_while0b_v72 main_while0b_v75 (addf : (⟨S64x256, .f32⟩ : BufTy).Contents (Elt F) → (⟨S64x256, .f32⟩ : BufTy).Contents (Elt F) → (⟨S64x256, .f32⟩ : BufTy).Contents (Elt F))
  :: StableHlo.unary main_while0b_v75 main_while0b_v76 (Host.negf : (⟨S64x256, .f32⟩ : BufTy).Contents (Elt F) → (⟨S64x256, .f32⟩ : BufTy).Contents (Elt F))
  :: StableHlo.unary main_while0b_v76 main_while0b_v77 (Host.exp : (⟨S64x256, .f32⟩ : BufTy).Contents (Elt F) → (⟨S64x256, .f32⟩ : BufTy).Contents (Elt F))
  :: StableHlo.nullary main_while0b_cst_33 (constant S_ .f32 0x3F800000#32)
  :: StableHlo.unary main_while0b_cst_33 main_while0b_v78 (broadcastInDim S64x256 ![] bcast_S_S64x256 : (⟨S_, .f32⟩ : BufTy).Contents (Elt F) → (⟨S64x256, .f32⟩ : BufTy).Contents (Elt F))
  :: StableHlo.binary main_while0b_v78 main_while0b_v77 main_while0b_v79 (addf : (⟨S64x256, .f32⟩ : BufTy).Contents (Elt F) → (⟨S64x256, .f32⟩ : BufTy).Contents (Elt F) → (⟨S64x256, .f32⟩ : BufTy).Contents (Elt F))
  :: StableHlo.nullary main_while0b_cst_34 (constant S_ .f32 0x3F800000#32)
  :: StableHlo.unary main_while0b_cst_34 main_while0b_v80 (broadcastInDim S64x256 ![] bcast_S_S64x256 : (⟨S_, .f32⟩ : BufTy).Contents (Elt F) → (⟨S64x256, .f32⟩ : BufTy).Contents (Elt F))
  :: StableHlo.binary main_while0b_v80 main_while0b_v79 main_while0b_v81 (Host.divf : (⟨S64x256, .f32⟩ : BufTy).Contents (Elt F) → (⟨S64x256, .f32⟩ : BufTy).Contents (Elt F) → (⟨S64x256, .f32⟩ : BufTy).Contents (Elt F))
  :: StableHlo.binary main_while0b_v70 main_while0b_v73 main_while0b_v82 (addf : (⟨S64x256, .f32⟩ : BufTy).Contents (Elt F) → (⟨S64x256, .f32⟩ : BufTy).Contents (Elt F) → (⟨S64x256, .f32⟩ : BufTy).Contents (Elt F))
  :: StableHlo.unary main_while0b_v82 main_while0b_v83 (Host.negf : (⟨S64x256, .f32⟩ : BufTy).Contents (Elt F) → (⟨S64x256, .f32⟩ : BufTy).Contents (Elt F))
  :: StableHlo.unary main_while0b_v83 main_while0b_v84 (Host.exp : (⟨S64x256, .f32⟩ : BufTy).Contents (Elt F) → (⟨S64x256, .f32⟩ : BufTy).Contents (Elt F))
  :: StableHlo.nullary main_while0b_cst_35 (constant S_ .f32 0x3F800000#32)
  :: StableHlo.unary main_while0b_cst_35 main_while0b_v85 (broadcastInDim S64x256 ![] bcast_S_S64x256 : (⟨S_, .f32⟩ : BufTy).Contents (Elt F) → (⟨S64x256, .f32⟩ : BufTy).Contents (Elt F))
  :: StableHlo.binary main_while0b_v85 main_while0b_v84 main_while0b_v86 (addf : (⟨S64x256, .f32⟩ : BufTy).Contents (Elt F) → (⟨S64x256, .f32⟩ : BufTy).Contents (Elt F) → (⟨S64x256, .f32⟩ : BufTy).Contents (Elt F))
  :: StableHlo.nullary main_while0b_cst_36 (constant S_ .f32 0x3F800000#32)
  :: StableHlo.unary main_while0b_cst_36 main_while0b_v87 (broadcastInDim S64x256 ![] bcast_S_S64x256 : (⟨S_, .f32⟩ : BufTy).Contents (Elt F) → (⟨S64x256, .f32⟩ : BufTy).Contents (Elt F))
  :: StableHlo.binary main_while0b_v87 main_while0b_v86 main_while0b_v88 (Host.divf : (⟨S64x256, .f32⟩ : BufTy).Contents (Elt F) → (⟨S64x256, .f32⟩ : BufTy).Contents (Elt F) → (⟨S64x256, .f32⟩ : BufTy).Contents (Elt F))
  :: StableHlo.binary main_while0b_v81 main_while0b_v74 main_while0b_v89 (mulf : (⟨S64x256, .f32⟩ : BufTy).Contents (Elt F) → (⟨S64x256, .f32⟩ : BufTy).Contents (Elt F) → (⟨S64x256, .f32⟩ : BufTy).Contents (Elt F))
  :: StableHlo.binary main_while0b_v71 main_while0b_v89 main_while0b_v90 (addf : (⟨S64x256, .f32⟩ : BufTy).Contents (Elt F) → (⟨S64x256, .f32⟩ : BufTy).Contents (Elt F) → (⟨S64x256, .f32⟩ : BufTy).Contents (Elt F))
  :: StableHlo.unary main_while0b_v90 main_while0b_v91 (Host.tanh : (⟨S64x256, .f32⟩ : BufTy).Contents (Elt F) → (⟨S64x256, .f32⟩ : BufTy).Contents (Elt F))
  :: StableHlo.nullary main_while0b_cst_37 (constant S_ .f32 0x3F800000#32)
  :: StableHlo.unary main_while0b_cst_37 main_while0b_v92 (broadcastInDim S64x256 ![] bcast_S_S64x256 : (⟨S_, .f32⟩ : BufTy).Contents (Elt F) → (⟨S64x256, .f32⟩ : BufTy).Contents (Elt F))
  :: StableHlo.binary main_while0b_v92 main_while0b_v88 main_while0b_v93 (subf : (⟨S64x256, .f32⟩ : BufTy).Contents (Elt F) → (⟨S64x256, .f32⟩ : BufTy).Contents (Elt F) → (⟨S64x256, .f32⟩ : BufTy).Contents (Elt F))
  :: StableHlo.binary main_while0b_v93 main_while0b_v91 main_while0b_v94 (mulf : (⟨S64x256, .f32⟩ : BufTy).Contents (Elt F) → (⟨S64x256, .f32⟩ : BufTy).Contents (Elt F) → (⟨S64x256, .f32⟩ : BufTy).Contents (Elt F))
  :: StableHlo.binary main_while0b_v88 main_while0b_v60 main_while0b_v95 (mulf : (⟨S64x256, .f32⟩ : BufTy).Contents (Elt F) → (⟨S64x256, .f32⟩ : BufTy).Contents (Elt F) → (⟨S64x256, .f32⟩ : BufTy).Contents (Elt F))
  :: StableHlo.binary main_while0b_v94 main_while0b_v95 main_while0b_v96 (addf : (⟨S64x256, .f32⟩ : BufTy).Contents (Elt F) → (⟨S64x256, .f32⟩ : BufTy).Contents (Elt F) → (⟨S64x256, .f32⟩ : BufTy).Contents (Elt F))
  :: [] )
/-- Each touches TensorCore references only (`HostSeg.ofOps` over `StableHlo.tcRefs`, or a subset by `sub_ucRefs`). -/
theorem while0Ops0_9_sub : (while0Ops0_9 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩
/-- 10 host operations of @dynamic_update_index_in_dim_1 (main_while0b_call6), in order. -/
abbrev while0Ops0_10 : List (HloOp τ sig (Elt F)) :=
  [ StableHlo.TRef.unary (.of main_while0b_v96 : StableHlo.TRef sig ⟨S64x256, .f32⟩) (.of main_while0b_call6_v0 : StableHlo.TRef sig ⟨S1x64x256, .f32⟩) (broadcastInDim S1x64x256 ![1, 2] bcast_S64x256_S1x64x256_1_2),
    StableHlo.TRef.nullary (.of main_while0b_call6_c : StableHlo.TRef sig ⟨S_, .i32⟩) (constantI S_ 32 0#32),
    StableHlo.TRef.binary (.of main_v6_14 : StableHlo.TRef sig ⟨S_, .i32⟩) (.of main_while0b_call6_c : StableHlo.TRef sig ⟨S_, .i32⟩) (.of main_while0b_call6_v1 : StableHlo.TRef sig ⟨S_, .i1⟩) (cmpi .slt),
    StableHlo.TRef.unary (.of main_v6_14 : StableHlo.TRef sig ⟨S_, .i32⟩) (.of main_while0b_call6_v2 : StableHlo.TRef sig ⟨S_, .i32⟩) id,
    StableHlo.TRef.nullary (.of main_while0b_call6_c_0 : StableHlo.TRef sig ⟨S_, .i32⟩) (constantI S_ 32 32#32),
    StableHlo.TRef.binary (.of main_while0b_call6_v2 : StableHlo.TRef sig ⟨S_, .i32⟩) (.of main_while0b_call6_c_0 : StableHlo.TRef sig ⟨S_, .i32⟩) (.of main_while0b_call6_v3 : StableHlo.TRef sig ⟨S_, .i32⟩) addi,
    StableHlo.TRef.ternary (.of main_while0b_call6_v1 : StableHlo.TRef sig ⟨S_, .i1⟩) (.of main_while0b_call6_v3 : StableHlo.TRef sig ⟨S_, .i32⟩) (.of main_v6_14 : StableHlo.TRef sig ⟨S_, .i32⟩) (.of main_while0b_call6_v4 : StableHlo.TRef sig ⟨S_, .i32⟩) select,
    StableHlo.TRef.nullary (.of main_while0b_call6_c_1 : StableHlo.TRef sig ⟨S_, .i32⟩) (constantI S_ 32 0#32),
    StableHlo.TRef.nullary (.of main_while0b_call6_c_2 : StableHlo.TRef sig ⟨S_, .i32⟩) (constantI S_ 32 0#32),
    StableHlo.TRef.binaryIndexed (.of main_v6_18 : StableHlo.TRef sig ⟨S32x64x256, .f32⟩) (.of main_while0b_call6_v0 : StableHlo.TRef sig ⟨S1x64x256, .f32⟩) ![(.of main_while0b_call6_v4 : StableHlo.TRef sig ⟨S_, .i32⟩), (.of main_while0b_call6_c_1 : StableHlo.TRef sig ⟨S_, .i32⟩), (.of main_while0b_call6_c_2 : StableHlo.TRef sig ⟨S_, .i32⟩)] (.of main_while0b_v97 : StableHlo.TRef sig ⟨S32x64x256, .f32⟩) (fun x u i => Host.dynamicUpdateSlice x u (fun k => (i k (Shape.Idx.first h_S_)).toInt) updateFits_S32x64x256_S1x64x256) ]
/-- Each touches TensorCore references only (`HostSeg.ofOps` over `StableHlo.tcRefs`, or a subset by `sub_ucRefs`). -/
theorem while0Ops0_10_sub : (while0Ops0_10 : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.binaryIndexed_bufs_sub ..⟩
/-- 8 host operations of host loop 0's body region, in order. -/
abbrev while0Ops0_11 : List (HloOp τ sig (Elt F)) :=
  [ StableHlo.nullary main_while0b_c_38 (constantI S_ 32 1#32),
    StableHlo.binary main_v6_13 main_while0b_c_38 main_while0b_v98 (addi : (⟨S_, .i32⟩ : BufTy).Contents (Elt F) → (⟨S_, .i32⟩ : BufTy).Contents (Elt F) → (⟨S_, .i32⟩ : BufTy).Contents (Elt F)),
    StableHlo.unary main_while0b_v98 main_v6_13 id,
    StableHlo.unary main_while0b_v7 main_v6_14 id,
    StableHlo.unary main_while0b_v96 main_v6_15 id,
    StableHlo.unary main_while0b_v10 main_v6_16 id,
    StableHlo.unary main_while0b_v55 main_v6_17 id,
    StableHlo.unary main_while0b_v97 main_v6_18 id ]
/-- Each touches TensorCore references only (`HostSeg.ofOps` over `StableHlo.tcRefs`, or a subset by `sub_ucRefs`). -/
theorem while0Ops0_11_sub : (while0Ops0_11 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, Pipeline.chain_cons, StableHlo.chain_seq_cons, Pipeline.chain_cons, Pipeline.chain_cons, StableHlo.chain_seq_cons, Pipeline.chain_cons, StableHlo.chain_seq_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_cst, main_v2, main_cst_0, main_v3, main_cst_1, main_v4, main_cst_2, main_v5, main_c, main_c_3, main_v6_0, main_v6_1, main_v6_2, main_v6_3, main_v6_4, main_v6_5, main_v6_6, main_v6_7, main_v6_8, main_v6_9, main_v6_10, main_v6_11, main_v6_12, main_v6_13, main_v6_14, main_v6_15, main_v6_16, main_v6_17, main_v6_18]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_22, main_while0b_v7]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_c, main_while0b_call0_v0, main_while0b_call0_v1, main_while0b_call0_c_0, main_while0b_call0_v2, main_while0b_call0_v3, main_while0b_call0_c_1, main_while0b_call0_c_2, main_while0b_call0_v4, main_while0b_v8]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call1_c, main_while0b_call1_v0, main_while0b_call1_v1, main_while0b_call1_c_0, main_while0b_call1_v2, main_while0b_call1_v3, main_while0b_call1_c_1, main_while0b_call1_c_2, main_while0b_call1_v4, main_while0b_v9]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call2_v0, main_while0b_call2_c, main_while0b_call2_v1, main_while0b_call2_v2, main_while0b_call2_c_0, main_while0b_call2_v3, main_while0b_call2_v4, main_while0b_call2_c_1, main_while0b_call2_c_2, main_while0b_v10]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_v11, main_while0b_v12, main_while0b_cst_23, main_while0b_v13, main_while0b_v14, main_while0b_cst_24, main_while0b_v15, main_while0b_v16, main_while0b_v17, main_while0b_v18, main_while0b_v19, main_while0b_v20, main_while0b_v21, main_while0b_v22, main_while0b_v23, main_while0b_v24, main_while0b_v25, main_while0b_v26, main_while0b_cst_25, main_while0b_v27, main_while0b_v28, main_while0b_v29, main_while0b_cst_26, main_while0b_v30, main_while0b_v31, main_while0b_v32, main_while0b_v33, main_while0b_v34, main_while0b_cst_27, main_while0b_v35, main_while0b_cst_28, main_while0b_v36, main_while0b_v37, main_while0b_v38, main_while0b_v39, main_while0b_v40, main_while0b_v41, main_while0b_cst_29, main_while0b_v42, main_while0b_v43, main_while0b_v44, main_while0b_v45]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call3_v0, main_while0b_call3_cst, main_while0b_call3_c, main_while0b_call3_v1_0, main_while0b_v46]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call4_v0, main_while0b_call4_v1, main_while0b_call4_v2, main_while0b_call4_v3, main_while0b_call4_v4, main_while0b_v47]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_v48, main_while0b_v49, main_while0b_v50, main_while0b_cst_30, main_while0b_v51, main_while0b_v52, main_while0b_cst_31]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_call5_v0, main_while0b_call5_v1, main_while0b_v53]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_cst_32, main_while0b_v54, main_while0b_v55, main_while0b_v56, main_while0b_v57, main_while0b_v58, main_while0b_v59, main_while0b_v60, main_while0b_v61, main_while0b_v62, main_while0b_v63, main_while0b_v64, main_while0b_v65, main_while0b_v66, main_while0b_v67, main_while0b_v68, main_while0b_v69, main_while0b_v70, main_while0b_v71, main_while0b_v72, main_while0b_v73, main_while0b_v74, main_while0b_v75, main_while0b_v76, main_while0b_v77, main_while0b_cst_33, main_while0b_v78, main_while0b_v79, main_while0b_cst_34, main_while0b_v80, main_while0b_v81, main_while0b_v82, main_while0b_v83, main_while0b_v84, main_while0b_cst_35, main_while0b_v85, main_while0b_v86, main_while0b_cst_36, main_while0b_v87, main_while0b_v88, main_while0b_v89, main_while0b_v90, main_while0b_v91, main_while0b_cst_37, main_while0b_v92, main_while0b_v93, main_while0b_v94, main_while0b_v95, main_while0b_v96]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `while0Ops0_10` allocates a buffer. -/
theorem while0Ops0_10_fresh : (while0Ops0_10 : List (HloOp τ sig (Elt F))).Forall fun op => op.fresh = ∅ :=
  StableHlo.forall_fresh_of_map rfl
/-- The reference each operation of `while0Ops0_10` writes, in order. -/
abbrev while0Ops0_10_W : List (Ref sig .tc) := [main_while0b_call6_v0, main_while0b_call6_c, main_while0b_call6_v1, main_while0b_call6_v2, main_while0b_call6_c_0, main_while0b_call6_v3, main_while0b_call6_v4, main_while0b_call6_c_1, main_while0b_call6_c_2, main_while0b_v97]
theorem while0Ops0_10_writes : (while0Ops0_10 : List (HloOp τ sig (Elt F))).Forall fun op => op.writes ⊆ (while0Ops0_10_W.map (Proc.devRef (τ := τ) .tc)).toFinset :=
  StableHlo.forall_writes_sub_of_map rfl
/-- No operation of `while0Ops0_11` allocates a buffer. -/
theorem while0Ops0_11_fresh : (while0Ops0_11 : List (HloOp τ sig (Elt F))).Forall fun op => op.fresh = ∅ :=
  StableHlo.forall_fresh_of_map rfl
/-- The reference each operation of `while0Ops0_11` writes, in order. -/
abbrev while0Ops0_11_W : List (Ref sig .tc) := [main_while0b_c_38, main_while0b_v98, main_v6_13, main_v6_14, main_v6_15, main_v6_16, main_v6_17, main_v6_18]
theorem while0Ops0_11_writes : (while0Ops0_11 : List (HloOp τ sig (Elt F))).Forall fun op => op.writes ⊆ (while0Ops0_11_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_22 (constantI S_ 32 32#32),
    StableHlo.binary main_v6_13 main_while0c_c_22 main_while0c_v7 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11]
abbrev postI : List (List (HloOp τ sig (Elt F))) := []

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.nil))))))))))))
theorem hpost : Plain (postI (F := F)) := .nil

/-- The reference each operation of `condOps` writes, in order. -/
abbrev condOps_W : List (Ref sig .tc) := [main_while0c_c_22, main_while0c_v7]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v6_13`) is written by one stretch of the body, `while0Ops0_11`: not by the condition, nor by the
    body's other stretches. -/
theorem ctr_cond (V : Valuation τ sig (Elt F)) : after condOps V (Proc.devRef .tc main_v6_13) = V (Proc.devRef .tc main_v6_13) :=
  after_of_writes_sub condOps V condOps_writes (by decide +kernel)
theorem ctr_while0Ops0 (V : Valuation τ sig (Elt F)) : after while0Ops0 V (Proc.devRef .tc main_v6_13) = V (Proc.devRef .tc main_v6_13) :=
  after_of_writes_sub while0Ops0 V while0Ops0_writes (by decide +kernel)
theorem ctr_while0Ops0_1 (V : Valuation τ sig (Elt F)) : after while0Ops0_1 V (Proc.devRef .tc main_v6_13) = V (Proc.devRef .tc main_v6_13) :=
  after_of_writes_sub while0Ops0_1 V while0Ops0_1_writes (by decide +kernel)
theorem ctr_while0Ops0_2 (V : Valuation τ sig (Elt F)) : after while0Ops0_2 V (Proc.devRef .tc main_v6_13) = V (Proc.devRef .tc main_v6_13) :=
  after_of_writes_sub while0Ops0_2 V while0Ops0_2_writes (by decide +kernel)
theorem ctr_while0Ops0_3 (V : Valuation τ sig (Elt F)) : after while0Ops0_3 V (Proc.devRef .tc main_v6_13) = V (Proc.devRef .tc main_v6_13) :=
  after_of_writes_sub while0Ops0_3 V while0Ops0_3_writes (by decide +kernel)
theorem ctr_while0Ops0_4 (V : Valuation τ sig (Elt F)) : after while0Ops0_4 V (Proc.devRef .tc main_v6_13) = V (Proc.devRef .tc main_v6_13) :=
  after_of_writes_sub while0Ops0_4 V while0Ops0_4_writes (by decide +kernel)
theorem ctr_while0Ops0_5 (V : Valuation τ sig (Elt F)) : after while0Ops0_5 V (Proc.devRef .tc main_v6_13) = V (Proc.devRef .tc main_v6_13) :=
  after_of_writes_sub while0Ops0_5 V while0Ops0_5_writes (by decide +kernel)
theorem ctr_while0Ops0_6 (V : Valuation τ sig (Elt F)) : after while0Ops0_6 V (Proc.devRef .tc main_v6_13) = V (Proc.devRef .tc main_v6_13) :=
  after_of_writes_sub while0Ops0_6 V while0Ops0_6_writes (by decide +kernel)
theorem ctr_while0Ops0_7 (V : Valuation τ sig (Elt F)) : after while0Ops0_7 V (Proc.devRef .tc main_v6_13) = V (Proc.devRef .tc main_v6_13) :=
  after_of_writes_sub while0Ops0_7 V while0Ops0_7_writes (by decide +kernel)
theorem ctr_while0Ops0_8 (V : Valuation τ sig (Elt F)) : after while0Ops0_8 V (Proc.devRef .tc main_v6_13) = V (Proc.devRef .tc main_v6_13) :=
  after_of_writes_sub while0Ops0_8 V while0Ops0_8_writes (by decide +kernel)
theorem ctr_while0Ops0_9 (V : Valuation τ sig (Elt F)) : after while0Ops0_9 V (Proc.devRef .tc main_v6_13) = V (Proc.devRef .tc main_v6_13) :=
  after_of_writes_sub while0Ops0_9 V while0Ops0_9_writes (by decide +kernel)
theorem ctr_while0Ops0_10 (V : Valuation τ sig (Elt F)) : after while0Ops0_10 V (Proc.devRef .tc main_v6_13) = V (Proc.devRef .tc main_v6_13) :=
  after_of_writes_sub while0Ops0_10 V while0Ops0_10_writes (by decide +kernel)

set_option maxRecDepth 100000 in
/-- `while0Ops0_11` leaves the counter one step on. -/
theorem ctr_step (X : Valuation τ sig (Elt F)) :
    after while0Ops0_11 X (Proc.devRef .tc main_v6_13) = addi (X (Proc.devRef .tc main_v6_13)) (constantI S_ 32 1#32) := by
  after_results
  rfl

/-- The counter is the loop's lower bound at the loop's entry: its last writer before the loop read back. -/
theorem ctr_entry (c : Dev nD) : entryContents preI m c (Proc.devRef .tc main_v6_13) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v6_13) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_10, ctr_while0Ops0_9, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 32 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v6_13 HostLoop.idx0)
        (HloOp.result _ (atK m k c) main_while0c_c_22 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 32 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 32 m ρ (cond_spec m)

/-! ## One trip's values -/

/-- The function of the body's operation that writes `main_while0b_v56`, named. It packs its operands into a list of dependent pairs
    whose shapes a later argument's type mentions, so `simp` cannot rewrite an operand where it stands; applied by
    name, the operands are plain arguments, which the window lemmas below rewrite before the name unfolds. -/
def fn_main_while0b_v56 : (⟨S64x256, .f32⟩ : BufTy).Contents (Elt F) → (⟨S64x256, .f32⟩ : BufTy).Contents (Elt F) → (⟨S64x512, .f32⟩ : BufTy).Contents (Elt F) :=
  (fun a b => concatenate S64x512 1 [⟨S64x256, a⟩, ⟨S64x256, b⟩] concatenates_S64x256_S64x256_S64x512_d1)

/-- The body's operations 1 … 2 of 162. -/
abbrev trip_w0 : List (HloOp τ sig (Elt F)) :=
  [ StableHlo.nullary main_while0b_c_22 (constantI S_ 32 1#32),
    StableHlo.binary main_v6_14 main_while0b_c_22 main_while0b_v7 (addi : (⟨S_, .i32⟩ : BufTy).Contents (Elt F) → (⟨S_, .i32⟩ : BufTy).Contents (Elt F) → (⟨S_, .i32⟩ : BufTy).Contents (Elt F)) ]

/-- The body's operations 3 … 11 of 162. -/
abbrev trip_w1 : List (HloOp τ sig (Elt F)) :=
  [ StableHlo.TRef.nullary (.of main_while0b_call0_c : StableHlo.TRef sig ⟨S_, .i32⟩) (constantI S_ 32 0#32),
    StableHlo.TRef.binary (.of main_v6_14 : StableHlo.TRef sig ⟨S_, .i32⟩) (.of main_while0b_call0_c : StableHlo.TRef sig ⟨S_, .i32⟩) (.of main_while0b_call0_v0 : StableHlo.TRef sig ⟨S_, .i1⟩) (cmpi .slt),
    StableHlo.TRef.unary (.of main_v6_14 : StableHlo.TRef sig ⟨S_, .i32⟩) (.of main_while0b_call0_v1 : StableHlo.TRef sig ⟨S_, .i32⟩) id,
    StableHlo.TRef.nullary (.of main_while0b_call0_c_0 : StableHlo.TRef sig ⟨S_, .i32⟩) (constantI S_ 32 32#32),
    StableHlo.TRef.binary (.of main_while0b_call0_v1 : StableHlo.TRef sig ⟨S_, .i32⟩) (.of main_while0b_call0_c_0 : StableHlo.TRef sig ⟨S_, .i32⟩) (.of main_while0b_call0_v2 : StableHlo.TRef sig ⟨S_, .i32⟩) addi,
    StableHlo.TRef.ternary (.of main_while0b_call0_v0 : StableHlo.TRef sig ⟨S_, .i1⟩) (.of main_while0b_call0_v2 : StableHlo.TRef sig ⟨S_, .i32⟩) (.of main_v6_14 : StableHlo.TRef sig ⟨S_, .i32⟩) (.of main_while0b_call0_v3 : StableHlo.TRef sig ⟨S_, .i32⟩) select,
    StableHlo.TRef.nullary (.of main_while0b_call0_c_1 : StableHlo.TRef sig ⟨S_, .i32⟩) (constantI S_ 32 0#32),
    StableHlo.TRef.nullary (.of main_while0b_call0_c_2 : StableHlo.TRef sig ⟨S_, .i32⟩) (constantI S_ 32 0#32),
    StableHlo.TRef.unaryIndexed (.of main_v6_0 : StableHlo.TRef sig ⟨S32x64x256, .f32⟩) ![(.of main_while0b_call0_v3 : StableHlo.TRef sig ⟨S_, .i32⟩), (.of main_while0b_call0_c_1 : StableHlo.TRef sig ⟨S_, .i32⟩), (.of main_while0b_call0_c_2 : StableHlo.TRef sig ⟨S_, .i32⟩)] (.of main_while0b_call0_v4 : StableHlo.TRef sig ⟨S1x64x256, .f32⟩) (fun x i => Host.dynamicSlice S1x64x256 x (fun k => (i k (Shape.Idx.first h_S_)).toInt) sliceFits_S32x64x256_S1x64x256) ]

/-- The body's operations 12 … 12 of 162. -/
abbrev trip_w2 : List (HloOp τ sig (Elt F)) :=
  [ StableHlo.TRef.reshape (.of main_while0b_call0_v4 : StableHlo.TRef sig ⟨S1x64x256, .f32⟩) (.of main_while0b_v8 : StableHlo.TRef sig ⟨S64x256, .f32⟩) (rfl : (.f32 : EltTy) = .f32) shapeCasts_S1x64x256_S64x256 ]

/-- The body's operations 13 … 21 of 162. -/
abbrev trip_w3 : List (HloOp τ sig (Elt F)) :=
  [ StableHlo.TRef.nullary (.of main_while0b_call1_c : StableHlo.TRef sig ⟨S_, .i32⟩) (constantI S_ 32 0#32),
    StableHlo.TRef.binary (.of main_v6_14 : StableHlo.TRef sig ⟨S_, .i32⟩) (.of main_while0b_call1_c : StableHlo.TRef sig ⟨S_, .i32⟩) (.of main_while0b_call1_v0 : StableHlo.TRef sig ⟨S_, .i1⟩) (cmpi .slt),
    StableHlo.TRef.unary (.of main_v6_14 : StableHlo.TRef sig ⟨S_, .i32⟩) (.of main_while0b_call1_v1 : StableHlo.TRef sig ⟨S_, .i32⟩) id,
    StableHlo.TRef.nullary (.of main_while0b_call1_c_0 : StableHlo.TRef sig ⟨S_, .i32⟩) (constantI S_ 32 32#32),
    StableHlo.TRef.binary (.of main_while0b_call1_v1 : StableHlo.TRef sig ⟨S_, .i32⟩) (.of main_while0b_call1_c_0 : StableHlo.TRef sig ⟨S_, .i32⟩) (.of main_while0b_call1_v2 : StableHlo.TRef sig ⟨S_, .i32⟩) addi,
    StableHlo.TRef.ternary (.of main_while0b_call1_v0 : StableHlo.TRef sig ⟨S_, .i1⟩) (.of main_while0b_call1_v2 : StableHlo.TRef sig ⟨S_, .i32⟩) (.of main_v6_14 : StableHlo.TRef sig ⟨S_, .i32⟩) (.of main_while0b_call1_v3 : StableHlo.TRef sig ⟨S_, .i32⟩) select,
    StableHlo.TRef.nullary (.of main_while0b_call1_c_1 : StableHlo.TRef sig ⟨S_, .i32⟩) (constantI S_ 32 0#32),
    StableHlo.TRef.nullary (.of main_while0b_call1_c_2 : StableHlo.TRef sig ⟨S_, .i32⟩) (constantI S_ 32 0#32),
    StableHlo.TRef.unaryIndexed (.of main_v6_1 : StableHlo.TRef sig ⟨S32x64x1024, .f32⟩) ![(.of main_while0b_call1_v3 : StableHlo.TRef sig ⟨S_, .i32⟩), (.of main_while0b_call1_c_1 : StableHlo.TRef sig ⟨S_, .i32⟩), (.of main_while0b_call1_c_2 : StableHlo.TRef sig ⟨S_, .i32⟩)] (.of main_while0b_call1_v4 : StableHlo.TRef sig ⟨S1x64x1024, .f32⟩) (fun x i => Host.dynamicSlice S1x64x1024 x (fun k => (i k (Shape.Idx.first h_S_)).toInt) sliceFits_S32x64x1024_S1x64x1024) ]

/-- The body's operations 22 … 22 of 162. -/
abbrev trip_w4 : List (HloOp τ sig (Elt F)) :=
  [ StableHlo.TRef.reshape (.of main_while0b_call1_v4 : StableHlo.TRef sig ⟨S1x64x1024, .f32⟩) (.of main_while0b_v9 : StableHlo.TRef sig ⟨S64x1024, .f32⟩) (rfl : (.f32 : EltTy) = .f32) shapeCasts_S1x64x1024_S64x1024 ]

/-- The body's operations 23 … 32 of 162. -/
abbrev trip_w5 : List (HloOp τ sig (Elt F)) :=
  [ StableHlo.TRef.unary (.of main_v6_15 : StableHlo.TRef sig ⟨S64x256, .f32⟩) (.of main_while0b_call2_v0 : StableHlo.TRef sig ⟨S64x1x256, .f32⟩) (broadcastInDim S64x1x256 ![0, 2] bcast_S64x256_S64x1x256_0_2),
    StableHlo.TRef.nullary (.of main_while0b_call2_c : StableHlo.TRef sig ⟨S_, .i32⟩) (constantI S_ 32 0#32),
    StableHlo.TRef.binary (.of main_v6_14 : StableHlo.TRef sig ⟨S_, .i32⟩) (.of main_while0b_call2_c : StableHlo.TRef sig ⟨S_, .i32⟩) (.of main_while0b_call2_v1 : StableHlo.TRef sig ⟨S_, .i1⟩) (cmpi .slt),
    StableHlo.TRef.unary (.of main_v6_14 : StableHlo.TRef sig ⟨S_, .i32⟩) (.of main_while0b_call2_v2 : StableHlo.TRef sig ⟨S_, .i32⟩) id,
    StableHlo.TRef.nullary (.of main_while0b_call2_c_0 : StableHlo.TRef sig ⟨S_, .i32⟩) (constantI S_ 32 1024#32),
    StableHlo.TRef.binary (.of main_while0b_call2_v2 : StableHlo.TRef sig ⟨S_, .i32⟩) (.of main_while0b_call2_c_0 : StableHlo.TRef sig ⟨S_, .i32⟩) (.of main_while0b_call2_v3 : StableHlo.TRef sig ⟨S_, .i32⟩) addi,
    StableHlo.TRef.ternary (.of main_while0b_call2_v1 : StableHlo.TRef sig ⟨S_, .i1⟩) (.of main_while0b_call2_v3 : StableHlo.TRef sig ⟨S_, .i32⟩) (.of main_v6_14 : StableHlo.TRef sig ⟨S_, .i32⟩) (.of main_while0b_call2_v4 : StableHlo.TRef sig ⟨S_, .i32⟩) select,
    StableHlo.TRef.nullary (.of main_while0b_call2_c_1 : StableHlo.TRef sig ⟨S_, .i32⟩) (constantI S_ 32 0#32),
    StableHlo.TRef.nullary (.of main_while0b_call2_c_2 : StableHlo.TRef sig ⟨S_, .i32⟩) (constantI S_ 32 0#32),
    StableHlo.TRef.binaryIndexed (.of main_v6_16 : StableHlo.TRef sig ⟨S64x1024x256, .f32⟩) (.of main_while0b_call2_v0 : StableHlo.TRef sig ⟨S64x1x256, .f32⟩) ![(.of main_while0b_call2_c_1 : StableHlo.TRef sig ⟨S_, .i32⟩), (.of main_while0b_call2_v4 : StableHlo.TRef sig ⟨S_, .i32⟩), (.of main_while0b_call2_c_2 : StableHlo.TRef sig ⟨S_, .i32⟩)] (.of main_while0b_v10 : StableHlo.TRef sig ⟨S64x1024x256, .f32⟩) (fun x u i => Host.dynamicUpdateSlice x u (fun k => (i k (Shape.Idx.first h_S_)).toInt) updateFits_S64x1024x256_S64x1x256) ]

/-- The body's operations 33 … 56 of 162. -/
abbrev trip_w6 : List (HloOp τ sig (Elt F)) :=
  [ StableHlo.unary main_v6_17 main_while0b_v11 (Host.negf : (⟨S64x1024, .f32⟩ : BufTy).Contents (Elt F) → (⟨S64x1024, .f32⟩ : BufTy).Contents (Elt F)),
    StableHlo.unary main_while0b_v11 main_while0b_v12 (Host.exp : (⟨S64x1024, .f32⟩ : BufTy).Contents (Elt F) → (⟨S64x1024, .f32⟩ : BufTy).Contents (Elt F)),
    StableHlo.nullary main_while0b_cst_23 (constant S_ .f32 0x3F800000#32),
    StableHlo.unary main_while0b_cst_23 main_while0b_v13 (broadcastInDim S64x1024 ![] bcast_S_S64x1024 : (⟨S_, .f32⟩ : BufTy).Contents (Elt F) → (⟨S64x1024, .f32⟩ : BufTy).Contents (Elt F)),
    StableHlo.binary main_while0b_v13 main_while0b_v12 main_while0b_v14 (addf : (⟨S64x1024, .f32⟩ : BufTy).Contents (Elt F) → (⟨S64x1024, .f32⟩ : BufTy).Contents (Elt F) → (⟨S64x1024, .f32⟩ : BufTy).Contents (Elt F)),
    StableHlo.nullary main_while0b_cst_24 (constant S_ .f32 0x3F800000#32),
    StableHlo.unary main_while0b_cst_24 main_while0b_v15 (broadcastInDim S64x1024 ![] bcast_S_S64x1024 : (⟨S_, .f32⟩ : BufTy).Contents (Elt F) → (⟨S64x1024, .f32⟩ : BufTy).Contents (Elt F)),
    StableHlo.binary main_while0b_v15 main_while0b_v14 main_while0b_v16 (Host.divf : (⟨S64x1024, .f32⟩ : BufTy).Contents (Elt F) → (⟨S64x1024, .f32⟩ : BufTy).Contents (Elt F) → (⟨S64x1024, .f32⟩ : BufTy).Contents (Elt F)),
    StableHlo.binary main_while0b_v8 main_v6_2 main_while0b_v17 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    StableHlo.binary main_v6_15 main_v6_3 main_while0b_v18 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    StableHlo.binary main_while0b_v17 main_while0b_v18 main_while0b_v19 (addf : (⟨S64x256, .f32⟩ : BufTy).Contents (Elt F) → (⟨S64x256, .f32⟩ : BufTy).Contents (Elt F) → (⟨S64x256, .f32⟩ : BufTy).Contents (Elt F)),
    StableHlo.binary main_while0b_v16 main_v6_4 main_while0b_v20 ((fun l r => Host.dotGeneral dot_S64x1024_S1024x256_S64x256_1_0_0_1_n_n none l r) : (⟨S64x1024, .f32⟩ : BufTy).Contents (Elt F) → (⟨S1024x256, .f32⟩ : BufTy).Contents (Elt F) → (⟨S64x256, .f32⟩ : BufTy).Contents (Elt F)),
    StableHlo.binary main_while0b_v19 main_while0b_v20 main_while0b_v21 (addf : (⟨S64x256, .f32⟩ : BufTy).Contents (Elt F) → (⟨S64x256, .f32⟩ : BufTy).Contents (Elt F) → (⟨S64x256, .f32⟩ : BufTy).Contents (Elt F)),
    StableHlo.unary main_while0b_v21 main_while0b_v22 (Host.tanh : (⟨S64x256, .f32⟩ : BufTy).Contents (Elt F) → (⟨S64x256, .f32⟩ : BufTy).Contents (Elt F)),
    StableHlo.binary main_while0b_v22 main_v6_5 main_while0b_v23 ((fun l r => Host.dotGeneral dot_S64x256_S256x1024_S64x1024_1_0_0_1_n_n none l r) : (⟨S64x256, .f32⟩ : BufTy).Contents (Elt F) → (⟨S256x1024, .f32⟩ : BufTy).Contents (Elt F) → (⟨S64x1024, .f32⟩ : BufTy).Contents (Elt F)),
    StableHlo.unary main_v6_6 main_while0b_v24 (broadcastInDim S1x1024 ![1] bcast_S1024_S1x1024_1 : (⟨S1024, .f32⟩ : BufTy).Contents (Elt F) → (⟨S1x1024, .f32⟩ : BufTy).Contents (Elt F)),
    StableHlo.unary main_while0b_v24 main_while0b_v25 (broadcastInDim S64x1024 ![0, 1] bcast_S1x1024_S64x1024_0_1 : (⟨S1x1024, .f32⟩ : BufTy).Contents (Elt F) → (⟨S64x1024, .f32⟩ : BufTy).Contents (Elt F)),
    StableHlo.binary main_while0b_v23 main_while0b_v25 main_while0b_v26 (addf : (⟨S64x1024, .f32⟩ : BufTy).Contents (Elt F) → (⟨S64x1024, .f32⟩ : BufTy).Contents (Elt F) → (⟨S64x1024, .f32⟩ : BufTy).Contents (Elt F)),
    StableHlo.nullary main_while0b_cst_25 (constant S_ .f32 0x1E3CE508#32),
    StableHlo.unary main_while0b_cst_25 main_while0b_v27 (broadcastInDim S64x1024 ![] bcast_S_S64x1024 : (⟨S_, .f32⟩ : BufTy).Contents (Elt F) → (⟨S64x1024, .f32⟩ : BufTy).Contents (Elt F)),
    StableHlo.binary main_while0b_v27 main_while0b_v9 main_while0b_v28 (addf : (⟨S64x1024, .f32⟩ : BufTy).Contents (Elt F) → (⟨S64x1024, .f32⟩ : BufTy).Contents (Elt F) → (⟨S64x1024, .f32⟩ : BufTy).Contents (Elt F)),
    StableHlo.unary main_while0b_v28 main_while0b_v29 (Host.log : (⟨S64x1024, .f32⟩ : BufTy).Contents (Elt F) → (⟨S64x1024, .f32⟩ : BufTy).Contents (Elt F)),
    StableHlo.nullary main_while0b_cst_26 (constant S_ .f32 0x1E3CE508#32),
    StableHlo.unary main_while0b_cst_26 main_while0b_v30 (broadcastInDim S64x1024 ![] bcast_S_S64x1024 : (⟨S_, .f32⟩ : BufTy).Contents (Elt F) → (⟨S64x1024, .f32⟩ : BufTy).Contents (Elt F)) ]

/-- The body's operations 57 … 74 of 162. -/
abbrev trip_w7 : List (HloOp τ sig (Elt F)) :=
  [ StableHlo.binary main_while0b_v30 main_while0b_v29 main_while0b_v31 (subf : (⟨S64x1024, .f32⟩ : BufTy).Contents (Elt F) → (⟨S64x1024, .f32⟩ : BufTy).Contents (Elt F) → (⟨S64x1024, .f32⟩ : BufTy).Contents (Elt F)),
    StableHlo.unary main_while0b_v31 main_while0b_v32 (Host.log : (⟨S64x1024, .f32⟩ : BufTy).Contents (Elt F) → (⟨S64x1024, .f32⟩ : BufTy).Contents (Elt F)),
    StableHlo.unary main_while0b_v32 main_while0b_v33 (Host.negf : (⟨S64x1024, .f32⟩ : BufTy).Contents (Elt F) → (⟨S64x1024, .f32⟩ : BufTy).Contents (Elt F)),
    StableHlo.binary main_while0b_v26 main_while0b_v33 main_while0b_v34 (addf : (⟨S64x1024, .f32⟩ : BufTy).Contents (Elt F) → (⟨S64x1024, .f32⟩ : BufTy).Contents (Elt F) → (⟨S64x1024, .f32⟩ : BufTy).Contents (Elt F)),
    StableHlo.nullary main_while0b_cst_27 (constant S_ .f32 0xFF800000#32),
    StableHlo.binary main_while0b_v34 main_while0b_cst_27 main_while0b_v35 ((fun x v => Host.reduce FloatOps.maximumf x v reducesTo_S64x1024_S64_d1 h_S_) : (⟨S64x1024, .f32⟩ : BufTy).Contents (Elt F) → (⟨S_, .f32⟩ : BufTy).Contents (Elt F) → (⟨S64, .f32⟩ : BufTy).Contents (Elt F)),
    StableHlo.nullary main_while0b_cst_28 (constant S_ .f32 0xFF800000#32),
    StableHlo.unary main_while0b_cst_28 main_while0b_v36 (broadcastInDim S64 ![] bcast_S_S64 : (⟨S_, .f32⟩ : BufTy).Contents (Elt F) → (⟨S64, .f32⟩ : BufTy).Contents (Elt F)),
    StableHlo.binary main_while0b_v36 main_while0b_v35 main_while0b_v37 (maximumf : (⟨S64, .f32⟩ : BufTy).Contents (Elt F) → (⟨S64, .f32⟩ : BufTy).Contents (Elt F) → (⟨S64, .f32⟩ : BufTy).Contents (Elt F)),
    StableHlo.unary main_while0b_v37 main_while0b_v38 (broadcastInDim S64x1 ![0] bcast_S64_S64x1_0 : (⟨S64, .f32⟩ : BufTy).Contents (Elt F) → (⟨S64x1, .f32⟩ : BufTy).Contents (Elt F)),
    StableHlo.unary main_while0b_v38 main_while0b_v39 (broadcastInDim S64x1024 ![0, 1] bcast_S64x1_S64x1024_0_1 : (⟨S64x1, .f32⟩ : BufTy).Contents (Elt F) → (⟨S64x1024, .f32⟩ : BufTy).Contents (Elt F)),
    StableHlo.binary main_while0b_v34 main_while0b_v39 main_while0b_v40 (subf : (⟨S64x1024, .f32⟩ : BufTy).Contents (Elt F) → (⟨S64x1024, .f32⟩ : BufTy).Contents (Elt F) → (⟨S64x1024, .f32⟩ : BufTy).Contents (Elt F)),
    StableHlo.unary main_while0b_v40 main_while0b_v41 (Host.exp : (⟨S64x1024, .f32⟩ : BufTy).Contents (Elt F) → (⟨S64x1024, .f32⟩ : BufTy).Contents (Elt F)),
    StableHlo.nullary main_while0b_cst_29 (constant S_ .f32 0x00000000#32),
    StableHlo.binary main_while0b_v41 main_while0b_cst_29 main_while0b_v42 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F)),
    StableHlo.unary main_while0b_v42 main_while0b_v43 (broadcastInDim S64x1 ![0] bcast_S64_S64x1_0 : (⟨S64, .f32⟩ : BufTy).Contents (Elt F) → (⟨S64x1, .f32⟩ : BufTy).Contents (Elt F)),
    StableHlo.unary main_while0b_v43 main_while0b_v44 (broadcastInDim S64x1024 ![0, 1] bcast_S64x1_S64x1024_0_1 : (⟨S64x1, .f32⟩ : BufTy).Contents (Elt F) → (⟨S64x1024, .f32⟩ : BufTy).Contents (Elt F)),
    StableHlo.binary main_while0b_v41 main_while0b_v44 main_while0b_v45 (Host.divf : (⟨S64x1024, .f32⟩ : BufTy).Contents (Elt F) → (⟨S64x1024, .f32⟩ : BufTy).Contents (Elt F) → (⟨S64x1024, .f32⟩ : BufTy).Contents (Elt F)) ]

/-- The body's operations 75 … 79 of 162. -/
abbrev trip_w8 : List (HloOp τ sig (Elt F)) :=
  [ StableHlo.TRef.nullary (.of main_while0b_call3_v0 : StableHlo.TRef sig ⟨S64x1024, .i32⟩) (iotaInDim S64x1024 32 1),
    StableHlo.TRef.nullary (.of main_while0b_call3_cst : StableHlo.TRef sig ⟨S_, .f32⟩) (constant S_ .f32 0xFF800000#32),
    StableHlo.TRef.nullary (.of main_while0b_call3_c : StableHlo.TRef sig ⟨S_, .i32⟩) (constantI S_ 32 0#32),
    StableHlo.TRef.quaternary (.of main_while0b_v45 : StableHlo.TRef sig ⟨S64x1024, .f32⟩) (.of main_while0b_call3_v0 : StableHlo.TRef sig ⟨S64x1024, .i32⟩) (.of main_while0b_call3_cst : StableHlo.TRef sig ⟨S_, .f32⟩) (.of main_while0b_call3_c : StableHlo.TRef sig ⟨S_, .i32⟩) (.of main_while0b_call3_v1_0 : StableHlo.TRef sig ⟨S64, .f32⟩) (fun x y u v j => (Host.argReduce reducer_argmax_f32_i32 x y u v reducesTo_S64x1024_S64_d1 h_S_ j).1),
    StableHlo.TRef.quaternary (.of main_while0b_v45 : StableHlo.TRef sig ⟨S64x1024, .f32⟩) (.of main_while0b_call3_v0 : StableHlo.TRef sig ⟨S64x1024, .i32⟩) (.of main_while0b_call3_cst : StableHlo.TRef sig ⟨S_, .f32⟩) (.of main_while0b_call3_c : StableHlo.TRef sig ⟨S_, .i32⟩) (.of main_while0b_v46 : StableHlo.TRef sig ⟨S64, .i32⟩) (fun x y u v j => (Host.argReduce reducer_argmax_f32_i32 x y u v reducesTo_S64x1024_S64_d1 h_S_ j).2) ]

/-- The body's operations 80 … 85 of 162. -/
abbrev trip_w9 : List (HloOp τ sig (Elt F)) :=
  [ StableHlo.TRef.unary (.of main_while0b_v46 : StableHlo.TRef sig ⟨S64, .i32⟩) (.of main_while0b_call4_v0 : StableHlo.TRef sig ⟨S64x1, .i32⟩) (broadcastInDim S64x1 ![0] bcast_S64_S64x1_0),
    StableHlo.TRef.nullary (.of main_while0b_call4_v1 : StableHlo.TRef sig ⟨S1x1024, .i32⟩) (iotaInDim S1x1024 32 1),
    StableHlo.TRef.unary (.of main_while0b_call4_v0 : StableHlo.TRef sig ⟨S64x1, .i32⟩) (.of main_while0b_call4_v2 : StableHlo.TRef sig ⟨S64x1024, .i32⟩) (broadcastInDim S64x1024 ![0, 1] bcast_S64x1_S64x1024_0_1),
    StableHlo.TRef.unary (.of main_while0b_call4_v1 : StableHlo.TRef sig ⟨S1x1024, .i32⟩) (.of main_while0b_call4_v3 : StableHlo.TRef sig ⟨S64x1024, .i32⟩) (broadcastInDim S64x1024 ![0, 1] bcast_S1x1024_S64x1024_0_1),
    StableHlo.TRef.binary (.of main_while0b_call4_v2 : StableHlo.TRef sig ⟨S64x1024, .i32⟩) (.of main_while0b_call4_v3 : StableHlo.TRef sig ⟨S64x1024, .i32⟩) (.of main_while0b_call4_v4 : StableHlo.TRef sig ⟨S64x1024, .i1⟩) (cmpi .eq),
    StableHlo.TRef.unary (.of main_while0b_call4_v4 : StableHlo.TRef sig ⟨S64x1024, .i1⟩) (.of main_while0b_v47 : StableHlo.TRef sig ⟨S64x1024, .f32⟩) (uitofp .f32) ]

/-- The body's operations 86 … 92 of 162. -/
abbrev trip_w10 : List (HloOp τ sig (Elt F)) :=
  [ StableHlo.binary main_while0b_v47 main_while0b_v45 main_while0b_v48 (subf : (⟨S64x1024, .f32⟩ : BufTy).Contents (Elt F) → (⟨S64x1024, .f32⟩ : BufTy).Contents (Elt F) → (⟨S64x1024, .f32⟩ : BufTy).Contents (Elt F)),
    StableHlo.binary main_while0b_v48 main_while0b_v45 main_while0b_v49 (addf : (⟨S64x1024, .f32⟩ : BufTy).Contents (Elt F) → (⟨S64x1024, .f32⟩ : BufTy).Contents (Elt F) → (⟨S64x1024, .f32⟩ : BufTy).Contents (Elt F)),
    StableHlo.binary main_while0b_v49 main_while0b_v10 main_while0b_v50 ((fun l r => Host.dotGeneral dot_S64x1024_S64x1024x256_S64x256_1_1_n_2_0_0 none l r) : (⟨S64x1024, .f32⟩ : BufTy).Contents (Elt F) → (⟨S64x1024x256, .f32⟩ : BufTy).Contents (Elt F) → (⟨S64x256, .f32⟩ : BufTy).Contents (Elt F)),
    StableHlo.nullary main_while0b_cst_30 (constant S_ .f32 0x3F800000#32),
    StableHlo.unary main_while0b_cst_30 main_while0b_v51 (broadcastInDim S64x1024 ![] bcast_S_S64x1024 : (⟨S_, .f32⟩ : BufTy).Contents (Elt F) → (⟨S64x1024, .f32⟩ : BufTy).Contents (Elt F)),
    StableHlo.binary main_while0b_v47 main_while0b_v51 main_while0b_v52 (cmpf .oeq : (⟨S64x1024, .f32⟩ : BufTy).Contents (Elt F) → (⟨S64x1024, .f32⟩ : BufTy).Contents (Elt F) → (⟨S64x1024, .i1⟩ : BufTy).Contents (Elt F)),
    StableHlo.nullary main_while0b_cst_31 (constant S_ .f32 0x00000000#32) ]

/-- The body's operations 93 … 95 of 162. -/
abbrev trip_w11 : List (HloOp τ sig (Elt F)) :=
  [ StableHlo.TRef.unary (.of main_while0b_cst_31 : StableHlo.TRef sig ⟨S_, .f32⟩) (.of main_while0b_call5_v0 : StableHlo.TRef sig ⟨S_, .f32⟩) id,
    StableHlo.TRef.unary (.of main_while0b_call5_v0 : StableHlo.TRef sig ⟨S_, .f32⟩) (.of main_while0b_call5_v1 : StableHlo.TRef sig ⟨S64x1024, .f32⟩) (broadcastInDim S64x1024 ![] bcast_S_S64x1024),
    StableHlo.TRef.ternary (.of main_while0b_v52 : StableHlo.TRef sig ⟨S64x1024, .i1⟩) (.of main_while0b_call5_v1 : StableHlo.TRef sig ⟨S64x1024, .f32⟩) (.of main_v6_17 : StableHlo.TRef sig ⟨S64x1024, .f32⟩) (.of main_while0b_v53 : StableHlo.TRef sig ⟨S64x1024, .f32⟩) select ]

/-- The body's operations 96 … 119 of 162. -/
abbrev trip_w12 : List (HloOp τ sig (Elt F)) :=
  [ StableHlo.nullary main_while0b_cst_32 (constant S_ .f32 0x3F800000#32),
    StableHlo.unary main_while0b_cst_32 main_while0b_v54 (broadcastInDim S64x1024 ![] bcast_S_S64x1024 : (⟨S_, .f32⟩ : BufTy).Contents (Elt F) → (⟨S64x1024, .f32⟩ : BufTy).Contents (Elt F)),
    StableHlo.binary main_while0b_v53 main_while0b_v54 main_while0b_v55 (subf : (⟨S64x1024, .f32⟩ : BufTy).Contents (Elt F) → (⟨S64x1024, .f32⟩ : BufTy).Contents (Elt F) → (⟨S64x1024, .f32⟩ : BufTy).Contents (Elt F)),
    StableHlo.binary main_while0b_v50 main_v6_15 main_while0b_v56 (fn_main_while0b_v56 (F := F)),
    StableHlo.binary main_while0b_v56 main_v6_7 main_while0b_v57 ((fun l r => Host.dotGeneral dot_S64x512_S512x256_S64x256_1_0_0_1_n_n none l r) : (⟨S64x512, .f32⟩ : BufTy).Contents (Elt F) → (⟨S512x256, .f32⟩ : BufTy).Contents (Elt F) → (⟨S64x256, .f32⟩ : BufTy).Contents (Elt F)),
    StableHlo.unary main_v6_8 main_while0b_v58 (broadcastInDim S1x256 ![1] bcast_S256_S1x256_1 : (⟨S256, .f32⟩ : BufTy).Contents (Elt F) → (⟨S1x256, .f32⟩ : BufTy).Contents (Elt F)),
    StableHlo.unary main_while0b_v58 main_while0b_v59 (broadcastInDim S64x256 ![0, 1] bcast_S1x256_S64x256_0_1 : (⟨S1x256, .f32⟩ : BufTy).Contents (Elt F) → (⟨S64x256, .f32⟩ : BufTy).Contents (Elt F)),
    StableHlo.binary main_while0b_v57 main_while0b_v59 main_while0b_v60 (addf : (⟨S64x256, .f32⟩ : BufTy).Contents (Elt F) → (⟨S64x256, .f32⟩ : BufTy).Contents (Elt F) → (⟨S64x256, .f32⟩ : BufTy).Contents (Elt F)),
    StableHlo.binary main_while0b_v8 main_v6_9 main_while0b_v61 ((fun l r => Host.dotGeneral dot_S64x256_S256x768_S64x768_1_0_0_1_n_n none l r) : (⟨S64x256, .f32⟩ : BufTy).Contents (Elt F) → (⟨S256x768, .f32⟩ : BufTy).Contents (Elt F) → (⟨S64x768, .f32⟩ : BufTy).Contents (Elt F)),
    StableHlo.unary main_v6_10 main_while0b_v62 (broadcastInDim S1x768 ![1] bcast_S768_S1x768_1 : (⟨S768, .f32⟩ : BufTy).Contents (Elt F) → (⟨S1x768, .f32⟩ : BufTy).Contents (Elt F)),
    StableHlo.unary main_while0b_v62 main_while0b_v63 (broadcastInDim S64x768 ![0, 1] bcast_S1x768_S64x768_0_1 : (⟨S1x768, .f32⟩ : BufTy).Contents (Elt F) → (⟨S64x768, .f32⟩ : BufTy).Contents (Elt F)),
    StableHlo.binary main_while0b_v61 main_while0b_v63 main_while0b_v64 (addf : (⟨S64x768, .f32⟩ : BufTy).Contents (Elt F) → (⟨S64x768, .f32⟩ : BufTy).Contents (Elt F) → (⟨S64x768, .f32⟩ : BufTy).Contents (Elt F)),
    StableHlo.binary main_while0b_v60 main_v6_11 main_while0b_v65 ((fun l r => Host.dotGeneral dot_S64x256_S256x768_S64x768_1_0_0_1_n_n none l r) : (⟨S64x256, .f32⟩ : BufTy).Contents (Elt F) → (⟨S256x768, .f32⟩ : BufTy).Contents (Elt F) → (⟨S64x768, .f32⟩ : BufTy).Contents (Elt F)),
    StableHlo.unary main_v6_12 main_while0b_v66 (broadcastInDim S1x768 ![1] bcast_S768_S1x768_1 : (⟨S768, .f32⟩ : BufTy).Contents (Elt F) → (⟨S1x768, .f32⟩ : BufTy).Contents (Elt F)),
    StableHlo.unary main_while0b_v66 main_while0b_v67 (broadcastInDim S64x768 ![0, 1] bcast_S1x768_S64x768_0_1 : (⟨S1x768, .f32⟩ : BufTy).Contents (Elt F) → (⟨S64x768, .f32⟩ : BufTy).Contents (Elt F)),
    StableHlo.binary main_while0b_v65 main_while0b_v67 main_while0b_v68 (addf : (⟨S64x768, .f32⟩ : BufTy).Contents (Elt F) → (⟨S64x768, .f32⟩ : BufTy).Contents (Elt F) → (⟨S64x768, .f32⟩ : BufTy).Contents (Elt F)),
    StableHlo.unary main_while0b_v64 main_while0b_v69 ((extractStridedSlice S64x256 ![0, 0] · slices_S64x768_S64x256_0_0) : (⟨S64x768, .f32⟩ : BufTy).Contents (Elt F) → (⟨S64x256, .f32⟩ : BufTy).Contents (Elt F)),
    StableHlo.unary main_while0b_v64 main_while0b_v70 ((extractStridedSlice S64x256 ![0, 256] · slices_S64x768_S64x256_0_256) : (⟨S64x768, .f32⟩ : BufTy).Contents (Elt F) → (⟨S64x256, .f32⟩ : BufTy).Contents (Elt F)),
    StableHlo.unary main_while0b_v64 main_while0b_v71 ((extractStridedSlice S64x256 ![0, 512] · slices_S64x768_S64x256_0_512) : (⟨S64x768, .f32⟩ : BufTy).Contents (Elt F) → (⟨S64x256, .f32⟩ : BufTy).Contents (Elt F)),
    StableHlo.unary main_while0b_v68 main_while0b_v72 ((extractStridedSlice S64x256 ![0, 0] · slices_S64x768_S64x256_0_0) : (⟨S64x768, .f32⟩ : BufTy).Contents (Elt F) → (⟨S64x256, .f32⟩ : BufTy).Contents (Elt F)),
    StableHlo.unary main_while0b_v68 main_while0b_v73 ((extractStridedSlice S64x256 ![0, 256] · slices_S64x768_S64x256_0_256) : (⟨S64x768, .f32⟩ : BufTy).Contents (Elt F) → (⟨S64x256, .f32⟩ : BufTy).Contents (Elt F)),
    StableHlo.unary main_while0b_v68 main_while0b_v74 ((extractStridedSlice S64x256 ![0, 512] · slices_S64x768_S64x256_0_512) : (⟨S64x768, .f32⟩ : BufTy).Contents (Elt F) → (⟨S64x256, .f32⟩ : BufTy).Contents (Elt F)),
    StableHlo.binary main_while0b_v69 main_while0b_v72 main_while0b_v75 (addf : (⟨S64x256, .f32⟩ : BufTy).Contents (Elt F) → (⟨S64x256, .f32⟩ : BufTy).Contents (Elt F) → (⟨S64x256, .f32⟩ : BufTy).Contents (Elt F)),
    StableHlo.unary main_while0b_v75 main_while0b_v76 (Host.negf : (⟨S64x256, .f32⟩ : BufTy).Contents (Elt F) → (⟨S64x256, .f32⟩ : BufTy).Contents (Elt F)) ]

/-- The body's operations 120 … 143 of 162. -/
abbrev trip_w13 : List (HloOp τ sig (Elt F)) :=
  [ StableHlo.unary main_while0b_v76 main_while0b_v77 (Host.exp : (⟨S64x256, .f32⟩ : BufTy).Contents (Elt F) → (⟨S64x256, .f32⟩ : BufTy).Contents (Elt F)),
    StableHlo.nullary main_while0b_cst_33 (constant S_ .f32 0x3F800000#32),
    StableHlo.unary main_while0b_cst_33 main_while0b_v78 (broadcastInDim S64x256 ![] bcast_S_S64x256 : (⟨S_, .f32⟩ : BufTy).Contents (Elt F) → (⟨S64x256, .f32⟩ : BufTy).Contents (Elt F)),
    StableHlo.binary main_while0b_v78 main_while0b_v77 main_while0b_v79 (addf : (⟨S64x256, .f32⟩ : BufTy).Contents (Elt F) → (⟨S64x256, .f32⟩ : BufTy).Contents (Elt F) → (⟨S64x256, .f32⟩ : BufTy).Contents (Elt F)),
    StableHlo.nullary main_while0b_cst_34 (constant S_ .f32 0x3F800000#32),
    StableHlo.unary main_while0b_cst_34 main_while0b_v80 (broadcastInDim S64x256 ![] bcast_S_S64x256 : (⟨S_, .f32⟩ : BufTy).Contents (Elt F) → (⟨S64x256, .f32⟩ : BufTy).Contents (Elt F)),
    StableHlo.binary main_while0b_v80 main_while0b_v79 main_while0b_v81 (Host.divf : (⟨S64x256, .f32⟩ : BufTy).Contents (Elt F) → (⟨S64x256, .f32⟩ : BufTy).Contents (Elt F) → (⟨S64x256, .f32⟩ : BufTy).Contents (Elt F)),
    StableHlo.binary main_while0b_v70 main_while0b_v73 main_while0b_v82 (addf : (⟨S64x256, .f32⟩ : BufTy).Contents (Elt F) → (⟨S64x256, .f32⟩ : BufTy).Contents (Elt F) → (⟨S64x256, .f32⟩ : BufTy).Contents (Elt F)),
    StableHlo.unary main_while0b_v82 main_while0b_v83 (Host.negf : (⟨S64x256, .f32⟩ : BufTy).Contents (Elt F) → (⟨S64x256, .f32⟩ : BufTy).Contents (Elt F)),
    StableHlo.unary main_while0b_v83 main_while0b_v84 (Host.exp : (⟨S64x256, .f32⟩ : BufTy).Contents (Elt F) → (⟨S64x256, .f32⟩ : BufTy).Contents (Elt F)),
    StableHlo.nullary main_while0b_cst_35 (constant S_ .f32 0x3F800000#32),
    StableHlo.unary main_while0b_cst_35 main_while0b_v85 (broadcastInDim S64x256 ![] bcast_S_S64x256 : (⟨S_, .f32⟩ : BufTy).Contents (Elt F) → (⟨S64x256, .f32⟩ : BufTy).Contents (Elt F)),
    StableHlo.binary main_while0b_v85 main_while0b_v84 main_while0b_v86 (addf : (⟨S64x256, .f32⟩ : BufTy).Contents (Elt F) → (⟨S64x256, .f32⟩ : BufTy).Contents (Elt F) → (⟨S64x256, .f32⟩ : BufTy).Contents (Elt F)),
    StableHlo.nullary main_while0b_cst_36 (constant S_ .f32 0x3F800000#32),
    StableHlo.unary main_while0b_cst_36 main_while0b_v87 (broadcastInDim S64x256 ![] bcast_S_S64x256 : (⟨S_, .f32⟩ : BufTy).Contents (Elt F) → (⟨S64x256, .f32⟩ : BufTy).Contents (Elt F)),
    StableHlo.binary main_while0b_v87 main_while0b_v86 main_while0b_v88 (Host.divf : (⟨S64x256, .f32⟩ : BufTy).Contents (Elt F) → (⟨S64x256, .f32⟩ : BufTy).Contents (Elt F) → (⟨S64x256, .f32⟩ : BufTy).Contents (Elt F)),
    StableHlo.binary main_while0b_v81 main_while0b_v74 main_while0b_v89 (mulf : (⟨S64x256, .f32⟩ : BufTy).Contents (Elt F) → (⟨S64x256, .f32⟩ : BufTy).Contents (Elt F) → (⟨S64x256, .f32⟩ : BufTy).Contents (Elt F)),
    StableHlo.binary main_while0b_v71 main_while0b_v89 main_while0b_v90 (addf : (⟨S64x256, .f32⟩ : BufTy).Contents (Elt F) → (⟨S64x256, .f32⟩ : BufTy).Contents (Elt F) → (⟨S64x256, .f32⟩ : BufTy).Contents (Elt F)),
    StableHlo.unary main_while0b_v90 main_while0b_v91 (Host.tanh : (⟨S64x256, .f32⟩ : BufTy).Contents (Elt F) → (⟨S64x256, .f32⟩ : BufTy).Contents (Elt F)),
    StableHlo.nullary main_while0b_cst_37 (constant S_ .f32 0x3F800000#32),
    StableHlo.unary main_while0b_cst_37 main_while0b_v92 (broadcastInDim S64x256 ![] bcast_S_S64x256 : (⟨S_, .f32⟩ : BufTy).Contents (Elt F) → (⟨S64x256, .f32⟩ : BufTy).Contents (Elt F)),
    StableHlo.binary main_while0b_v92 main_while0b_v88 main_while0b_v93 (subf : (⟨S64x256, .f32⟩ : BufTy).Contents (Elt F) → (⟨S64x256, .f32⟩ : BufTy).Contents (Elt F) → (⟨S64x256, .f32⟩ : BufTy).Contents (Elt F)),
    StableHlo.binary main_while0b_v93 main_while0b_v91 main_while0b_v94 (mulf : (⟨S64x256, .f32⟩ : BufTy).Contents (Elt F) → (⟨S64x256, .f32⟩ : BufTy).Contents (Elt F) → (⟨S64x256, .f32⟩ : BufTy).Contents (Elt F)),
    StableHlo.binary main_while0b_v88 main_while0b_v60 main_while0b_v95 (mulf : (⟨S64x256, .f32⟩ : BufTy).Contents (Elt F) → (⟨S64x256, .f32⟩ : BufTy).Contents (Elt F) → (⟨S64x256, .f32⟩ : BufTy).Contents (Elt F)) ]

/-- The body's operations 144 … 144 of 162. -/
abbrev trip_w14 : List (HloOp τ sig (Elt F)) :=
  [ StableHlo.binary main_while0b_v94 main_while0b_v95 main_while0b_v96 (addf : (⟨S64x256, .f32⟩ : BufTy).Contents (Elt F) → (⟨S64x256, .f32⟩ : BufTy).Contents (Elt F) → (⟨S64x256, .f32⟩ : BufTy).Contents (Elt F)) ]

/-- The body's operations 145 … 154 of 162. -/
abbrev trip_w15 : List (HloOp τ sig (Elt F)) :=
  [ StableHlo.TRef.unary (.of main_while0b_v96 : StableHlo.TRef sig ⟨S64x256, .f32⟩) (.of main_while0b_call6_v0 : StableHlo.TRef sig ⟨S1x64x256, .f32⟩) (broadcastInDim S1x64x256 ![1, 2] bcast_S64x256_S1x64x256_1_2),
    StableHlo.TRef.nullary (.of main_while0b_call6_c : StableHlo.TRef sig ⟨S_, .i32⟩) (constantI S_ 32 0#32),
    StableHlo.TRef.binary (.of main_v6_14 : StableHlo.TRef sig ⟨S_, .i32⟩) (.of main_while0b_call6_c : StableHlo.TRef sig ⟨S_, .i32⟩) (.of main_while0b_call6_v1 : StableHlo.TRef sig ⟨S_, .i1⟩) (cmpi .slt),
    StableHlo.TRef.unary (.of main_v6_14 : StableHlo.TRef sig ⟨S_, .i32⟩) (.of main_while0b_call6_v2 : StableHlo.TRef sig ⟨S_, .i32⟩) id,
    StableHlo.TRef.nullary (.of main_while0b_call6_c_0 : StableHlo.TRef sig ⟨S_, .i32⟩) (constantI S_ 32 32#32),
    StableHlo.TRef.binary (.of main_while0b_call6_v2 : StableHlo.TRef sig ⟨S_, .i32⟩) (.of main_while0b_call6_c_0 : StableHlo.TRef sig ⟨S_, .i32⟩) (.of main_while0b_call6_v3 : StableHlo.TRef sig ⟨S_, .i32⟩) addi,
    StableHlo.TRef.ternary (.of main_while0b_call6_v1 : StableHlo.TRef sig ⟨S_, .i1⟩) (.of main_while0b_call6_v3 : StableHlo.TRef sig ⟨S_, .i32⟩) (.of main_v6_14 : StableHlo.TRef sig ⟨S_, .i32⟩) (.of main_while0b_call6_v4 : StableHlo.TRef sig ⟨S_, .i32⟩) select,
    StableHlo.TRef.nullary (.of main_while0b_call6_c_1 : StableHlo.TRef sig ⟨S_, .i32⟩) (constantI S_ 32 0#32),
    StableHlo.TRef.nullary (.of main_while0b_call6_c_2 : StableHlo.TRef sig ⟨S_, .i32⟩) (constantI S_ 32 0#32),
    StableHlo.TRef.binaryIndexed (.of main_v6_18 : StableHlo.TRef sig ⟨S32x64x256, .f32⟩) (.of main_while0b_call6_v0 : StableHlo.TRef sig ⟨S1x64x256, .f32⟩) ![(.of main_while0b_call6_v4 : StableHlo.TRef sig ⟨S_, .i32⟩), (.of main_while0b_call6_c_1 : StableHlo.TRef sig ⟨S_, .i32⟩), (.of main_while0b_call6_c_2 : StableHlo.TRef sig ⟨S_, .i32⟩)] (.of main_while0b_v97 : StableHlo.TRef sig ⟨S32x64x256, .f32⟩) (fun x u i => Host.dynamicUpdateSlice x u (fun k => (i k (Shape.Idx.first h_S_)).toInt) updateFits_S32x64x256_S1x64x256) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 ++ (trip_w2) := rfl
set_option maxRecDepth 5000 in
/-- `while0Ops0_2` is its windows in order. -/
theorem while0Ops0_2_cut : (while0Ops0_2 : List (HloOp τ sig (Elt F))) = trip_w3 ++ (trip_w4) := rfl
set_option maxRecDepth 5000 in
/-- `while0Ops0_3` is its windows in order. -/
theorem while0Ops0_3_cut : (while0Ops0_3 : List (HloOp τ sig (Elt F))) = trip_w5 := rfl
set_option maxRecDepth 5000 in
/-- `while0Ops0_4` is its windows in order. -/
theorem while0Ops0_4_cut : (while0Ops0_4 : List (HloOp τ sig (Elt F))) = trip_w6 ++ (trip_w7) := rfl
set_option maxRecDepth 5000 in
/-- `while0Ops0_5` is its windows in order. -/
theorem while0Ops0_5_cut : (while0Ops0_5 : List (HloOp τ sig (Elt F))) = trip_w8 := rfl
set_option maxRecDepth 5000 in
/-- `while0Ops0_6` is its windows in order. -/
theorem while0Ops0_6_cut : (while0Ops0_6 : List (HloOp τ sig (Elt F))) = trip_w9 := rfl
set_option maxRecDepth 5000 in
/-- `while0Ops0_7` is its windows in order. -/
theorem while0Ops0_7_cut : (while0Ops0_7 : List (HloOp τ sig (Elt F))) = trip_w10 := rfl
set_option maxRecDepth 5000 in
/-- `while0Ops0_8` is its windows in order. -/
theorem while0Ops0_8_cut : (while0Ops0_8 : List (HloOp τ sig (Elt F))) = trip_w11 := rfl
set_option maxRecDepth 5000 in
/-- `while0Ops0_9` is its windows in order. -/
theorem while0Ops0_9_cut : (while0Ops0_9 : List (HloOp τ sig (Elt F))) = trip_w12 ++ (trip_w13 ++ (trip_w14)) := rfl
set_option maxRecDepth 5000 in
/-- `while0Ops0_10` is its windows in order. -/
theorem while0Ops0_10_cut : (while0Ops0_10 : List (HloOp τ sig (Elt F))) = trip_w15 := rfl

set_option maxRecDepth 8192 in
/-- `main_while0b_v8`'s composed term of the carried buffers (named: it is used 2 times). -/
def res_main_while0b_v8 (V0 : Valuation τ sig (Elt F)) : (Proc.devRef .tc main_while0b_v8 : DevRef τ sig).ty.Contents (Elt F) :=
  shapeCast S64x256 (Host.dynamicSlice S1x64x256 (V0 (Proc.devRef .tc main_v6_0)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x256_S1x64x256) shapeCasts_S1x64x256_S64x256

set_option maxRecDepth 8192 in
/-- `main_while0b_v10`'s composed term of the carried buffers (named: it is used 2 times). -/
def res_main_while0b_v10 (V0 : Valuation τ sig (Elt F)) : (Proc.devRef .tc main_while0b_v10 : DevRef τ sig).ty.Contents (Elt F) :=
  Host.dynamicUpdateSlice (V0 (Proc.devRef .tc main_v6_16)) (broadcastInDim S64x1x256 ![0, 2] bcast_S64x256_S64x1x256_0_2 (V0 (Proc.devRef .tc main_v6_15))) (fun k => (((![constantI S_ 32 0#32, select (cmpi .slt (V0 (Proc.devRef .tc main_v6_14)) (constantI S_ 32 0#32)) (addi (id (V0 (Proc.devRef .tc main_v6_14))) (constantI S_ 32 1024#32)) (V0 (Proc.devRef .tc main_v6_14)), constantI S_ 32 0#32] : Fin 3 → (⟨S_, .i32⟩ : BufTy).Contents (Elt F))) k (Shape.Idx.first h_S_)).toInt) updateFits_S64x1024x256_S64x1x256

set_option maxRecDepth 8192 in
/-- `main_while0b_v34`'s composed term of the carried buffers (named: it is used 2 times). -/
def res_main_while0b_v34 (V0 : Valuation τ sig (Elt F)) : (Proc.devRef .tc main_while0b_v34 : DevRef τ sig).ty.Contents (Elt F) :=
  addf (addf (Host.dotGeneral dot_S64x256_S256x1024_S64x1024_1_0_0_1_n_n none (Host.tanh (addf (addf (Host.dotGeneral dot_S64x256_S256x256_S64x256_1_0_0_1_n_n none (res_main_while0b_v8 V0) (V0 (Proc.devRef .tc main_v6_2))) (Host.dotGeneral dot_S64x256_S256x256_S64x256_1_0_0_1_n_n none (V0 (Proc.devRef .tc main_v6_15)) (V0 (Proc.devRef .tc main_v6_3)))) (Host.dotGeneral dot_S64x1024_S1024x256_S64x256_1_0_0_1_n_n none (Host.divf (broadcastInDim S64x1024 ![] bcast_S_S64x1024 (constant S_ .f32 0x3F800000#32)) (addf (broadcastInDim S64x1024 ![] bcast_S_S64x1024 (constant S_ .f32 0x3F800000#32)) (Host.exp (Host.negf (V0 (Proc.devRef .tc main_v6_17)))))) (V0 (Proc.devRef .tc main_v6_4))))) (V0 (Proc.devRef .tc main_v6_5))) (broadcastInDim S64x1024 ![0, 1] bcast_S1x1024_S64x1024_0_1 (broadcastInDim S1x1024 ![1] bcast_S1024_S1x1024_1 (V0 (Proc.devRef .tc main_v6_6))))) (Host.negf (Host.log (subf (broadcastInDim S64x1024 ![] bcast_S_S64x1024 (constant S_ .f32 0x1E3CE508#32)) (Host.log (addf (broadcastInDim S64x1024 ![] bcast_S_S64x1024 (constant S_ .f32 0x1E3CE508#32)) (shapeCast S64x1024 (Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024) shapeCasts_S1x64x1024_S64x1024))))))

set_option maxRecDepth 8192 in
/-- `main_while0b_v41`'s composed term of the carried buffers (named: it is used 2 times). -/
def res_main_while0b_v41 (V0 : Valuation τ sig (Elt F)) : (Proc.devRef .tc main_while0b_v41 : DevRef τ sig).ty.Contents (Elt F) :=
  Host.exp (subf (res_main_while0b_v34 V0) (broadcastInDim S64x1024 ![0, 1] bcast_S64x1_S64x1024_0_1 (broadcastInDim S64x1 ![0] bcast_S64_S64x1_0 (maximumf (broadcastInDim S64 ![] bcast_S_S64 (constant S_ .f32 0xFF800000#32)) (Host.reduce FloatOps.maximumf (res_main_while0b_v34 V0) (constant S_ .f32 0xFF800000#32) reducesTo_S64x1024_S64_d1 h_S_)))))

set_option maxRecDepth 8192 in
/-- `main_while0b_v45`'s composed term of the carried buffers (named: it is used 4 times). -/
def res_main_while0b_v45 (V0 : Valuation τ sig (Elt F)) : (Proc.devRef .tc main_while0b_v45 : DevRef τ sig).ty.Contents (Elt F) :=
  Host.divf (res_main_while0b_v41 V0) (broadcastInDim S64x1024 ![0, 1] bcast_S64x1_S64x1024_0_1 (broadcastInDim S64x1 ![0] bcast_S64_S64x1_0 (Host.reduceAdd (res_main_while0b_v41 V0) (constant S_ .f32 0x00000000#32) reducesTo_S64x1024_S64_d1 h_S_)))

set_option maxRecDepth 8192 in
/-- `main_while0b_call3_v0`'s composed term of the carried buffers (named: it is used 2 times). -/
def res_main_while0b_call3_v0 (V0 : Valuation τ sig (Elt F)) : (Proc.devRef .tc main_while0b_call3_v0 : DevRef τ sig).ty.Contents (Elt F) :=
  iotaInDim S64x1024 32 1

set_option maxRecDepth 8192 in
/-- `main_while0b_call3_cst`'s composed term of the carried buffers (named: it is used 2 times). -/
def res_main_while0b_call3_cst (V0 : Valuation τ sig (Elt F)) : (Proc.devRef .tc main_while0b_call3_cst : DevRef τ sig).ty.Contents (Elt F) :=
  constant S_ .f32 0xFF800000#32

set_option maxRecDepth 8192 in
/-- `main_while0b_call3_c`'s composed term of the carried buffers (named: it is used 2 times). -/
def res_main_while0b_call3_c (V0 : Valuation τ sig (Elt F)) : (Proc.devRef .tc main_while0b_call3_c : DevRef τ sig).ty.Contents (Elt F) :=
  constantI S_ 32 0#32

set_option maxRecDepth 8192 in
/-- `main_while0b_v47`'s composed term of the carried buffers (named: it is used 2 times). -/
def res_main_while0b_v47 (V0 : Valuation τ sig (Elt F)) : (Proc.devRef .tc main_while0b_v47 : DevRef τ sig).ty.Contents (Elt F) :=
  uitofp .f32 (cmpi .eq (broadcastInDim S64x1024 ![0, 1] bcast_S64x1_S64x1024_0_1 (broadcastInDim S64x1 ![0] bcast_S64_S64x1_0 ((fun jx => (Host.argReduce reducer_argmax_f32_i32 (res_main_while0b_v45 V0) (res_main_while0b_call3_v0 V0) (res_main_while0b_call3_cst V0) (res_main_while0b_call3_c V0) reducesTo_S64x1024_S64_d1 h_S_ jx).2)))) (broadcastInDim S64x1024 ![0, 1] bcast_S1x1024_S64x1024_0_1 (iotaInDim S1x1024 32 1)))

set_option maxRecDepth 8192 in
/-- `main_while0b_v60`'s composed term of the carried buffers (named: it is used 2 times). -/
def res_main_while0b_v60 (V0 : Valuation τ sig (Elt F)) : (Proc.devRef .tc main_while0b_v60 : DevRef τ sig).ty.Contents (Elt F) :=
  addf (Host.dotGeneral dot_S64x512_S512x256_S64x256_1_0_0_1_n_n none (concatenate S64x512 1 [⟨S64x256, (Host.dotGeneral dot_S64x1024_S64x1024x256_S64x256_1_1_n_2_0_0 none (addf (subf (res_main_while0b_v47 V0) (res_main_while0b_v45 V0)) (res_main_while0b_v45 V0)) (res_main_while0b_v10 V0))⟩, ⟨S64x256, (V0 (Proc.devRef .tc main_v6_15))⟩] concatenates_S64x256_S64x256_S64x512_d1) (V0 (Proc.devRef .tc main_v6_7))) (broadcastInDim S64x256 ![0, 1] bcast_S1x256_S64x256_0_1 (broadcastInDim S1x256 ![1] bcast_S256_S1x256_1 (V0 (Proc.devRef .tc main_v6_8))))

set_option maxRecDepth 8192 in
/-- `main_while0b_v64`'s composed term of the carried buffers (named: it is used 3 times). -/
def res_main_while0b_v64 (V0 : Valuation τ sig (Elt F)) : (Proc.devRef .tc main_while0b_v64 : DevRef τ sig).ty.Contents (Elt F) :=
  addf (Host.dotGeneral dot_S64x256_S256x768_S64x768_1_0_0_1_n_n none (res_main_while0b_v8 V0) (V0 (Proc.devRef .tc main_v6_9))) (broadcastInDim S64x768 ![0, 1] bcast_S1x768_S64x768_0_1 (broadcastInDim S1x768 ![1] bcast_S768_S1x768_1 (V0 (Proc.devRef .tc main_v6_10))))

set_option maxRecDepth 8192 in
/-- `main_while0b_v68`'s composed term of the carried buffers (named: it is used 3 times). -/
def res_main_while0b_v68 (V0 : Valuation τ sig (Elt F)) : (Proc.devRef .tc main_while0b_v68 : DevRef τ sig).ty.Contents (Elt F) :=
  addf (Host.dotGeneral dot_S64x256_S256x768_S64x768_1_0_0_1_n_n none (res_main_while0b_v60 V0) (V0 (Proc.devRef .tc main_v6_11))) (broadcastInDim S64x768 ![0, 1] bcast_S1x768_S64x768_0_1 (broadcastInDim S1x768 ![1] bcast_S768_S1x768_1 (V0 (Proc.devRef .tc main_v6_12))))

set_option maxRecDepth 8192 in
/-- `main_while0b_v88`'s composed term of the carried buffers (named: it is used 2 times). -/
def res_main_while0b_v88 (V0 : Valuation τ sig (Elt F)) : (Proc.devRef .tc main_while0b_v88 : DevRef τ sig).ty.Contents (Elt F) :=
  Host.divf (broadcastInDim S64x256 ![] bcast_S_S64x256 (constant S_ .f32 0x3F800000#32)) (addf (broadcastInDim S64x256 ![] bcast_S_S64x256 (constant S_ .f32 0x3F800000#32)) (Host.exp (Host.negf (addf (extractStridedSlice S64x256 ![0, 256] (res_main_while0b_v64 V0) slices_S64x768_S64x256_0_256) (extractStridedSlice S64x256 ![0, 256] (res_main_while0b_v68 V0) slices_S64x768_S64x256_0_256)))))

end Cert.ReferenceIdeal.Value

end
-- ==== Proof.RefRun2.lean ====
/- The reference's run, part 2: what one trip makes of the carried buffers, window by window. -/
module

public import proofs.«01_k».proof.Proof.RefRun1

@[expose] public section

set_option maxRecDepth 1316

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
variable (m : (ℓ : Loc nD τ sig) → Buf (Elt F) ℓ) (ρ : Dev nD → PrngReg)

set_option maxRecDepth 8192 in
/-- `main_while0b_v96`'s composed term of the carried buffers (named: it is used 2 times). -/
def res_main_while0b_v96 (V0 : Valuation τ sig (Elt F)) : (Proc.devRef .tc main_while0b_v96 : DevRef τ sig).ty.Contents (Elt F) :=
  addf (mulf (subf (broadcastInDim S64x256 ![] bcast_S_S64x256 (constant S_ .f32 0x3F800000#32)) (res_main_while0b_v88 V0)) (Host.tanh (addf (extractStridedSlice S64x256 ![0, 512] (res_main_while0b_v64 V0) slices_S64x768_S64x256_0_512) (mulf (Host.divf (broadcastInDim S64x256 ![] bcast_S_S64x256 (constant S_ .f32 0x3F800000#32)) (addf (broadcastInDim S64x256 ![] bcast_S_S64x256 (constant S_ .f32 0x3F800000#32)) (Host.exp (Host.negf (addf (extractStridedSlice S64x256 ![0, 0] (res_main_while0b_v64 V0) slices_S64x768_S64x256_0_0) (extractStridedSlice S64x256 ![0, 0] (res_main_while0b_v68 V0) slices_S64x768_S64x256_0_0)))))) (extractStridedSlice S64x256 ![0, 512] (res_main_while0b_v68 V0) slices_S64x768_S64x256_0_512))))) (mulf (res_main_while0b_v88 V0) (res_main_while0b_v60 V0))

/-- The device's buffer contents before the body's first window. -/
def val0 (V0 : Valuation τ sig (Elt F)) : Valuation τ sig (Elt F) := V0
theorem val0_main_v6_14 (V0 : Valuation τ sig (Elt F)) : val0 V0 (no_index (Proc.devRef .tc main_v6_14)) = V0 (Proc.devRef .tc main_v6_14) := rfl
theorem val0_main_v6_0 (V0 : Valuation τ sig (Elt F)) : val0 V0 (no_index (Proc.devRef .tc main_v6_0)) = V0 (Proc.devRef .tc main_v6_0) := rfl
theorem val0_main_v6_1 (V0 : Valuation τ sig (Elt F)) : val0 V0 (no_index (Proc.devRef .tc main_v6_1)) = V0 (Proc.devRef .tc main_v6_1) := rfl
theorem val0_main_v6_15 (V0 : Valuation τ sig (Elt F)) : val0 V0 (no_index (Proc.devRef .tc main_v6_15)) = V0 (Proc.devRef .tc main_v6_15) := rfl
theorem val0_main_v6_16 (V0 : Valuation τ sig (Elt F)) : val0 V0 (no_index (Proc.devRef .tc main_v6_16)) = V0 (Proc.devRef .tc main_v6_16) := rfl
theorem val0_main_v6_17 (V0 : Valuation τ sig (Elt F)) : val0 V0 (no_index (Proc.devRef .tc main_v6_17)) = V0 (Proc.devRef .tc main_v6_17) := rfl
theorem val0_main_v6_2 (V0 : Valuation τ sig (Elt F)) : val0 V0 (no_index (Proc.devRef .tc main_v6_2)) = V0 (Proc.devRef .tc main_v6_2) := rfl
theorem val0_main_v6_3 (V0 : Valuation τ sig (Elt F)) : val0 V0 (no_index (Proc.devRef .tc main_v6_3)) = V0 (Proc.devRef .tc main_v6_3) := rfl
theorem val0_main_v6_4 (V0 : Valuation τ sig (Elt F)) : val0 V0 (no_index (Proc.devRef .tc main_v6_4)) = V0 (Proc.devRef .tc main_v6_4) := rfl
theorem val0_main_v6_5 (V0 : Valuation τ sig (Elt F)) : val0 V0 (no_index (Proc.devRef .tc main_v6_5)) = V0 (Proc.devRef .tc main_v6_5) := rfl
theorem val0_main_v6_6 (V0 : Valuation τ sig (Elt F)) : val0 V0 (no_index (Proc.devRef .tc main_v6_6)) = V0 (Proc.devRef .tc main_v6_6) := rfl
theorem val0_main_v6_7 (V0 : Valuation τ sig (Elt F)) : val0 V0 (no_index (Proc.devRef .tc main_v6_7)) = V0 (Proc.devRef .tc main_v6_7) := rfl
theorem val0_main_v6_8 (V0 : Valuation τ sig (Elt F)) : val0 V0 (no_index (Proc.devRef .tc main_v6_8)) = V0 (Proc.devRef .tc main_v6_8) := rfl
theorem val0_main_v6_9 (V0 : Valuation τ sig (Elt F)) : val0 V0 (no_index (Proc.devRef .tc main_v6_9)) = V0 (Proc.devRef .tc main_v6_9) := rfl
theorem val0_main_v6_10 (V0 : Valuation τ sig (Elt F)) : val0 V0 (no_index (Proc.devRef .tc main_v6_10)) = V0 (Proc.devRef .tc main_v6_10) := rfl
theorem val0_main_v6_11 (V0 : Valuation τ sig (Elt F)) : val0 V0 (no_index (Proc.devRef .tc main_v6_11)) = V0 (Proc.devRef .tc main_v6_11) := rfl
theorem val0_main_v6_12 (V0 : Valuation τ sig (Elt F)) : val0 V0 (no_index (Proc.devRef .tc main_v6_12)) = V0 (Proc.devRef .tc main_v6_12) := rfl
theorem val0_main_v6_18 (V0 : Valuation τ sig (Elt F)) : val0 V0 (no_index (Proc.devRef .tc main_v6_18)) = V0 (Proc.devRef .tc main_v6_18) := rfl
theorem val0_main_v6_13 (V0 : Valuation τ sig (Elt F)) : val0 V0 (no_index (Proc.devRef .tc main_v6_13)) = V0 (Proc.devRef .tc main_v6_13) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_c_22, main_while0b_v7]
set_option maxRecDepth 8192 in
theorem trip_w0_writes : (trip_w0 : List (HloOp τ sig (Elt F))).Forall fun op => op.writes ⊆ (trip_w0_W.map (Proc.devRef (τ := τ) .tc)).toFinset :=
  StableHlo.forall_writes_sub_of_map rfl
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v6_14 (V0 : Valuation τ sig (Elt F)) : val1 V0 (no_index (Proc.devRef .tc main_v6_14)) = V0 (Proc.devRef .tc main_v6_14) :=
  (val1_keep V0 main_v6_14 (by decide)).trans (val0_main_v6_14 V0)
theorem val1_main_v6_0 (V0 : Valuation τ sig (Elt F)) : val1 V0 (no_index (Proc.devRef .tc main_v6_0)) = V0 (Proc.devRef .tc main_v6_0) :=
  (val1_keep V0 main_v6_0 (by decide)).trans (val0_main_v6_0 V0)
theorem val1_main_v6_1 (V0 : Valuation τ sig (Elt F)) : val1 V0 (no_index (Proc.devRef .tc main_v6_1)) = V0 (Proc.devRef .tc main_v6_1) :=
  (val1_keep V0 main_v6_1 (by decide)).trans (val0_main_v6_1 V0)
theorem val1_main_v6_15 (V0 : Valuation τ sig (Elt F)) : val1 V0 (no_index (Proc.devRef .tc main_v6_15)) = V0 (Proc.devRef .tc main_v6_15) :=
  (val1_keep V0 main_v6_15 (by decide)).trans (val0_main_v6_15 V0)
theorem val1_main_v6_16 (V0 : Valuation τ sig (Elt F)) : val1 V0 (no_index (Proc.devRef .tc main_v6_16)) = V0 (Proc.devRef .tc main_v6_16) :=
  (val1_keep V0 main_v6_16 (by decide)).trans (val0_main_v6_16 V0)
theorem val1_main_v6_17 (V0 : Valuation τ sig (Elt F)) : val1 V0 (no_index (Proc.devRef .tc main_v6_17)) = V0 (Proc.devRef .tc main_v6_17) :=
  (val1_keep V0 main_v6_17 (by decide)).trans (val0_main_v6_17 V0)
theorem val1_main_v6_2 (V0 : Valuation τ sig (Elt F)) : val1 V0 (no_index (Proc.devRef .tc main_v6_2)) = V0 (Proc.devRef .tc main_v6_2) :=
  (val1_keep V0 main_v6_2 (by decide)).trans (val0_main_v6_2 V0)
theorem val1_main_v6_3 (V0 : Valuation τ sig (Elt F)) : val1 V0 (no_index (Proc.devRef .tc main_v6_3)) = V0 (Proc.devRef .tc main_v6_3) :=
  (val1_keep V0 main_v6_3 (by decide)).trans (val0_main_v6_3 V0)
theorem val1_main_v6_4 (V0 : Valuation τ sig (Elt F)) : val1 V0 (no_index (Proc.devRef .tc main_v6_4)) = V0 (Proc.devRef .tc main_v6_4) :=
  (val1_keep V0 main_v6_4 (by decide)).trans (val0_main_v6_4 V0)
theorem val1_main_v6_5 (V0 : Valuation τ sig (Elt F)) : val1 V0 (no_index (Proc.devRef .tc main_v6_5)) = V0 (Proc.devRef .tc main_v6_5) :=
  (val1_keep V0 main_v6_5 (by decide)).trans (val0_main_v6_5 V0)
theorem val1_main_v6_6 (V0 : Valuation τ sig (Elt F)) : val1 V0 (no_index (Proc.devRef .tc main_v6_6)) = V0 (Proc.devRef .tc main_v6_6) :=
  (val1_keep V0 main_v6_6 (by decide)).trans (val0_main_v6_6 V0)
theorem val1_main_v6_7 (V0 : Valuation τ sig (Elt F)) : val1 V0 (no_index (Proc.devRef .tc main_v6_7)) = V0 (Proc.devRef .tc main_v6_7) :=
  (val1_keep V0 main_v6_7 (by decide)).trans (val0_main_v6_7 V0)
theorem val1_main_v6_8 (V0 : Valuation τ sig (Elt F)) : val1 V0 (no_index (Proc.devRef .tc main_v6_8)) = V0 (Proc.devRef .tc main_v6_8) :=
  (val1_keep V0 main_v6_8 (by decide)).trans (val0_main_v6_8 V0)
theorem val1_main_v6_9 (V0 : Valuation τ sig (Elt F)) : val1 V0 (no_index (Proc.devRef .tc main_v6_9)) = V0 (Proc.devRef .tc main_v6_9) :=
  (val1_keep V0 main_v6_9 (by decide)).trans (val0_main_v6_9 V0)
theorem val1_main_v6_10 (V0 : Valuation τ sig (Elt F)) : val1 V0 (no_index (Proc.devRef .tc main_v6_10)) = V0 (Proc.devRef .tc main_v6_10) :=
  (val1_keep V0 main_v6_10 (by decide)).trans (val0_main_v6_10 V0)
theorem val1_main_v6_11 (V0 : Valuation τ sig (Elt F)) : val1 V0 (no_index (Proc.devRef .tc main_v6_11)) = V0 (Proc.devRef .tc main_v6_11) :=
  (val1_keep V0 main_v6_11 (by decide)).trans (val0_main_v6_11 V0)
theorem val1_main_v6_12 (V0 : Valuation τ sig (Elt F)) : val1 V0 (no_index (Proc.devRef .tc main_v6_12)) = V0 (Proc.devRef .tc main_v6_12) :=
  (val1_keep V0 main_v6_12 (by decide)).trans (val0_main_v6_12 V0)
theorem val1_main_v6_18 (V0 : Valuation τ sig (Elt F)) : val1 V0 (no_index (Proc.devRef .tc main_v6_18)) = V0 (Proc.devRef .tc main_v6_18) :=
  (val1_keep V0 main_v6_18 (by decide)).trans (val0_main_v6_18 V0)
theorem val1_main_v6_13 (V0 : Valuation τ sig (Elt F)) : val1 V0 (no_index (Proc.devRef .tc main_v6_13)) = V0 (Proc.devRef .tc main_v6_13) :=
  (val1_keep V0 main_v6_13 (by decide)).trans (val0_main_v6_13 V0)
set_option maxRecDepth 8192 in
theorem val1_main_while0b_v7 (V0 : Valuation τ sig (Elt F)) : val1 V0 (no_index (Proc.devRef .tc main_while0b_v7)) = addi (V0 (Proc.devRef .tc main_v6_14)) (constantI S_ 32 1#32) := by
  unfold val1
  simp only [trip_w0]
  after_results_entrywise [val0_main_v6_14, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_call0_c, main_while0b_call0_v0, main_while0b_call0_v1, main_while0b_call0_c_0, main_while0b_call0_v2, main_while0b_call0_v3, main_while0b_call0_c_1, main_while0b_call0_c_2, main_while0b_call0_v4]
set_option maxRecDepth 8192 in
theorem trip_w1_writes : (trip_w1 : List (HloOp τ sig (Elt F))).Forall fun op => op.writes ⊆ (trip_w1_W.map (Proc.devRef (τ := τ) .tc)).toFinset :=
  StableHlo.forall_writes_sub_of_map rfl
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v6_14 (V0 : Valuation τ sig (Elt F)) : val2 V0 (no_index (Proc.devRef .tc main_v6_14)) = V0 (Proc.devRef .tc main_v6_14) :=
  (val2_keep V0 main_v6_14 (by decide)).trans (val1_main_v6_14 V0)
theorem val2_main_v6_0 (V0 : Valuation τ sig (Elt F)) : val2 V0 (no_index (Proc.devRef .tc main_v6_0)) = V0 (Proc.devRef .tc main_v6_0) :=
  (val2_keep V0 main_v6_0 (by decide)).trans (val1_main_v6_0 V0)
theorem val2_main_v6_1 (V0 : Valuation τ sig (Elt F)) : val2 V0 (no_index (Proc.devRef .tc main_v6_1)) = V0 (Proc.devRef .tc main_v6_1) :=
  (val2_keep V0 main_v6_1 (by decide)).trans (val1_main_v6_1 V0)
theorem val2_main_v6_15 (V0 : Valuation τ sig (Elt F)) : val2 V0 (no_index (Proc.devRef .tc main_v6_15)) = V0 (Proc.devRef .tc main_v6_15) :=
  (val2_keep V0 main_v6_15 (by decide)).trans (val1_main_v6_15 V0)
theorem val2_main_v6_16 (V0 : Valuation τ sig (Elt F)) : val2 V0 (no_index (Proc.devRef .tc main_v6_16)) = V0 (Proc.devRef .tc main_v6_16) :=
  (val2_keep V0 main_v6_16 (by decide)).trans (val1_main_v6_16 V0)
theorem val2_main_v6_17 (V0 : Valuation τ sig (Elt F)) : val2 V0 (no_index (Proc.devRef .tc main_v6_17)) = V0 (Proc.devRef .tc main_v6_17) :=
  (val2_keep V0 main_v6_17 (by decide)).trans (val1_main_v6_17 V0)
theorem val2_main_v6_2 (V0 : Valuation τ sig (Elt F)) : val2 V0 (no_index (Proc.devRef .tc main_v6_2)) = V0 (Proc.devRef .tc main_v6_2) :=
  (val2_keep V0 main_v6_2 (by decide)).trans (val1_main_v6_2 V0)
theorem val2_main_v6_3 (V0 : Valuation τ sig (Elt F)) : val2 V0 (no_index (Proc.devRef .tc main_v6_3)) = V0 (Proc.devRef .tc main_v6_3) :=
  (val2_keep V0 main_v6_3 (by decide)).trans (val1_main_v6_3 V0)
theorem val2_main_v6_4 (V0 : Valuation τ sig (Elt F)) : val2 V0 (no_index (Proc.devRef .tc main_v6_4)) = V0 (Proc.devRef .tc main_v6_4) :=
  (val2_keep V0 main_v6_4 (by decide)).trans (val1_main_v6_4 V0)
theorem val2_main_v6_5 (V0 : Valuation τ sig (Elt F)) : val2 V0 (no_index (Proc.devRef .tc main_v6_5)) = V0 (Proc.devRef .tc main_v6_5) :=
  (val2_keep V0 main_v6_5 (by decide)).trans (val1_main_v6_5 V0)
theorem val2_main_v6_6 (V0 : Valuation τ sig (Elt F)) : val2 V0 (no_index (Proc.devRef .tc main_v6_6)) = V0 (Proc.devRef .tc main_v6_6) :=
  (val2_keep V0 main_v6_6 (by decide)).trans (val1_main_v6_6 V0)
theorem val2_main_v6_7 (V0 : Valuation τ sig (Elt F)) : val2 V0 (no_index (Proc.devRef .tc main_v6_7)) = V0 (Proc.devRef .tc main_v6_7) :=
  (val2_keep V0 main_v6_7 (by decide)).trans (val1_main_v6_7 V0)
theorem val2_main_v6_8 (V0 : Valuation τ sig (Elt F)) : val2 V0 (no_index (Proc.devRef .tc main_v6_8)) = V0 (Proc.devRef .tc main_v6_8) :=
  (val2_keep V0 main_v6_8 (by decide)).trans (val1_main_v6_8 V0)
theorem val2_main_v6_9 (V0 : Valuation τ sig (Elt F)) : val2 V0 (no_index (Proc.devRef .tc main_v6_9)) = V0 (Proc.devRef .tc main_v6_9) :=
  (val2_keep V0 main_v6_9 (by decide)).trans (val1_main_v6_9 V0)
theorem val2_main_v6_10 (V0 : Valuation τ sig (Elt F)) : val2 V0 (no_index (Proc.devRef .tc main_v6_10)) = V0 (Proc.devRef .tc main_v6_10) :=
  (val2_keep V0 main_v6_10 (by decide)).trans (val1_main_v6_10 V0)
theorem val2_main_v6_11 (V0 : Valuation τ sig (Elt F)) : val2 V0 (no_index (Proc.devRef .tc main_v6_11)) = V0 (Proc.devRef .tc main_v6_11) :=
  (val2_keep V0 main_v6_11 (by decide)).trans (val1_main_v6_11 V0)
theorem val2_main_v6_12 (V0 : Valuation τ sig (Elt F)) : val2 V0 (no_index (Proc.devRef .tc main_v6_12)) = V0 (Proc.devRef .tc main_v6_12) :=
  (val2_keep V0 main_v6_12 (by decide)).trans (val1_main_v6_12 V0)
theorem val2_main_v6_18 (V0 : Valuation τ sig (Elt F)) : val2 V0 (no_index (Proc.devRef .tc main_v6_18)) = V0 (Proc.devRef .tc main_v6_18) :=
  (val2_keep V0 main_v6_18 (by decide)).trans (val1_main_v6_18 V0)
theorem val2_main_v6_13 (V0 : Valuation τ sig (Elt F)) : val2 V0 (no_index (Proc.devRef .tc main_v6_13)) = V0 (Proc.devRef .tc main_v6_13) :=
  (val2_keep V0 main_v6_13 (by decide)).trans (val1_main_v6_13 V0)
theorem val2_main_while0b_v7 (V0 : Valuation τ sig (Elt F)) : val2 V0 (no_index (Proc.devRef .tc main_while0b_v7)) = addi (V0 (Proc.devRef .tc main_v6_14)) (constantI S_ 32 1#32) :=
  (val2_keep V0 main_while0b_v7 (by decide)).trans (val1_main_while0b_v7 V0)
set_option maxRecDepth 8192 in
set_option maxHeartbeats 900000 in
theorem val2_main_while0b_call0_v4 (V0 : Valuation τ sig (Elt F)) : val2 V0 (no_index (Proc.devRef .tc main_while0b_call0_v4)) = Host.dynamicSlice S1x64x256 (V0 (Proc.devRef .tc main_v6_0)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x256_S1x64x256 := by
  unfold val2
  simp only [trip_w1]
  after_results_entrywise [val1_main_v6_14, val1_main_v6_0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v8]
set_option maxRecDepth 8192 in
theorem trip_w2_writes : (trip_w2 : List (HloOp τ sig (Elt F))).Forall fun op => op.writes ⊆ (trip_w2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v6_14 (V0 : Valuation τ sig (Elt F)) : val3 V0 (no_index (Proc.devRef .tc main_v6_14)) = V0 (Proc.devRef .tc main_v6_14) :=
  (val3_keep V0 main_v6_14 (by decide)).trans (val2_main_v6_14 V0)
theorem val3_main_v6_0 (V0 : Valuation τ sig (Elt F)) : val3 V0 (no_index (Proc.devRef .tc main_v6_0)) = V0 (Proc.devRef .tc main_v6_0) :=
  (val3_keep V0 main_v6_0 (by decide)).trans (val2_main_v6_0 V0)
theorem val3_main_v6_1 (V0 : Valuation τ sig (Elt F)) : val3 V0 (no_index (Proc.devRef .tc main_v6_1)) = V0 (Proc.devRef .tc main_v6_1) :=
  (val3_keep V0 main_v6_1 (by decide)).trans (val2_main_v6_1 V0)
theorem val3_main_v6_15 (V0 : Valuation τ sig (Elt F)) : val3 V0 (no_index (Proc.devRef .tc main_v6_15)) = V0 (Proc.devRef .tc main_v6_15) :=
  (val3_keep V0 main_v6_15 (by decide)).trans (val2_main_v6_15 V0)
theorem val3_main_v6_16 (V0 : Valuation τ sig (Elt F)) : val3 V0 (no_index (Proc.devRef .tc main_v6_16)) = V0 (Proc.devRef .tc main_v6_16) :=
  (val3_keep V0 main_v6_16 (by decide)).trans (val2_main_v6_16 V0)
theorem val3_main_v6_17 (V0 : Valuation τ sig (Elt F)) : val3 V0 (no_index (Proc.devRef .tc main_v6_17)) = V0 (Proc.devRef .tc main_v6_17) :=
  (val3_keep V0 main_v6_17 (by decide)).trans (val2_main_v6_17 V0)
theorem val3_main_v6_2 (V0 : Valuation τ sig (Elt F)) : val3 V0 (no_index (Proc.devRef .tc main_v6_2)) = V0 (Proc.devRef .tc main_v6_2) :=
  (val3_keep V0 main_v6_2 (by decide)).trans (val2_main_v6_2 V0)
theorem val3_main_v6_3 (V0 : Valuation τ sig (Elt F)) : val3 V0 (no_index (Proc.devRef .tc main_v6_3)) = V0 (Proc.devRef .tc main_v6_3) :=
  (val3_keep V0 main_v6_3 (by decide)).trans (val2_main_v6_3 V0)
theorem val3_main_v6_4 (V0 : Valuation τ sig (Elt F)) : val3 V0 (no_index (Proc.devRef .tc main_v6_4)) = V0 (Proc.devRef .tc main_v6_4) :=
  (val3_keep V0 main_v6_4 (by decide)).trans (val2_main_v6_4 V0)
theorem val3_main_v6_5 (V0 : Valuation τ sig (Elt F)) : val3 V0 (no_index (Proc.devRef .tc main_v6_5)) = V0 (Proc.devRef .tc main_v6_5) :=
  (val3_keep V0 main_v6_5 (by decide)).trans (val2_main_v6_5 V0)
theorem val3_main_v6_6 (V0 : Valuation τ sig (Elt F)) : val3 V0 (no_index (Proc.devRef .tc main_v6_6)) = V0 (Proc.devRef .tc main_v6_6) :=
  (val3_keep V0 main_v6_6 (by decide)).trans (val2_main_v6_6 V0)
theorem val3_main_v6_7 (V0 : Valuation τ sig (Elt F)) : val3 V0 (no_index (Proc.devRef .tc main_v6_7)) = V0 (Proc.devRef .tc main_v6_7) :=
  (val3_keep V0 main_v6_7 (by decide)).trans (val2_main_v6_7 V0)
theorem val3_main_v6_8 (V0 : Valuation τ sig (Elt F)) : val3 V0 (no_index (Proc.devRef .tc main_v6_8)) = V0 (Proc.devRef .tc main_v6_8) :=
  (val3_keep V0 main_v6_8 (by decide)).trans (val2_main_v6_8 V0)
theorem val3_main_v6_9 (V0 : Valuation τ sig (Elt F)) : val3 V0 (no_index (Proc.devRef .tc main_v6_9)) = V0 (Proc.devRef .tc main_v6_9) :=
  (val3_keep V0 main_v6_9 (by decide)).trans (val2_main_v6_9 V0)
theorem val3_main_v6_10 (V0 : Valuation τ sig (Elt F)) : val3 V0 (no_index (Proc.devRef .tc main_v6_10)) = V0 (Proc.devRef .tc main_v6_10) :=
  (val3_keep V0 main_v6_10 (by decide)).trans (val2_main_v6_10 V0)
theorem val3_main_v6_11 (V0 : Valuation τ sig (Elt F)) : val3 V0 (no_index (Proc.devRef .tc main_v6_11)) = V0 (Proc.devRef .tc main_v6_11) :=
  (val3_keep V0 main_v6_11 (by decide)).trans (val2_main_v6_11 V0)
theorem val3_main_v6_12 (V0 : Valuation τ sig (Elt F)) : val3 V0 (no_index (Proc.devRef .tc main_v6_12)) = V0 (Proc.devRef .tc main_v6_12) :=
  (val3_keep V0 main_v6_12 (by decide)).trans (val2_main_v6_12 V0)
theorem val3_main_v6_18 (V0 : Valuation τ sig (Elt F)) : val3 V0 (no_index (Proc.devRef .tc main_v6_18)) = V0 (Proc.devRef .tc main_v6_18) :=
  (val3_keep V0 main_v6_18 (by decide)).trans (val2_main_v6_18 V0)
theorem val3_main_v6_13 (V0 : Valuation τ sig (Elt F)) : val3 V0 (no_index (Proc.devRef .tc main_v6_13)) = V0 (Proc.devRef .tc main_v6_13) :=
  (val3_keep V0 main_v6_13 (by decide)).trans (val2_main_v6_13 V0)
theorem val3_main_while0b_v7 (V0 : Valuation τ sig (Elt F)) : val3 V0 (no_index (Proc.devRef .tc main_while0b_v7)) = addi (V0 (Proc.devRef .tc main_v6_14)) (constantI S_ 32 1#32) :=
  (val3_keep V0 main_while0b_v7 (by decide)).trans (val2_main_while0b_v7 V0)
set_option maxRecDepth 8192 in
theorem val3_main_while0b_v8 (V0 : Valuation τ sig (Elt F)) : val3 V0 (no_index (Proc.devRef .tc main_while0b_v8)) = res_main_while0b_v8 V0 := by
  unfold val3
  simp only [trip_w2]
  after_results_entrywise [val2_main_while0b_call0_v4, res_main_while0b_v8, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_call1_c, main_while0b_call1_v0, main_while0b_call1_v1, main_while0b_call1_c_0, main_while0b_call1_v2, main_while0b_call1_v3, main_while0b_call1_c_1, main_while0b_call1_c_2, main_while0b_call1_v4]
set_option maxRecDepth 8192 in
theorem trip_w3_writes : (trip_w3 : List (HloOp τ sig (Elt F))).Forall fun op => op.writes ⊆ (trip_w3_W.map (Proc.devRef (τ := τ) .tc)).toFinset :=
  StableHlo.forall_writes_sub_of_map rfl
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v6_14 (V0 : Valuation τ sig (Elt F)) : val4 V0 (no_index (Proc.devRef .tc main_v6_14)) = V0 (Proc.devRef .tc main_v6_14) :=
  (val4_keep V0 main_v6_14 (by decide)).trans (val3_main_v6_14 V0)
theorem val4_main_v6_0 (V0 : Valuation τ sig (Elt F)) : val4 V0 (no_index (Proc.devRef .tc main_v6_0)) = V0 (Proc.devRef .tc main_v6_0) :=
  (val4_keep V0 main_v6_0 (by decide)).trans (val3_main_v6_0 V0)
theorem val4_main_v6_1 (V0 : Valuation τ sig (Elt F)) : val4 V0 (no_index (Proc.devRef .tc main_v6_1)) = V0 (Proc.devRef .tc main_v6_1) :=
  (val4_keep V0 main_v6_1 (by decide)).trans (val3_main_v6_1 V0)
theorem val4_main_v6_15 (V0 : Valuation τ sig (Elt F)) : val4 V0 (no_index (Proc.devRef .tc main_v6_15)) = V0 (Proc.devRef .tc main_v6_15) :=
  (val4_keep V0 main_v6_15 (by decide)).trans (val3_main_v6_15 V0)
theorem val4_main_v6_16 (V0 : Valuation τ sig (Elt F)) : val4 V0 (no_index (Proc.devRef .tc main_v6_16)) = V0 (Proc.devRef .tc main_v6_16) :=
  (val4_keep V0 main_v6_16 (by decide)).trans (val3_main_v6_16 V0)
theorem val4_main_v6_17 (V0 : Valuation τ sig (Elt F)) : val4 V0 (no_index (Proc.devRef .tc main_v6_17)) = V0 (Proc.devRef .tc main_v6_17) :=
  (val4_keep V0 main_v6_17 (by decide)).trans (val3_main_v6_17 V0)
theorem val4_main_v6_2 (V0 : Valuation τ sig (Elt F)) : val4 V0 (no_index (Proc.devRef .tc main_v6_2)) = V0 (Proc.devRef .tc main_v6_2) :=
  (val4_keep V0 main_v6_2 (by decide)).trans (val3_main_v6_2 V0)
theorem val4_main_v6_3 (V0 : Valuation τ sig (Elt F)) : val4 V0 (no_index (Proc.devRef .tc main_v6_3)) = V0 (Proc.devRef .tc main_v6_3) :=
  (val4_keep V0 main_v6_3 (by decide)).trans (val3_main_v6_3 V0)
theorem val4_main_v6_4 (V0 : Valuation τ sig (Elt F)) : val4 V0 (no_index (Proc.devRef .tc main_v6_4)) = V0 (Proc.devRef .tc main_v6_4) :=
  (val4_keep V0 main_v6_4 (by decide)).trans (val3_main_v6_4 V0)
theorem val4_main_v6_5 (V0 : Valuation τ sig (Elt F)) : val4 V0 (no_index (Proc.devRef .tc main_v6_5)) = V0 (Proc.devRef .tc main_v6_5) :=
  (val4_keep V0 main_v6_5 (by decide)).trans (val3_main_v6_5 V0)
theorem val4_main_v6_6 (V0 : Valuation τ sig (Elt F)) : val4 V0 (no_index (Proc.devRef .tc main_v6_6)) = V0 (Proc.devRef .tc main_v6_6) :=
  (val4_keep V0 main_v6_6 (by decide)).trans (val3_main_v6_6 V0)
theorem val4_main_v6_7 (V0 : Valuation τ sig (Elt F)) : val4 V0 (no_index (Proc.devRef .tc main_v6_7)) = V0 (Proc.devRef .tc main_v6_7) :=
  (val4_keep V0 main_v6_7 (by decide)).trans (val3_main_v6_7 V0)
theorem val4_main_v6_8 (V0 : Valuation τ sig (Elt F)) : val4 V0 (no_index (Proc.devRef .tc main_v6_8)) = V0 (Proc.devRef .tc main_v6_8) :=
  (val4_keep V0 main_v6_8 (by decide)).trans (val3_main_v6_8 V0)
theorem val4_main_v6_9 (V0 : Valuation τ sig (Elt F)) : val4 V0 (no_index (Proc.devRef .tc main_v6_9)) = V0 (Proc.devRef .tc main_v6_9) :=
  (val4_keep V0 main_v6_9 (by decide)).trans (val3_main_v6_9 V0)
theorem val4_main_v6_10 (V0 : Valuation τ sig (Elt F)) : val4 V0 (no_index (Proc.devRef .tc main_v6_10)) = V0 (Proc.devRef .tc main_v6_10) :=
  (val4_keep V0 main_v6_10 (by decide)).trans (val3_main_v6_10 V0)
theorem val4_main_v6_11 (V0 : Valuation τ sig (Elt F)) : val4 V0 (no_index (Proc.devRef .tc main_v6_11)) = V0 (Proc.devRef .tc main_v6_11) :=
  (val4_keep V0 main_v6_11 (by decide)).trans (val3_main_v6_11 V0)
theorem val4_main_v6_12 (V0 : Valuation τ sig (Elt F)) : val4 V0 (no_index (Proc.devRef .tc main_v6_12)) = V0 (Proc.devRef .tc main_v6_12) :=
  (val4_keep V0 main_v6_12 (by decide)).trans (val3_main_v6_12 V0)
theorem val4_main_v6_18 (V0 : Valuation τ sig (Elt F)) : val4 V0 (no_index (Proc.devRef .tc main_v6_18)) = V0 (Proc.devRef .tc main_v6_18) :=
  (val4_keep V0 main_v6_18 (by decide)).trans (val3_main_v6_18 V0)
theorem val4_main_v6_13 (V0 : Valuation τ sig (Elt F)) : val4 V0 (no_index (Proc.devRef .tc main_v6_13)) = V0 (Proc.devRef .tc main_v6_13) :=
  (val4_keep V0 main_v6_13 (by decide)).trans (val3_main_v6_13 V0)
theorem val4_main_while0b_v7 (V0 : Valuation τ sig (Elt F)) : val4 V0 (no_index (Proc.devRef .tc main_while0b_v7)) = addi (V0 (Proc.devRef .tc main_v6_14)) (constantI S_ 32 1#32) :=
  (val4_keep V0 main_while0b_v7 (by decide)).trans (val3_main_while0b_v7 V0)
theorem val4_main_while0b_v8 (V0 : Valuation τ sig (Elt F)) : val4 V0 (no_index (Proc.devRef .tc main_while0b_v8)) = res_main_while0b_v8 V0 :=
  (val4_keep V0 main_while0b_v8 (by decide)).trans (val3_main_while0b_v8 V0)
set_option maxRecDepth 8192 in
set_option maxHeartbeats 900000 in
theorem val4_main_while0b_call1_v4 (V0 : Valuation τ sig (Elt F)) : val4 V0 (no_index (Proc.devRef .tc main_while0b_call1_v4)) = Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024 := by
  unfold val4
  simp only [trip_w3]
  after_results_entrywise [val3_main_v6_14, val3_main_v6_1, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v9]
set_option maxRecDepth 8192 in
theorem trip_w4_writes : (trip_w4 : List (HloOp τ sig (Elt F))).Forall fun op => op.writes ⊆ (trip_w4_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v6_14 (V0 : Valuation τ sig (Elt F)) : val5 V0 (no_index (Proc.devRef .tc main_v6_14)) = V0 (Proc.devRef .tc main_v6_14) :=
  (val5_keep V0 main_v6_14 (by decide)).trans (val4_main_v6_14 V0)
theorem val5_main_v6_0 (V0 : Valuation τ sig (Elt F)) : val5 V0 (no_index (Proc.devRef .tc main_v6_0)) = V0 (Proc.devRef .tc main_v6_0) :=
  (val5_keep V0 main_v6_0 (by decide)).trans (val4_main_v6_0 V0)
theorem val5_main_v6_1 (V0 : Valuation τ sig (Elt F)) : val5 V0 (no_index (Proc.devRef .tc main_v6_1)) = V0 (Proc.devRef .tc main_v6_1) :=
  (val5_keep V0 main_v6_1 (by decide)).trans (val4_main_v6_1 V0)
theorem val5_main_v6_15 (V0 : Valuation τ sig (Elt F)) : val5 V0 (no_index (Proc.devRef .tc main_v6_15)) = V0 (Proc.devRef .tc main_v6_15) :=
  (val5_keep V0 main_v6_15 (by decide)).trans (val4_main_v6_15 V0)
theorem val5_main_v6_16 (V0 : Valuation τ sig (Elt F)) : val5 V0 (no_index (Proc.devRef .tc main_v6_16)) = V0 (Proc.devRef .tc main_v6_16) :=
  (val5_keep V0 main_v6_16 (by decide)).trans (val4_main_v6_16 V0)
theorem val5_main_v6_17 (V0 : Valuation τ sig (Elt F)) : val5 V0 (no_index (Proc.devRef .tc main_v6_17)) = V0 (Proc.devRef .tc main_v6_17) :=
  (val5_keep V0 main_v6_17 (by decide)).trans (val4_main_v6_17 V0)
theorem val5_main_v6_2 (V0 : Valuation τ sig (Elt F)) : val5 V0 (no_index (Proc.devRef .tc main_v6_2)) = V0 (Proc.devRef .tc main_v6_2) :=
  (val5_keep V0 main_v6_2 (by decide)).trans (val4_main_v6_2 V0)
theorem val5_main_v6_3 (V0 : Valuation τ sig (Elt F)) : val5 V0 (no_index (Proc.devRef .tc main_v6_3)) = V0 (Proc.devRef .tc main_v6_3) :=
  (val5_keep V0 main_v6_3 (by decide)).trans (val4_main_v6_3 V0)
theorem val5_main_v6_4 (V0 : Valuation τ sig (Elt F)) : val5 V0 (no_index (Proc.devRef .tc main_v6_4)) = V0 (Proc.devRef .tc main_v6_4) :=
  (val5_keep V0 main_v6_4 (by decide)).trans (val4_main_v6_4 V0)
theorem val5_main_v6_5 (V0 : Valuation τ sig (Elt F)) : val5 V0 (no_index (Proc.devRef .tc main_v6_5)) = V0 (Proc.devRef .tc main_v6_5) :=
  (val5_keep V0 main_v6_5 (by decide)).trans (val4_main_v6_5 V0)
theorem val5_main_v6_6 (V0 : Valuation τ sig (Elt F)) : val5 V0 (no_index (Proc.devRef .tc main_v6_6)) = V0 (Proc.devRef .tc main_v6_6) :=
  (val5_keep V0 main_v6_6 (by decide)).trans (val4_main_v6_6 V0)
theorem val5_main_v6_7 (V0 : Valuation τ sig (Elt F)) : val5 V0 (no_index (Proc.devRef .tc main_v6_7)) = V0 (Proc.devRef .tc main_v6_7) :=
  (val5_keep V0 main_v6_7 (by decide)).trans (val4_main_v6_7 V0)
theorem val5_main_v6_8 (V0 : Valuation τ sig (Elt F)) : val5 V0 (no_index (Proc.devRef .tc main_v6_8)) = V0 (Proc.devRef .tc main_v6_8) :=
  (val5_keep V0 main_v6_8 (by decide)).trans (val4_main_v6_8 V0)
theorem val5_main_v6_9 (V0 : Valuation τ sig (Elt F)) : val5 V0 (no_index (Proc.devRef .tc main_v6_9)) = V0 (Proc.devRef .tc main_v6_9) :=
  (val5_keep V0 main_v6_9 (by decide)).trans (val4_main_v6_9 V0)
theorem val5_main_v6_10 (V0 : Valuation τ sig (Elt F)) : val5 V0 (no_index (Proc.devRef .tc main_v6_10)) = V0 (Proc.devRef .tc main_v6_10) :=
  (val5_keep V0 main_v6_10 (by decide)).trans (val4_main_v6_10 V0)
theorem val5_main_v6_11 (V0 : Valuation τ sig (Elt F)) : val5 V0 (no_index (Proc.devRef .tc main_v6_11)) = V0 (Proc.devRef .tc main_v6_11) :=
  (val5_keep V0 main_v6_11 (by decide)).trans (val4_main_v6_11 V0)
theorem val5_main_v6_12 (V0 : Valuation τ sig (Elt F)) : val5 V0 (no_index (Proc.devRef .tc main_v6_12)) = V0 (Proc.devRef .tc main_v6_12) :=
  (val5_keep V0 main_v6_12 (by decide)).trans (val4_main_v6_12 V0)
theorem val5_main_v6_18 (V0 : Valuation τ sig (Elt F)) : val5 V0 (no_index (Proc.devRef .tc main_v6_18)) = V0 (Proc.devRef .tc main_v6_18) :=
  (val5_keep V0 main_v6_18 (by decide)).trans (val4_main_v6_18 V0)
theorem val5_main_v6_13 (V0 : Valuation τ sig (Elt F)) : val5 V0 (no_index (Proc.devRef .tc main_v6_13)) = V0 (Proc.devRef .tc main_v6_13) :=
  (val5_keep V0 main_v6_13 (by decide)).trans (val4_main_v6_13 V0)
theorem val5_main_while0b_v7 (V0 : Valuation τ sig (Elt F)) : val5 V0 (no_index (Proc.devRef .tc main_while0b_v7)) = addi (V0 (Proc.devRef .tc main_v6_14)) (constantI S_ 32 1#32) :=
  (val5_keep V0 main_while0b_v7 (by decide)).trans (val4_main_while0b_v7 V0)
theorem val5_main_while0b_v8 (V0 : Valuation τ sig (Elt F)) : val5 V0 (no_index (Proc.devRef .tc main_while0b_v8)) = res_main_while0b_v8 V0 :=
  (val5_keep V0 main_while0b_v8 (by decide)).trans (val4_main_while0b_v8 V0)
set_option maxRecDepth 8192 in
theorem val5_main_while0b_v9 (V0 : Valuation τ sig (Elt F)) : val5 V0 (no_index (Proc.devRef .tc main_while0b_v9)) = shapeCast S64x1024 (Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024) shapeCasts_S1x64x1024_S64x1024 := by
  unfold val5
  simp only [trip_w4]
  after_results_entrywise [val4_main_while0b_call1_v4, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_call2_v0, main_while0b_call2_c, main_while0b_call2_v1, main_while0b_call2_v2, main_while0b_call2_c_0, main_while0b_call2_v3, main_while0b_call2_v4, main_while0b_call2_c_1, main_while0b_call2_c_2, main_while0b_v10]
set_option maxRecDepth 8192 in
theorem trip_w5_writes : (trip_w5 : List (HloOp τ sig (Elt F))).Forall fun op => op.writes ⊆ (trip_w5_W.map (Proc.devRef (τ := τ) .tc)).toFinset :=
  StableHlo.forall_writes_sub_of_map rfl
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v6_14 (V0 : Valuation τ sig (Elt F)) : val6 V0 (no_index (Proc.devRef .tc main_v6_14)) = V0 (Proc.devRef .tc main_v6_14) :=
  (val6_keep V0 main_v6_14 (by decide)).trans (val5_main_v6_14 V0)
theorem val6_main_v6_0 (V0 : Valuation τ sig (Elt F)) : val6 V0 (no_index (Proc.devRef .tc main_v6_0)) = V0 (Proc.devRef .tc main_v6_0) :=
  (val6_keep V0 main_v6_0 (by decide)).trans (val5_main_v6_0 V0)
theorem val6_main_v6_1 (V0 : Valuation τ sig (Elt F)) : val6 V0 (no_index (Proc.devRef .tc main_v6_1)) = V0 (Proc.devRef .tc main_v6_1) :=
  (val6_keep V0 main_v6_1 (by decide)).trans (val5_main_v6_1 V0)
theorem val6_main_v6_15 (V0 : Valuation τ sig (Elt F)) : val6 V0 (no_index (Proc.devRef .tc main_v6_15)) = V0 (Proc.devRef .tc main_v6_15) :=
  (val6_keep V0 main_v6_15 (by decide)).trans (val5_main_v6_15 V0)
theorem val6_main_v6_16 (V0 : Valuation τ sig (Elt F)) : val6 V0 (no_index (Proc.devRef .tc main_v6_16)) = V0 (Proc.devRef .tc main_v6_16) :=
  (val6_keep V0 main_v6_16 (by decide)).trans (val5_main_v6_16 V0)
theorem val6_main_v6_17 (V0 : Valuation τ sig (Elt F)) : val6 V0 (no_index (Proc.devRef .tc main_v6_17)) = V0 (Proc.devRef .tc main_v6_17) :=
  (val6_keep V0 main_v6_17 (by decide)).trans (val5_main_v6_17 V0)
theorem val6_main_v6_2 (V0 : Valuation τ sig (Elt F)) : val6 V0 (no_index (Proc.devRef .tc main_v6_2)) = V0 (Proc.devRef .tc main_v6_2) :=
  (val6_keep V0 main_v6_2 (by decide)).trans (val5_main_v6_2 V0)
theorem val6_main_v6_3 (V0 : Valuation τ sig (Elt F)) : val6 V0 (no_index (Proc.devRef .tc main_v6_3)) = V0 (Proc.devRef .tc main_v6_3) :=
  (val6_keep V0 main_v6_3 (by decide)).trans (val5_main_v6_3 V0)
theorem val6_main_v6_4 (V0 : Valuation τ sig (Elt F)) : val6 V0 (no_index (Proc.devRef .tc main_v6_4)) = V0 (Proc.devRef .tc main_v6_4) :=
  (val6_keep V0 main_v6_4 (by decide)).trans (val5_main_v6_4 V0)
theorem val6_main_v6_5 (V0 : Valuation τ sig (Elt F)) : val6 V0 (no_index (Proc.devRef .tc main_v6_5)) = V0 (Proc.devRef .tc main_v6_5) :=
  (val6_keep V0 main_v6_5 (by decide)).trans (val5_main_v6_5 V0)
theorem val6_main_v6_6 (V0 : Valuation τ sig (Elt F)) : val6 V0 (no_index (Proc.devRef .tc main_v6_6)) = V0 (Proc.devRef .tc main_v6_6) :=
  (val6_keep V0 main_v6_6 (by decide)).trans (val5_main_v6_6 V0)
theorem val6_main_v6_7 (V0 : Valuation τ sig (Elt F)) : val6 V0 (no_index (Proc.devRef .tc main_v6_7)) = V0 (Proc.devRef .tc main_v6_7) :=
  (val6_keep V0 main_v6_7 (by decide)).trans (val5_main_v6_7 V0)
theorem val6_main_v6_8 (V0 : Valuation τ sig (Elt F)) : val6 V0 (no_index (Proc.devRef .tc main_v6_8)) = V0 (Proc.devRef .tc main_v6_8) :=
  (val6_keep V0 main_v6_8 (by decide)).trans (val5_main_v6_8 V0)
theorem val6_main_v6_9 (V0 : Valuation τ sig (Elt F)) : val6 V0 (no_index (Proc.devRef .tc main_v6_9)) = V0 (Proc.devRef .tc main_v6_9) :=
  (val6_keep V0 main_v6_9 (by decide)).trans (val5_main_v6_9 V0)
theorem val6_main_v6_10 (V0 : Valuation τ sig (Elt F)) : val6 V0 (no_index (Proc.devRef .tc main_v6_10)) = V0 (Proc.devRef .tc main_v6_10) :=
  (val6_keep V0 main_v6_10 (by decide)).trans (val5_main_v6_10 V0)
theorem val6_main_v6_11 (V0 : Valuation τ sig (Elt F)) : val6 V0 (no_index (Proc.devRef .tc main_v6_11)) = V0 (Proc.devRef .tc main_v6_11) :=
  (val6_keep V0 main_v6_11 (by decide)).trans (val5_main_v6_11 V0)
theorem val6_main_v6_12 (V0 : Valuation τ sig (Elt F)) : val6 V0 (no_index (Proc.devRef .tc main_v6_12)) = V0 (Proc.devRef .tc main_v6_12) :=
  (val6_keep V0 main_v6_12 (by decide)).trans (val5_main_v6_12 V0)
theorem val6_main_v6_18 (V0 : Valuation τ sig (Elt F)) : val6 V0 (no_index (Proc.devRef .tc main_v6_18)) = V0 (Proc.devRef .tc main_v6_18) :=
  (val6_keep V0 main_v6_18 (by decide)).trans (val5_main_v6_18 V0)
theorem val6_main_v6_13 (V0 : Valuation τ sig (Elt F)) : val6 V0 (no_index (Proc.devRef .tc main_v6_13)) = V0 (Proc.devRef .tc main_v6_13) :=
  (val6_keep V0 main_v6_13 (by decide)).trans (val5_main_v6_13 V0)
theorem val6_main_while0b_v7 (V0 : Valuation τ sig (Elt F)) : val6 V0 (no_index (Proc.devRef .tc main_while0b_v7)) = addi (V0 (Proc.devRef .tc main_v6_14)) (constantI S_ 32 1#32) :=
  (val6_keep V0 main_while0b_v7 (by decide)).trans (val5_main_while0b_v7 V0)
theorem val6_main_while0b_v8 (V0 : Valuation τ sig (Elt F)) : val6 V0 (no_index (Proc.devRef .tc main_while0b_v8)) = res_main_while0b_v8 V0 :=
  (val6_keep V0 main_while0b_v8 (by decide)).trans (val5_main_while0b_v8 V0)
theorem val6_main_while0b_v9 (V0 : Valuation τ sig (Elt F)) : val6 V0 (no_index (Proc.devRef .tc main_while0b_v9)) = shapeCast S64x1024 (Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024) shapeCasts_S1x64x1024_S64x1024 :=
  (val6_keep V0 main_while0b_v9 (by decide)).trans (val5_main_while0b_v9 V0)
set_option maxRecDepth 8192 in
set_option maxHeartbeats 1000000 in
theorem val6_main_while0b_v10 (V0 : Valuation τ sig (Elt F)) : val6 V0 (no_index (Proc.devRef .tc main_while0b_v10)) = res_main_while0b_v10 V0 := by
  unfold val6
  simp only [trip_w5]
  after_results_entrywise [val5_main_v6_14, val5_main_v6_15, val5_main_v6_16, res_main_while0b_v10, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_v11, main_while0b_v12, main_while0b_cst_23, main_while0b_v13, main_while0b_v14, main_while0b_cst_24, main_while0b_v15, main_while0b_v16, main_while0b_v17, main_while0b_v18, main_while0b_v19, main_while0b_v20, main_while0b_v21, main_while0b_v22, main_while0b_v23, main_while0b_v24, main_while0b_v25, main_while0b_v26, main_while0b_cst_25, main_while0b_v27, main_while0b_v28, main_while0b_v29, main_while0b_cst_26, main_while0b_v30]
set_option maxRecDepth 8192 in
theorem trip_w6_writes : (trip_w6 : List (HloOp τ sig (Elt F))).Forall fun op => op.writes ⊆ (trip_w6_W.map (Proc.devRef (τ := τ) .tc)).toFinset :=
  StableHlo.forall_writes_sub_of_map rfl
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v6_14 (V0 : Valuation τ sig (Elt F)) : val7 V0 (no_index (Proc.devRef .tc main_v6_14)) = V0 (Proc.devRef .tc main_v6_14) :=
  (val7_keep V0 main_v6_14 (by decide)).trans (val6_main_v6_14 V0)
theorem val7_main_v6_0 (V0 : Valuation τ sig (Elt F)) : val7 V0 (no_index (Proc.devRef .tc main_v6_0)) = V0 (Proc.devRef .tc main_v6_0) :=
  (val7_keep V0 main_v6_0 (by decide)).trans (val6_main_v6_0 V0)
theorem val7_main_v6_1 (V0 : Valuation τ sig (Elt F)) : val7 V0 (no_index (Proc.devRef .tc main_v6_1)) = V0 (Proc.devRef .tc main_v6_1) :=
  (val7_keep V0 main_v6_1 (by decide)).trans (val6_main_v6_1 V0)
theorem val7_main_v6_15 (V0 : Valuation τ sig (Elt F)) : val7 V0 (no_index (Proc.devRef .tc main_v6_15)) = V0 (Proc.devRef .tc main_v6_15) :=
  (val7_keep V0 main_v6_15 (by decide)).trans (val6_main_v6_15 V0)
theorem val7_main_v6_16 (V0 : Valuation τ sig (Elt F)) : val7 V0 (no_index (Proc.devRef .tc main_v6_16)) = V0 (Proc.devRef .tc main_v6_16) :=
  (val7_keep V0 main_v6_16 (by decide)).trans (val6_main_v6_16 V0)
theorem val7_main_v6_17 (V0 : Valuation τ sig (Elt F)) : val7 V0 (no_index (Proc.devRef .tc main_v6_17)) = V0 (Proc.devRef .tc main_v6_17) :=
  (val7_keep V0 main_v6_17 (by decide)).trans (val6_main_v6_17 V0)
theorem val7_main_v6_2 (V0 : Valuation τ sig (Elt F)) : val7 V0 (no_index (Proc.devRef .tc main_v6_2)) = V0 (Proc.devRef .tc main_v6_2) :=
  (val7_keep V0 main_v6_2 (by decide)).trans (val6_main_v6_2 V0)
theorem val7_main_v6_3 (V0 : Valuation τ sig (Elt F)) : val7 V0 (no_index (Proc.devRef .tc main_v6_3)) = V0 (Proc.devRef .tc main_v6_3) :=
  (val7_keep V0 main_v6_3 (by decide)).trans (val6_main_v6_3 V0)
theorem val7_main_v6_4 (V0 : Valuation τ sig (Elt F)) : val7 V0 (no_index (Proc.devRef .tc main_v6_4)) = V0 (Proc.devRef .tc main_v6_4) :=
  (val7_keep V0 main_v6_4 (by decide)).trans (val6_main_v6_4 V0)
theorem val7_main_v6_5 (V0 : Valuation τ sig (Elt F)) : val7 V0 (no_index (Proc.devRef .tc main_v6_5)) = V0 (Proc.devRef .tc main_v6_5) :=
  (val7_keep V0 main_v6_5 (by decide)).trans (val6_main_v6_5 V0)
theorem val7_main_v6_6 (V0 : Valuation τ sig (Elt F)) : val7 V0 (no_index (Proc.devRef .tc main_v6_6)) = V0 (Proc.devRef .tc main_v6_6) :=
  (val7_keep V0 main_v6_6 (by decide)).trans (val6_main_v6_6 V0)
theorem val7_main_v6_7 (V0 : Valuation τ sig (Elt F)) : val7 V0 (no_index (Proc.devRef .tc main_v6_7)) = V0 (Proc.devRef .tc main_v6_7) :=
  (val7_keep V0 main_v6_7 (by decide)).trans (val6_main_v6_7 V0)
theorem val7_main_v6_8 (V0 : Valuation τ sig (Elt F)) : val7 V0 (no_index (Proc.devRef .tc main_v6_8)) = V0 (Proc.devRef .tc main_v6_8) :=
  (val7_keep V0 main_v6_8 (by decide)).trans (val6_main_v6_8 V0)
theorem val7_main_v6_9 (V0 : Valuation τ sig (Elt F)) : val7 V0 (no_index (Proc.devRef .tc main_v6_9)) = V0 (Proc.devRef .tc main_v6_9) :=
  (val7_keep V0 main_v6_9 (by decide)).trans (val6_main_v6_9 V0)
theorem val7_main_v6_10 (V0 : Valuation τ sig (Elt F)) : val7 V0 (no_index (Proc.devRef .tc main_v6_10)) = V0 (Proc.devRef .tc main_v6_10) :=
  (val7_keep V0 main_v6_10 (by decide)).trans (val6_main_v6_10 V0)
theorem val7_main_v6_11 (V0 : Valuation τ sig (Elt F)) : val7 V0 (no_index (Proc.devRef .tc main_v6_11)) = V0 (Proc.devRef .tc main_v6_11) :=
  (val7_keep V0 main_v6_11 (by decide)).trans (val6_main_v6_11 V0)
theorem val7_main_v6_12 (V0 : Valuation τ sig (Elt F)) : val7 V0 (no_index (Proc.devRef .tc main_v6_12)) = V0 (Proc.devRef .tc main_v6_12) :=
  (val7_keep V0 main_v6_12 (by decide)).trans (val6_main_v6_12 V0)
theorem val7_main_v6_18 (V0 : Valuation τ sig (Elt F)) : val7 V0 (no_index (Proc.devRef .tc main_v6_18)) = V0 (Proc.devRef .tc main_v6_18) :=
  (val7_keep V0 main_v6_18 (by decide)).trans (val6_main_v6_18 V0)
theorem val7_main_v6_13 (V0 : Valuation τ sig (Elt F)) : val7 V0 (no_index (Proc.devRef .tc main_v6_13)) = V0 (Proc.devRef .tc main_v6_13) :=
  (val7_keep V0 main_v6_13 (by decide)).trans (val6_main_v6_13 V0)
theorem val7_main_while0b_v7 (V0 : Valuation τ sig (Elt F)) : val7 V0 (no_index (Proc.devRef .tc main_while0b_v7)) = addi (V0 (Proc.devRef .tc main_v6_14)) (constantI S_ 32 1#32) :=
  (val7_keep V0 main_while0b_v7 (by decide)).trans (val6_main_while0b_v7 V0)
theorem val7_main_while0b_v8 (V0 : Valuation τ sig (Elt F)) : val7 V0 (no_index (Proc.devRef .tc main_while0b_v8)) = res_main_while0b_v8 V0 :=
  (val7_keep V0 main_while0b_v8 (by decide)).trans (val6_main_while0b_v8 V0)
theorem val7_main_while0b_v10 (V0 : Valuation τ sig (Elt F)) : val7 V0 (no_index (Proc.devRef .tc main_while0b_v10)) = res_main_while0b_v10 V0 :=
  (val7_keep V0 main_while0b_v10 (by decide)).trans (val6_main_while0b_v10 V0)
set_option maxRecDepth 8192 in
set_option maxHeartbeats 2000000 in
theorem val7_main_while0b_v26 (V0 : Valuation τ sig (Elt F)) : val7 V0 (no_index (Proc.devRef .tc main_while0b_v26)) = addf (Host.dotGeneral dot_S64x256_S256x1024_S64x1024_1_0_0_1_n_n none (Host.tanh (addf (addf (Host.dotGeneral dot_S64x256_S256x256_S64x256_1_0_0_1_n_n none (res_main_while0b_v8 V0) (V0 (Proc.devRef .tc main_v6_2))) (Host.dotGeneral dot_S64x256_S256x256_S64x256_1_0_0_1_n_n none (V0 (Proc.devRef .tc main_v6_15)) (V0 (Proc.devRef .tc main_v6_3)))) (Host.dotGeneral dot_S64x1024_S1024x256_S64x256_1_0_0_1_n_n none (Host.divf (broadcastInDim S64x1024 ![] bcast_S_S64x1024 (constant S_ .f32 0x3F800000#32)) (addf (broadcastInDim S64x1024 ![] bcast_S_S64x1024 (constant S_ .f32 0x3F800000#32)) (Host.exp (Host.negf (V0 (Proc.devRef .tc main_v6_17)))))) (V0 (Proc.devRef .tc main_v6_4))))) (V0 (Proc.devRef .tc main_v6_5))) (broadcastInDim S64x1024 ![0, 1] bcast_S1x1024_S64x1024_0_1 (broadcastInDim S1x1024 ![1] bcast_S1024_S1x1024_1 (V0 (Proc.devRef .tc main_v6_6)))) := by
  unfold val7
  simp only [trip_w6]
  after_results_entrywise [val6_main_v6_6, val6_main_v6_5, val6_main_v6_4, val6_main_v6_17, val6_main_v6_3, val6_main_v6_15, val6_main_v6_2, val6_main_while0b_v8, cast_eq]
set_option maxRecDepth 8192 in
set_option maxHeartbeats 2000000 in
theorem val7_main_while0b_v29 (V0 : Valuation τ sig (Elt F)) : val7 V0 (no_index (Proc.devRef .tc main_while0b_v29)) = Host.log (addf (broadcastInDim S64x1024 ![] bcast_S_S64x1024 (constant S_ .f32 0x1E3CE508#32)) (shapeCast S64x1024 (Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024) shapeCasts_S1x64x1024_S64x1024)) := by
  unfold val7
  simp only [trip_w6]
  after_results_entrywise [val6_main_while0b_v9, cast_eq]
set_option maxRecDepth 8192 in
set_option maxHeartbeats 2000000 in
theorem val7_main_while0b_v30 (V0 : Valuation τ sig (Elt F)) : val7 V0 (no_index (Proc.devRef .tc main_while0b_v30)) = broadcastInDim S64x1024 ![] bcast_S_S64x1024 (constant S_ .f32 0x1E3CE508#32) := by
  unfold val7
  simp only [trip_w6]
  after_results_entrywise [cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_v31, main_while0b_v32, main_while0b_v33, main_while0b_v34, main_while0b_cst_27, main_while0b_v35, main_while0b_cst_28, main_while0b_v36, main_while0b_v37, main_while0b_v38, main_while0b_v39, main_while0b_v40, main_while0b_v41, main_while0b_cst_29, main_while0b_v42, main_while0b_v43, main_while0b_v44, main_while0b_v45]
set_option maxRecDepth 8192 in
theorem trip_w7_writes : (trip_w7 : List (HloOp τ sig (Elt F))).Forall fun op => op.writes ⊆ (trip_w7_W.map (Proc.devRef (τ := τ) .tc)).toFinset :=
  StableHlo.forall_writes_sub_of_map rfl
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v6_14 (V0 : Valuation τ sig (Elt F)) : val8 V0 (no_index (Proc.devRef .tc main_v6_14)) = V0 (Proc.devRef .tc main_v6_14) :=
  (val8_keep V0 main_v6_14 (by decide)).trans (val7_main_v6_14 V0)
theorem val8_main_v6_0 (V0 : Valuation τ sig (Elt F)) : val8 V0 (no_index (Proc.devRef .tc main_v6_0)) = V0 (Proc.devRef .tc main_v6_0) :=
  (val8_keep V0 main_v6_0 (by decide)).trans (val7_main_v6_0 V0)
theorem val8_main_v6_1 (V0 : Valuation τ sig (Elt F)) : val8 V0 (no_index (Proc.devRef .tc main_v6_1)) = V0 (Proc.devRef .tc main_v6_1) :=
  (val8_keep V0 main_v6_1 (by decide)).trans (val7_main_v6_1 V0)
theorem val8_main_v6_15 (V0 : Valuation τ sig (Elt F)) : val8 V0 (no_index (Proc.devRef .tc main_v6_15)) = V0 (Proc.devRef .tc main_v6_15) :=
  (val8_keep V0 main_v6_15 (by decide)).trans (val7_main_v6_15 V0)
theorem val8_main_v6_16 (V0 : Valuation τ sig (Elt F)) : val8 V0 (no_index (Proc.devRef .tc main_v6_16)) = V0 (Proc.devRef .tc main_v6_16) :=
  (val8_keep V0 main_v6_16 (by decide)).trans (val7_main_v6_16 V0)
theorem val8_main_v6_17 (V0 : Valuation τ sig (Elt F)) : val8 V0 (no_index (Proc.devRef .tc main_v6_17)) = V0 (Proc.devRef .tc main_v6_17) :=
  (val8_keep V0 main_v6_17 (by decide)).trans (val7_main_v6_17 V0)
theorem val8_main_v6_2 (V0 : Valuation τ sig (Elt F)) : val8 V0 (no_index (Proc.devRef .tc main_v6_2)) = V0 (Proc.devRef .tc main_v6_2) :=
  (val8_keep V0 main_v6_2 (by decide)).trans (val7_main_v6_2 V0)
theorem val8_main_v6_3 (V0 : Valuation τ sig (Elt F)) : val8 V0 (no_index (Proc.devRef .tc main_v6_3)) = V0 (Proc.devRef .tc main_v6_3) :=
  (val8_keep V0 main_v6_3 (by decide)).trans (val7_main_v6_3 V0)
theorem val8_main_v6_4 (V0 : Valuation τ sig (Elt F)) : val8 V0 (no_index (Proc.devRef .tc main_v6_4)) = V0 (Proc.devRef .tc main_v6_4) :=
  (val8_keep V0 main_v6_4 (by decide)).trans (val7_main_v6_4 V0)
theorem val8_main_v6_5 (V0 : Valuation τ sig (Elt F)) : val8 V0 (no_index (Proc.devRef .tc main_v6_5)) = V0 (Proc.devRef .tc main_v6_5) :=
  (val8_keep V0 main_v6_5 (by decide)).trans (val7_main_v6_5 V0)
theorem val8_main_v6_6 (V0 : Valuation τ sig (Elt F)) : val8 V0 (no_index (Proc.devRef .tc main_v6_6)) = V0 (Proc.devRef .tc main_v6_6) :=
  (val8_keep V0 main_v6_6 (by decide)).trans (val7_main_v6_6 V0)
theorem val8_main_v6_7 (V0 : Valuation τ sig (Elt F)) : val8 V0 (no_index (Proc.devRef .tc main_v6_7)) = V0 (Proc.devRef .tc main_v6_7) :=
  (val8_keep V0 main_v6_7 (by decide)).trans (val7_main_v6_7 V0)
theorem val8_main_v6_8 (V0 : Valuation τ sig (Elt F)) : val8 V0 (no_index (Proc.devRef .tc main_v6_8)) = V0 (Proc.devRef .tc main_v6_8) :=
  (val8_keep V0 main_v6_8 (by decide)).trans (val7_main_v6_8 V0)
theorem val8_main_v6_9 (V0 : Valuation τ sig (Elt F)) : val8 V0 (no_index (Proc.devRef .tc main_v6_9)) = V0 (Proc.devRef .tc main_v6_9) :=
  (val8_keep V0 main_v6_9 (by decide)).trans (val7_main_v6_9 V0)
theorem val8_main_v6_10 (V0 : Valuation τ sig (Elt F)) : val8 V0 (no_index (Proc.devRef .tc main_v6_10)) = V0 (Proc.devRef .tc main_v6_10) :=
  (val8_keep V0 main_v6_10 (by decide)).trans (val7_main_v6_10 V0)
theorem val8_main_v6_11 (V0 : Valuation τ sig (Elt F)) : val8 V0 (no_index (Proc.devRef .tc main_v6_11)) = V0 (Proc.devRef .tc main_v6_11) :=
  (val8_keep V0 main_v6_11 (by decide)).trans (val7_main_v6_11 V0)
theorem val8_main_v6_12 (V0 : Valuation τ sig (Elt F)) : val8 V0 (no_index (Proc.devRef .tc main_v6_12)) = V0 (Proc.devRef .tc main_v6_12) :=
  (val8_keep V0 main_v6_12 (by decide)).trans (val7_main_v6_12 V0)
theorem val8_main_v6_18 (V0 : Valuation τ sig (Elt F)) : val8 V0 (no_index (Proc.devRef .tc main_v6_18)) = V0 (Proc.devRef .tc main_v6_18) :=
  (val8_keep V0 main_v6_18 (by decide)).trans (val7_main_v6_18 V0)
theorem val8_main_v6_13 (V0 : Valuation τ sig (Elt F)) : val8 V0 (no_index (Proc.devRef .tc main_v6_13)) = V0 (Proc.devRef .tc main_v6_13) :=
  (val8_keep V0 main_v6_13 (by decide)).trans (val7_main_v6_13 V0)
theorem val8_main_while0b_v7 (V0 : Valuation τ sig (Elt F)) : val8 V0 (no_index (Proc.devRef .tc main_while0b_v7)) = addi (V0 (Proc.devRef .tc main_v6_14)) (constantI S_ 32 1#32) :=
  (val8_keep V0 main_while0b_v7 (by decide)).trans (val7_main_while0b_v7 V0)
theorem val8_main_while0b_v8 (V0 : Valuation τ sig (Elt F)) : val8 V0 (no_index (Proc.devRef .tc main_while0b_v8)) = res_main_while0b_v8 V0 :=
  (val8_keep V0 main_while0b_v8 (by decide)).trans (val7_main_while0b_v8 V0)
theorem val8_main_while0b_v10 (V0 : Valuation τ sig (Elt F)) : val8 V0 (no_index (Proc.devRef .tc main_while0b_v10)) = res_main_while0b_v10 V0 :=
  (val8_keep V0 main_while0b_v10 (by decide)).trans (val7_main_while0b_v10 V0)
set_option maxRecDepth 8192 in
set_option maxHeartbeats 1800000 in
theorem val8_main_while0b_v45 (V0 : Valuation τ sig (Elt F)) : val8 V0 (no_index (Proc.devRef .tc main_while0b_v45)) = res_main_while0b_v45 V0 := by
  unfold val8
  simp only [trip_w7]
  after_results_entrywise [val7_main_while0b_v29, val7_main_while0b_v30, val7_main_while0b_v26, res_main_while0b_v34, res_main_while0b_v41, res_main_while0b_v45, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_call3_v0, main_while0b_call3_cst, main_while0b_call3_c, main_while0b_call3_v1_0, main_while0b_v46]
set_option maxRecDepth 8192 in
theorem trip_w8_writes : (trip_w8 : List (HloOp τ sig (Elt F))).Forall fun op => op.writes ⊆ (trip_w8_W.map (Proc.devRef (τ := τ) .tc)).toFinset :=
  StableHlo.forall_writes_sub_of_map rfl
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v6_14 (V0 : Valuation τ sig (Elt F)) : val9 V0 (no_index (Proc.devRef .tc main_v6_14)) = V0 (Proc.devRef .tc main_v6_14) :=
  (val9_keep V0 main_v6_14 (by decide)).trans (val8_main_v6_14 V0)
theorem val9_main_v6_0 (V0 : Valuation τ sig (Elt F)) : val9 V0 (no_index (Proc.devRef .tc main_v6_0)) = V0 (Proc.devRef .tc main_v6_0) :=
  (val9_keep V0 main_v6_0 (by decide)).trans (val8_main_v6_0 V0)
theorem val9_main_v6_1 (V0 : Valuation τ sig (Elt F)) : val9 V0 (no_index (Proc.devRef .tc main_v6_1)) = V0 (Proc.devRef .tc main_v6_1) :=
  (val9_keep V0 main_v6_1 (by decide)).trans (val8_main_v6_1 V0)
theorem val9_main_v6_15 (V0 : Valuation τ sig (Elt F)) : val9 V0 (no_index (Proc.devRef .tc main_v6_15)) = V0 (Proc.devRef .tc main_v6_15) :=
  (val9_keep V0 main_v6_15 (by decide)).trans (val8_main_v6_15 V0)
theorem val9_main_v6_16 (V0 : Valuation τ sig (Elt F)) : val9 V0 (no_index (Proc.devRef .tc main_v6_16)) = V0 (Proc.devRef .tc main_v6_16) :=
  (val9_keep V0 main_v6_16 (by decide)).trans (val8_main_v6_16 V0)
theorem val9_main_v6_17 (V0 : Valuation τ sig (Elt F)) : val9 V0 (no_index (Proc.devRef .tc main_v6_17)) = V0 (Proc.devRef .tc main_v6_17) :=
  (val9_keep V0 main_v6_17 (by decide)).trans (val8_main_v6_17 V0)
theorem val9_main_v6_2 (V0 : Valuation τ sig (Elt F)) : val9 V0 (no_index (Proc.devRef .tc main_v6_2)) = V0 (Proc.devRef .tc main_v6_2) :=
  (val9_keep V0 main_v6_2 (by decide)).trans (val8_main_v6_2 V0)
theorem val9_main_v6_3 (V0 : Valuation τ sig (Elt F)) : val9 V0 (no_index (Proc.devRef .tc main_v6_3)) = V0 (Proc.devRef .tc main_v6_3) :=
  (val9_keep V0 main_v6_3 (by decide)).trans (val8_main_v6_3 V0)
theorem val9_main_v6_4 (V0 : Valuation τ sig (Elt F)) : val9 V0 (no_index (Proc.devRef .tc main_v6_4)) = V0 (Proc.devRef .tc main_v6_4) :=
  (val9_keep V0 main_v6_4 (by decide)).trans (val8_main_v6_4 V0)
theorem val9_main_v6_5 (V0 : Valuation τ sig (Elt F)) : val9 V0 (no_index (Proc.devRef .tc main_v6_5)) = V0 (Proc.devRef .tc main_v6_5) :=
  (val9_keep V0 main_v6_5 (by decide)).trans (val8_main_v6_5 V0)
theorem val9_main_v6_6 (V0 : Valuation τ sig (Elt F)) : val9 V0 (no_index (Proc.devRef .tc main_v6_6)) = V0 (Proc.devRef .tc main_v6_6) :=
  (val9_keep V0 main_v6_6 (by decide)).trans (val8_main_v6_6 V0)
theorem val9_main_v6_7 (V0 : Valuation τ sig (Elt F)) : val9 V0 (no_index (Proc.devRef .tc main_v6_7)) = V0 (Proc.devRef .tc main_v6_7) :=
  (val9_keep V0 main_v6_7 (by decide)).trans (val8_main_v6_7 V0)
theorem val9_main_v6_8 (V0 : Valuation τ sig (Elt F)) : val9 V0 (no_index (Proc.devRef .tc main_v6_8)) = V0 (Proc.devRef .tc main_v6_8) :=
  (val9_keep V0 main_v6_8 (by decide)).trans (val8_main_v6_8 V0)
theorem val9_main_v6_9 (V0 : Valuation τ sig (Elt F)) : val9 V0 (no_index (Proc.devRef .tc main_v6_9)) = V0 (Proc.devRef .tc main_v6_9) :=
  (val9_keep V0 main_v6_9 (by decide)).trans (val8_main_v6_9 V0)
theorem val9_main_v6_10 (V0 : Valuation τ sig (Elt F)) : val9 V0 (no_index (Proc.devRef .tc main_v6_10)) = V0 (Proc.devRef .tc main_v6_10) :=
  (val9_keep V0 main_v6_10 (by decide)).trans (val8_main_v6_10 V0)
theorem val9_main_v6_11 (V0 : Valuation τ sig (Elt F)) : val9 V0 (no_index (Proc.devRef .tc main_v6_11)) = V0 (Proc.devRef .tc main_v6_11) :=
  (val9_keep V0 main_v6_11 (by decide)).trans (val8_main_v6_11 V0)
theorem val9_main_v6_12 (V0 : Valuation τ sig (Elt F)) : val9 V0 (no_index (Proc.devRef .tc main_v6_12)) = V0 (Proc.devRef .tc main_v6_12) :=
  (val9_keep V0 main_v6_12 (by decide)).trans (val8_main_v6_12 V0)
theorem val9_main_v6_18 (V0 : Valuation τ sig (Elt F)) : val9 V0 (no_index (Proc.devRef .tc main_v6_18)) = V0 (Proc.devRef .tc main_v6_18) :=
  (val9_keep V0 main_v6_18 (by decide)).trans (val8_main_v6_18 V0)
theorem val9_main_v6_13 (V0 : Valuation τ sig (Elt F)) : val9 V0 (no_index (Proc.devRef .tc main_v6_13)) = V0 (Proc.devRef .tc main_v6_13) :=
  (val9_keep V0 main_v6_13 (by decide)).trans (val8_main_v6_13 V0)
theorem val9_main_while0b_v7 (V0 : Valuation τ sig (Elt F)) : val9 V0 (no_index (Proc.devRef .tc main_while0b_v7)) = addi (V0 (Proc.devRef .tc main_v6_14)) (constantI S_ 32 1#32) :=
  (val9_keep V0 main_while0b_v7 (by decide)).trans (val8_main_while0b_v7 V0)
theorem val9_main_while0b_v8 (V0 : Valuation τ sig (Elt F)) : val9 V0 (no_index (Proc.devRef .tc main_while0b_v8)) = res_main_while0b_v8 V0 :=
  (val9_keep V0 main_while0b_v8 (by decide)).trans (val8_main_while0b_v8 V0)
theorem val9_main_while0b_v10 (V0 : Valuation τ sig (Elt F)) : val9 V0 (no_index (Proc.devRef .tc main_while0b_v10)) = res_main_while0b_v10 V0 :=
  (val9_keep V0 main_while0b_v10 (by decide)).trans (val8_main_while0b_v10 V0)
theorem val9_main_while0b_v45 (V0 : Valuation τ sig (Elt F)) : val9 V0 (no_index (Proc.devRef .tc main_while0b_v45)) = res_main_while0b_v45 V0 :=
  (val9_keep V0 main_while0b_v45 (by decide)).trans (val8_main_while0b_v45 V0)
set_option maxRecDepth 8192 in
theorem val9_main_while0b_v46 (V0 : Valuation τ sig (Elt F)) : val9 V0 (no_index (Proc.devRef .tc main_while0b_v46)) = (fun jx => (Host.argReduce reducer_argmax_f32_i32 (res_main_while0b_v45 V0) (res_main_while0b_call3_v0 V0) (res_main_while0b_call3_cst V0) (res_main_while0b_call3_c V0) reducesTo_S64x1024_S64_d1 h_S_ jx).2) := by
  unfold val9
  simp only [trip_w8]
  after_results_entrywise [val8_main_while0b_v45, res_main_while0b_call3_v0, res_main_while0b_call3_cst, res_main_while0b_call3_c, cast_eq]

/-- The device's buffer contents after the body's first 10 windows. -/
def val10 (V0 : Valuation τ sig (Elt F)) : Valuation τ sig (Elt F) := after trip_w9 (val9 V0)
/-- The buffers that window `trip_w9`'s operations write. -/
abbrev trip_w9_W : List (Ref sig .tc) := [main_while0b_call4_v0, main_while0b_call4_v1, main_while0b_call4_v2, main_while0b_call4_v3, main_while0b_call4_v4, main_while0b_v47]
set_option maxRecDepth 8192 in
theorem trip_w9_writes : (trip_w9 : List (HloOp τ sig (Elt F))).Forall fun op => op.writes ⊆ (trip_w9_W.map (Proc.devRef (τ := τ) .tc)).toFinset :=
  StableHlo.forall_writes_sub_of_map rfl
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v6_14 (V0 : Valuation τ sig (Elt F)) : val10 V0 (no_index (Proc.devRef .tc main_v6_14)) = V0 (Proc.devRef .tc main_v6_14) :=
  (val10_keep V0 main_v6_14 (by decide)).trans (val9_main_v6_14 V0)
theorem val10_main_v6_0 (V0 : Valuation τ sig (Elt F)) : val10 V0 (no_index (Proc.devRef .tc main_v6_0)) = V0 (Proc.devRef .tc main_v6_0) :=
  (val10_keep V0 main_v6_0 (by decide)).trans (val9_main_v6_0 V0)
theorem val10_main_v6_1 (V0 : Valuation τ sig (Elt F)) : val10 V0 (no_index (Proc.devRef .tc main_v6_1)) = V0 (Proc.devRef .tc main_v6_1) :=
  (val10_keep V0 main_v6_1 (by decide)).trans (val9_main_v6_1 V0)
theorem val10_main_v6_15 (V0 : Valuation τ sig (Elt F)) : val10 V0 (no_index (Proc.devRef .tc main_v6_15)) = V0 (Proc.devRef .tc main_v6_15) :=
  (val10_keep V0 main_v6_15 (by decide)).trans (val9_main_v6_15 V0)
theorem val10_main_v6_16 (V0 : Valuation τ sig (Elt F)) : val10 V0 (no_index (Proc.devRef .tc main_v6_16)) = V0 (Proc.devRef .tc main_v6_16) :=
  (val10_keep V0 main_v6_16 (by decide)).trans (val9_main_v6_16 V0)
theorem val10_main_v6_17 (V0 : Valuation τ sig (Elt F)) : val10 V0 (no_index (Proc.devRef .tc main_v6_17)) = V0 (Proc.devRef .tc main_v6_17) :=
  (val10_keep V0 main_v6_17 (by decide)).trans (val9_main_v6_17 V0)
theorem val10_main_v6_2 (V0 : Valuation τ sig (Elt F)) : val10 V0 (no_index (Proc.devRef .tc main_v6_2)) = V0 (Proc.devRef .tc main_v6_2) :=
  (val10_keep V0 main_v6_2 (by decide)).trans (val9_main_v6_2 V0)
theorem val10_main_v6_3 (V0 : Valuation τ sig (Elt F)) : val10 V0 (no_index (Proc.devRef .tc main_v6_3)) = V0 (Proc.devRef .tc main_v6_3) :=
  (val10_keep V0 main_v6_3 (by decide)).trans (val9_main_v6_3 V0)
theorem val10_main_v6_4 (V0 : Valuation τ sig (Elt F)) : val10 V0 (no_index (Proc.devRef .tc main_v6_4)) = V0 (Proc.devRef .tc main_v6_4) :=
  (val10_keep V0 main_v6_4 (by decide)).trans (val9_main_v6_4 V0)
theorem val10_main_v6_5 (V0 : Valuation τ sig (Elt F)) : val10 V0 (no_index (Proc.devRef .tc main_v6_5)) = V0 (Proc.devRef .tc main_v6_5) :=
  (val10_keep V0 main_v6_5 (by decide)).trans (val9_main_v6_5 V0)
theorem val10_main_v6_6 (V0 : Valuation τ sig (Elt F)) : val10 V0 (no_index (Proc.devRef .tc main_v6_6)) = V0 (Proc.devRef .tc main_v6_6) :=
  (val10_keep V0 main_v6_6 (by decide)).trans (val9_main_v6_6 V0)
theorem val10_main_v6_7 (V0 : Valuation τ sig (Elt F)) : val10 V0 (no_index (Proc.devRef .tc main_v6_7)) = V0 (Proc.devRef .tc main_v6_7) :=
  (val10_keep V0 main_v6_7 (by decide)).trans (val9_main_v6_7 V0)
theorem val10_main_v6_8 (V0 : Valuation τ sig (Elt F)) : val10 V0 (no_index (Proc.devRef .tc main_v6_8)) = V0 (Proc.devRef .tc main_v6_8) :=
  (val10_keep V0 main_v6_8 (by decide)).trans (val9_main_v6_8 V0)
theorem val10_main_v6_9 (V0 : Valuation τ sig (Elt F)) : val10 V0 (no_index (Proc.devRef .tc main_v6_9)) = V0 (Proc.devRef .tc main_v6_9) :=
  (val10_keep V0 main_v6_9 (by decide)).trans (val9_main_v6_9 V0)
theorem val10_main_v6_10 (V0 : Valuation τ sig (Elt F)) : val10 V0 (no_index (Proc.devRef .tc main_v6_10)) = V0 (Proc.devRef .tc main_v6_10) :=
  (val10_keep V0 main_v6_10 (by decide)).trans (val9_main_v6_10 V0)
theorem val10_main_v6_11 (V0 : Valuation τ sig (Elt F)) : val10 V0 (no_index (Proc.devRef .tc main_v6_11)) = V0 (Proc.devRef .tc main_v6_11) :=
  (val10_keep V0 main_v6_11 (by decide)).trans (val9_main_v6_11 V0)
theorem val10_main_v6_12 (V0 : Valuation τ sig (Elt F)) : val10 V0 (no_index (Proc.devRef .tc main_v6_12)) = V0 (Proc.devRef .tc main_v6_12) :=
  (val10_keep V0 main_v6_12 (by decide)).trans (val9_main_v6_12 V0)
theorem val10_main_v6_18 (V0 : Valuation τ sig (Elt F)) : val10 V0 (no_index (Proc.devRef .tc main_v6_18)) = V0 (Proc.devRef .tc main_v6_18) :=
  (val10_keep V0 main_v6_18 (by decide)).trans (val9_main_v6_18 V0)
theorem val10_main_v6_13 (V0 : Valuation τ sig (Elt F)) : val10 V0 (no_index (Proc.devRef .tc main_v6_13)) = V0 (Proc.devRef .tc main_v6_13) :=
  (val10_keep V0 main_v6_13 (by decide)).trans (val9_main_v6_13 V0)
theorem val10_main_while0b_v7 (V0 : Valuation τ sig (Elt F)) : val10 V0 (no_index (Proc.devRef .tc main_while0b_v7)) = addi (V0 (Proc.devRef .tc main_v6_14)) (constantI S_ 32 1#32) :=
  (val10_keep V0 main_while0b_v7 (by decide)).trans (val9_main_while0b_v7 V0)
theorem val10_main_while0b_v8 (V0 : Valuation τ sig (Elt F)) : val10 V0 (no_index (Proc.devRef .tc main_while0b_v8)) = res_main_while0b_v8 V0 :=
  (val10_keep V0 main_while0b_v8 (by decide)).trans (val9_main_while0b_v8 V0)
theorem val10_main_while0b_v10 (V0 : Valuation τ sig (Elt F)) : val10 V0 (no_index (Proc.devRef .tc main_while0b_v10)) = res_main_while0b_v10 V0 :=
  (val10_keep V0 main_while0b_v10 (by decide)).trans (val9_main_while0b_v10 V0)
theorem val10_main_while0b_v45 (V0 : Valuation τ sig (Elt F)) : val10 V0 (no_index (Proc.devRef .tc main_while0b_v45)) = res_main_while0b_v45 V0 :=
  (val10_keep V0 main_while0b_v45 (by decide)).trans (val9_main_while0b_v45 V0)
set_option maxRecDepth 8192 in
theorem val10_main_while0b_v47 (V0 : Valuation τ sig (Elt F)) : val10 V0 (no_index (Proc.devRef .tc main_while0b_v47)) = res_main_while0b_v47 V0 := by
  unfold val10
  simp only [trip_w9]
  after_results_entrywise [val9_main_while0b_v46, res_main_while0b_v47, cast_eq]

/-- The device's buffer contents after the body's first 11 windows. -/
def val11 (V0 : Valuation τ sig (Elt F)) : Valuation τ sig (Elt F) := after trip_w10 (val10 V0)
/-- The buffers that window `trip_w10`'s operations write. -/
abbrev trip_w10_W : List (Ref sig .tc) := [main_while0b_v48, main_while0b_v49, main_while0b_v50, main_while0b_cst_30, main_while0b_v51, main_while0b_v52, main_while0b_cst_31]
set_option maxRecDepth 8192 in
theorem trip_w10_writes : (trip_w10 : List (HloOp τ sig (Elt F))).Forall fun op => op.writes ⊆ (trip_w10_W.map (Proc.devRef (τ := τ) .tc)).toFinset :=
  StableHlo.forall_writes_sub_of_map rfl
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v6_14 (V0 : Valuation τ sig (Elt F)) : val11 V0 (no_index (Proc.devRef .tc main_v6_14)) = V0 (Proc.devRef .tc main_v6_14) :=
  (val11_keep V0 main_v6_14 (by decide)).trans (val10_main_v6_14 V0)
theorem val11_main_v6_0 (V0 : Valuation τ sig (Elt F)) : val11 V0 (no_index (Proc.devRef .tc main_v6_0)) = V0 (Proc.devRef .tc main_v6_0) :=
  (val11_keep V0 main_v6_0 (by decide)).trans (val10_main_v6_0 V0)
theorem val11_main_v6_1 (V0 : Valuation τ sig (Elt F)) : val11 V0 (no_index (Proc.devRef .tc main_v6_1)) = V0 (Proc.devRef .tc main_v6_1) :=
  (val11_keep V0 main_v6_1 (by decide)).trans (val10_main_v6_1 V0)
theorem val11_main_v6_15 (V0 : Valuation τ sig (Elt F)) : val11 V0 (no_index (Proc.devRef .tc main_v6_15)) = V0 (Proc.devRef .tc main_v6_15) :=
  (val11_keep V0 main_v6_15 (by decide)).trans (val10_main_v6_15 V0)
theorem val11_main_v6_16 (V0 : Valuation τ sig (Elt F)) : val11 V0 (no_index (Proc.devRef .tc main_v6_16)) = V0 (Proc.devRef .tc main_v6_16) :=
  (val11_keep V0 main_v6_16 (by decide)).trans (val10_main_v6_16 V0)
theorem val11_main_v6_17 (V0 : Valuation τ sig (Elt F)) : val11 V0 (no_index (Proc.devRef .tc main_v6_17)) = V0 (Proc.devRef .tc main_v6_17) :=
  (val11_keep V0 main_v6_17 (by decide)).trans (val10_main_v6_17 V0)
theorem val11_main_v6_2 (V0 : Valuation τ sig (Elt F)) : val11 V0 (no_index (Proc.devRef .tc main_v6_2)) = V0 (Proc.devRef .tc main_v6_2) :=
  (val11_keep V0 main_v6_2 (by decide)).trans (val10_main_v6_2 V0)
theorem val11_main_v6_3 (V0 : Valuation τ sig (Elt F)) : val11 V0 (no_index (Proc.devRef .tc main_v6_3)) = V0 (Proc.devRef .tc main_v6_3) :=
  (val11_keep V0 main_v6_3 (by decide)).trans (val10_main_v6_3 V0)
theorem val11_main_v6_4 (V0 : Valuation τ sig (Elt F)) : val11 V0 (no_index (Proc.devRef .tc main_v6_4)) = V0 (Proc.devRef .tc main_v6_4) :=
  (val11_keep V0 main_v6_4 (by decide)).trans (val10_main_v6_4 V0)
theorem val11_main_v6_5 (V0 : Valuation τ sig (Elt F)) : val11 V0 (no_index (Proc.devRef .tc main_v6_5)) = V0 (Proc.devRef .tc main_v6_5) :=
  (val11_keep V0 main_v6_5 (by decide)).trans (val10_main_v6_5 V0)
theorem val11_main_v6_6 (V0 : Valuation τ sig (Elt F)) : val11 V0 (no_index (Proc.devRef .tc main_v6_6)) = V0 (Proc.devRef .tc main_v6_6) :=
  (val11_keep V0 main_v6_6 (by decide)).trans (val10_main_v6_6 V0)
theorem val11_main_v6_7 (V0 : Valuation τ sig (Elt F)) : val11 V0 (no_index (Proc.devRef .tc main_v6_7)) = V0 (Proc.devRef .tc main_v6_7) :=
  (val11_keep V0 main_v6_7 (by decide)).trans (val10_main_v6_7 V0)
theorem val11_main_v6_8 (V0 : Valuation τ sig (Elt F)) : val11 V0 (no_index (Proc.devRef .tc main_v6_8)) = V0 (Proc.devRef .tc main_v6_8) :=
  (val11_keep V0 main_v6_8 (by decide)).trans (val10_main_v6_8 V0)
theorem val11_main_v6_9 (V0 : Valuation τ sig (Elt F)) : val11 V0 (no_index (Proc.devRef .tc main_v6_9)) = V0 (Proc.devRef .tc main_v6_9) :=
  (val11_keep V0 main_v6_9 (by decide)).trans (val10_main_v6_9 V0)
theorem val11_main_v6_10 (V0 : Valuation τ sig (Elt F)) : val11 V0 (no_index (Proc.devRef .tc main_v6_10)) = V0 (Proc.devRef .tc main_v6_10) :=
  (val11_keep V0 main_v6_10 (by decide)).trans (val10_main_v6_10 V0)
theorem val11_main_v6_11 (V0 : Valuation τ sig (Elt F)) : val11 V0 (no_index (Proc.devRef .tc main_v6_11)) = V0 (Proc.devRef .tc main_v6_11) :=
  (val11_keep V0 main_v6_11 (by decide)).trans (val10_main_v6_11 V0)
theorem val11_main_v6_12 (V0 : Valuation τ sig (Elt F)) : val11 V0 (no_index (Proc.devRef .tc main_v6_12)) = V0 (Proc.devRef .tc main_v6_12) :=
  (val11_keep V0 main_v6_12 (by decide)).trans (val10_main_v6_12 V0)
theorem val11_main_v6_18 (V0 : Valuation τ sig (Elt F)) : val11 V0 (no_index (Proc.devRef .tc main_v6_18)) = V0 (Proc.devRef .tc main_v6_18) :=
  (val11_keep V0 main_v6_18 (by decide)).trans (val10_main_v6_18 V0)
theorem val11_main_v6_13 (V0 : Valuation τ sig (Elt F)) : val11 V0 (no_index (Proc.devRef .tc main_v6_13)) = V0 (Proc.devRef .tc main_v6_13) :=
  (val11_keep V0 main_v6_13 (by decide)).trans (val10_main_v6_13 V0)
theorem val11_main_while0b_v7 (V0 : Valuation τ sig (Elt F)) : val11 V0 (no_index (Proc.devRef .tc main_while0b_v7)) = addi (V0 (Proc.devRef .tc main_v6_14)) (constantI S_ 32 1#32) :=
  (val11_keep V0 main_while0b_v7 (by decide)).trans (val10_main_while0b_v7 V0)
theorem val11_main_while0b_v8 (V0 : Valuation τ sig (Elt F)) : val11 V0 (no_index (Proc.devRef .tc main_while0b_v8)) = res_main_while0b_v8 V0 :=
  (val11_keep V0 main_while0b_v8 (by decide)).trans (val10_main_while0b_v8 V0)
theorem val11_main_while0b_v10 (V0 : Valuation τ sig (Elt F)) : val11 V0 (no_index (Proc.devRef .tc main_while0b_v10)) = res_main_while0b_v10 V0 :=
  (val11_keep V0 main_while0b_v10 (by decide)).trans (val10_main_while0b_v10 V0)
set_option maxRecDepth 8192 in
theorem val11_main_while0b_v50 (V0 : Valuation τ sig (Elt F)) : val11 V0 (no_index (Proc.devRef .tc main_while0b_v50)) = Host.dotGeneral dot_S64x1024_S64x1024x256_S64x256_1_1_n_2_0_0 none (addf (subf (res_main_while0b_v47 V0) (res_main_while0b_v45 V0)) (res_main_while0b_v45 V0)) (res_main_while0b_v10 V0) := by
  unfold val11
  simp only [trip_w10]
  after_results_entrywise [val10_main_while0b_v10, val10_main_while0b_v45, val10_main_while0b_v47, cast_eq]
set_option maxRecDepth 8192 in
theorem val11_main_while0b_v52 (V0 : Valuation τ sig (Elt F)) : val11 V0 (no_index (Proc.devRef .tc main_while0b_v52)) = cmpf .oeq (res_main_while0b_v47 V0) (broadcastInDim S64x1024 ![] bcast_S_S64x1024 (constant S_ .f32 0x3F800000#32)) := by
  unfold val11
  simp only [trip_w10]
  after_results_entrywise [val10_main_while0b_v47, cast_eq]
set_option maxRecDepth 8192 in
theorem val11_main_while0b_cst_31 (V0 : Valuation τ sig (Elt F)) : val11 V0 (no_index (Proc.devRef .tc main_while0b_cst_31)) = constant S_ .f32 0x00000000#32 := by
  unfold val11
  simp only [trip_w10]
  after_results_entrywise [cast_eq]

/-- The device's buffer contents after the body's first 12 windows. -/
def val12 (V0 : Valuation τ sig (Elt F)) : Valuation τ sig (Elt F) := after trip_w11 (val11 V0)
/-- The buffers that window `trip_w11`'s operations write. -/
abbrev trip_w11_W : List (Ref sig .tc) := [main_while0b_call5_v0, main_while0b_call5_v1, main_while0b_v53]
set_option maxRecDepth 8192 in
theorem trip_w11_writes : (trip_w11 : List (HloOp τ sig (Elt F))).Forall fun op => op.writes ⊆ (trip_w11_W.map (Proc.devRef (τ := τ) .tc)).toFinset :=
  StableHlo.forall_writes_sub_of_map rfl
/-- A buffer that window `trip_w11` does not write keeps its contents through it. -/
theorem val12_keep (V0 : Valuation τ sig (Elt F)) (r : Ref sig .tc) (h : r ∉ trip_w11_W) :
    val12 V0 (Proc.devRef .tc r) = val11 V0 (Proc.devRef .tc r) :=
  after_of_writes_sub trip_w11 _ trip_w11_writes h
theorem val12_main_v6_14 (V0 : Valuation τ sig (Elt F)) : val12 V0 (no_index (Proc.devRef .tc main_v6_14)) = V0 (Proc.devRef .tc main_v6_14) :=
  (val12_keep V0 main_v6_14 (by decide)).trans (val11_main_v6_14 V0)
theorem val12_main_v6_0 (V0 : Valuation τ sig (Elt F)) : val12 V0 (no_index (Proc.devRef .tc main_v6_0)) = V0 (Proc.devRef .tc main_v6_0) :=
  (val12_keep V0 main_v6_0 (by decide)).trans (val11_main_v6_0 V0)
theorem val12_main_v6_1 (V0 : Valuation τ sig (Elt F)) : val12 V0 (no_index (Proc.devRef .tc main_v6_1)) = V0 (Proc.devRef .tc main_v6_1) :=
  (val12_keep V0 main_v6_1 (by decide)).trans (val11_main_v6_1 V0)
theorem val12_main_v6_15 (V0 : Valuation τ sig (Elt F)) : val12 V0 (no_index (Proc.devRef .tc main_v6_15)) = V0 (Proc.devRef .tc main_v6_15) :=
  (val12_keep V0 main_v6_15 (by decide)).trans (val11_main_v6_15 V0)
theorem val12_main_v6_16 (V0 : Valuation τ sig (Elt F)) : val12 V0 (no_index (Proc.devRef .tc main_v6_16)) = V0 (Proc.devRef .tc main_v6_16) :=
  (val12_keep V0 main_v6_16 (by decide)).trans (val11_main_v6_16 V0)
theorem val12_main_v6_17 (V0 : Valuation τ sig (Elt F)) : val12 V0 (no_index (Proc.devRef .tc main_v6_17)) = V0 (Proc.devRef .tc main_v6_17) :=
  (val12_keep V0 main_v6_17 (by decide)).trans (val11_main_v6_17 V0)
theorem val12_main_v6_2 (V0 : Valuation τ sig (Elt F)) : val12 V0 (no_index (Proc.devRef .tc main_v6_2)) = V0 (Proc.devRef .tc main_v6_2) :=
  (val12_keep V0 main_v6_2 (by decide)).trans (val11_main_v6_2 V0)
theorem val12_main_v6_3 (V0 : Valuation τ sig (Elt F)) : val12 V0 (no_index (Proc.devRef .tc main_v6_3)) = V0 (Proc.devRef .tc main_v6_3) :=
  (val12_keep V0 main_v6_3 (by decide)).trans (val11_main_v6_3 V0)
theorem val12_main_v6_4 (V0 : Valuation τ sig (Elt F)) : val12 V0 (no_index (Proc.devRef .tc main_v6_4)) = V0 (Proc.devRef .tc main_v6_4) :=
  (val12_keep V0 main_v6_4 (by decide)).trans (val11_main_v6_4 V0)
theorem val12_main_v6_5 (V0 : Valuation τ sig (Elt F)) : val12 V0 (no_index (Proc.devRef .tc main_v6_5)) = V0 (Proc.devRef .tc main_v6_5) :=
  (val12_keep V0 main_v6_5 (by decide)).trans (val11_main_v6_5 V0)
theorem val12_main_v6_6 (V0 : Valuation τ sig (Elt F)) : val12 V0 (no_index (Proc.devRef .tc main_v6_6)) = V0 (Proc.devRef .tc main_v6_6) :=
  (val12_keep V0 main_v6_6 (by decide)).trans (val11_main_v6_6 V0)
theorem val12_main_v6_7 (V0 : Valuation τ sig (Elt F)) : val12 V0 (no_index (Proc.devRef .tc main_v6_7)) = V0 (Proc.devRef .tc main_v6_7) :=
  (val12_keep V0 main_v6_7 (by decide)).trans (val11_main_v6_7 V0)
theorem val12_main_v6_8 (V0 : Valuation τ sig (Elt F)) : val12 V0 (no_index (Proc.devRef .tc main_v6_8)) = V0 (Proc.devRef .tc main_v6_8) :=
  (val12_keep V0 main_v6_8 (by decide)).trans (val11_main_v6_8 V0)
theorem val12_main_v6_9 (V0 : Valuation τ sig (Elt F)) : val12 V0 (no_index (Proc.devRef .tc main_v6_9)) = V0 (Proc.devRef .tc main_v6_9) :=
  (val12_keep V0 main_v6_9 (by decide)).trans (val11_main_v6_9 V0)
theorem val12_main_v6_10 (V0 : Valuation τ sig (Elt F)) : val12 V0 (no_index (Proc.devRef .tc main_v6_10)) = V0 (Proc.devRef .tc main_v6_10) :=
  (val12_keep V0 main_v6_10 (by decide)).trans (val11_main_v6_10 V0)
theorem val12_main_v6_11 (V0 : Valuation τ sig (Elt F)) : val12 V0 (no_index (Proc.devRef .tc main_v6_11)) = V0 (Proc.devRef .tc main_v6_11) :=
  (val12_keep V0 main_v6_11 (by decide)).trans (val11_main_v6_11 V0)
theorem val12_main_v6_12 (V0 : Valuation τ sig (Elt F)) : val12 V0 (no_index (Proc.devRef .tc main_v6_12)) = V0 (Proc.devRef .tc main_v6_12) :=
  (val12_keep V0 main_v6_12 (by decide)).trans (val11_main_v6_12 V0)
theorem val12_main_v6_18 (V0 : Valuation τ sig (Elt F)) : val12 V0 (no_index (Proc.devRef .tc main_v6_18)) = V0 (Proc.devRef .tc main_v6_18) :=
  (val12_keep V0 main_v6_18 (by decide)).trans (val11_main_v6_18 V0)
theorem val12_main_v6_13 (V0 : Valuation τ sig (Elt F)) : val12 V0 (no_index (Proc.devRef .tc main_v6_13)) = V0 (Proc.devRef .tc main_v6_13) :=
  (val12_keep V0 main_v6_13 (by decide)).trans (val11_main_v6_13 V0)
theorem val12_main_while0b_v7 (V0 : Valuation τ sig (Elt F)) : val12 V0 (no_index (Proc.devRef .tc main_while0b_v7)) = addi (V0 (Proc.devRef .tc main_v6_14)) (constantI S_ 32 1#32) :=
  (val12_keep V0 main_while0b_v7 (by decide)).trans (val11_main_while0b_v7 V0)
theorem val12_main_while0b_v8 (V0 : Valuation τ sig (Elt F)) : val12 V0 (no_index (Proc.devRef .tc main_while0b_v8)) = res_main_while0b_v8 V0 :=
  (val12_keep V0 main_while0b_v8 (by decide)).trans (val11_main_while0b_v8 V0)
theorem val12_main_while0b_v10 (V0 : Valuation τ sig (Elt F)) : val12 V0 (no_index (Proc.devRef .tc main_while0b_v10)) = res_main_while0b_v10 V0 :=
  (val12_keep V0 main_while0b_v10 (by decide)).trans (val11_main_while0b_v10 V0)
theorem val12_main_while0b_v50 (V0 : Valuation τ sig (Elt F)) : val12 V0 (no_index (Proc.devRef .tc main_while0b_v50)) = Host.dotGeneral dot_S64x1024_S64x1024x256_S64x256_1_1_n_2_0_0 none (addf (subf (res_main_while0b_v47 V0) (res_main_while0b_v45 V0)) (res_main_while0b_v45 V0)) (res_main_while0b_v10 V0) :=
  (val12_keep V0 main_while0b_v50 (by decide)).trans (val11_main_while0b_v50 V0)
set_option maxRecDepth 8192 in
theorem val12_main_while0b_v53 (V0 : Valuation τ sig (Elt F)) : val12 V0 (no_index (Proc.devRef .tc main_while0b_v53)) = select (cmpf .oeq (res_main_while0b_v47 V0) (broadcastInDim S64x1024 ![] bcast_S_S64x1024 (constant S_ .f32 0x3F800000#32))) (broadcastInDim S64x1024 ![] bcast_S_S64x1024 (id (constant S_ .f32 0x00000000#32))) (V0 (Proc.devRef .tc main_v6_17)) := by
  unfold val12
  simp only [trip_w11]
  after_results_entrywise [val11_main_v6_17, val11_main_while0b_cst_31, val11_main_while0b_v52, cast_eq]

/-- The device's buffer contents after the body's first 13 windows. -/
def val13 (V0 : Valuation τ sig (Elt F)) : Valuation τ sig (Elt F) := after trip_w12 (val12 V0)
/-- The buffers that window `trip_w12`'s operations write. -/
abbrev trip_w12_W : List (Ref sig .tc) := [main_while0b_cst_32, main_while0b_v54, main_while0b_v55, main_while0b_v56, main_while0b_v57, main_while0b_v58, main_while0b_v59, main_while0b_v60, main_while0b_v61, main_while0b_v62, main_while0b_v63, main_while0b_v64, main_while0b_v65, main_while0b_v66, main_while0b_v67, main_while0b_v68, main_while0b_v69, main_while0b_v70, main_while0b_v71, main_while0b_v72, main_while0b_v73, main_while0b_v74, main_while0b_v75, main_while0b_v76]
set_option maxRecDepth 8192 in
theorem trip_w12_writes : (trip_w12 : List (HloOp τ sig (Elt F))).Forall fun op => op.writes ⊆ (trip_w12_W.map (Proc.devRef (τ := τ) .tc)).toFinset :=
  StableHlo.forall_writes_sub_of_map rfl
/-- A buffer that window `trip_w12` does not write keeps its contents through it. -/
theorem val13_keep (V0 : Valuation τ sig (Elt F)) (r : Ref sig .tc) (h : r ∉ trip_w12_W) :
    val13 V0 (Proc.devRef .tc r) = val12 V0 (Proc.devRef .tc r) :=
  after_of_writes_sub trip_w12 _ trip_w12_writes h
theorem val13_main_v6_14 (V0 : Valuation τ sig (Elt F)) : val13 V0 (no_index (Proc.devRef .tc main_v6_14)) = V0 (Proc.devRef .tc main_v6_14) :=
  (val13_keep V0 main_v6_14 (by decide)).trans (val12_main_v6_14 V0)
theorem val13_main_v6_0 (V0 : Valuation τ sig (Elt F)) : val13 V0 (no_index (Proc.devRef .tc main_v6_0)) = V0 (Proc.devRef .tc main_v6_0) :=
  (val13_keep V0 main_v6_0 (by decide)).trans (val12_main_v6_0 V0)
theorem val13_main_v6_1 (V0 : Valuation τ sig (Elt F)) : val13 V0 (no_index (Proc.devRef .tc main_v6_1)) = V0 (Proc.devRef .tc main_v6_1) :=
  (val13_keep V0 main_v6_1 (by decide)).trans (val12_main_v6_1 V0)
theorem val13_main_v6_15 (V0 : Valuation τ sig (Elt F)) : val13 V0 (no_index (Proc.devRef .tc main_v6_15)) = V0 (Proc.devRef .tc main_v6_15) :=
  (val13_keep V0 main_v6_15 (by decide)).trans (val12_main_v6_15 V0)
theorem val13_main_v6_16 (V0 : Valuation τ sig (Elt F)) : val13 V0 (no_index (Proc.devRef .tc main_v6_16)) = V0 (Proc.devRef .tc main_v6_16) :=
  (val13_keep V0 main_v6_16 (by decide)).trans (val12_main_v6_16 V0)
theorem val13_main_v6_17 (V0 : Valuation τ sig (Elt F)) : val13 V0 (no_index (Proc.devRef .tc main_v6_17)) = V0 (Proc.devRef .tc main_v6_17) :=
  (val13_keep V0 main_v6_17 (by decide)).trans (val12_main_v6_17 V0)
theorem val13_main_v6_2 (V0 : Valuation τ sig (Elt F)) : val13 V0 (no_index (Proc.devRef .tc main_v6_2)) = V0 (Proc.devRef .tc main_v6_2) :=
  (val13_keep V0 main_v6_2 (by decide)).trans (val12_main_v6_2 V0)
theorem val13_main_v6_3 (V0 : Valuation τ sig (Elt F)) : val13 V0 (no_index (Proc.devRef .tc main_v6_3)) = V0 (Proc.devRef .tc main_v6_3) :=
  (val13_keep V0 main_v6_3 (by decide)).trans (val12_main_v6_3 V0)
theorem val13_main_v6_4 (V0 : Valuation τ sig (Elt F)) : val13 V0 (no_index (Proc.devRef .tc main_v6_4)) = V0 (Proc.devRef .tc main_v6_4) :=
  (val13_keep V0 main_v6_4 (by decide)).trans (val12_main_v6_4 V0)
theorem val13_main_v6_5 (V0 : Valuation τ sig (Elt F)) : val13 V0 (no_index (Proc.devRef .tc main_v6_5)) = V0 (Proc.devRef .tc main_v6_5) :=
  (val13_keep V0 main_v6_5 (by decide)).trans (val12_main_v6_5 V0)
theorem val13_main_v6_6 (V0 : Valuation τ sig (Elt F)) : val13 V0 (no_index (Proc.devRef .tc main_v6_6)) = V0 (Proc.devRef .tc main_v6_6) :=
  (val13_keep V0 main_v6_6 (by decide)).trans (val12_main_v6_6 V0)
theorem val13_main_v6_7 (V0 : Valuation τ sig (Elt F)) : val13 V0 (no_index (Proc.devRef .tc main_v6_7)) = V0 (Proc.devRef .tc main_v6_7) :=
  (val13_keep V0 main_v6_7 (by decide)).trans (val12_main_v6_7 V0)
theorem val13_main_v6_8 (V0 : Valuation τ sig (Elt F)) : val13 V0 (no_index (Proc.devRef .tc main_v6_8)) = V0 (Proc.devRef .tc main_v6_8) :=
  (val13_keep V0 main_v6_8 (by decide)).trans (val12_main_v6_8 V0)
theorem val13_main_v6_9 (V0 : Valuation τ sig (Elt F)) : val13 V0 (no_index (Proc.devRef .tc main_v6_9)) = V0 (Proc.devRef .tc main_v6_9) :=
  (val13_keep V0 main_v6_9 (by decide)).trans (val12_main_v6_9 V0)
theorem val13_main_v6_10 (V0 : Valuation τ sig (Elt F)) : val13 V0 (no_index (Proc.devRef .tc main_v6_10)) = V0 (Proc.devRef .tc main_v6_10) :=
  (val13_keep V0 main_v6_10 (by decide)).trans (val12_main_v6_10 V0)
theorem val13_main_v6_11 (V0 : Valuation τ sig (Elt F)) : val13 V0 (no_index (Proc.devRef .tc main_v6_11)) = V0 (Proc.devRef .tc main_v6_11) :=
  (val13_keep V0 main_v6_11 (by decide)).trans (val12_main_v6_11 V0)
theorem val13_main_v6_12 (V0 : Valuation τ sig (Elt F)) : val13 V0 (no_index (Proc.devRef .tc main_v6_12)) = V0 (Proc.devRef .tc main_v6_12) :=
  (val13_keep V0 main_v6_12 (by decide)).trans (val12_main_v6_12 V0)
theorem val13_main_v6_18 (V0 : Valuation τ sig (Elt F)) : val13 V0 (no_index (Proc.devRef .tc main_v6_18)) = V0 (Proc.devRef .tc main_v6_18) :=
  (val13_keep V0 main_v6_18 (by decide)).trans (val12_main_v6_18 V0)
theorem val13_main_v6_13 (V0 : Valuation τ sig (Elt F)) : val13 V0 (no_index (Proc.devRef .tc main_v6_13)) = V0 (Proc.devRef .tc main_v6_13) :=
  (val13_keep V0 main_v6_13 (by decide)).trans (val12_main_v6_13 V0)
theorem val13_main_while0b_v7 (V0 : Valuation τ sig (Elt F)) : val13 V0 (no_index (Proc.devRef .tc main_while0b_v7)) = addi (V0 (Proc.devRef .tc main_v6_14)) (constantI S_ 32 1#32) :=
  (val13_keep V0 main_while0b_v7 (by decide)).trans (val12_main_while0b_v7 V0)
theorem val13_main_while0b_v10 (V0 : Valuation τ sig (Elt F)) : val13 V0 (no_index (Proc.devRef .tc main_while0b_v10)) = res_main_while0b_v10 V0 :=
  (val13_keep V0 main_while0b_v10 (by decide)).trans (val12_main_while0b_v10 V0)
set_option maxRecDepth 8192 in
set_option maxHeartbeats 2000000 in
theorem val13_main_while0b_v55 (V0 : Valuation τ sig (Elt F)) : val13 V0 (no_index (Proc.devRef .tc main_while0b_v55)) = subf (select (cmpf .oeq (res_main_while0b_v47 V0) (broadcastInDim S64x1024 ![] bcast_S_S64x1024 (constant S_ .f32 0x3F800000#32))) (broadcastInDim S64x1024 ![] bcast_S_S64x1024 (id (constant S_ .f32 0x00000000#32))) (V0 (Proc.devRef .tc main_v6_17))) (broadcastInDim S64x1024 ![] bcast_S_S64x1024 (constant S_ .f32 0x3F800000#32)) := by
  unfold val13
  simp only [trip_w12]
  after_results_entrywise [val12_main_while0b_v53, cast_eq]
set_option maxRecDepth 8192 in
set_option maxHeartbeats 2000000 in
theorem val13_main_while0b_v60 (V0 : Valuation τ sig (Elt F)) : val13 V0 (no_index (Proc.devRef .tc main_while0b_v60)) = res_main_while0b_v60 V0 := by
  unfold val13
  simp only [trip_w12]
  after_results_entrywise [val12_main_v6_8, val12_main_v6_7, val12_main_v6_15, val12_main_while0b_v50, res_main_while0b_v60, cast_eq]
set_option maxRecDepth 8192 in
set_option maxHeartbeats 2000000 in
theorem val13_main_while0b_v70 (V0 : Valuation τ sig (Elt F)) : val13 V0 (no_index (Proc.devRef .tc main_while0b_v70)) = extractStridedSlice S64x256 ![0, 256] (res_main_while0b_v64 V0) slices_S64x768_S64x256_0_256 := by
  unfold val13
  simp only [trip_w12]
  after_results_entrywise [val12_main_v6_10, val12_main_v6_9, val12_main_while0b_v8, res_main_while0b_v64, cast_eq]
set_option maxRecDepth 8192 in
set_option maxHeartbeats 2000000 in
theorem val13_main_while0b_v71 (V0 : Valuation τ sig (Elt F)) : val13 V0 (no_index (Proc.devRef .tc main_while0b_v71)) = extractStridedSlice S64x256 ![0, 512] (res_main_while0b_v64 V0) slices_S64x768_S64x256_0_512 := by
  unfold val13
  simp only [trip_w12]
  after_results_entrywise [val12_main_v6_10, val12_main_v6_9, val12_main_while0b_v8, res_main_while0b_v64, cast_eq]
set_option maxRecDepth 8192 in
set_option maxHeartbeats 2000000 in
theorem val13_main_while0b_v73 (V0 : Valuation τ sig (Elt F)) : val13 V0 (no_index (Proc.devRef .tc main_while0b_v73)) = extractStridedSlice S64x256 ![0, 256] (res_main_while0b_v68 V0) slices_S64x768_S64x256_0_256 := by
  unfold val13
  simp only [trip_w12]
  after_results_entrywise [val12_main_v6_12, val12_main_v6_11, val12_main_v6_8, val12_main_v6_7, val12_main_v6_15, val12_main_while0b_v50, res_main_while0b_v60, res_main_while0b_v68, cast_eq]
set_option maxRecDepth 8192 in
set_option maxHeartbeats 2000000 in
theorem val13_main_while0b_v74 (V0 : Valuation τ sig (Elt F)) : val13 V0 (no_index (Proc.devRef .tc main_while0b_v74)) = extractStridedSlice S64x256 ![0, 512] (res_main_while0b_v68 V0) slices_S64x768_S64x256_0_512 := by
  unfold val13
  simp only [trip_w12]
  after_results_entrywise [val12_main_v6_12, val12_main_v6_11, val12_main_v6_8, val12_main_v6_7, val12_main_v6_15, val12_main_while0b_v50, res_main_while0b_v60, res_main_while0b_v68, cast_eq]
set_option maxRecDepth 8192 in
set_option maxHeartbeats 2000000 in
theorem val13_main_while0b_v76 (V0 : Valuation τ sig (Elt F)) : val13 V0 (no_index (Proc.devRef .tc main_while0b_v76)) = Host.negf (addf (extractStridedSlice S64x256 ![0, 0] (res_main_while0b_v64 V0) slices_S64x768_S64x256_0_0) (extractStridedSlice S64x256 ![0, 0] (res_main_while0b_v68 V0) slices_S64x768_S64x256_0_0)) := by
  unfold val13
  simp only [trip_w12]
  after_results_entrywise [val12_main_v6_12, val12_main_v6_11, val12_main_v6_8, val12_main_v6_7, val12_main_v6_15, val12_main_while0b_v50, val12_main_v6_10, val12_main_v6_9, val12_main_while0b_v8, res_main_while0b_v60, res_main_while0b_v64, res_main_while0b_v68, cast_eq]

/-- The device's buffer contents after the body's first 14 windows. -/
def val14 (V0 : Valuation τ sig (Elt F)) : Valuation τ sig (Elt F) := after trip_w13 (val13 V0)
/-- The buffers that window `trip_w13`'s operations write. -/
abbrev trip_w13_W : List (Ref sig .tc) := [main_while0b_v77, main_while0b_cst_33, main_while0b_v78, main_while0b_v79, main_while0b_cst_34, main_while0b_v80, main_while0b_v81, main_while0b_v82, main_while0b_v83, main_while0b_v84, main_while0b_cst_35, main_while0b_v85, main_while0b_v86, main_while0b_cst_36, main_while0b_v87, main_while0b_v88, main_while0b_v89, main_while0b_v90, main_while0b_v91, main_while0b_cst_37, main_while0b_v92, main_while0b_v93, main_while0b_v94, main_while0b_v95]
set_option maxRecDepth 8192 in
theorem trip_w13_writes : (trip_w13 : List (HloOp τ sig (Elt F))).Forall fun op => op.writes ⊆ (trip_w13_W.map (Proc.devRef (τ := τ) .tc)).toFinset :=
  StableHlo.forall_writes_sub_of_map rfl
/-- A buffer that window `trip_w13` does not write keeps its contents through it. -/
theorem val14_keep (V0 : Valuation τ sig (Elt F)) (r : Ref sig .tc) (h : r ∉ trip_w13_W) :
    val14 V0 (Proc.devRef .tc r) = val13 V0 (Proc.devRef .tc r) :=
  after_of_writes_sub trip_w13 _ trip_w13_writes h
theorem val14_main_v6_14 (V0 : Valuation τ sig (Elt F)) : val14 V0 (no_index (Proc.devRef .tc main_v6_14)) = V0 (Proc.devRef .tc main_v6_14) :=
  (val14_keep V0 main_v6_14 (by decide)).trans (val13_main_v6_14 V0)
theorem val14_main_v6_0 (V0 : Valuation τ sig (Elt F)) : val14 V0 (no_index (Proc.devRef .tc main_v6_0)) = V0 (Proc.devRef .tc main_v6_0) :=
  (val14_keep V0 main_v6_0 (by decide)).trans (val13_main_v6_0 V0)
theorem val14_main_v6_1 (V0 : Valuation τ sig (Elt F)) : val14 V0 (no_index (Proc.devRef .tc main_v6_1)) = V0 (Proc.devRef .tc main_v6_1) :=
  (val14_keep V0 main_v6_1 (by decide)).trans (val13_main_v6_1 V0)
theorem val14_main_v6_15 (V0 : Valuation τ sig (Elt F)) : val14 V0 (no_index (Proc.devRef .tc main_v6_15)) = V0 (Proc.devRef .tc main_v6_15) :=
  (val14_keep V0 main_v6_15 (by decide)).trans (val13_main_v6_15 V0)
theorem val14_main_v6_16 (V0 : Valuation τ sig (Elt F)) : val14 V0 (no_index (Proc.devRef .tc main_v6_16)) = V0 (Proc.devRef .tc main_v6_16) :=
  (val14_keep V0 main_v6_16 (by decide)).trans (val13_main_v6_16 V0)
theorem val14_main_v6_17 (V0 : Valuation τ sig (Elt F)) : val14 V0 (no_index (Proc.devRef .tc main_v6_17)) = V0 (Proc.devRef .tc main_v6_17) :=
  (val14_keep V0 main_v6_17 (by decide)).trans (val13_main_v6_17 V0)
theorem val14_main_v6_2 (V0 : Valuation τ sig (Elt F)) : val14 V0 (no_index (Proc.devRef .tc main_v6_2)) = V0 (Proc.devRef .tc main_v6_2) :=
  (val14_keep V0 main_v6_2 (by decide)).trans (val13_main_v6_2 V0)
theorem val14_main_v6_3 (V0 : Valuation τ sig (Elt F)) : val14 V0 (no_index (Proc.devRef .tc main_v6_3)) = V0 (Proc.devRef .tc main_v6_3) :=
  (val14_keep V0 main_v6_3 (by decide)).trans (val13_main_v6_3 V0)
theorem val14_main_v6_4 (V0 : Valuation τ sig (Elt F)) : val14 V0 (no_index (Proc.devRef .tc main_v6_4)) = V0 (Proc.devRef .tc main_v6_4) :=
  (val14_keep V0 main_v6_4 (by decide)).trans (val13_main_v6_4 V0)
theorem val14_main_v6_5 (V0 : Valuation τ sig (Elt F)) : val14 V0 (no_index (Proc.devRef .tc main_v6_5)) = V0 (Proc.devRef .tc main_v6_5) :=
  (val14_keep V0 main_v6_5 (by decide)).trans (val13_main_v6_5 V0)
theorem val14_main_v6_6 (V0 : Valuation τ sig (Elt F)) : val14 V0 (no_index (Proc.devRef .tc main_v6_6)) = V0 (Proc.devRef .tc main_v6_6) :=
  (val14_keep V0 main_v6_6 (by decide)).trans (val13_main_v6_6 V0)
theorem val14_main_v6_7 (V0 : Valuation τ sig (Elt F)) : val14 V0 (no_index (Proc.devRef .tc main_v6_7)) = V0 (Proc.devRef .tc main_v6_7) :=
  (val14_keep V0 main_v6_7 (by decide)).trans (val13_main_v6_7 V0)
theorem val14_main_v6_8 (V0 : Valuation τ sig (Elt F)) : val14 V0 (no_index (Proc.devRef .tc main_v6_8)) = V0 (Proc.devRef .tc main_v6_8) :=
  (val14_keep V0 main_v6_8 (by decide)).trans (val13_main_v6_8 V0)
theorem val14_main_v6_9 (V0 : Valuation τ sig (Elt F)) : val14 V0 (no_index (Proc.devRef .tc main_v6_9)) = V0 (Proc.devRef .tc main_v6_9) :=
  (val14_keep V0 main_v6_9 (by decide)).trans (val13_main_v6_9 V0)
theorem val14_main_v6_10 (V0 : Valuation τ sig (Elt F)) : val14 V0 (no_index (Proc.devRef .tc main_v6_10)) = V0 (Proc.devRef .tc main_v6_10) :=
  (val14_keep V0 main_v6_10 (by decide)).trans (val13_main_v6_10 V0)
theorem val14_main_v6_11 (V0 : Valuation τ sig (Elt F)) : val14 V0 (no_index (Proc.devRef .tc main_v6_11)) = V0 (Proc.devRef .tc main_v6_11) :=
  (val14_keep V0 main_v6_11 (by decide)).trans (val13_main_v6_11 V0)
theorem val14_main_v6_12 (V0 : Valuation τ sig (Elt F)) : val14 V0 (no_index (Proc.devRef .tc main_v6_12)) = V0 (Proc.devRef .tc main_v6_12) :=
  (val14_keep V0 main_v6_12 (by decide)).trans (val13_main_v6_12 V0)
theorem val14_main_v6_18 (V0 : Valuation τ sig (Elt F)) : val14 V0 (no_index (Proc.devRef .tc main_v6_18)) = V0 (Proc.devRef .tc main_v6_18) :=
  (val14_keep V0 main_v6_18 (by decide)).trans (val13_main_v6_18 V0)
theorem val14_main_v6_13 (V0 : Valuation τ sig (Elt F)) : val14 V0 (no_index (Proc.devRef .tc main_v6_13)) = V0 (Proc.devRef .tc main_v6_13) :=
  (val14_keep V0 main_v6_13 (by decide)).trans (val13_main_v6_13 V0)
theorem val14_main_while0b_v7 (V0 : Valuation τ sig (Elt F)) : val14 V0 (no_index (Proc.devRef .tc main_while0b_v7)) = addi (V0 (Proc.devRef .tc main_v6_14)) (constantI S_ 32 1#32) :=
  (val14_keep V0 main_while0b_v7 (by decide)).trans (val13_main_while0b_v7 V0)
theorem val14_main_while0b_v10 (V0 : Valuation τ sig (Elt F)) : val14 V0 (no_index (Proc.devRef .tc main_while0b_v10)) = res_main_while0b_v10 V0 :=
  (val14_keep V0 main_while0b_v10 (by decide)).trans (val13_main_while0b_v10 V0)
theorem val14_main_while0b_v55 (V0 : Valuation τ sig (Elt F)) : val14 V0 (no_index (Proc.devRef .tc main_while0b_v55)) = subf (select (cmpf .oeq (res_main_while0b_v47 V0) (broadcastInDim S64x1024 ![] bcast_S_S64x1024 (constant S_ .f32 0x3F800000#32))) (broadcastInDim S64x1024 ![] bcast_S_S64x1024 (id (constant S_ .f32 0x00000000#32))) (V0 (Proc.devRef .tc main_v6_17))) (broadcastInDim S64x1024 ![] bcast_S_S64x1024 (constant S_ .f32 0x3F800000#32)) :=
  (val14_keep V0 main_while0b_v55 (by decide)).trans (val13_main_while0b_v55 V0)
set_option maxRecDepth 8192 in
set_option maxHeartbeats 2000000 in
theorem val14_main_while0b_v94 (V0 : Valuation τ sig (Elt F)) : val14 V0 (no_index (Proc.devRef .tc main_while0b_v94)) = mulf (subf (broadcastInDim S64x256 ![] bcast_S_S64x256 (constant S_ .f32 0x3F800000#32)) (res_main_while0b_v88 V0)) (Host.tanh (addf (extractStridedSlice S64x256 ![0, 512] (res_main_while0b_v64 V0) slices_S64x768_S64x256_0_512) (mulf (Host.divf (broadcastInDim S64x256 ![] bcast_S_S64x256 (constant S_ .f32 0x3F800000#32)) (addf (broadcastInDim S64x256 ![] bcast_S_S64x256 (constant S_ .f32 0x3F800000#32)) (Host.exp (Host.negf (addf (extractStridedSlice S64x256 ![0, 0] (res_main_while0b_v64 V0) slices_S64x768_S64x256_0_0) (extractStridedSlice S64x256 ![0, 0] (res_main_while0b_v68 V0) slices_S64x768_S64x256_0_0)))))) (extractStridedSlice S64x256 ![0, 512] (res_main_while0b_v68 V0) slices_S64x768_S64x256_0_512)))) := by
  unfold val14
  simp only [trip_w13]
  after_results_entrywise [val13_main_while0b_v74, val13_main_while0b_v76, val13_main_while0b_v71, val13_main_while0b_v73, val13_main_while0b_v70, res_main_while0b_v88, cast_eq]
set_option maxRecDepth 8192 in
set_option maxHeartbeats 2000000 in
theorem val14_main_while0b_v95 (V0 : Valuation τ sig (Elt F)) : val14 V0 (no_index (Proc.devRef .tc main_while0b_v95)) = mulf (res_main_while0b_v88 V0) (res_main_while0b_v60 V0) := by
  unfold val14
  simp only [trip_w13]
  after_results_entrywise [val13_main_while0b_v60, val13_main_while0b_v73, val13_main_while0b_v70, res_main_while0b_v88, cast_eq]

/-- The device's buffer contents after the body's first 15 windows. -/
def val15 (V0 : Valuation τ sig (Elt F)) : Valuation τ sig (Elt F) := after trip_w14 (val14 V0)
/-- The buffers that window `trip_w14`'s operations write. -/
abbrev trip_w14_W : List (Ref sig .tc) := [main_while0b_v96]
set_option maxRecDepth 8192 in
theorem trip_w14_writes : (trip_w14 : List (HloOp τ sig (Elt F))).Forall fun op => op.writes ⊆ (trip_w14_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w14` does not write keeps its contents through it. -/
theorem val15_keep (V0 : Valuation τ sig (Elt F)) (r : Ref sig .tc) (h : r ∉ trip_w14_W) :
    val15 V0 (Proc.devRef .tc r) = val14 V0 (Proc.devRef .tc r) :=
  after_of_writes_sub trip_w14 _ trip_w14_writes h
theorem val15_main_v6_14 (V0 : Valuation τ sig (Elt F)) : val15 V0 (no_index (Proc.devRef .tc main_v6_14)) = V0 (Proc.devRef .tc main_v6_14) :=
  (val15_keep V0 main_v6_14 (by decide)).trans (val14_main_v6_14 V0)
theorem val15_main_v6_0 (V0 : Valuation τ sig (Elt F)) : val15 V0 (no_index (Proc.devRef .tc main_v6_0)) = V0 (Proc.devRef .tc main_v6_0) :=
  (val15_keep V0 main_v6_0 (by decide)).trans (val14_main_v6_0 V0)
theorem val15_main_v6_1 (V0 : Valuation τ sig (Elt F)) : val15 V0 (no_index (Proc.devRef .tc main_v6_1)) = V0 (Proc.devRef .tc main_v6_1) :=
  (val15_keep V0 main_v6_1 (by decide)).trans (val14_main_v6_1 V0)
theorem val15_main_v6_15 (V0 : Valuation τ sig (Elt F)) : val15 V0 (no_index (Proc.devRef .tc main_v6_15)) = V0 (Proc.devRef .tc main_v6_15) :=
  (val15_keep V0 main_v6_15 (by decide)).trans (val14_main_v6_15 V0)
theorem val15_main_v6_16 (V0 : Valuation τ sig (Elt F)) : val15 V0 (no_index (Proc.devRef .tc main_v6_16)) = V0 (Proc.devRef .tc main_v6_16) :=
  (val15_keep V0 main_v6_16 (by decide)).trans (val14_main_v6_16 V0)
theorem val15_main_v6_17 (V0 : Valuation τ sig (Elt F)) : val15 V0 (no_index (Proc.devRef .tc main_v6_17)) = V0 (Proc.devRef .tc main_v6_17) :=
  (val15_keep V0 main_v6_17 (by decide)).trans (val14_main_v6_17 V0)
theorem val15_main_v6_2 (V0 : Valuation τ sig (Elt F)) : val15 V0 (no_index (Proc.devRef .tc main_v6_2)) = V0 (Proc.devRef .tc main_v6_2) :=
  (val15_keep V0 main_v6_2 (by decide)).trans (val14_main_v6_2 V0)
theorem val15_main_v6_3 (V0 : Valuation τ sig (Elt F)) : val15 V0 (no_index (Proc.devRef .tc main_v6_3)) = V0 (Proc.devRef .tc main_v6_3) :=
  (val15_keep V0 main_v6_3 (by decide)).trans (val14_main_v6_3 V0)
theorem val15_main_v6_4 (V0 : Valuation τ sig (Elt F)) : val15 V0 (no_index (Proc.devRef .tc main_v6_4)) = V0 (Proc.devRef .tc main_v6_4) :=
  (val15_keep V0 main_v6_4 (by decide)).trans (val14_main_v6_4 V0)
theorem val15_main_v6_5 (V0 : Valuation τ sig (Elt F)) : val15 V0 (no_index (Proc.devRef .tc main_v6_5)) = V0 (Proc.devRef .tc main_v6_5) :=
  (val15_keep V0 main_v6_5 (by decide)).trans (val14_main_v6_5 V0)
theorem val15_main_v6_6 (V0 : Valuation τ sig (Elt F)) : val15 V0 (no_index (Proc.devRef .tc main_v6_6)) = V0 (Proc.devRef .tc main_v6_6) :=
  (val15_keep V0 main_v6_6 (by decide)).trans (val14_main_v6_6 V0)
theorem val15_main_v6_7 (V0 : Valuation τ sig (Elt F)) : val15 V0 (no_index (Proc.devRef .tc main_v6_7)) = V0 (Proc.devRef .tc main_v6_7) :=
  (val15_keep V0 main_v6_7 (by decide)).trans (val14_main_v6_7 V0)
theorem val15_main_v6_8 (V0 : Valuation τ sig (Elt F)) : val15 V0 (no_index (Proc.devRef .tc main_v6_8)) = V0 (Proc.devRef .tc main_v6_8) :=
  (val15_keep V0 main_v6_8 (by decide)).trans (val14_main_v6_8 V0)
theorem val15_main_v6_9 (V0 : Valuation τ sig (Elt F)) : val15 V0 (no_index (Proc.devRef .tc main_v6_9)) = V0 (Proc.devRef .tc main_v6_9) :=
  (val15_keep V0 main_v6_9 (by decide)).trans (val14_main_v6_9 V0)
theorem val15_main_v6_10 (V0 : Valuation τ sig (Elt F)) : val15 V0 (no_index (Proc.devRef .tc main_v6_10)) = V0 (Proc.devRef .tc main_v6_10) :=
  (val15_keep V0 main_v6_10 (by decide)).trans (val14_main_v6_10 V0)
theorem val15_main_v6_11 (V0 : Valuation τ sig (Elt F)) : val15 V0 (no_index (Proc.devRef .tc main_v6_11)) = V0 (Proc.devRef .tc main_v6_11) :=
  (val15_keep V0 main_v6_11 (by decide)).trans (val14_main_v6_11 V0)
theorem val15_main_v6_12 (V0 : Valuation τ sig (Elt F)) : val15 V0 (no_index (Proc.devRef .tc main_v6_12)) = V0 (Proc.devRef .tc main_v6_12) :=
  (val15_keep V0 main_v6_12 (by decide)).trans (val14_main_v6_12 V0)
theorem val15_main_v6_18 (V0 : Valuation τ sig (Elt F)) : val15 V0 (no_index (Proc.devRef .tc main_v6_18)) = V0 (Proc.devRef .tc main_v6_18) :=
  (val15_keep V0 main_v6_18 (by decide)).trans (val14_main_v6_18 V0)
theorem val15_main_v6_13 (V0 : Valuation τ sig (Elt F)) : val15 V0 (no_index (Proc.devRef .tc main_v6_13)) = V0 (Proc.devRef .tc main_v6_13) :=
  (val15_keep V0 main_v6_13 (by decide)).trans (val14_main_v6_13 V0)
theorem val15_main_while0b_v7 (V0 : Valuation τ sig (Elt F)) : val15 V0 (no_index (Proc.devRef .tc main_while0b_v7)) = addi (V0 (Proc.devRef .tc main_v6_14)) (constantI S_ 32 1#32) :=
  (val15_keep V0 main_while0b_v7 (by decide)).trans (val14_main_while0b_v7 V0)
theorem val15_main_while0b_v10 (V0 : Valuation τ sig (Elt F)) : val15 V0 (no_index (Proc.devRef .tc main_while0b_v10)) = res_main_while0b_v10 V0 :=
  (val15_keep V0 main_while0b_v10 (by decide)).trans (val14_main_while0b_v10 V0)
theorem val15_main_while0b_v55 (V0 : Valuation τ sig (Elt F)) : val15 V0 (no_index (Proc.devRef .tc main_while0b_v55)) = subf (select (cmpf .oeq (res_main_while0b_v47 V0) (broadcastInDim S64x1024 ![] bcast_S_S64x1024 (constant S_ .f32 0x3F800000#32))) (broadcastInDim S64x1024 ![] bcast_S_S64x1024 (id (constant S_ .f32 0x00000000#32))) (V0 (Proc.devRef .tc main_v6_17))) (broadcastInDim S64x1024 ![] bcast_S_S64x1024 (constant S_ .f32 0x3F800000#32)) :=
  (val15_keep V0 main_while0b_v55 (by decide)).trans (val14_main_while0b_v55 V0)
set_option maxRecDepth 8192 in
theorem val15_main_while0b_v96 (V0 : Valuation τ sig (Elt F)) : val15 V0 (no_index (Proc.devRef .tc main_while0b_v96)) = res_main_while0b_v96 V0 := by
  unfold val15
  simp only [trip_w14]
  after_results_entrywise [val14_main_while0b_v95, val14_main_while0b_v94, res_main_while0b_v96, cast_eq]

/-- The device's buffer contents after the body's first 16 windows. -/
def val16 (V0 : Valuation τ sig (Elt F)) : Valuation τ sig (Elt F) := after trip_w15 (val15 V0)
/-- The buffers that window `trip_w15`'s operations write. -/
abbrev trip_w15_W : List (Ref sig .tc) := [main_while0b_call6_v0, main_while0b_call6_c, main_while0b_call6_v1, main_while0b_call6_v2, main_while0b_call6_c_0, main_while0b_call6_v3, main_while0b_call6_v4, main_while0b_call6_c_1, main_while0b_call6_c_2, main_while0b_v97]
set_option maxRecDepth 8192 in
theorem trip_w15_writes : (trip_w15 : List (HloOp τ sig (Elt F))).Forall fun op => op.writes ⊆ (trip_w15_W.map (Proc.devRef (τ := τ) .tc)).toFinset :=
  StableHlo.forall_writes_sub_of_map rfl
/-- A buffer that window `trip_w15` does not write keeps its contents through it. -/
theorem val16_keep (V0 : Valuation τ sig (Elt F)) (r : Ref sig .tc) (h : r ∉ trip_w15_W) :
    val16 V0 (Proc.devRef .tc r) = val15 V0 (Proc.devRef .tc r) :=
  after_of_writes_sub trip_w15 _ trip_w15_writes h
theorem val16_main_v6_14 (V0 : Valuation τ sig (Elt F)) : val16 V0 (no_index (Proc.devRef .tc main_v6_14)) = V0 (Proc.devRef .tc main_v6_14) :=
  (val16_keep V0 main_v6_14 (by decide)).trans (val15_main_v6_14 V0)
theorem val16_main_v6_0 (V0 : Valuation τ sig (Elt F)) : val16 V0 (no_index (Proc.devRef .tc main_v6_0)) = V0 (Proc.devRef .tc main_v6_0) :=
  (val16_keep V0 main_v6_0 (by decide)).trans (val15_main_v6_0 V0)
theorem val16_main_v6_1 (V0 : Valuation τ sig (Elt F)) : val16 V0 (no_index (Proc.devRef .tc main_v6_1)) = V0 (Proc.devRef .tc main_v6_1) :=
  (val16_keep V0 main_v6_1 (by decide)).trans (val15_main_v6_1 V0)
theorem val16_main_v6_15 (V0 : Valuation τ sig (Elt F)) : val16 V0 (no_index (Proc.devRef .tc main_v6_15)) = V0 (Proc.devRef .tc main_v6_15) :=
  (val16_keep V0 main_v6_15 (by decide)).trans (val15_main_v6_15 V0)
theorem val16_main_v6_16 (V0 : Valuation τ sig (Elt F)) : val16 V0 (no_index (Proc.devRef .tc main_v6_16)) = V0 (Proc.devRef .tc main_v6_16) :=
  (val16_keep V0 main_v6_16 (by decide)).trans (val15_main_v6_16 V0)
theorem val16_main_v6_17 (V0 : Valuation τ sig (Elt F)) : val16 V0 (no_index (Proc.devRef .tc main_v6_17)) = V0 (Proc.devRef .tc main_v6_17) :=
  (val16_keep V0 main_v6_17 (by decide)).trans (val15_main_v6_17 V0)
theorem val16_main_v6_2 (V0 : Valuation τ sig (Elt F)) : val16 V0 (no_index (Proc.devRef .tc main_v6_2)) = V0 (Proc.devRef .tc main_v6_2) :=
  (val16_keep V0 main_v6_2 (by decide)).trans (val15_main_v6_2 V0)
theorem val16_main_v6_3 (V0 : Valuation τ sig (Elt F)) : val16 V0 (no_index (Proc.devRef .tc main_v6_3)) = V0 (Proc.devRef .tc main_v6_3) :=
  (val16_keep V0 main_v6_3 (by decide)).trans (val15_main_v6_3 V0)
theorem val16_main_v6_4 (V0 : Valuation τ sig (Elt F)) : val16 V0 (no_index (Proc.devRef .tc main_v6_4)) = V0 (Proc.devRef .tc main_v6_4) :=
  (val16_keep V0 main_v6_4 (by decide)).trans (val15_main_v6_4 V0)
theorem val16_main_v6_5 (V0 : Valuation τ sig (Elt F)) : val16 V0 (no_index (Proc.devRef .tc main_v6_5)) = V0 (Proc.devRef .tc main_v6_5) :=
  (val16_keep V0 main_v6_5 (by decide)).trans (val15_main_v6_5 V0)
theorem val16_main_v6_6 (V0 : Valuation τ sig (Elt F)) : val16 V0 (no_index (Proc.devRef .tc main_v6_6)) = V0 (Proc.devRef .tc main_v6_6) :=
  (val16_keep V0 main_v6_6 (by decide)).trans (val15_main_v6_6 V0)
theorem val16_main_v6_7 (V0 : Valuation τ sig (Elt F)) : val16 V0 (no_index (Proc.devRef .tc main_v6_7)) = V0 (Proc.devRef .tc main_v6_7) :=
  (val16_keep V0 main_v6_7 (by decide)).trans (val15_main_v6_7 V0)
theorem val16_main_v6_8 (V0 : Valuation τ sig (Elt F)) : val16 V0 (no_index (Proc.devRef .tc main_v6_8)) = V0 (Proc.devRef .tc main_v6_8) :=
  (val16_keep V0 main_v6_8 (by decide)).trans (val15_main_v6_8 V0)
theorem val16_main_v6_9 (V0 : Valuation τ sig (Elt F)) : val16 V0 (no_index (Proc.devRef .tc main_v6_9)) = V0 (Proc.devRef .tc main_v6_9) :=
  (val16_keep V0 main_v6_9 (by decide)).trans (val15_main_v6_9 V0)
theorem val16_main_v6_10 (V0 : Valuation τ sig (Elt F)) : val16 V0 (no_index (Proc.devRef .tc main_v6_10)) = V0 (Proc.devRef .tc main_v6_10) :=
  (val16_keep V0 main_v6_10 (by decide)).trans (val15_main_v6_10 V0)
theorem val16_main_v6_11 (V0 : Valuation τ sig (Elt F)) : val16 V0 (no_index (Proc.devRef .tc main_v6_11)) = V0 (Proc.devRef .tc main_v6_11) :=
  (val16_keep V0 main_v6_11 (by decide)).trans (val15_main_v6_11 V0)
theorem val16_main_v6_12 (V0 : Valuation τ sig (Elt F)) : val16 V0 (no_index (Proc.devRef .tc main_v6_12)) = V0 (Proc.devRef .tc main_v6_12) :=
  (val16_keep V0 main_v6_12 (by decide)).trans (val15_main_v6_12 V0)
theorem val16_main_v6_18 (V0 : Valuation τ sig (Elt F)) : val16 V0 (no_index (Proc.devRef .tc main_v6_18)) = V0 (Proc.devRef .tc main_v6_18) :=
  (val16_keep V0 main_v6_18 (by decide)).trans (val15_main_v6_18 V0)
theorem val16_main_v6_13 (V0 : Valuation τ sig (Elt F)) : val16 V0 (no_index (Proc.devRef .tc main_v6_13)) = V0 (Proc.devRef .tc main_v6_13) :=
  (val16_keep V0 main_v6_13 (by decide)).trans (val15_main_v6_13 V0)
theorem val16_main_while0b_v7 (V0 : Valuation τ sig (Elt F)) : val16 V0 (no_index (Proc.devRef .tc main_while0b_v7)) = addi (V0 (Proc.devRef .tc main_v6_14)) (constantI S_ 32 1#32) :=
  (val16_keep V0 main_while0b_v7 (by decide)).trans (val15_main_while0b_v7 V0)
theorem val16_main_while0b_v10 (V0 : Valuation τ sig (Elt F)) : val16 V0 (no_index (Proc.devRef .tc main_while0b_v10)) = res_main_while0b_v10 V0 :=
  (val16_keep V0 main_while0b_v10 (by decide)).trans (val15_main_while0b_v10 V0)
theorem val16_main_while0b_v55 (V0 : Valuation τ sig (Elt F)) : val16 V0 (no_index (Proc.devRef .tc main_while0b_v55)) = subf (select (cmpf .oeq (res_main_while0b_v47 V0) (broadcastInDim S64x1024 ![] bcast_S_S64x1024 (constant S_ .f32 0x3F800000#32))) (broadcastInDim S64x1024 ![] bcast_S_S64x1024 (id (constant S_ .f32 0x00000000#32))) (V0 (Proc.devRef .tc main_v6_17))) (broadcastInDim S64x1024 ![] bcast_S_S64x1024 (constant S_ .f32 0x3F800000#32)) :=
  (val16_keep V0 main_while0b_v55 (by decide)).trans (val15_main_while0b_v55 V0)
theorem val16_main_while0b_v96 (V0 : Valuation τ sig (Elt F)) : val16 V0 (no_index (Proc.devRef .tc main_while0b_v96)) = res_main_while0b_v96 V0 :=
  (val16_keep V0 main_while0b_v96 (by decide)).trans (val15_main_while0b_v96 V0)
set_option maxRecDepth 8192 in
set_option maxHeartbeats 1000000 in
theorem val16_main_while0b_v97 (V0 : Valuation τ sig (Elt F)) : val16 V0 (no_index (Proc.devRef .tc main_while0b_v97)) = Host.dynamicUpdateSlice (V0 (Proc.devRef .tc main_v6_18)) (broadcastInDim S1x64x256 ![1, 2] bcast_S64x256_S1x64x256_1_2 (res_main_while0b_v96 V0)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) updateFits_S32x64x256_S1x64x256 := by
  unfold val16
  simp only [trip_w15]
  after_results_entrywise [val15_main_v6_14, val15_main_while0b_v96, val15_main_v6_18, cast_eq]

set_option maxRecDepth 8192 in
/-- The body's stretches before `while0Ops0_11`, from any contents: their windows in order. -/
theorem trip_windows (V0 : Valuation τ sig (Elt F)) : after while0Ops0_10 (after while0Ops0_9 (after while0Ops0_8 (after while0Ops0_7 (after while0Ops0_6 (after while0Ops0_5 (after while0Ops0_4 (after while0Ops0_3 (after while0Ops0_2 (after while0Ops0_1 (after while0Ops0 (V0))))))))))) = val16 V0 := by
  simp only [while0Ops0_cut, while0Ops0_1_cut, while0Ops0_2_cut, while0Ops0_3_cut, while0Ops0_4_cut, while0Ops0_5_cut, while0Ops0_6_cut, while0Ops0_7_cut, while0Ops0_8_cut, while0Ops0_9_cut, while0Ops0_10_cut, after_append]
  rfl

end Cert.ReferenceIdeal.Value

end
-- ==== Proof.RefRun3.lean ====
/- The reference's run, part 3: the step of the carried buffers, and the run as 32 of these steps. -/
module

public import proofs.«01_k».proof.Proof.RefRun2

@[expose] public section

set_option maxRecDepth 1316

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
variable (m : (ℓ : Loc nD τ sig) → Buf (Elt F) ℓ) (ρ : Dev nD → PrngReg)

set_option maxRecDepth 8192 in
set_option maxHeartbeats 2000000 in
/-- `main_v6_0` after one trip's body, from any contents. -/
theorem trip_main_v6_0 (V0 : Valuation τ sig (Elt F)) : afterL bodyI V0 (no_index (Proc.devRef .tc main_v6_0)) = V0 (Proc.devRef .tc main_v6_0) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_1` after one trip's body, from any contents. -/
theorem trip_main_v6_1 (V0 : Valuation τ sig (Elt F)) : afterL bodyI V0 (no_index (Proc.devRef .tc main_v6_1)) = V0 (Proc.devRef .tc main_v6_1) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_2` after one trip's body, from any contents. -/
theorem trip_main_v6_2 (V0 : Valuation τ sig (Elt F)) : afterL bodyI V0 (no_index (Proc.devRef .tc main_v6_2)) = V0 (Proc.devRef .tc main_v6_2) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_3` after one trip's body, from any contents. -/
theorem trip_main_v6_3 (V0 : Valuation τ sig (Elt F)) : afterL bodyI V0 (no_index (Proc.devRef .tc main_v6_3)) = V0 (Proc.devRef .tc main_v6_3) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_4` after one trip's body, from any contents. -/
theorem trip_main_v6_4 (V0 : Valuation τ sig (Elt F)) : afterL bodyI V0 (no_index (Proc.devRef .tc main_v6_4)) = V0 (Proc.devRef .tc main_v6_4) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_5` after one trip's body, from any contents. -/
theorem trip_main_v6_5 (V0 : Valuation τ sig (Elt F)) : afterL bodyI V0 (no_index (Proc.devRef .tc main_v6_5)) = V0 (Proc.devRef .tc main_v6_5) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_6` after one trip's body, from any contents. -/
theorem trip_main_v6_6 (V0 : Valuation τ sig (Elt F)) : afterL bodyI V0 (no_index (Proc.devRef .tc main_v6_6)) = V0 (Proc.devRef .tc main_v6_6) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_7` after one trip's body, from any contents. -/
theorem trip_main_v6_7 (V0 : Valuation τ sig (Elt F)) : afterL bodyI V0 (no_index (Proc.devRef .tc main_v6_7)) = V0 (Proc.devRef .tc main_v6_7) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_8` after one trip's body, from any contents. -/
theorem trip_main_v6_8 (V0 : Valuation τ sig (Elt F)) : afterL bodyI V0 (no_index (Proc.devRef .tc main_v6_8)) = V0 (Proc.devRef .tc main_v6_8) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_9` after one trip's body, from any contents. -/
theorem trip_main_v6_9 (V0 : Valuation τ sig (Elt F)) : afterL bodyI V0 (no_index (Proc.devRef .tc main_v6_9)) = V0 (Proc.devRef .tc main_v6_9) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_10` after one trip's body, from any contents. -/
theorem trip_main_v6_10 (V0 : Valuation τ sig (Elt F)) : afterL bodyI V0 (no_index (Proc.devRef .tc main_v6_10)) = V0 (Proc.devRef .tc main_v6_10) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_11` after one trip's body, from any contents. -/
theorem trip_main_v6_11 (V0 : Valuation τ sig (Elt F)) : afterL bodyI V0 (no_index (Proc.devRef .tc main_v6_11)) = V0 (Proc.devRef .tc main_v6_11) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_12` after one trip's body, from any contents. -/
theorem trip_main_v6_12 (V0 : Valuation τ sig (Elt F)) : afterL bodyI V0 (no_index (Proc.devRef .tc main_v6_12)) = V0 (Proc.devRef .tc main_v6_12) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_13` after one trip's body, from any contents. -/
theorem trip_main_v6_13 (V0 : Valuation τ sig (Elt F)) : afterL bodyI V0 (no_index (Proc.devRef .tc main_v6_13)) = id (addi (V0 (Proc.devRef .tc main_v6_13)) (constantI S_ 32 1#32)) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_14` after one trip's body, from any contents. -/
theorem trip_main_v6_14 (V0 : Valuation τ sig (Elt F)) : afterL bodyI V0 (no_index (Proc.devRef .tc main_v6_14)) = id (addi (V0 (Proc.devRef .tc main_v6_14)) (constantI S_ 32 1#32)) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_15` after one trip's body, from any contents. -/
theorem trip_main_v6_15 (V0 : Valuation τ sig (Elt F)) : afterL bodyI V0 (no_index (Proc.devRef .tc main_v6_15)) = id (res_main_while0b_v96 V0) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_16` after one trip's body, from any contents. -/
theorem trip_main_v6_16 (V0 : Valuation τ sig (Elt F)) : afterL bodyI V0 (no_index (Proc.devRef .tc main_v6_16)) = id (res_main_while0b_v10 V0) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_17` after one trip's body, from any contents. -/
theorem trip_main_v6_17 (V0 : Valuation τ sig (Elt F)) : afterL bodyI V0 (no_index (Proc.devRef .tc main_v6_17)) = id (subf (select (cmpf .oeq (res_main_while0b_v47 V0) (broadcastInDim S64x1024 ![] bcast_S_S64x1024 (constant S_ .f32 0x3F800000#32))) (broadcastInDim S64x1024 ![] bcast_S_S64x1024 (id (constant S_ .f32 0x00000000#32))) (V0 (Proc.devRef .tc main_v6_17))) (broadcastInDim S64x1024 ![] bcast_S_S64x1024 (constant S_ .f32 0x3F800000#32))) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl
set_option maxRecDepth 8192 in
set_option maxHeartbeats 2000000 in
/-- `main_v6_18` after one trip's body, from any contents. -/
theorem trip_main_v6_18 (V0 : Valuation τ sig (Elt F)) : afterL bodyI V0 (no_index (Proc.devRef .tc main_v6_18)) = id (Host.dynamicUpdateSlice (V0 (Proc.devRef .tc main_v6_18)) (broadcastInDim S1x64x256 ![1, 2] bcast_S64x256_S1x64x256_1_2 (res_main_while0b_v96 V0)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) updateFits_S32x64x256_S1x64x256) := by
  simp only [bodyI, afterL_cons, afterL_nil, trip_windows]
  after_results
  all_goals (try simp only [val16_main_while0b_v7, val16_main_while0b_v96, val16_main_while0b_v10, val16_main_while0b_v55, val16_main_while0b_v97, val16_main_v6_0, val16_main_v6_1, val16_main_v6_2, val16_main_v6_3, val16_main_v6_4, val16_main_v6_5, val16_main_v6_6, val16_main_v6_7, val16_main_v6_8, val16_main_v6_9, val16_main_v6_10, val16_main_v6_11, val16_main_v6_12, val16_main_v6_13, val16_main_v6_14, val16_main_v6_15, val16_main_v6_16, val16_main_v6_17, val16_main_v6_18]) <;> rfl

/-- The loop's carried buffers. -/
abbrev carriedRefs : List (Ref sig .tc) := [main_v6_0, main_v6_1, main_v6_2, main_v6_3, main_v6_4, main_v6_5, main_v6_6, main_v6_7, main_v6_8, main_v6_9, main_v6_10, main_v6_11, main_v6_12, main_v6_13, main_v6_14, main_v6_15, main_v6_16, main_v6_17, main_v6_18]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v8_congr {V0 V0' : Valuation τ sig (Elt F)} (h : Agree V0 V0') : res_main_while0b_v8 V0 = res_main_while0b_v8 V0' := by
  unfold res_main_while0b_v8
  rw [h main_v6_0 (by decide), h main_v6_14 (by decide)]
set_option maxRecDepth 8192 in
theorem res_main_while0b_v10_congr {V0 V0' : Valuation τ sig (Elt F)} (h : Agree V0 V0') : res_main_while0b_v10 V0 = res_main_while0b_v10 V0' := by
  unfold res_main_while0b_v10
  rw [h main_v6_16 (by decide), h main_v6_15 (by decide), h main_v6_14 (by decide)]
set_option maxRecDepth 8192 in
theorem res_main_while0b_v34_congr {V0 V0' : Valuation τ sig (Elt F)} (h : Agree V0 V0') : res_main_while0b_v34 V0 = res_main_while0b_v34 V0' := by
  unfold res_main_while0b_v34
  rw [res_main_while0b_v8_congr h, h main_v6_2 (by decide), h main_v6_15 (by decide), h main_v6_3 (by decide), h main_v6_17 (by decide), h main_v6_4 (by decide), h main_v6_5 (by decide), h main_v6_6 (by decide), h main_v6_1 (by decide), h main_v6_14 (by decide)]
set_option maxRecDepth 8192 in
theorem res_main_while0b_v41_congr {V0 V0' : Valuation τ sig (Elt F)} (h : Agree V0 V0') : res_main_while0b_v41 V0 = res_main_while0b_v41 V0' := by
  unfold res_main_while0b_v41
  rw [res_main_while0b_v34_congr h]
set_option maxRecDepth 8192 in
theorem res_main_while0b_v45_congr {V0 V0' : Valuation τ sig (Elt F)} (h : Agree V0 V0') : res_main_while0b_v45 V0 = res_main_while0b_v45 V0' := by
  unfold res_main_while0b_v45
  rw [res_main_while0b_v41_congr h]
set_option maxRecDepth 8192 in
theorem res_main_while0b_call3_v0_congr {V0 V0' : Valuation τ sig (Elt F)} (h : Agree V0 V0') : res_main_while0b_call3_v0 V0 = res_main_while0b_call3_v0 V0' := by
  unfold res_main_while0b_call3_v0
  rfl
set_option maxRecDepth 8192 in
theorem res_main_while0b_call3_cst_congr {V0 V0' : Valuation τ sig (Elt F)} (h : Agree V0 V0') : res_main_while0b_call3_cst V0 = res_main_while0b_call3_cst V0' := by
  unfold res_main_while0b_call3_cst
  rfl
set_option maxRecDepth 8192 in
theorem res_main_while0b_call3_c_congr {V0 V0' : Valuation τ sig (Elt F)} (h : Agree V0 V0') : res_main_while0b_call3_c V0 = res_main_while0b_call3_c V0' := by
  unfold res_main_while0b_call3_c
  rfl
set_option maxRecDepth 8192 in
theorem res_main_while0b_v47_congr {V0 V0' : Valuation τ sig (Elt F)} (h : Agree V0 V0') : res_main_while0b_v47 V0 = res_main_while0b_v47 V0' := by
  unfold res_main_while0b_v47
  rw [res_main_while0b_v45_congr h, res_main_while0b_call3_v0_congr h, res_main_while0b_call3_cst_congr h, res_main_while0b_call3_c_congr h]
set_option maxRecDepth 8192 in
theorem res_main_while0b_v60_congr {V0 V0' : Valuation τ sig (Elt F)} (h : Agree V0 V0') : res_main_while0b_v60 V0 = res_main_while0b_v60 V0' := by
  unfold res_main_while0b_v60
  rw [res_main_while0b_v47_congr h, res_main_while0b_v45_congr h, res_main_while0b_v10_congr h, h main_v6_15 (by decide), h main_v6_7 (by decide), h main_v6_8 (by decide)]
set_option maxRecDepth 8192 in
theorem res_main_while0b_v64_congr {V0 V0' : Valuation τ sig (Elt F)} (h : Agree V0 V0') : res_main_while0b_v64 V0 = res_main_while0b_v64 V0' := by
  unfold res_main_while0b_v64
  rw [res_main_while0b_v8_congr h, h main_v6_9 (by decide), h main_v6_10 (by decide)]
set_option maxRecDepth 8192 in
theorem res_main_while0b_v68_congr {V0 V0' : Valuation τ sig (Elt F)} (h : Agree V0 V0') : res_main_while0b_v68 V0 = res_main_while0b_v68 V0' := by
  unfold res_main_while0b_v68
  rw [res_main_while0b_v60_congr h, h main_v6_11 (by decide), h main_v6_12 (by decide)]
set_option maxRecDepth 8192 in
theorem res_main_while0b_v88_congr {V0 V0' : Valuation τ sig (Elt F)} (h : Agree V0 V0') : res_main_while0b_v88 V0 = res_main_while0b_v88 V0' := by
  unfold res_main_while0b_v88
  rw [res_main_while0b_v64_congr h, res_main_while0b_v68_congr h]
set_option maxRecDepth 8192 in
theorem res_main_while0b_v96_congr {V0 V0' : Valuation τ sig (Elt F)} (h : Agree V0 V0') : res_main_while0b_v96 V0 = res_main_while0b_v96 V0' := by
  unfold res_main_while0b_v96
  rw [res_main_while0b_v88_congr h, res_main_while0b_v64_congr h, res_main_while0b_v68_congr h, res_main_while0b_v60_congr h]

set_option maxRecDepth 8192 in
/-- `main_v6_13` after one trip, of the contents before it. -/
def step_main_v6_13 (V0 : Valuation τ sig (Elt F)) : (Proc.devRef .tc main_v6_13 : DevRef τ sig).ty.Contents (Elt F) :=
  id (addi (V0 (Proc.devRef .tc main_v6_13)) (constantI S_ 32 1#32))
set_option maxRecDepth 8192 in
theorem step_main_v6_13_congr {V0 V0' : Valuation τ sig (Elt F)} (h : Agree V0 V0') : step_main_v6_13 V0 = step_main_v6_13 V0' := by
  unfold step_main_v6_13
  rw [h main_v6_13 (by decide)]
set_option maxRecDepth 8192 in
/-- `main_v6_14` after one trip, of the contents before it. -/
def step_main_v6_14 (V0 : Valuation τ sig (Elt F)) : (Proc.devRef .tc main_v6_14 : DevRef τ sig).ty.Contents (Elt F) :=
  id (addi (V0 (Proc.devRef .tc main_v6_14)) (constantI S_ 32 1#32))
set_option maxRecDepth 8192 in
theorem step_main_v6_14_congr {V0 V0' : Valuation τ sig (Elt F)} (h : Agree V0 V0') : step_main_v6_14 V0 = step_main_v6_14 V0' := by
  unfold step_main_v6_14
  rw [h main_v6_14 (by decide)]
set_option maxRecDepth 8192 in
/-- `main_v6_15` after one trip, of the contents before it. -/
def step_main_v6_15 (V0 : Valuation τ sig (Elt F)) : (Proc.devRef .tc main_v6_15 : DevRef τ sig).ty.Contents (Elt F) :=
  id (res_main_while0b_v96 V0)
set_option maxRecDepth 8192 in
theorem step_main_v6_15_congr {V0 V0' : Valuation τ sig (Elt F)} (h : Agree V0 V0') : step_main_v6_15 V0 = step_main_v6_15 V0' := by
  unfold step_main_v6_15
  rw [res_main_while0b_v96_congr h]
set_option maxRecDepth 8192 in
/-- `main_v6_16` after one trip, of the contents before it. -/
def step_main_v6_16 (V0 : Valuation τ sig (Elt F)) : (Proc.devRef .tc main_v6_16 : DevRef τ sig).ty.Contents (Elt F) :=
  id (res_main_while0b_v10 V0)
set_option maxRecDepth 8192 in
theorem step_main_v6_16_congr {V0 V0' : Valuation τ sig (Elt F)} (h : Agree V0 V0') : step_main_v6_16 V0 = step_main_v6_16 V0' := by
  unfold step_main_v6_16
  rw [res_main_while0b_v10_congr h]
set_option maxRecDepth 8192 in
/-- `main_v6_17` after one trip, of the contents before it. -/
def step_main_v6_17 (V0 : Valuation τ sig (Elt F)) : (Proc.devRef .tc main_v6_17 : DevRef τ sig).ty.Contents (Elt F) :=
  id (subf (select (cmpf .oeq (res_main_while0b_v47 V0) (broadcastInDim S64x1024 ![] bcast_S_S64x1024 (constant S_ .f32 0x3F800000#32))) (broadcastInDim S64x1024 ![] bcast_S_S64x1024 (id (constant S_ .f32 0x00000000#32))) (V0 (Proc.devRef .tc main_v6_17))) (broadcastInDim S64x1024 ![] bcast_S_S64x1024 (constant S_ .f32 0x3F800000#32)))
set_option maxRecDepth 8192 in
theorem step_main_v6_17_congr {V0 V0' : Valuation τ sig (Elt F)} (h : Agree V0 V0') : step_main_v6_17 V0 = step_main_v6_17 V0' := by
  unfold step_main_v6_17
  rw [res_main_while0b_v47_congr h, h main_v6_17 (by decide)]
set_option maxRecDepth 8192 in
/-- `main_v6_18` after one trip, of the contents before it. -/
def step_main_v6_18 (V0 : Valuation τ sig (Elt F)) : (Proc.devRef .tc main_v6_18 : DevRef τ sig).ty.Contents (Elt F) :=
  id (Host.dynamicUpdateSlice (V0 (Proc.devRef .tc main_v6_18)) (broadcastInDim S1x64x256 ![1, 2] bcast_S64x256_S1x64x256_1_2 (res_main_while0b_v96 V0)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) updateFits_S32x64x256_S1x64x256)
set_option maxRecDepth 8192 in
theorem step_main_v6_18_congr {V0 V0' : Valuation τ sig (Elt F)} (h : Agree V0 V0') : step_main_v6_18 V0 = step_main_v6_18 V0' := by
  unfold step_main_v6_18
  rw [res_main_while0b_v96_congr h, h main_v6_18 (by decide), h main_v6_14 (by decide)]

/-- ONE TRIP on the carried buffers: the buffers the body writes step, everything else is as it was. -/
def STEP (V0 : Valuation τ sig (Elt F)) : Valuation τ sig (Elt F) :=
  Function.update (Function.update (Function.update (Function.update (Function.update (Function.update (V0) (Proc.devRef .tc main_v6_13) (step_main_v6_13 V0)) (Proc.devRef .tc main_v6_14) (step_main_v6_14 V0)) (Proc.devRef .tc main_v6_15) (step_main_v6_15 V0)) (Proc.devRef .tc main_v6_16) (step_main_v6_16 V0)) (Proc.devRef .tc main_v6_17) (step_main_v6_17 V0)) (Proc.devRef .tc main_v6_18) (step_main_v6_18 V0)

theorem STEP_main_v6_0 (V0 : Valuation τ sig (Elt F)) : STEP V0 (Proc.devRef .tc main_v6_0) = V0 (Proc.devRef .tc main_v6_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_1 (V0 : Valuation τ sig (Elt F)) : STEP V0 (Proc.devRef .tc main_v6_1) = V0 (Proc.devRef .tc main_v6_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_2 (V0 : Valuation τ sig (Elt F)) : STEP V0 (Proc.devRef .tc main_v6_2) = V0 (Proc.devRef .tc main_v6_2) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_3 (V0 : Valuation τ sig (Elt F)) : STEP V0 (Proc.devRef .tc main_v6_3) = V0 (Proc.devRef .tc main_v6_3) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_4 (V0 : Valuation τ sig (Elt F)) : STEP V0 (Proc.devRef .tc main_v6_4) = V0 (Proc.devRef .tc main_v6_4) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_5 (V0 : Valuation τ sig (Elt F)) : STEP V0 (Proc.devRef .tc main_v6_5) = V0 (Proc.devRef .tc main_v6_5) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_6 (V0 : Valuation τ sig (Elt F)) : STEP V0 (Proc.devRef .tc main_v6_6) = V0 (Proc.devRef .tc main_v6_6) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_7 (V0 : Valuation τ sig (Elt F)) : STEP V0 (Proc.devRef .tc main_v6_7) = V0 (Proc.devRef .tc main_v6_7) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_8 (V0 : Valuation τ sig (Elt F)) : STEP V0 (Proc.devRef .tc main_v6_8) = V0 (Proc.devRef .tc main_v6_8) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_9 (V0 : Valuation τ sig (Elt F)) : STEP V0 (Proc.devRef .tc main_v6_9) = V0 (Proc.devRef .tc main_v6_9) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_10 (V0 : Valuation τ sig (Elt F)) : STEP V0 (Proc.devRef .tc main_v6_10) = V0 (Proc.devRef .tc main_v6_10) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_11 (V0 : Valuation τ sig (Elt F)) : STEP V0 (Proc.devRef .tc main_v6_11) = V0 (Proc.devRef .tc main_v6_11) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_12 (V0 : Valuation τ sig (Elt F)) : STEP V0 (Proc.devRef .tc main_v6_12) = V0 (Proc.devRef .tc main_v6_12) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v6_13 (V0 : Valuation τ sig (Elt F)) : STEP V0 (Proc.devRef .tc main_v6_13) = step_main_v6_13 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v6_14 (V0 : Valuation τ sig (Elt F)) : STEP V0 (Proc.devRef .tc main_v6_14) = step_main_v6_14 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v6_15 (V0 : Valuation τ sig (Elt F)) : STEP V0 (Proc.devRef .tc main_v6_15) = step_main_v6_15 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v6_16 (V0 : Valuation τ sig (Elt F)) : STEP V0 (Proc.devRef .tc main_v6_16) = step_main_v6_16 V0 := by
  unfold STEP; rw [Function.update_of_ne (devRef_ne_of_ne (by decide))]; rw [Function.update_of_ne (devRef_ne_of_ne (by decide))]; rw [Function.update_self]
theorem STEP_main_v6_17 (V0 : Valuation τ sig (Elt F)) : STEP V0 (Proc.devRef .tc main_v6_17) = step_main_v6_17 V0 := by
  unfold STEP; rw [Function.update_of_ne (devRef_ne_of_ne (by decide))]; rw [Function.update_self]
theorem STEP_main_v6_18 (V0 : Valuation τ sig (Elt F)) : STEP V0 (Proc.devRef .tc main_v6_18) = step_main_v6_18 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v6_0 (after condOps X)).trans ((hc main_v6_0 (by decide)).trans (STEP_main_v6_0 X).symm)
  · exact (trip_main_v6_1 (after condOps X)).trans ((hc main_v6_1 (by decide)).trans (STEP_main_v6_1 X).symm)
  · exact (trip_main_v6_2 (after condOps X)).trans ((hc main_v6_2 (by decide)).trans (STEP_main_v6_2 X).symm)
  · exact (trip_main_v6_3 (after condOps X)).trans ((hc main_v6_3 (by decide)).trans (STEP_main_v6_3 X).symm)
  · exact (trip_main_v6_4 (after condOps X)).trans ((hc main_v6_4 (by decide)).trans (STEP_main_v6_4 X).symm)
  · exact (trip_main_v6_5 (after condOps X)).trans ((hc main_v6_5 (by decide)).trans (STEP_main_v6_5 X).symm)
  · exact (trip_main_v6_6 (after condOps X)).trans ((hc main_v6_6 (by decide)).trans (STEP_main_v6_6 X).symm)
  · exact (trip_main_v6_7 (after condOps X)).trans ((hc main_v6_7 (by decide)).trans (STEP_main_v6_7 X).symm)
  · exact (trip_main_v6_8 (after condOps X)).trans ((hc main_v6_8 (by decide)).trans (STEP_main_v6_8 X).symm)
  · exact (trip_main_v6_9 (after condOps X)).trans ((hc main_v6_9 (by decide)).trans (STEP_main_v6_9 X).symm)
  · exact (trip_main_v6_10 (after condOps X)).trans ((hc main_v6_10 (by decide)).trans (STEP_main_v6_10 X).symm)
  · exact (trip_main_v6_11 (after condOps X)).trans ((hc main_v6_11 (by decide)).trans (STEP_main_v6_11 X).symm)
  · exact (trip_main_v6_12 (after condOps X)).trans ((hc main_v6_12 (by decide)).trans (STEP_main_v6_12 X).symm)
  · exact (trip_main_v6_13 (after condOps X)).trans ((step_main_v6_13_congr hc).trans (STEP_main_v6_13 X).symm)
  · exact (trip_main_v6_14 (after condOps X)).trans ((step_main_v6_14_congr hc).trans (STEP_main_v6_14 X).symm)
  · exact (trip_main_v6_15 (after condOps X)).trans ((step_main_v6_15_congr hc).trans (STEP_main_v6_15 X).symm)
  · exact (trip_main_v6_16 (after condOps X)).trans ((step_main_v6_16_congr hc).trans (STEP_main_v6_16 X).symm)
  · exact (trip_main_v6_17 (after condOps X)).trans ((step_main_v6_17_congr hc).trans (STEP_main_v6_17 X).symm)
  · exact (trip_main_v6_18 (after condOps X)).trans ((step_main_v6_18_congr hc).trans (STEP_main_v6_18 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v6_0, STEP_main_v6_0]; exact h main_v6_0 (by decide)
  · rw [STEP_main_v6_1, STEP_main_v6_1]; exact h main_v6_1 (by decide)
  · rw [STEP_main_v6_2, STEP_main_v6_2]; exact h main_v6_2 (by decide)
  · rw [STEP_main_v6_3, STEP_main_v6_3]; exact h main_v6_3 (by decide)
  · rw [STEP_main_v6_4, STEP_main_v6_4]; exact h main_v6_4 (by decide)
  · rw [STEP_main_v6_5, STEP_main_v6_5]; exact h main_v6_5 (by decide)
  · rw [STEP_main_v6_6, STEP_main_v6_6]; exact h main_v6_6 (by decide)
  · rw [STEP_main_v6_7, STEP_main_v6_7]; exact h main_v6_7 (by decide)
  · rw [STEP_main_v6_8, STEP_main_v6_8]; exact h main_v6_8 (by decide)
  · rw [STEP_main_v6_9, STEP_main_v6_9]; exact h main_v6_9 (by decide)
  · rw [STEP_main_v6_10, STEP_main_v6_10]; exact h main_v6_10 (by decide)
  · rw [STEP_main_v6_11, STEP_main_v6_11]; exact h main_v6_11 (by decide)
  · rw [STEP_main_v6_12, STEP_main_v6_12]; exact h main_v6_12 (by decide)
  · rw [STEP_main_v6_13, STEP_main_v6_13]; exact step_main_v6_13_congr h
  · rw [STEP_main_v6_14, STEP_main_v6_14]; exact step_main_v6_14_congr h
  · rw [STEP_main_v6_15, STEP_main_v6_15]; exact step_main_v6_15_congr h
  · rw [STEP_main_v6_16, STEP_main_v6_16]; exact step_main_v6_16_congr h
  · rw [STEP_main_v6_17, STEP_main_v6_17]; exact step_main_v6_17_congr h
  · rw [STEP_main_v6_18, STEP_main_v6_18]; exact step_main_v6_18_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

/-- The arguments of @main. -/
abbrev argRefs : List (Ref sig .tc) := [main_arg0, main_arg1, main_arg2, main_arg3, main_arg4, main_arg5, main_arg6, main_arg7, main_arg8, main_arg9, main_arg10, main_arg11]

/-- A stretch whose written references hold no argument keeps every argument. -/
theorem keep_arg {ops : List (HloOp τ sig (Elt F))} {W : List (Ref sig .tc)}
    (hw : ops.Forall fun op => op.writes ⊆ (W.map (Proc.devRef (τ := τ) .tc)).toFinset)
    (hd : ∀ r ∈ argRefs, r ∉ W) {r : Ref sig .tc} (hr : r ∈ argRefs) (V : Valuation τ sig (Elt F)) :
    after ops V (Proc.devRef .tc r) = V (Proc.devRef .tc r) :=
  after_of_writes_sub ops V hw (hd r hr)

/-- An argument is written by nothing: it holds its launch contents before every condition. -/
theorem atK_arg (c : Dev nD) {r : Ref sig .tc} (hr : r ∈ argRefs) :
    ∀ k, atK m k c (Proc.devRef .tc r) = m ((c.tc : Thread nD τ).loc r)
  | 0 => by
    rw [show atK m 0 c = entryContents preI m c from rfl]
    simp only [entryContents, afterL_cons, afterL_nil]
    rw [keep_arg hostOps0_writes (by decide +kernel) hr]
  | k + 1 => by
    rw [show atK m (k + 1) c = afterL bodyI (after condOps (atK m k c)) from rfl]
    simp only [afterL_cons, afterL_nil]
    rw [keep_arg while0Ops0_11_writes (by decide +kernel) hr,
      keep_arg while0Ops0_10_writes (by decide +kernel) hr,
      keep_arg while0Ops0_9_writes (by decide +kernel) hr,
      keep_arg while0Ops0_8_writes (by decide +kernel) hr,
      keep_arg while0Ops0_7_writes (by decide +kernel) hr,
      keep_arg while0Ops0_6_writes (by decide +kernel) hr,
      keep_arg while0Ops0_5_writes (by decide +kernel) hr,
      keep_arg while0Ops0_4_writes (by decide +kernel) hr,
      keep_arg while0Ops0_3_writes (by decide +kernel) hr,
      keep_arg while0Ops0_2_writes (by decide +kernel) hr,
      keep_arg while0Ops0_1_writes (by decide +kernel) hr,
      keep_arg while0Ops0_writes (by decide +kernel) hr,
      keep_arg condOps_writes (by decide +kernel) hr]
    exact atK_arg c hr k

/-- THE RUN: on every device, for any float values, from any memory with zero counters, every weakly fair execution
    of @main terminates with each result at its component of `STEP` iterated 32 times on the loop's entry (`step_‹buffer›`
    says what one trip makes of each carried buffer), and every argument unchanged. -/
theorem run : θ_run (defs (F := F)) (onTc (τ := τ) (main (F := F))) ⟨m, fun _ => 0, ρ⟩ fun r => ∀ c : Dev nD,
      r.2.mem ((c.tc : Thread nD τ).loc main_v6_18) = (STEP^[32] (entryContents preI m c)) (Proc.devRef .tc main_v6_18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v6_18 rfl).trans ((cond_keeps _ main_v6_18 (by decide)).trans (atK_agree m c 32 main_v6_18 (by decide))),
      (h c main_arg0 rfl).trans ((keep_arg condOps_writes (by decide +kernel) (by decide) _).trans (atK_arg m c (by decide) 32)),
      (h c main_arg1 rfl).trans ((keep_arg condOps_writes (by decide +kernel) (by decide) _).trans (atK_arg m c (by decide) 32)),
      (h c main_arg2 rfl).trans ((keep_arg condOps_writes (by decide +kernel) (by decide) _).trans (atK_arg m c (by decide) 32)),
      (h c main_arg3 rfl).trans ((keep_arg condOps_writes (by decide +kernel) (by decide) _).trans (atK_arg m c (by decide) 32)),
      (h c main_arg4 rfl).trans ((keep_arg condOps_writes (by decide +kernel) (by decide) _).trans (atK_arg m c (by decide) 32)),
      (h c main_arg5 rfl).trans ((keep_arg condOps_writes (by decide +kernel) (by decide) _).trans (atK_arg m c (by decide) 32)),
      (h c main_arg6 rfl).trans ((keep_arg condOps_writes (by decide +kernel) (by decide) _).trans (atK_arg m c (by decide) 32)),
      (h c main_arg7 rfl).trans ((keep_arg condOps_writes (by decide +kernel) (by decide) _).trans (atK_arg m c (by decide) 32)),
      (h c main_arg8 rfl).trans ((keep_arg condOps_writes (by decide +kernel) (by decide) _).trans (atK_arg m c (by decide) 32)),
      (h c main_arg9 rfl).trans ((keep_arg condOps_writes (by decide +kernel) (by decide) _).trans (atK_arg m c (by decide) 32)),
      (h c main_arg10 rfl).trans ((keep_arg condOps_writes (by decide +kernel) (by decide) _).trans (atK_arg m c (by decide) 32)),
      (h c main_arg11 rfl).trans ((keep_arg condOps_writes (by decide +kernel) (by decide) _).trans (atK_arg m c (by decide) 32))⟩) (run_fold m ρ)

end Cert.ReferenceIdeal.Value

end
-- ==== Proof.RefStep.lean ====
/- One trip of the reference's loop as a function of the carried values. -/
module

public import proofs.«01_k».proof.ReferenceIdeal
public import proofs.«01_k».proof.Proof.Gen.ReferenceIdeal

@[expose] public section

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v6_15 : (⟨S64x256, .f32⟩ : BufTy).Contents (Elt F)
  main_v6_16 : (⟨S64x1024x256, .f32⟩ : BufTy).Contents (Elt F)
  main_v6_17 : (⟨S64x1024, .f32⟩ : BufTy).Contents (Elt F)
  main_v6_18 : (⟨S32x64x256, .f32⟩ : BufTy).Contents (Elt F)
  main_v6_0 : (⟨S32x64x256, .f32⟩ : BufTy).Contents (Elt F)
  main_v6_1 : (⟨S32x64x1024, .f32⟩ : BufTy).Contents (Elt F)
  main_v6_2 : (⟨S256x256, .f32⟩ : BufTy).Contents (Elt F)
  main_v6_3 : (⟨S256x256, .f32⟩ : BufTy).Contents (Elt F)
  main_v6_4 : (⟨S1024x256, .f32⟩ : BufTy).Contents (Elt F)
  main_v6_5 : (⟨S256x1024, .f32⟩ : BufTy).Contents (Elt F)
  main_v6_6 : (⟨S1024, .f32⟩ : BufTy).Contents (Elt F)
  main_v6_7 : (⟨S512x256, .f32⟩ : BufTy).Contents (Elt F)
  main_v6_8 : (⟨S256, .f32⟩ : BufTy).Contents (Elt F)
  main_v6_9 : (⟨S256x768, .f32⟩ : BufTy).Contents (Elt F)
  main_v6_10 : (⟨S768, .f32⟩ : BufTy).Contents (Elt F)
  main_v6_11 : (⟨S256x768, .f32⟩ : BufTy).Contents (Elt F)
  main_v6_12 : (⟨S768, .f32⟩ : BufTy).Contents (Elt F)

/-! What @main computes before the loop without reading an argument. -/

def K_main_cst : (⟨S_, .f32⟩ : BufTy).Contents (Elt F) := constant S_ .f32 0x00000000#32
def K_main_v2 : (⟨S64x256, .f32⟩ : BufTy).Contents (Elt F) := broadcastInDim S64x256 ![] bcast_S_S64x256 ((K_main_cst (F := F)))
def K_main_cst_0 : (⟨S_, .f32⟩ : BufTy).Contents (Elt F) := constant S_ .f32 0x00000000#32
def K_main_v3 : (⟨S64x1024x256, .f32⟩ : BufTy).Contents (Elt F) := broadcastInDim S64x1024x256 ![] bcast_S_S64x1024x256 ((K_main_cst_0 (F := F)))
def K_main_cst_1 : (⟨S_, .f32⟩ : BufTy).Contents (Elt F) := constant S_ .f32 0xFF800000#32
def K_main_v4 : (⟨S64x1024, .f32⟩ : BufTy).Contents (Elt F) := broadcastInDim S64x1024 ![] bcast_S_S64x1024 ((K_main_cst_1 (F := F)))
def K_main_cst_2 : (⟨S_, .f32⟩ : BufTy).Contents (Elt F) := constant S_ .f32 0x00000000#32
def K_main_v5 : (⟨S32x64x256, .f32⟩ : BufTy).Contents (Elt F) := broadcastInDim S32x64x256 ![] bcast_S_S32x64x256 ((K_main_cst_2 (F := F)))
def K_main_c : (⟨S_, .i32⟩ : BufTy).Contents (Elt F) := constantI S_ 32 0#32
def K_main_c_3 : (⟨S_, .i32⟩ : BufTy).Contents (Elt F) := constantI S_ 32 0#32

/-! What @main computes before the loop from its arguments, as functions of them. -/

def A_main_v0 (main_arg4 : (⟨S1536, .f32⟩ : BufTy).Contents (Elt F)) : (⟨S768, .f32⟩ : BufTy).Contents (Elt F) := extractStridedSlice S768 ![0] (main_arg4) slices_S1536_S768_0
def A_main_v1 (main_arg4 : (⟨S1536, .f32⟩ : BufTy).Contents (Elt F)) : (⟨S768, .f32⟩ : BufTy).Contents (Elt F) := extractStridedSlice S768 ![768] (main_arg4) slices_S1536_S768_768

/-! One trip's values, in the body's order. -/

def b0 (j : ℕ) (s : State F) : (⟨S_, .i32⟩ : BufTy).Contents (Elt F) :=
  constantI S_ 32 1#32
def b1 (j : ℕ) (s : State F) : (⟨S_, .i32⟩ : BufTy).Contents (Elt F) :=
  addi ((constantI S_ 32 (BitVec.ofNat 32 j) : (⟨S_, .i32⟩ : BufTy).Contents (Elt F))) ((b0 j s))
def b2 (j : ℕ) (s : State F) : (⟨S_, .i32⟩ : BufTy).Contents (Elt F) :=
  constantI S_ 32 0#32
def b3 (j : ℕ) (s : State F) : (⟨S_, .i1⟩ : BufTy).Contents (Elt F) :=
  cmpi .slt ((constantI S_ 32 (BitVec.ofNat 32 j) : (⟨S_, .i32⟩ : BufTy).Contents (Elt F))) ((b2 j s))
def b4 (j : ℕ) (s : State F) : (⟨S_, .i32⟩ : BufTy).Contents (Elt F) :=
  id ((constantI S_ 32 (BitVec.ofNat 32 j) : (⟨S_, .i32⟩ : BufTy).Contents (Elt F)))
def b5 (j : ℕ) (s : State F) : (⟨S_, .i32⟩ : BufTy).Contents (Elt F) :=
  constantI S_ 32 32#32
def b6 (j : ℕ) (s : State F) : (⟨S_, .i32⟩ : BufTy).Contents (Elt F) :=
  addi ((b4 j s)) ((b5 j s))
def b7 (j : ℕ) (s : State F) : (⟨S_, .i32⟩ : BufTy).Contents (Elt F) :=
  select ((b3 j s)) ((b6 j s)) ((constantI S_ 32 (BitVec.ofNat 32 j) : (⟨S_, .i32⟩ : BufTy).Contents (Elt F)))
def b8 (j : ℕ) (s : State F) : (⟨S_, .i32⟩ : BufTy).Contents (Elt F) :=
  constantI S_ 32 0#32
def b9 (j : ℕ) (s : State F) : (⟨S_, .i32⟩ : BufTy).Contents (Elt F) :=
  constantI S_ 32 0#32
def b10 (j : ℕ) (s : State F) : (⟨S1x64x256, .f32⟩ : BufTy).Contents (Elt F) :=
  Host.dynamicSlice S1x64x256 (s.main_v6_0) (fun k => (((![(b7 j s), (b8 j s), (b9 j s)] : Fin 3 → (⟨S_, .i32⟩ : BufTy).Contents (Elt F))) k (Shape.Idx.first h_S_)).toInt) sliceFits_S32x64x256_S1x64x256
def b11 (j : ℕ) (s : State F) : (⟨S64x256, .f32⟩ : BufTy).Contents (Elt F) :=
  shapeCast S64x256 ((b10 j s)) shapeCasts_S1x64x256_S64x256
def b12 (j : ℕ) (s : State F) : (⟨S_, .i32⟩ : BufTy).Contents (Elt F) :=
  constantI S_ 32 0#32
def b13 (j : ℕ) (s : State F) : (⟨S_, .i1⟩ : BufTy).Contents (Elt F) :=
  cmpi .slt ((constantI S_ 32 (BitVec.ofNat 32 j) : (⟨S_, .i32⟩ : BufTy).Contents (Elt F))) ((b12 j s))
def b14 (j : ℕ) (s : State F) : (⟨S_, .i32⟩ : BufTy).Contents (Elt F) :=
  id ((constantI S_ 32 (BitVec.ofNat 32 j) : (⟨S_, .i32⟩ : BufTy).Contents (Elt F)))
def b15 (j : ℕ) (s : State F) : (⟨S_, .i32⟩ : BufTy).Contents (Elt F) :=
  constantI S_ 32 32#32
def b16 (j : ℕ) (s : State F) : (⟨S_, .i32⟩ : BufTy).Contents (Elt F) :=
  addi ((b14 j s)) ((b15 j s))
def b17 (j : ℕ) (s : State F) : (⟨S_, .i32⟩ : BufTy).Contents (Elt F) :=
  select ((b13 j s)) ((b16 j s)) ((constantI S_ 32 (BitVec.ofNat 32 j) : (⟨S_, .i32⟩ : BufTy).Contents (Elt F)))
def b18 (j : ℕ) (s : State F) : (⟨S_, .i32⟩ : BufTy).Contents (Elt F) :=
  constantI S_ 32 0#32
def b19 (j : ℕ) (s : State F) : (⟨S_, .i32⟩ : BufTy).Contents (Elt F) :=
  constantI S_ 32 0#32
def b20 (j : ℕ) (s : State F) : (⟨S1x64x1024, .f32⟩ : BufTy).Contents (Elt F) :=
  Host.dynamicSlice S1x64x1024 (s.main_v6_1) (fun k => (((![(b17 j s), (b18 j s), (b19 j s)] : Fin 3 → (⟨S_, .i32⟩ : BufTy).Contents (Elt F))) k (Shape.Idx.first h_S_)).toInt) sliceFits_S32x64x1024_S1x64x1024
def b21 (j : ℕ) (s : State F) : (⟨S64x1024, .f32⟩ : BufTy).Contents (Elt F) :=
  shapeCast S64x1024 ((b20 j s)) shapeCasts_S1x64x1024_S64x1024
def b22 (j : ℕ) (s : State F) : (⟨S64x1x256, .f32⟩ : BufTy).Contents (Elt F) :=
  broadcastInDim S64x1x256 ![0, 2] bcast_S64x256_S64x1x256_0_2 (s.main_v6_15)
def b23 (j : ℕ) (s : State F) : (⟨S_, .i32⟩ : BufTy).Contents (Elt F) :=
  constantI S_ 32 0#32
def b24 (j : ℕ) (s : State F) : (⟨S_, .i1⟩ : BufTy).Contents (Elt F) :=
  cmpi .slt ((constantI S_ 32 (BitVec.ofNat 32 j) : (⟨S_, .i32⟩ : BufTy).Contents (Elt F))) ((b23 j s))
def b25 (j : ℕ) (s : State F) : (⟨S_, .i32⟩ : BufTy).Contents (Elt F) :=
  id ((constantI S_ 32 (BitVec.ofNat 32 j) : (⟨S_, .i32⟩ : BufTy).Contents (Elt F)))
def b26 (j : ℕ) (s : State F) : (⟨S_, .i32⟩ : BufTy).Contents (Elt F) :=
  constantI S_ 32 1024#32
def b27 (j : ℕ) (s : State F) : (⟨S_, .i32⟩ : BufTy).Contents (Elt F) :=
  addi ((b25 j s)) ((b26 j s))
def b28 (j : ℕ) (s : State F) : (⟨S_, .i32⟩ : BufTy).Contents (Elt F) :=
  select ((b24 j s)) ((b27 j s)) ((constantI S_ 32 (BitVec.ofNat 32 j) : (⟨S_, .i32⟩ : BufTy).Contents (Elt F)))
def b29 (j : ℕ) (s : State F) : (⟨S_, .i32⟩ : BufTy).Contents (Elt F) :=
  constantI S_ 32 0#32
def b30 (j : ℕ) (s : State F) : (⟨S_, .i32⟩ : BufTy).Contents (Elt F) :=
  constantI S_ 32 0#32
def b31 (j : ℕ) (s : State F) : (⟨S64x1024x256, .f32⟩ : BufTy).Contents (Elt F) :=
  Host.dynamicUpdateSlice (s.main_v6_16) ((b22 j s)) (fun k => (((![(b29 j s), (b28 j s), (b30 j s)] : Fin 3 → (⟨S_, .i32⟩ : BufTy).Contents (Elt F))) k (Shape.Idx.first h_S_)).toInt) updateFits_S64x1024x256_S64x1x256
def b32 (j : ℕ) (s : State F) : (⟨S64x1024, .f32⟩ : BufTy).Contents (Elt F) :=
  Host.negf (s.main_v6_17)
def b33 (j : ℕ) (s : State F) : (⟨S64x1024, .f32⟩ : BufTy).Contents (Elt F) :=
  Host.exp ((b32 j s))
def b34 (j : ℕ) (s : State F) : (⟨S_, .f32⟩ : BufTy).Contents (Elt F) :=
  constant S_ .f32 0x3F800000#32
def b35 (j : ℕ) (s : State F) : (⟨S64x1024, .f32⟩ : BufTy).Contents (Elt F) :=
  broadcastInDim S64x1024 ![] bcast_S_S64x1024 ((b34 j s))
def b36 (j : ℕ) (s : State F) : (⟨S64x1024, .f32⟩ : BufTy).Contents (Elt F) :=
  addf ((b35 j s)) ((b33 j s))
def b37 (j : ℕ) (s : State F) : (⟨S_, .f32⟩ : BufTy).Contents (Elt F) :=
  constant S_ .f32 0x3F800000#32
def b38 (j : ℕ) (s : State F) : (⟨S64x1024, .f32⟩ : BufTy).Contents (Elt F) :=
  broadcastInDim S64x1024 ![] bcast_S_S64x1024 ((b37 j s))
def b39 (j : ℕ) (s : State F) : (⟨S64x1024, .f32⟩ : BufTy).Contents (Elt F) :=
  Host.divf ((b38 j s)) ((b36 j s))
def b40 (j : ℕ) (s : State F) : (⟨S64x256, .f32⟩ : BufTy).Contents (Elt F) :=
  Host.dotGeneral dot_S64x256_S256x256_S64x256_1_0_0_1_n_n none ((b11 j s)) (s.main_v6_2)
def b41 (j : ℕ) (s : State F) : (⟨S64x256, .f32⟩ : BufTy).Contents (Elt F) :=
  Host.dotGeneral dot_S64x256_S256x256_S64x256_1_0_0_1_n_n none (s.main_v6_15) (s.main_v6_3)
def b42 (j : ℕ) (s : State F) : (⟨S64x256, .f32⟩ : BufTy).Contents (Elt F) :=
  addf ((b40 j s)) ((b41 j s))
def b43 (j : ℕ) (s : State F) : (⟨S64x256, .f32⟩ : BufTy).Contents (Elt F) :=
  Host.dotGeneral dot_S64x1024_S1024x256_S64x256_1_0_0_1_n_n none ((b39 j s)) (s.main_v6_4)
def b44 (j : ℕ) (s : State F) : (⟨S64x256, .f32⟩ : BufTy).Contents (Elt F) :=
  addf ((b42 j s)) ((b43 j s))
def b45 (j : ℕ) (s : State F) : (⟨S64x256, .f32⟩ : BufTy).Contents (Elt F) :=
  Host.tanh ((b44 j s))
def b46 (j : ℕ) (s : State F) : (⟨S64x1024, .f32⟩ : BufTy).Contents (Elt F) :=
  Host.dotGeneral dot_S64x256_S256x1024_S64x1024_1_0_0_1_n_n none ((b45 j s)) (s.main_v6_5)
def b47 (j : ℕ) (s : State F) : (⟨S1x1024, .f32⟩ : BufTy).Contents (Elt F) :=
  broadcastInDim S1x1024 ![1] bcast_S1024_S1x1024_1 (s.main_v6_6)
def b48 (j : ℕ) (s : State F) : (⟨S64x1024, .f32⟩ : BufTy).Contents (Elt F) :=
  broadcastInDim S64x1024 ![0, 1] bcast_S1x1024_S64x1024_0_1 ((b47 j s))
def b49 (j : ℕ) (s : State F) : (⟨S64x1024, .f32⟩ : BufTy).Contents (Elt F) :=
  addf ((b46 j s)) ((b48 j s))
def b50 (j : ℕ) (s : State F) : (⟨S_, .f32⟩ : BufTy).Contents (Elt F) :=
  constant S_ .f32 0x1E3CE508#32
def b51 (j : ℕ) (s : State F) : (⟨S64x1024, .f32⟩ : BufTy).Contents (Elt F) :=
  broadcastInDim S64x1024 ![] bcast_S_S64x1024 ((b50 j s))
def b52 (j : ℕ) (s : State F) : (⟨S64x1024, .f32⟩ : BufTy).Contents (Elt F) :=
  addf ((b51 j s)) ((b21 j s))
def b53 (j : ℕ) (s : State F) : (⟨S64x1024, .f32⟩ : BufTy).Contents (Elt F) :=
  Host.log ((b52 j s))
def b54 (j : ℕ) (s : State F) : (⟨S_, .f32⟩ : BufTy).Contents (Elt F) :=
  constant S_ .f32 0x1E3CE508#32
def b55 (j : ℕ) (s : State F) : (⟨S64x1024, .f32⟩ : BufTy).Contents (Elt F) :=
  broadcastInDim S64x1024 ![] bcast_S_S64x1024 ((b54 j s))
def b56 (j : ℕ) (s : State F) : (⟨S64x1024, .f32⟩ : BufTy).Contents (Elt F) :=
  subf ((b55 j s)) ((b53 j s))
def b57 (j : ℕ) (s : State F) : (⟨S64x1024, .f32⟩ : BufTy).Contents (Elt F) :=
  Host.log ((b56 j s))
def b58 (j : ℕ) (s : State F) : (⟨S64x1024, .f32⟩ : BufTy).Contents (Elt F) :=
  Host.negf ((b57 j s))
def b59 (j : ℕ) (s : State F) : (⟨S64x1024, .f32⟩ : BufTy).Contents (Elt F) :=
  addf ((b49 j s)) ((b58 j s))
def b60 (j : ℕ) (s : State F) : (⟨S_, .f32⟩ : BufTy).Contents (Elt F) :=
  constant S_ .f32 0xFF800000#32
def b61 (j : ℕ) (s : State F) : (⟨S64, .f32⟩ : BufTy).Contents (Elt F) :=
  Host.reduce FloatOps.maximumf ((b59 j s)) ((b60 j s)) reducesTo_S64x1024_S64_d1 h_S_
def b62 (j : ℕ) (s : State F) : (⟨S_, .f32⟩ : BufTy).Contents (Elt F) :=
  constant S_ .f32 0xFF800000#32
def b63 (j : ℕ) (s : State F) : (⟨S64, .f32⟩ : BufTy).Contents (Elt F) :=
  broadcastInDim S64 ![] bcast_S_S64 ((b62 j s))
def b64 (j : ℕ) (s : State F) : (⟨S64, .f32⟩ : BufTy).Contents (Elt F) :=
  maximumf ((b63 j s)) ((b61 j s))
def b65 (j : ℕ) (s : State F) : (⟨S64x1, .f32⟩ : BufTy).Contents (Elt F) :=
  broadcastInDim S64x1 ![0] bcast_S64_S64x1_0 ((b64 j s))
def b66 (j : ℕ) (s : State F) : (⟨S64x1024, .f32⟩ : BufTy).Contents (Elt F) :=
  broadcastInDim S64x1024 ![0, 1] bcast_S64x1_S64x1024_0_1 ((b65 j s))
def b67 (j : ℕ) (s : State F) : (⟨S64x1024, .f32⟩ : BufTy).Contents (Elt F) :=
  subf ((b59 j s)) ((b66 j s))
def b68 (j : ℕ) (s : State F) : (⟨S64x1024, .f32⟩ : BufTy).Contents (Elt F) :=
  Host.exp ((b67 j s))
def b69 (j : ℕ) (s : State F) : (⟨S_, .f32⟩ : BufTy).Contents (Elt F) :=
  constant S_ .f32 0x00000000#32
def b70 (j : ℕ) (s : State F) : (⟨S64, .f32⟩ : BufTy).Contents (Elt F) :=
  Host.reduceAdd ((b68 j s)) ((b69 j s)) reducesTo_S64x1024_S64_d1 h_S_
def b71 (j : ℕ) (s : State F) : (⟨S64x1, .f32⟩ : BufTy).Contents (Elt F) :=
  broadcastInDim S64x1 ![0] bcast_S64_S64x1_0 ((b70 j s))
def b72 (j : ℕ) (s : State F) : (⟨S64x1024, .f32⟩ : BufTy).Contents (Elt F) :=
  broadcastInDim S64x1024 ![0, 1] bcast_S64x1_S64x1024_0_1 ((b71 j s))
def b73 (j : ℕ) (s : State F) : (⟨S64x1024, .f32⟩ : BufTy).Contents (Elt F) :=
  Host.divf ((b68 j s)) ((b72 j s))
def b74 (j : ℕ) (s : State F) : (⟨S64x1024, .i32⟩ : BufTy).Contents (Elt F) :=
  iotaInDim S64x1024 32 1
def b75 (j : ℕ) (s : State F) : (⟨S_, .f32⟩ : BufTy).Contents (Elt F) :=
  constant S_ .f32 0xFF800000#32
def b76 (j : ℕ) (s : State F) : (⟨S_, .i32⟩ : BufTy).Contents (Elt F) :=
  constantI S_ 32 0#32
def b77 (j : ℕ) (s : State F) : (⟨S64, .f32⟩ : BufTy).Contents (Elt F) :=
  (fun jx => (Host.argReduce reducer_argmax_f32_i32 ((b73 j s)) ((b74 j s)) ((b75 j s)) ((b76 j s)) reducesTo_S64x1024_S64_d1 h_S_ jx).1)
def b78 (j : ℕ) (s : State F) : (⟨S64, .i32⟩ : BufTy).Contents (Elt F) :=
  (fun jx => (Host.argReduce reducer_argmax_f32_i32 ((b73 j s)) ((b74 j s)) ((b75 j s)) ((b76 j s)) reducesTo_S64x1024_S64_d1 h_S_ jx).2)
def b79 (j : ℕ) (s : State F) : (⟨S64x1, .i32⟩ : BufTy).Contents (Elt F) :=
  broadcastInDim S64x1 ![0] bcast_S64_S64x1_0 ((b78 j s))
def b80 (j : ℕ) (s : State F) : (⟨S1x1024, .i32⟩ : BufTy).Contents (Elt F) :=
  iotaInDim S1x1024 32 1
def b81 (j : ℕ) (s : State F) : (⟨S64x1024, .i32⟩ : BufTy).Contents (Elt F) :=
  broadcastInDim S64x1024 ![0, 1] bcast_S64x1_S64x1024_0_1 ((b79 j s))
def b82 (j : ℕ) (s : State F) : (⟨S64x1024, .i32⟩ : BufTy).Contents (Elt F) :=
  broadcastInDim S64x1024 ![0, 1] bcast_S1x1024_S64x1024_0_1 ((b80 j s))
def b83 (j : ℕ) (s : State F) : (⟨S64x1024, .i1⟩ : BufTy).Contents (Elt F) :=
  cmpi .eq ((b81 j s)) ((b82 j s))
def b84 (j : ℕ) (s : State F) : (⟨S64x1024, .f32⟩ : BufTy).Contents (Elt F) :=
  uitofp .f32 ((b83 j s))
def b85 (j : ℕ) (s : State F) : (⟨S64x1024, .f32⟩ : BufTy).Contents (Elt F) :=
  subf ((b84 j s)) ((b73 j s))
def b86 (j : ℕ) (s : State F) : (⟨S64x1024, .f32⟩ : BufTy).Contents (Elt F) :=
  addf ((b85 j s)) ((b73 j s))
def b87 (j : ℕ) (s : State F) : (⟨S64x256, .f32⟩ : BufTy).Contents (Elt F) :=
  Host.dotGeneral dot_S64x1024_S64x1024x256_S64x256_1_1_n_2_0_0 none ((b86 j s)) ((b31 j s))
def b88 (j : ℕ) (s : State F) : (⟨S_, .f32⟩ : BufTy).Contents (Elt F) :=
  constant S_ .f32 0x3F800000#32
def b89 (j : ℕ) (s : State F) : (⟨S64x1024, .f32⟩ : BufTy).Contents (Elt F) :=
  broadcastInDim S64x1024 ![] bcast_S_S64x1024 ((b88 j s))
def b90 (j : ℕ) (s : State F) : (⟨S64x1024, .i1⟩ : BufTy).Contents (Elt F) :=
  cmpf .oeq ((b84 j s)) ((b89 j s))
def b91 (j : ℕ) (s : State F) : (⟨S_, .f32⟩ : BufTy).Contents (Elt F) :=
  constant S_ .f32 0x00000000#32
def b92 (j : ℕ) (s : State F) : (⟨S_, .f32⟩ : BufTy).Contents (Elt F) := b91 j s
theorem b92_id (j : ℕ) (s : State F) : b92 j s = b91 j s := rfl
def b93 (j : ℕ) (s : State F) : (⟨S64x1024, .f32⟩ : BufTy).Contents (Elt F) :=
  broadcastInDim S64x1024 ![] bcast_S_S64x1024 ((b92 j s))
def b94 (j : ℕ) (s : State F) : (⟨S64x1024, .f32⟩ : BufTy).Contents (Elt F) :=
  select ((b90 j s)) ((b93 j s)) (s.main_v6_17)
def b95 (j : ℕ) (s : State F) : (⟨S_, .f32⟩ : BufTy).Contents (Elt F) :=
  constant S_ .f32 0x3F800000#32
def b96 (j : ℕ) (s : State F) : (⟨S64x1024, .f32⟩ : BufTy).Contents (Elt F) :=
  broadcastInDim S64x1024 ![] bcast_S_S64x1024 ((b95 j s))
def b97 (j : ℕ) (s : State F) : (⟨S64x1024, .f32⟩ : BufTy).Contents (Elt F) :=
  subf ((b94 j s)) ((b96 j s))
def b98 (j : ℕ) (s : State F) : (⟨S64x512, .f32⟩ : BufTy).Contents (Elt F) :=
  concatenate S64x512 1 [⟨S64x256, ((b87 j s))⟩, ⟨S64x256, (s.main_v6_15)⟩] concatenates_S64x256_S64x256_S64x512_d1
def b99 (j : ℕ) (s : State F) : (⟨S64x256, .f32⟩ : BufTy).Contents (Elt F) :=
  Host.dotGeneral dot_S64x512_S512x256_S64x256_1_0_0_1_n_n none ((b98 j s)) (s.main_v6_7)
def b100 (j : ℕ) (s : State F) : (⟨S1x256, .f32⟩ : BufTy).Contents (Elt F) :=
  broadcastInDim S1x256 ![1] bcast_S256_S1x256_1 (s.main_v6_8)
def b101 (j : ℕ) (s : State F) : (⟨S64x256, .f32⟩ : BufTy).Contents (Elt F) :=
  broadcastInDim S64x256 ![0, 1] bcast_S1x256_S64x256_0_1 ((b100 j s))
def b102 (j : ℕ) (s : State F) : (⟨S64x256, .f32⟩ : BufTy).Contents (Elt F) :=
  addf ((b99 j s)) ((b101 j s))
def b103 (j : ℕ) (s : State F) : (⟨S64x768, .f32⟩ : BufTy).Contents (Elt F) :=
  Host.dotGeneral dot_S64x256_S256x768_S64x768_1_0_0_1_n_n none ((b11 j s)) (s.main_v6_9)
def b104 (j : ℕ) (s : State F) : (⟨S1x768, .f32⟩ : BufTy).Contents (Elt F) :=
  broadcastInDim S1x768 ![1] bcast_S768_S1x768_1 (s.main_v6_10)
def b105 (j : ℕ) (s : State F) : (⟨S64x768, .f32⟩ : BufTy).Contents (Elt F) :=
  broadcastInDim S64x768 ![0, 1] bcast_S1x768_S64x768_0_1 ((b104 j s))
def b106 (j : ℕ) (s : State F) : (⟨S64x768, .f32⟩ : BufTy).Contents (Elt F) :=
  addf ((b103 j s)) ((b105 j s))
def b107 (j : ℕ) (s : State F) : (⟨S64x768, .f32⟩ : BufTy).Contents (Elt F) :=
  Host.dotGeneral dot_S64x256_S256x768_S64x768_1_0_0_1_n_n none ((b102 j s)) (s.main_v6_11)
def b108 (j : ℕ) (s : State F) : (⟨S1x768, .f32⟩ : BufTy).Contents (Elt F) :=
  broadcastInDim S1x768 ![1] bcast_S768_S1x768_1 (s.main_v6_12)
def b109 (j : ℕ) (s : State F) : (⟨S64x768, .f32⟩ : BufTy).Contents (Elt F) :=
  broadcastInDim S64x768 ![0, 1] bcast_S1x768_S64x768_0_1 ((b108 j s))
def b110 (j : ℕ) (s : State F) : (⟨S64x768, .f32⟩ : BufTy).Contents (Elt F) :=
  addf ((b107 j s)) ((b109 j s))
def b111 (j : ℕ) (s : State F) : (⟨S64x256, .f32⟩ : BufTy).Contents (Elt F) :=
  extractStridedSlice S64x256 ![0, 0] ((b106 j s)) slices_S64x768_S64x256_0_0
def b112 (j : ℕ) (s : State F) : (⟨S64x256, .f32⟩ : BufTy).Contents (Elt F) :=
  extractStridedSlice S64x256 ![0, 256] ((b106 j s)) slices_S64x768_S64x256_0_256
def b113 (j : ℕ) (s : State F) : (⟨S64x256, .f32⟩ : BufTy).Contents (Elt F) :=
  extractStridedSlice S64x256 ![0, 512] ((b106 j s)) slices_S64x768_S64x256_0_512
def b114 (j : ℕ) (s : State F) : (⟨S64x256, .f32⟩ : BufTy).Contents (Elt F) :=
  extractStridedSlice S64x256 ![0, 0] ((b110 j s)) slices_S64x768_S64x256_0_0
def b115 (j : ℕ) (s : State F) : (⟨S64x256, .f32⟩ : BufTy).Contents (Elt F) :=
  extractStridedSlice S64x256 ![0, 256] ((b110 j s)) slices_S64x768_S64x256_0_256
def b116 (j : ℕ) (s : State F) : (⟨S64x256, .f32⟩ : BufTy).Contents (Elt F) :=
  extractStridedSlice S64x256 ![0, 512] ((b110 j s)) slices_S64x768_S64x256_0_512
def b117 (j : ℕ) (s : State F) : (⟨S64x256, .f32⟩ : BufTy).Contents (Elt F) :=
  addf ((b111 j s)) ((b114 j s))
def b118 (j : ℕ) (s : State F) : (⟨S64x256, .f32⟩ : BufTy).Contents (Elt F) :=
  Host.negf ((b117 j s))
def b119 (j : ℕ) (s : State F) : (⟨S64x256, .f32⟩ : BufTy).Contents (Elt F) :=
  Host.exp ((b118 j s))
def b120 (j : ℕ) (s : State F) : (⟨S_, .f32⟩ : BufTy).Contents (Elt F) :=
  constant S_ .f32 0x3F800000#32
def b121 (j : ℕ) (s : State F) : (⟨S64x256, .f32⟩ : BufTy).Contents (Elt F) :=
  broadcastInDim S64x256 ![] bcast_S_S64x256 ((b120 j s))
def b122 (j : ℕ) (s : State F) : (⟨S64x256, .f32⟩ : BufTy).Contents (Elt F) :=
  addf ((b121 j s)) ((b119 j s))
def b123 (j : ℕ) (s : State F) : (⟨S_, .f32⟩ : BufTy).Contents (Elt F) :=
  constant S_ .f32 0x3F800000#32
def b124 (j : ℕ) (s : State F) : (⟨S64x256, .f32⟩ : BufTy).Contents (Elt F) :=
  broadcastInDim S64x256 ![] bcast_S_S64x256 ((b123 j s))
def b125 (j : ℕ) (s : State F) : (⟨S64x256, .f32⟩ : BufTy).Contents (Elt F) :=
  Host.divf ((b124 j s)) ((b122 j s))
def b126 (j : ℕ) (s : State F) : (⟨S64x256, .f32⟩ : BufTy).Contents (Elt F) :=
  addf ((b112 j s)) ((b115 j s))
def b127 (j : ℕ) (s : State F) : (⟨S64x256, .f32⟩ : BufTy).Contents (Elt F) :=
  Host.negf ((b126 j s))
def b128 (j : ℕ) (s : State F) : (⟨S64x256, .f32⟩ : BufTy).Contents (Elt F) :=
  Host.exp ((b127 j s))
def b129 (j : ℕ) (s : State F) : (⟨S_, .f32⟩ : BufTy).Contents (Elt F) :=
  constant S_ .f32 0x3F800000#32
def b130 (j : ℕ) (s : State F) : (⟨S64x256, .f32⟩ : BufTy).Contents (Elt F) :=
  broadcastInDim S64x256 ![] bcast_S_S64x256 ((b129 j s))
def b131 (j : ℕ) (s : State F) : (⟨S64x256, .f32⟩ : BufTy).Contents (Elt F) :=
  addf ((b130 j s)) ((b128 j s))
def b132 (j : ℕ) (s : State F) : (⟨S_, .f32⟩ : BufTy).Contents (Elt F) :=
  constant S_ .f32 0x3F800000#32
def b133 (j : ℕ) (s : State F) : (⟨S64x256, .f32⟩ : BufTy).Contents (Elt F) :=
  broadcastInDim S64x256 ![] bcast_S_S64x256 ((b132 j s))
def b134 (j : ℕ) (s : State F) : (⟨S64x256, .f32⟩ : BufTy).Contents (Elt F) :=
  Host.divf ((b133 j s)) ((b131 j s))
def b135 (j : ℕ) (s : State F) : (⟨S64x256, .f32⟩ : BufTy).Contents (Elt F) :=
  mulf ((b125 j s)) ((b116 j s))
def b136 (j : ℕ) (s : State F) : (⟨S64x256, .f32⟩ : BufTy).Contents (Elt F) :=
  addf ((b113 j s)) ((b135 j s))
def b137 (j : ℕ) (s : State F) : (⟨S64x256, .f32⟩ : BufTy).Contents (Elt F) :=
  Host.tanh ((b136 j s))
def b138 (j : ℕ) (s : State F) : (⟨S_, .f32⟩ : BufTy).Contents (Elt F) :=
  constant S_ .f32 0x3F800000#32
def b139 (j : ℕ) (s : State F) : (⟨S64x256, .f32⟩ : BufTy).Contents (Elt F) :=
  broadcastInDim S64x256 ![] bcast_S_S64x256 ((b138 j s))
def b140 (j : ℕ) (s : State F) : (⟨S64x256, .f32⟩ : BufTy).Contents (Elt F) :=
  subf ((b139 j s)) ((b134 j s))
def b141 (j : ℕ) (s : State F) : (⟨S64x256, .f32⟩ : BufTy).Contents (Elt F) :=
  mulf ((b140 j s)) ((b137 j s))
def b142 (j : ℕ) (s : State F) : (⟨S64x256, .f32⟩ : BufTy).Contents (Elt F) :=
  mulf ((b134 j s)) ((b102 j s))
def b143 (j : ℕ) (s : State F) : (⟨S64x256, .f32⟩ : BufTy).Contents (Elt F) :=
  addf ((b141 j s)) ((b142 j s))
def b144 (j : ℕ) (s : State F) : (⟨S1x64x256, .f32⟩ : BufTy).Contents (Elt F) :=
  broadcastInDim S1x64x256 ![1, 2] bcast_S64x256_S1x64x256_1_2 ((b143 j s))
def b145 (j : ℕ) (s : State F) : (⟨S_, .i32⟩ : BufTy).Contents (Elt F) :=
  constantI S_ 32 0#32
def b146 (j : ℕ) (s : State F) : (⟨S_, .i1⟩ : BufTy).Contents (Elt F) :=
  cmpi .slt ((constantI S_ 32 (BitVec.ofNat 32 j) : (⟨S_, .i32⟩ : BufTy).Contents (Elt F))) ((b145 j s))
def b147 (j : ℕ) (s : State F) : (⟨S_, .i32⟩ : BufTy).Contents (Elt F) :=
  id ((constantI S_ 32 (BitVec.ofNat 32 j) : (⟨S_, .i32⟩ : BufTy).Contents (Elt F)))
def b148 (j : ℕ) (s : State F) : (⟨S_, .i32⟩ : BufTy).Contents (Elt F) :=
  constantI S_ 32 32#32
def b149 (j : ℕ) (s : State F) : (⟨S_, .i32⟩ : BufTy).Contents (Elt F) :=
  addi ((b147 j s)) ((b148 j s))
def b150 (j : ℕ) (s : State F) : (⟨S_, .i32⟩ : BufTy).Contents (Elt F) :=
  select ((b146 j s)) ((b149 j s)) ((constantI S_ 32 (BitVec.ofNat 32 j) : (⟨S_, .i32⟩ : BufTy).Contents (Elt F)))
def b151 (j : ℕ) (s : State F) : (⟨S_, .i32⟩ : BufTy).Contents (Elt F) :=
  constantI S_ 32 0#32
def b152 (j : ℕ) (s : State F) : (⟨S_, .i32⟩ : BufTy).Contents (Elt F) :=
  constantI S_ 32 0#32
def b153 (j : ℕ) (s : State F) : (⟨S32x64x256, .f32⟩ : BufTy).Contents (Elt F) :=
  Host.dynamicUpdateSlice (s.main_v6_18) ((b144 j s)) (fun k => (((![(b150 j s), (b151 j s), (b152 j s)] : Fin 3 → (⟨S_, .i32⟩ : BufTy).Contents (Elt F))) k (Shape.Idx.first h_S_)).toInt) updateFits_S32x64x256_S1x64x256

/-- The state @main hands the first trip, of the arguments it copies in or computes from. -/
def init (main_arg0 : (⟨S32x64x256, .f32⟩ : BufTy).Contents (Elt F)) (main_arg1 : (⟨S32x64x1024, .f32⟩ : BufTy).Contents (Elt F)) (main_arg5 : (⟨S256x256, .f32⟩ : BufTy).Contents (Elt F)) (main_arg6 : (⟨S256x256, .f32⟩ : BufTy).Contents (Elt F)) (main_arg7 : (⟨S1024x256, .f32⟩ : BufTy).Contents (Elt F)) (main_arg8 : (⟨S256x1024, .f32⟩ : BufTy).Contents (Elt F)) (main_arg9 : (⟨S1024, .f32⟩ : BufTy).Contents (Elt F)) (main_arg10 : (⟨S512x256, .f32⟩ : BufTy).Contents (Elt F)) (main_arg11 : (⟨S256, .f32⟩ : BufTy).Contents (Elt F)) (main_arg2 : (⟨S256x768, .f32⟩ : BufTy).Contents (Elt F)) (main_arg3 : (⟨S256x768, .f32⟩ : BufTy).Contents (Elt F)) (main_arg4 : (⟨S1536, .f32⟩ : BufTy).Contents (Elt F)) : State F :=
  { main_v6_15 := K_main_v2 (F := F), main_v6_16 := K_main_v3 (F := F), main_v6_17 := K_main_v4 (F := F), main_v6_18 := K_main_v5 (F := F), main_v6_0 := main_arg0, main_v6_1 := main_arg1, main_v6_2 := main_arg5, main_v6_3 := main_arg6, main_v6_4 := main_arg7, main_v6_5 := main_arg8, main_v6_6 := main_arg9, main_v6_7 := main_arg10, main_v6_8 := main_arg11, main_v6_9 := main_arg2, main_v6_10 := A_main_v0 main_arg4, main_v6_11 := main_arg3, main_v6_12 := A_main_v1 main_arg4 }

/-- One trip. -/
def step (j : ℕ) (s : State F) : State F :=
  { main_v6_15 := b143 j s, main_v6_16 := b31 j s, main_v6_17 := b97 j s, main_v6_18 := b153 j s, main_v6_0 := s.main_v6_0, main_v6_1 := s.main_v6_1, main_v6_2 := s.main_v6_2, main_v6_3 := s.main_v6_3, main_v6_4 := s.main_v6_4, main_v6_5 := s.main_v6_5, main_v6_6 := s.main_v6_6, main_v6_7 := s.main_v6_7, main_v6_8 := s.main_v6_8, main_v6_9 := s.main_v6_9, main_v6_10 := s.main_v6_10, main_v6_11 := s.main_v6_11, main_v6_12 := s.main_v6_12 }
theorem step_main_v6_15 (j : ℕ) (s : State F) : (step j s).main_v6_15 = b143 j s := by unfold step; rfl
theorem step_main_v6_16 (j : ℕ) (s : State F) : (step j s).main_v6_16 = b31 j s := by unfold step; rfl
theorem step_main_v6_17 (j : ℕ) (s : State F) : (step j s).main_v6_17 = b97 j s := by unfold step; rfl
theorem step_main_v6_18 (j : ℕ) (s : State F) : (step j s).main_v6_18 = b153 j s := by unfold step; rfl

end Cert.ReferenceIdeal.Step

end
-- ==== Proof.RefStepRun.lean ====
/- The reference's run is its step iterated. -/
module

public import proofs.«01_k».proof.Proof.RefRun3
public import proofs.«01_k».proof.Proof.RefStep

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_15 : V0 (Proc.devRef .tc main_v6_15) = s.main_v6_15
  f_16 : V0 (Proc.devRef .tc main_v6_16) = s.main_v6_16
  f_17 : V0 (Proc.devRef .tc main_v6_17) = s.main_v6_17
  f_18 : V0 (Proc.devRef .tc main_v6_18) = s.main_v6_18
  f_0 : V0 (Proc.devRef .tc main_v6_0) = s.main_v6_0
  f_1 : V0 (Proc.devRef .tc main_v6_1) = s.main_v6_1
  f_2 : V0 (Proc.devRef .tc main_v6_2) = s.main_v6_2
  f_3 : V0 (Proc.devRef .tc main_v6_3) = s.main_v6_3
  f_4 : V0 (Proc.devRef .tc main_v6_4) = s.main_v6_4
  f_5 : V0 (Proc.devRef .tc main_v6_5) = s.main_v6_5
  f_6 : V0 (Proc.devRef .tc main_v6_6) = s.main_v6_6
  f_7 : V0 (Proc.devRef .tc main_v6_7) = s.main_v6_7
  f_8 : V0 (Proc.devRef .tc main_v6_8) = s.main_v6_8
  f_9 : V0 (Proc.devRef .tc main_v6_9) = s.main_v6_9
  f_10 : V0 (Proc.devRef .tc main_v6_10) = s.main_v6_10
  f_11 : V0 (Proc.devRef .tc main_v6_11) = s.main_v6_11
  f_12 : V0 (Proc.devRef .tc main_v6_12) = s.main_v6_12
  n_13 : V0 (Proc.devRef .tc main_v6_13) = constantI S_ 32 (BitVec.ofNat 32 j)
  n_14 : V0 (Proc.devRef .tc main_v6_14) = constantI S_ 32 (BitVec.ofNat 32 j)

variable {V0 s j}

set_option maxRecDepth 8192 in
theorem al_0 (h : Holds V0 s j) : (constantI S_ 32 1#32 : (Proc.devRef .tc main_while0b_c_22 : DevRef τ sig).ty.Contents (Elt F)) = Cert.ReferenceIdeal.Step.b0 j s := by
  unfold Cert.ReferenceIdeal.Step.b0
  rfl
set_option maxRecDepth 8192 in
theorem al_1 (h : Holds V0 s j) : (addi (V0 (Proc.devRef .tc main_v6_14)) (constantI S_ 32 1#32) : (Proc.devRef .tc main_while0b_v7 : DevRef τ sig).ty.Contents (Elt F)) = Cert.ReferenceIdeal.Step.b1 j s := by
  unfold Cert.ReferenceIdeal.Step.b1
  rw [← al_0 h, h.n_14]
  try rfl
set_option maxRecDepth 8192 in
theorem al_2 (h : Holds V0 s j) : (constantI S_ 32 0#32 : (Proc.devRef .tc main_while0b_call0_c : DevRef τ sig).ty.Contents (Elt F)) = Cert.ReferenceIdeal.Step.b2 j s := by
  unfold Cert.ReferenceIdeal.Step.b2
  rfl
set_option maxRecDepth 8192 in
theorem al_3 (h : Holds V0 s j) : (cmpi .slt (V0 (Proc.devRef .tc main_v6_14)) (constantI S_ 32 0#32) : (Proc.devRef .tc main_while0b_call0_v0 : DevRef τ sig).ty.Contents (Elt F)) = Cert.ReferenceIdeal.Step.b3 j s := by
  unfold Cert.ReferenceIdeal.Step.b3
  rw [← al_2 h, h.n_14]
  try rfl
set_option maxRecDepth 8192 in
theorem al_4 (h : Holds V0 s j) : (id (V0 (Proc.devRef .tc main_v6_14)) : (Proc.devRef .tc main_while0b_call0_v1 : DevRef τ sig).ty.Contents (Elt F)) = Cert.ReferenceIdeal.Step.b4 j s := by
  unfold Cert.ReferenceIdeal.Step.b4
  rw [h.n_14]
  try rfl
set_option maxRecDepth 8192 in
theorem al_5 (h : Holds V0 s j) : (constantI S_ 32 32#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (addi (id (V0 (Proc.devRef .tc main_v6_14))) (constantI S_ 32 32#32) : (Proc.devRef .tc main_while0b_call0_v2 : DevRef τ sig).ty.Contents (Elt F)) = Cert.ReferenceIdeal.Step.b6 j s := by
  unfold Cert.ReferenceIdeal.Step.b6
  rw [← al_4 h, ← al_5 h]
  try rfl
set_option maxRecDepth 8192 in
theorem al_7 (h : Holds V0 s j) : (select (cmpi .slt (V0 (Proc.devRef .tc main_v6_14)) (constantI S_ 32 0#32)) (addi (id (V0 (Proc.devRef .tc main_v6_14))) (constantI S_ 32 32#32)) (V0 (Proc.devRef .tc main_v6_14)) : (Proc.devRef .tc main_while0b_call0_v3 : DevRef τ sig).ty.Contents (Elt F)) = Cert.ReferenceIdeal.Step.b7 j s := by
  unfold Cert.ReferenceIdeal.Step.b7
  rw [← al_3 h, ← al_6 h, h.n_14]
  try rfl
set_option maxRecDepth 8192 in
theorem al_8 (h : Holds V0 s j) : (constantI S_ 32 0#32 : (Proc.devRef .tc main_while0b_call0_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call0_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x64x256 (V0 (Proc.devRef .tc main_v6_0)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x256_S1x64x256 : (Proc.devRef .tc main_while0b_call0_v4 : DevRef τ sig).ty.Contents (Elt F)) = Cert.ReferenceIdeal.Step.b10 j s := by
  unfold Cert.ReferenceIdeal.Step.b10
  rw [← al_7 h, ← al_8 h, ← al_9 h, h.f_0]
  try rfl
set_option maxRecDepth 8192 in
theorem al_11 (h : Holds V0 s j) : (res_main_while0b_v8 V0 : (Proc.devRef .tc main_while0b_v8 : DevRef τ sig).ty.Contents (Elt F)) = Cert.ReferenceIdeal.Step.b11 j s := by
  unfold res_main_while0b_v8 Cert.ReferenceIdeal.Step.b11
  rw [← al_10 h]
  try rfl
set_option maxRecDepth 8192 in
theorem al_12 (h : Holds V0 s j) : (constantI S_ 32 0#32 : (Proc.devRef .tc main_while0b_call1_c : DevRef τ sig).ty.Contents (Elt F)) = Cert.ReferenceIdeal.Step.b12 j s := by
  unfold Cert.ReferenceIdeal.Step.b12
  rfl
set_option maxRecDepth 8192 in
theorem al_13 (h : Holds V0 s j) : (cmpi .slt (V0 (Proc.devRef .tc main_v6_14)) (constantI S_ 32 0#32) : (Proc.devRef .tc main_while0b_call1_v0 : DevRef τ sig).ty.Contents (Elt F)) = Cert.ReferenceIdeal.Step.b13 j s := by
  unfold Cert.ReferenceIdeal.Step.b13
  rw [← al_12 h, h.n_14]
  try rfl
set_option maxRecDepth 8192 in
theorem al_14 (h : Holds V0 s j) : (id (V0 (Proc.devRef .tc main_v6_14)) : (Proc.devRef .tc main_while0b_call1_v1 : DevRef τ sig).ty.Contents (Elt F)) = Cert.ReferenceIdeal.Step.b14 j s := by
  unfold Cert.ReferenceIdeal.Step.b14
  rw [h.n_14]
  try rfl
set_option maxRecDepth 8192 in
theorem al_15 (h : Holds V0 s j) : (constantI S_ 32 32#32 : (Proc.devRef .tc main_while0b_call1_c_0 : DevRef τ sig).ty.Contents (Elt F)) = Cert.ReferenceIdeal.Step.b15 j s := by
  unfold Cert.ReferenceIdeal.Step.b15
  rfl
set_option maxRecDepth 8192 in
theorem al_16 (h : Holds V0 s j) : (addi (id (V0 (Proc.devRef .tc main_v6_14))) (constantI S_ 32 32#32) : (Proc.devRef .tc main_while0b_call1_v2 : DevRef τ sig).ty.Contents (Elt F)) = Cert.ReferenceIdeal.Step.b16 j s := by
  unfold Cert.ReferenceIdeal.Step.b16
  rw [← al_14 h, ← al_15 h]
  try rfl
set_option maxRecDepth 8192 in
theorem al_17 (h : Holds V0 s j) : (select (cmpi .slt (V0 (Proc.devRef .tc main_v6_14)) (constantI S_ 32 0#32)) (addi (id (V0 (Proc.devRef .tc main_v6_14))) (constantI S_ 32 32#32)) (V0 (Proc.devRef .tc main_v6_14)) : (Proc.devRef .tc main_while0b_call1_v3 : DevRef τ sig).ty.Contents (Elt F)) = Cert.ReferenceIdeal.Step.b17 j s := by
  unfold Cert.ReferenceIdeal.Step.b17
  rw [← al_13 h, ← al_16 h, h.n_14]
  try rfl
set_option maxRecDepth 8192 in
theorem al_18 (h : Holds V0 s j) : (constantI S_ 32 0#32 : (Proc.devRef .tc main_while0b_call1_c_1 : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call1_c_2 : DevRef τ sig).ty.Contents (Elt F)) = Cert.ReferenceIdeal.Step.b19 j s := by
  unfold Cert.ReferenceIdeal.Step.b19
  rfl
set_option maxRecDepth 8192 in
theorem al_20 (h : Holds V0 s j) : (Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024 : (Proc.devRef .tc main_while0b_call1_v4 : DevRef τ sig).ty.Contents (Elt F)) = Cert.ReferenceIdeal.Step.b20 j s := by
  unfold Cert.ReferenceIdeal.Step.b20
  rw [← al_17 h, ← al_18 h, ← al_19 h, h.f_1]
  try rfl
set_option maxRecDepth 8192 in
theorem al_21 (h : Holds V0 s j) : (shapeCast S64x1024 (Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024) shapeCasts_S1x64x1024_S64x1024 : (Proc.devRef .tc main_while0b_v9 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (broadcastInDim S64x1x256 ![0, 2] bcast_S64x256_S64x1x256_0_2 (V0 (Proc.devRef .tc main_v6_15)) : (Proc.devRef .tc main_while0b_call2_v0 : DevRef τ sig).ty.Contents (Elt F)) = Cert.ReferenceIdeal.Step.b22 j s := by
  unfold Cert.ReferenceIdeal.Step.b22
  rw [h.f_15]
  try rfl
set_option maxRecDepth 8192 in
theorem al_23 (h : Holds V0 s j) : (constantI S_ 32 0#32 : (Proc.devRef .tc main_while0b_call2_c : DevRef τ sig).ty.Contents (Elt F)) = Cert.ReferenceIdeal.Step.b23 j s := by
  unfold Cert.ReferenceIdeal.Step.b23
  rfl
set_option maxRecDepth 8192 in
theorem al_24 (h : Holds V0 s j) : (cmpi .slt (V0 (Proc.devRef .tc main_v6_14)) (constantI S_ 32 0#32) : (Proc.devRef .tc main_while0b_call2_v1 : DevRef τ sig).ty.Contents (Elt F)) = Cert.ReferenceIdeal.Step.b24 j s := by
  unfold Cert.ReferenceIdeal.Step.b24
  rw [← al_23 h, h.n_14]
  try rfl
set_option maxRecDepth 8192 in
theorem al_25 (h : Holds V0 s j) : (id (V0 (Proc.devRef .tc main_v6_14)) : (Proc.devRef .tc main_while0b_call2_v2 : DevRef τ sig).ty.Contents (Elt F)) = Cert.ReferenceIdeal.Step.b25 j s := by
  unfold Cert.ReferenceIdeal.Step.b25
  rw [h.n_14]
  try rfl
set_option maxRecDepth 8192 in
theorem al_26 (h : Holds V0 s j) : (constantI S_ 32 1024#32 : (Proc.devRef .tc main_while0b_call2_c_0 : DevRef τ sig).ty.Contents (Elt F)) = Cert.ReferenceIdeal.Step.b26 j s := by
  unfold Cert.ReferenceIdeal.Step.b26
  rfl
set_option maxRecDepth 8192 in
theorem al_27 (h : Holds V0 s j) : (addi (id (V0 (Proc.devRef .tc main_v6_14))) (constantI S_ 32 1024#32) : (Proc.devRef .tc main_while0b_call2_v3 : DevRef τ sig).ty.Contents (Elt F)) = Cert.ReferenceIdeal.Step.b27 j s := by
  unfold Cert.ReferenceIdeal.Step.b27
  rw [← al_25 h, ← al_26 h]
  try rfl
set_option maxRecDepth 8192 in
theorem al_28 (h : Holds V0 s j) : (select (cmpi .slt (V0 (Proc.devRef .tc main_v6_14)) (constantI S_ 32 0#32)) (addi (id (V0 (Proc.devRef .tc main_v6_14))) (constantI S_ 32 1024#32)) (V0 (Proc.devRef .tc main_v6_14)) : (Proc.devRef .tc main_while0b_call2_v4 : DevRef τ sig).ty.Contents (Elt F)) = Cert.ReferenceIdeal.Step.b28 j s := by
  unfold Cert.ReferenceIdeal.Step.b28
  rw [← al_24 h, ← al_27 h, h.n_14]
  try rfl
set_option maxRecDepth 8192 in
theorem al_29 (h : Holds V0 s j) : (constantI S_ 32 0#32 : (Proc.devRef .tc main_while0b_call2_c_1 : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call2_c_2 : DevRef τ sig).ty.Contents (Elt F)) = Cert.ReferenceIdeal.Step.b30 j s := by
  unfold Cert.ReferenceIdeal.Step.b30
  rfl
set_option maxRecDepth 8192 in
theorem al_31 (h : Holds V0 s j) : (res_main_while0b_v10 V0 : (Proc.devRef .tc main_while0b_v10 : DevRef τ sig).ty.Contents (Elt F)) = Cert.ReferenceIdeal.Step.b31 j s := by
  unfold res_main_while0b_v10 Cert.ReferenceIdeal.Step.b31
  rw [← al_22 h, ← al_29 h, ← al_28 h, ← al_30 h, h.f_16]
  try rfl
set_option maxRecDepth 8192 in
theorem al_32 (h : Holds V0 s j) : (Host.negf (V0 (Proc.devRef .tc main_v6_17)) : (Proc.devRef .tc main_while0b_v11 : DevRef τ sig).ty.Contents (Elt F)) = Cert.ReferenceIdeal.Step.b32 j s := by
  unfold Cert.ReferenceIdeal.Step.b32
  rw [h.f_17]
  try rfl
set_option maxRecDepth 8192 in
theorem al_33 (h : Holds V0 s j) : (Host.exp (Host.negf (V0 (Proc.devRef .tc main_v6_17))) : (Proc.devRef .tc main_while0b_v12 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (constant S_ .f32 0x3F800000#32 : (Proc.devRef .tc main_while0b_cst_23 : DevRef τ sig).ty.Contents (Elt F)) = Cert.ReferenceIdeal.Step.b34 j s := by
  unfold Cert.ReferenceIdeal.Step.b34
  rfl
set_option maxRecDepth 8192 in
theorem al_35 (h : Holds V0 s j) : (broadcastInDim S64x1024 ![] bcast_S_S64x1024 (constant S_ .f32 0x3F800000#32) : (Proc.devRef .tc main_while0b_v13 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (addf (broadcastInDim S64x1024 ![] bcast_S_S64x1024 (constant S_ .f32 0x3F800000#32)) (Host.exp (Host.negf (V0 (Proc.devRef .tc main_v6_17)))) : (Proc.devRef .tc main_while0b_v14 : DevRef τ sig).ty.Contents (Elt F)) = Cert.ReferenceIdeal.Step.b36 j s := by
  unfold Cert.ReferenceIdeal.Step.b36
  rw [← al_35 h, ← al_33 h]
  try rfl
set_option maxRecDepth 8192 in
theorem al_37 (h : Holds V0 s j) : (constant S_ .f32 0x3F800000#32 : (Proc.devRef .tc main_while0b_cst_24 : DevRef τ sig).ty.Contents (Elt F)) = Cert.ReferenceIdeal.Step.b37 j s := by
  unfold Cert.ReferenceIdeal.Step.b37
  rfl
set_option maxRecDepth 8192 in
theorem al_38 (h : Holds V0 s j) : (broadcastInDim S64x1024 ![] bcast_S_S64x1024 (constant S_ .f32 0x3F800000#32) : (Proc.devRef .tc main_while0b_v15 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (Host.divf (broadcastInDim S64x1024 ![] bcast_S_S64x1024 (constant S_ .f32 0x3F800000#32)) (addf (broadcastInDim S64x1024 ![] bcast_S_S64x1024 (constant S_ .f32 0x3F800000#32)) (Host.exp (Host.negf (V0 (Proc.devRef .tc main_v6_17))))) : (Proc.devRef .tc main_while0b_v16 : DevRef τ sig).ty.Contents (Elt F)) = Cert.ReferenceIdeal.Step.b39 j s := by
  unfold Cert.ReferenceIdeal.Step.b39
  rw [← al_38 h, ← al_36 h]
  try rfl
set_option maxRecDepth 8192 in
theorem al_40 (h : Holds V0 s j) : (Host.dotGeneral dot_S64x256_S256x256_S64x256_1_0_0_1_n_n none (res_main_while0b_v8 V0) (V0 (Proc.devRef .tc main_v6_2)) : (Proc.devRef .tc main_while0b_v17 : DevRef τ sig).ty.Contents (Elt F)) = Cert.ReferenceIdeal.Step.b40 j s := by
  unfold Cert.ReferenceIdeal.Step.b40
  rw [← al_11 h, h.f_2]
  try rfl
set_option maxRecDepth 8192 in
theorem al_41 (h : Holds V0 s j) : (Host.dotGeneral dot_S64x256_S256x256_S64x256_1_0_0_1_n_n none (V0 (Proc.devRef .tc main_v6_15)) (V0 (Proc.devRef .tc main_v6_3)) : (Proc.devRef .tc main_while0b_v18 : DevRef τ sig).ty.Contents (Elt F)) = Cert.ReferenceIdeal.Step.b41 j s := by
  unfold Cert.ReferenceIdeal.Step.b41
  rw [h.f_15, h.f_3]
  try rfl
set_option maxRecDepth 8192 in
theorem al_42 (h : Holds V0 s j) : (addf (Host.dotGeneral dot_S64x256_S256x256_S64x256_1_0_0_1_n_n none (res_main_while0b_v8 V0) (V0 (Proc.devRef .tc main_v6_2))) (Host.dotGeneral dot_S64x256_S256x256_S64x256_1_0_0_1_n_n none (V0 (Proc.devRef .tc main_v6_15)) (V0 (Proc.devRef .tc main_v6_3))) : (Proc.devRef .tc main_while0b_v19 : DevRef τ sig).ty.Contents (Elt F)) = Cert.ReferenceIdeal.Step.b42 j s := by
  unfold Cert.ReferenceIdeal.Step.b42
  rw [← al_40 h, ← al_41 h]
  try rfl
set_option maxRecDepth 8192 in
theorem al_43 (h : Holds V0 s j) : (Host.dotGeneral dot_S64x1024_S1024x256_S64x256_1_0_0_1_n_n none (Host.divf (broadcastInDim S64x1024 ![] bcast_S_S64x1024 (constant S_ .f32 0x3F800000#32)) (addf (broadcastInDim S64x1024 ![] bcast_S_S64x1024 (constant S_ .f32 0x3F800000#32)) (Host.exp (Host.negf (V0 (Proc.devRef .tc main_v6_17)))))) (V0 (Proc.devRef .tc main_v6_4)) : (Proc.devRef .tc main_while0b_v20 : DevRef τ sig).ty.Contents (Elt F)) = Cert.ReferenceIdeal.Step.b43 j s := by
  unfold Cert.ReferenceIdeal.Step.b43
  rw [← al_39 h, h.f_4]
  try rfl
set_option maxRecDepth 8192 in
theorem al_44 (h : Holds V0 s j) : (addf (addf (Host.dotGeneral dot_S64x256_S256x256_S64x256_1_0_0_1_n_n none (res_main_while0b_v8 V0) (V0 (Proc.devRef .tc main_v6_2))) (Host.dotGeneral dot_S64x256_S256x256_S64x256_1_0_0_1_n_n none (V0 (Proc.devRef .tc main_v6_15)) (V0 (Proc.devRef .tc main_v6_3)))) (Host.dotGeneral dot_S64x1024_S1024x256_S64x256_1_0_0_1_n_n none (Host.divf (broadcastInDim S64x1024 ![] bcast_S_S64x1024 (constant S_ .f32 0x3F800000#32)) (addf (broadcastInDim S64x1024 ![] bcast_S_S64x1024 (constant S_ .f32 0x3F800000#32)) (Host.exp (Host.negf (V0 (Proc.devRef .tc main_v6_17)))))) (V0 (Proc.devRef .tc main_v6_4))) : (Proc.devRef .tc main_while0b_v21 : DevRef τ sig).ty.Contents (Elt F)) = Cert.ReferenceIdeal.Step.b44 j s := by
  unfold Cert.ReferenceIdeal.Step.b44
  rw [← al_42 h, ← al_43 h]
  try rfl
set_option maxRecDepth 8192 in
theorem al_45 (h : Holds V0 s j) : (Host.tanh (addf (addf (Host.dotGeneral dot_S64x256_S256x256_S64x256_1_0_0_1_n_n none (res_main_while0b_v8 V0) (V0 (Proc.devRef .tc main_v6_2))) (Host.dotGeneral dot_S64x256_S256x256_S64x256_1_0_0_1_n_n none (V0 (Proc.devRef .tc main_v6_15)) (V0 (Proc.devRef .tc main_v6_3)))) (Host.dotGeneral dot_S64x1024_S1024x256_S64x256_1_0_0_1_n_n none (Host.divf (broadcastInDim S64x1024 ![] bcast_S_S64x1024 (constant S_ .f32 0x3F800000#32)) (addf (broadcastInDim S64x1024 ![] bcast_S_S64x1024 (constant S_ .f32 0x3F800000#32)) (Host.exp (Host.negf (V0 (Proc.devRef .tc main_v6_17)))))) (V0 (Proc.devRef .tc main_v6_4)))) : (Proc.devRef .tc main_while0b_v22 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (Host.dotGeneral dot_S64x256_S256x1024_S64x1024_1_0_0_1_n_n none (Host.tanh (addf (addf (Host.dotGeneral dot_S64x256_S256x256_S64x256_1_0_0_1_n_n none (res_main_while0b_v8 V0) (V0 (Proc.devRef .tc main_v6_2))) (Host.dotGeneral dot_S64x256_S256x256_S64x256_1_0_0_1_n_n none (V0 (Proc.devRef .tc main_v6_15)) (V0 (Proc.devRef .tc main_v6_3)))) (Host.dotGeneral dot_S64x1024_S1024x256_S64x256_1_0_0_1_n_n none (Host.divf (broadcastInDim S64x1024 ![] bcast_S_S64x1024 (constant S_ .f32 0x3F800000#32)) (addf (broadcastInDim S64x1024 ![] bcast_S_S64x1024 (constant S_ .f32 0x3F800000#32)) (Host.exp (Host.negf (V0 (Proc.devRef .tc main_v6_17)))))) (V0 (Proc.devRef .tc main_v6_4))))) (V0 (Proc.devRef .tc main_v6_5)) : (Proc.devRef .tc main_while0b_v23 : DevRef τ sig).ty.Contents (Elt F)) = Cert.ReferenceIdeal.Step.b46 j s := by
  unfold Cert.ReferenceIdeal.Step.b46
  rw [← al_45 h, h.f_5]
  try rfl
set_option maxRecDepth 8192 in
theorem al_47 (h : Holds V0 s j) : (broadcastInDim S1x1024 ![1] bcast_S1024_S1x1024_1 (V0 (Proc.devRef .tc main_v6_6)) : (Proc.devRef .tc main_while0b_v24 : DevRef τ sig).ty.Contents (Elt F)) = Cert.ReferenceIdeal.Step.b47 j s := by
  unfold Cert.ReferenceIdeal.Step.b47
  rw [h.f_6]
  try rfl
set_option maxRecDepth 8192 in
theorem al_48 (h : Holds V0 s j) : (broadcastInDim S64x1024 ![0, 1] bcast_S1x1024_S64x1024_0_1 (broadcastInDim S1x1024 ![1] bcast_S1024_S1x1024_1 (V0 (Proc.devRef .tc main_v6_6))) : (Proc.devRef .tc main_while0b_v25 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (addf (Host.dotGeneral dot_S64x256_S256x1024_S64x1024_1_0_0_1_n_n none (Host.tanh (addf (addf (Host.dotGeneral dot_S64x256_S256x256_S64x256_1_0_0_1_n_n none (res_main_while0b_v8 V0) (V0 (Proc.devRef .tc main_v6_2))) (Host.dotGeneral dot_S64x256_S256x256_S64x256_1_0_0_1_n_n none (V0 (Proc.devRef .tc main_v6_15)) (V0 (Proc.devRef .tc main_v6_3)))) (Host.dotGeneral dot_S64x1024_S1024x256_S64x256_1_0_0_1_n_n none (Host.divf (broadcastInDim S64x1024 ![] bcast_S_S64x1024 (constant S_ .f32 0x3F800000#32)) (addf (broadcastInDim S64x1024 ![] bcast_S_S64x1024 (constant S_ .f32 0x3F800000#32)) (Host.exp (Host.negf (V0 (Proc.devRef .tc main_v6_17)))))) (V0 (Proc.devRef .tc main_v6_4))))) (V0 (Proc.devRef .tc main_v6_5))) (broadcastInDim S64x1024 ![0, 1] bcast_S1x1024_S64x1024_0_1 (broadcastInDim S1x1024 ![1] bcast_S1024_S1x1024_1 (V0 (Proc.devRef .tc main_v6_6)))) : (Proc.devRef .tc main_while0b_v26 : DevRef τ sig).ty.Contents (Elt F)) = Cert.ReferenceIdeal.Step.b49 j s := by
  unfold Cert.ReferenceIdeal.Step.b49
  rw [← al_46 h, ← al_48 h]
  try rfl
set_option maxRecDepth 8192 in
theorem al_50 (h : Holds V0 s j) : (constant S_ .f32 0x1E3CE508#32 : (Proc.devRef .tc main_while0b_cst_25 : DevRef τ sig).ty.Contents (Elt F)) = Cert.ReferenceIdeal.Step.b50 j s := by
  unfold Cert.ReferenceIdeal.Step.b50
  rfl
set_option maxRecDepth 8192 in
theorem al_51 (h : Holds V0 s j) : (broadcastInDim S64x1024 ![] bcast_S_S64x1024 (constant S_ .f32 0x1E3CE508#32) : (Proc.devRef .tc main_while0b_v27 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (addf (broadcastInDim S64x1024 ![] bcast_S_S64x1024 (constant S_ .f32 0x1E3CE508#32)) (shapeCast S64x1024 (Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024) shapeCasts_S1x64x1024_S64x1024) : (Proc.devRef .tc main_while0b_v28 : DevRef τ sig).ty.Contents (Elt F)) = Cert.ReferenceIdeal.Step.b52 j s := by
  unfold Cert.ReferenceIdeal.Step.b52
  rw [← al_51 h, ← al_21 h]
  try rfl
set_option maxRecDepth 8192 in
theorem al_53 (h : Holds V0 s j) : (Host.log (addf (broadcastInDim S64x1024 ![] bcast_S_S64x1024 (constant S_ .f32 0x1E3CE508#32)) (shapeCast S64x1024 (Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024) shapeCasts_S1x64x1024_S64x1024)) : (Proc.devRef .tc main_while0b_v29 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (constant S_ .f32 0x1E3CE508#32 : (Proc.devRef .tc main_while0b_cst_26 : DevRef τ sig).ty.Contents (Elt F)) = Cert.ReferenceIdeal.Step.b54 j s := by
  unfold Cert.ReferenceIdeal.Step.b54
  rfl
set_option maxRecDepth 8192 in
theorem al_55 (h : Holds V0 s j) : (broadcastInDim S64x1024 ![] bcast_S_S64x1024 (constant S_ .f32 0x1E3CE508#32) : (Proc.devRef .tc main_while0b_v30 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (subf (broadcastInDim S64x1024 ![] bcast_S_S64x1024 (constant S_ .f32 0x1E3CE508#32)) (Host.log (addf (broadcastInDim S64x1024 ![] bcast_S_S64x1024 (constant S_ .f32 0x1E3CE508#32)) (shapeCast S64x1024 (Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024) shapeCasts_S1x64x1024_S64x1024))) : (Proc.devRef .tc main_while0b_v31 : DevRef τ sig).ty.Contents (Elt F)) = Cert.ReferenceIdeal.Step.b56 j s := by
  unfold Cert.ReferenceIdeal.Step.b56
  rw [← al_55 h, ← al_53 h]
  try rfl
set_option maxRecDepth 8192 in
theorem al_57 (h : Holds V0 s j) : (Host.log (subf (broadcastInDim S64x1024 ![] bcast_S_S64x1024 (constant S_ .f32 0x1E3CE508#32)) (Host.log (addf (broadcastInDim S64x1024 ![] bcast_S_S64x1024 (constant S_ .f32 0x1E3CE508#32)) (shapeCast S64x1024 (Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024) shapeCasts_S1x64x1024_S64x1024)))) : (Proc.devRef .tc main_while0b_v32 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (Host.negf (Host.log (subf (broadcastInDim S64x1024 ![] bcast_S_S64x1024 (constant S_ .f32 0x1E3CE508#32)) (Host.log (addf (broadcastInDim S64x1024 ![] bcast_S_S64x1024 (constant S_ .f32 0x1E3CE508#32)) (shapeCast S64x1024 (Host.dynamicSlice S1x64x1024 (V0 (Proc.devRef .tc main_v6_1)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) sliceFits_S32x64x1024_S1x64x1024) shapeCasts_S1x64x1024_S64x1024))))) : (Proc.devRef .tc main_while0b_v33 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (res_main_while0b_v34 V0 : (Proc.devRef .tc main_while0b_v34 : DevRef τ sig).ty.Contents (Elt F)) = Cert.ReferenceIdeal.Step.b59 j s := by
  unfold res_main_while0b_v34 Cert.ReferenceIdeal.Step.b59
  rw [← al_49 h, ← al_58 h]
  try rfl
set_option maxRecDepth 8192 in
theorem al_60 (h : Holds V0 s j) : (constant S_ .f32 0xFF800000#32 : (Proc.devRef .tc main_while0b_cst_27 : DevRef τ sig).ty.Contents (Elt F)) = Cert.ReferenceIdeal.Step.b60 j s := by
  unfold Cert.ReferenceIdeal.Step.b60
  rfl
set_option maxRecDepth 8192 in
theorem al_61 (h : Holds V0 s j) : (Host.reduce FloatOps.maximumf (res_main_while0b_v34 V0) (constant S_ .f32 0xFF800000#32) reducesTo_S64x1024_S64_d1 h_S_ : (Proc.devRef .tc main_while0b_v35 : DevRef τ sig).ty.Contents (Elt F)) = Cert.ReferenceIdeal.Step.b61 j s := by
  unfold Cert.ReferenceIdeal.Step.b61
  rw [← al_59 h, ← al_60 h]
  try rfl
set_option maxRecDepth 8192 in
theorem al_62 (h : Holds V0 s j) : (constant S_ .f32 0xFF800000#32 : (Proc.devRef .tc main_while0b_cst_28 : DevRef τ sig).ty.Contents (Elt F)) = Cert.ReferenceIdeal.Step.b62 j s := by
  unfold Cert.ReferenceIdeal.Step.b62
  rfl
set_option maxRecDepth 8192 in
theorem al_63 (h : Holds V0 s j) : (broadcastInDim S64 ![] bcast_S_S64 (constant S_ .f32 0xFF800000#32) : (Proc.devRef .tc main_while0b_v36 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (maximumf (broadcastInDim S64 ![] bcast_S_S64 (constant S_ .f32 0xFF800000#32)) (Host.reduce FloatOps.maximumf (res_main_while0b_v34 V0) (constant S_ .f32 0xFF800000#32) reducesTo_S64x1024_S64_d1 h_S_) : (Proc.devRef .tc main_while0b_v37 : DevRef τ sig).ty.Contents (Elt F)) = Cert.ReferenceIdeal.Step.b64 j s := by
  unfold Cert.ReferenceIdeal.Step.b64
  rw [← al_63 h, ← al_61 h]
  try rfl
set_option maxRecDepth 8192 in
theorem al_65 (h : Holds V0 s j) : (broadcastInDim S64x1 ![0] bcast_S64_S64x1_0 (maximumf (broadcastInDim S64 ![] bcast_S_S64 (constant S_ .f32 0xFF800000#32)) (Host.reduce FloatOps.maximumf (res_main_while0b_v34 V0) (constant S_ .f32 0xFF800000#32) reducesTo_S64x1024_S64_d1 h_S_)) : (Proc.devRef .tc main_while0b_v38 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (broadcastInDim S64x1024 ![0, 1] bcast_S64x1_S64x1024_0_1 (broadcastInDim S64x1 ![0] bcast_S64_S64x1_0 (maximumf (broadcastInDim S64 ![] bcast_S_S64 (constant S_ .f32 0xFF800000#32)) (Host.reduce FloatOps.maximumf (res_main_while0b_v34 V0) (constant S_ .f32 0xFF800000#32) reducesTo_S64x1024_S64_d1 h_S_))) : (Proc.devRef .tc main_while0b_v39 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (subf (res_main_while0b_v34 V0) (broadcastInDim S64x1024 ![0, 1] bcast_S64x1_S64x1024_0_1 (broadcastInDim S64x1 ![0] bcast_S64_S64x1_0 (maximumf (broadcastInDim S64 ![] bcast_S_S64 (constant S_ .f32 0xFF800000#32)) (Host.reduce FloatOps.maximumf (res_main_while0b_v34 V0) (constant S_ .f32 0xFF800000#32) reducesTo_S64x1024_S64_d1 h_S_)))) : (Proc.devRef .tc main_while0b_v40 : DevRef τ sig).ty.Contents (Elt F)) = Cert.ReferenceIdeal.Step.b67 j s := by
  unfold Cert.ReferenceIdeal.Step.b67
  rw [← al_59 h, ← al_66 h]
  try rfl
set_option maxRecDepth 8192 in
theorem al_68 (h : Holds V0 s j) : (res_main_while0b_v41 V0 : (Proc.devRef .tc main_while0b_v41 : DevRef τ sig).ty.Contents (Elt F)) = Cert.ReferenceIdeal.Step.b68 j s := by
  unfold res_main_while0b_v41 Cert.ReferenceIdeal.Step.b68
  rw [← al_67 h]
  try rfl
set_option maxRecDepth 8192 in
theorem al_69 (h : Holds V0 s j) : (constant S_ .f32 0x00000000#32 : (Proc.devRef .tc main_while0b_cst_29 : DevRef τ sig).ty.Contents (Elt F)) = Cert.ReferenceIdeal.Step.b69 j s := by
  unfold Cert.ReferenceIdeal.Step.b69
  rfl
set_option maxRecDepth 8192 in
theorem al_70 (h : Holds V0 s j) : (Host.reduceAdd (res_main_while0b_v41 V0) (constant S_ .f32 0x00000000#32) reducesTo_S64x1024_S64_d1 h_S_ : (Proc.devRef .tc main_while0b_v42 : DevRef τ sig).ty.Contents (Elt F)) = Cert.ReferenceIdeal.Step.b70 j s := by
  unfold Cert.ReferenceIdeal.Step.b70
  rw [← al_68 h, ← al_69 h]
  try rfl
set_option maxRecDepth 8192 in
theorem al_71 (h : Holds V0 s j) : (broadcastInDim S64x1 ![0] bcast_S64_S64x1_0 (Host.reduceAdd (res_main_while0b_v41 V0) (constant S_ .f32 0x00000000#32) reducesTo_S64x1024_S64_d1 h_S_) : (Proc.devRef .tc main_while0b_v43 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (broadcastInDim S64x1024 ![0, 1] bcast_S64x1_S64x1024_0_1 (broadcastInDim S64x1 ![0] bcast_S64_S64x1_0 (Host.reduceAdd (res_main_while0b_v41 V0) (constant S_ .f32 0x00000000#32) reducesTo_S64x1024_S64_d1 h_S_)) : (Proc.devRef .tc main_while0b_v44 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (res_main_while0b_v45 V0 : (Proc.devRef .tc main_while0b_v45 : DevRef τ sig).ty.Contents (Elt F)) = Cert.ReferenceIdeal.Step.b73 j s := by
  unfold res_main_while0b_v45 Cert.ReferenceIdeal.Step.b73
  rw [← al_68 h, ← al_72 h]
  try rfl
set_option maxRecDepth 8192 in
theorem al_74 (h : Holds V0 s j) : (res_main_while0b_call3_v0 V0 : (Proc.devRef .tc main_while0b_call3_v0 : DevRef τ sig).ty.Contents (Elt F)) = Cert.ReferenceIdeal.Step.b74 j s := by
  unfold res_main_while0b_call3_v0 Cert.ReferenceIdeal.Step.b74
  rfl
set_option maxRecDepth 8192 in
theorem al_75 (h : Holds V0 s j) : (res_main_while0b_call3_cst V0 : (Proc.devRef .tc main_while0b_call3_cst : DevRef τ sig).ty.Contents (Elt F)) = Cert.ReferenceIdeal.Step.b75 j s := by
  unfold res_main_while0b_call3_cst Cert.ReferenceIdeal.Step.b75
  rfl
set_option maxRecDepth 8192 in
theorem al_76 (h : Holds V0 s j) : (res_main_while0b_call3_c V0 : (Proc.devRef .tc main_while0b_call3_c : DevRef τ sig).ty.Contents (Elt F)) = Cert.ReferenceIdeal.Step.b76 j s := by
  unfold res_main_while0b_call3_c Cert.ReferenceIdeal.Step.b76
  rfl
set_option maxRecDepth 8192 in
theorem al_77 (h : Holds V0 s j) : ((fun jx => (Host.argReduce reducer_argmax_f32_i32 (res_main_while0b_v45 V0) (res_main_while0b_call3_v0 V0) (res_main_while0b_call3_cst V0) (res_main_while0b_call3_c V0) reducesTo_S64x1024_S64_d1 h_S_ jx).1) : (Proc.devRef .tc main_while0b_call3_v1_0 : DevRef τ sig).ty.Contents (Elt F)) = Cert.ReferenceIdeal.Step.b77 j s := by
  unfold Cert.ReferenceIdeal.Step.b77
  rw [← al_73 h, ← al_74 h, ← al_75 h, ← al_76 h]
  try rfl
set_option maxRecDepth 8192 in
theorem al_78 (h : Holds V0 s j) : ((fun jx => (Host.argReduce reducer_argmax_f32_i32 (res_main_while0b_v45 V0) (res_main_while0b_call3_v0 V0) (res_main_while0b_call3_cst V0) (res_main_while0b_call3_c V0) reducesTo_S64x1024_S64_d1 h_S_ jx).2) : (Proc.devRef .tc main_while0b_v46 : DevRef τ sig).ty.Contents (Elt F)) = Cert.ReferenceIdeal.Step.b78 j s := by
  unfold Cert.ReferenceIdeal.Step.b78
  rw [← al_73 h, ← al_74 h, ← al_75 h, ← al_76 h]
  try rfl
set_option maxRecDepth 8192 in
theorem al_79 (h : Holds V0 s j) : (broadcastInDim S64x1 ![0] bcast_S64_S64x1_0 ((fun jx => (Host.argReduce reducer_argmax_f32_i32 (res_main_while0b_v45 V0) (res_main_while0b_call3_v0 V0) (res_main_while0b_call3_cst V0) (res_main_while0b_call3_c V0) reducesTo_S64x1024_S64_d1 h_S_ jx).2)) : (Proc.devRef .tc main_while0b_call4_v0 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (iotaInDim S1x1024 32 1 : (Proc.devRef .tc main_while0b_call4_v1 : DevRef τ sig).ty.Contents (Elt F)) = Cert.ReferenceIdeal.Step.b80 j s := by
  unfold Cert.ReferenceIdeal.Step.b80
  rfl
set_option maxRecDepth 8192 in
theorem al_81 (h : Holds V0 s j) : (broadcastInDim S64x1024 ![0, 1] bcast_S64x1_S64x1024_0_1 (broadcastInDim S64x1 ![0] bcast_S64_S64x1_0 ((fun jx => (Host.argReduce reducer_argmax_f32_i32 (res_main_while0b_v45 V0) (res_main_while0b_call3_v0 V0) (res_main_while0b_call3_cst V0) (res_main_while0b_call3_c V0) reducesTo_S64x1024_S64_d1 h_S_ jx).2))) : (Proc.devRef .tc main_while0b_call4_v2 : DevRef τ sig).ty.Contents (Elt F)) = Cert.ReferenceIdeal.Step.b81 j s := by
  unfold Cert.ReferenceIdeal.Step.b81
  rw [← al_79 h]
  try rfl
set_option maxRecDepth 8192 in
theorem al_82 (h : Holds V0 s j) : (broadcastInDim S64x1024 ![0, 1] bcast_S1x1024_S64x1024_0_1 (iotaInDim S1x1024 32 1) : (Proc.devRef .tc main_while0b_call4_v3 : DevRef τ sig).ty.Contents (Elt F)) = Cert.ReferenceIdeal.Step.b82 j s := by
  unfold Cert.ReferenceIdeal.Step.b82
  rw [← al_80 h]
  try rfl
set_option maxRecDepth 8192 in
theorem al_83 (h : Holds V0 s j) : (cmpi .eq (broadcastInDim S64x1024 ![0, 1] bcast_S64x1_S64x1024_0_1 (broadcastInDim S64x1 ![0] bcast_S64_S64x1_0 ((fun jx => (Host.argReduce reducer_argmax_f32_i32 (res_main_while0b_v45 V0) (res_main_while0b_call3_v0 V0) (res_main_while0b_call3_cst V0) (res_main_while0b_call3_c V0) reducesTo_S64x1024_S64_d1 h_S_ jx).2)))) (broadcastInDim S64x1024 ![0, 1] bcast_S1x1024_S64x1024_0_1 (iotaInDim S1x1024 32 1)) : (Proc.devRef .tc main_while0b_call4_v4 : DevRef τ sig).ty.Contents (Elt F)) = Cert.ReferenceIdeal.Step.b83 j s := by
  unfold Cert.ReferenceIdeal.Step.b83
  rw [← al_81 h, ← al_82 h]
  try rfl
set_option maxRecDepth 8192 in
theorem al_84 (h : Holds V0 s j) : (res_main_while0b_v47 V0 : (Proc.devRef .tc main_while0b_v47 : DevRef τ sig).ty.Contents (Elt F)) = Cert.ReferenceIdeal.Step.b84 j s := by
  unfold res_main_while0b_v47 Cert.ReferenceIdeal.Step.b84
  rw [← al_83 h]
  try rfl
set_option maxRecDepth 8192 in
theorem al_85 (h : Holds V0 s j) : (subf (res_main_while0b_v47 V0) (res_main_while0b_v45 V0) : (Proc.devRef .tc main_while0b_v48 : DevRef τ sig).ty.Contents (Elt F)) = Cert.ReferenceIdeal.Step.b85 j s := by
  unfold Cert.ReferenceIdeal.Step.b85
  rw [← al_84 h, ← al_73 h]
  try rfl
set_option maxRecDepth 8192 in
theorem al_86 (h : Holds V0 s j) : (addf (subf (res_main_while0b_v47 V0) (res_main_while0b_v45 V0)) (res_main_while0b_v45 V0) : (Proc.devRef .tc main_while0b_v49 : DevRef τ sig).ty.Contents (Elt F)) = Cert.ReferenceIdeal.Step.b86 j s := by
  unfold Cert.ReferenceIdeal.Step.b86
  rw [← al_85 h, ← al_73 h]
  try rfl
set_option maxRecDepth 8192 in
theorem al_87 (h : Holds V0 s j) : (Host.dotGeneral dot_S64x1024_S64x1024x256_S64x256_1_1_n_2_0_0 none (addf (subf (res_main_while0b_v47 V0) (res_main_while0b_v45 V0)) (res_main_while0b_v45 V0)) (res_main_while0b_v10 V0) : (Proc.devRef .tc main_while0b_v50 : DevRef τ sig).ty.Contents (Elt F)) = Cert.ReferenceIdeal.Step.b87 j s := by
  unfold Cert.ReferenceIdeal.Step.b87
  rw [← al_86 h, ← al_31 h]
  try rfl
set_option maxRecDepth 8192 in
theorem al_88 (h : Holds V0 s j) : (constant S_ .f32 0x3F800000#32 : (Proc.devRef .tc main_while0b_cst_30 : DevRef τ sig).ty.Contents (Elt F)) = Cert.ReferenceIdeal.Step.b88 j s := by
  unfold Cert.ReferenceIdeal.Step.b88
  rfl
set_option maxRecDepth 8192 in
theorem al_89 (h : Holds V0 s j) : (broadcastInDim S64x1024 ![] bcast_S_S64x1024 (constant S_ .f32 0x3F800000#32) : (Proc.devRef .tc main_while0b_v51 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (cmpf .oeq (res_main_while0b_v47 V0) (broadcastInDim S64x1024 ![] bcast_S_S64x1024 (constant S_ .f32 0x3F800000#32)) : (Proc.devRef .tc main_while0b_v52 : DevRef τ sig).ty.Contents (Elt F)) = Cert.ReferenceIdeal.Step.b90 j s := by
  unfold Cert.ReferenceIdeal.Step.b90
  rw [← al_84 h, ← al_89 h]
  try rfl
set_option maxRecDepth 8192 in
theorem al_91 (h : Holds V0 s j) : (constant S_ .f32 0x00000000#32 : (Proc.devRef .tc main_while0b_cst_31 : DevRef τ sig).ty.Contents (Elt F)) = Cert.ReferenceIdeal.Step.b91 j s := by
  unfold Cert.ReferenceIdeal.Step.b91
  rfl
set_option maxRecDepth 8192 in
theorem al_92 (h : Holds V0 s j) : (id (constant S_ .f32 0x00000000#32) : (Proc.devRef .tc main_while0b_call5_v0 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (broadcastInDim S64x1024 ![] bcast_S_S64x1024 (id (constant S_ .f32 0x00000000#32)) : (Proc.devRef .tc main_while0b_call5_v1 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (select (cmpf .oeq (res_main_while0b_v47 V0) (broadcastInDim S64x1024 ![] bcast_S_S64x1024 (constant S_ .f32 0x3F800000#32))) (broadcastInDim S64x1024 ![] bcast_S_S64x1024 (id (constant S_ .f32 0x00000000#32))) (V0 (Proc.devRef .tc main_v6_17)) : (Proc.devRef .tc main_while0b_v53 : DevRef τ sig).ty.Contents (Elt F)) = Cert.ReferenceIdeal.Step.b94 j s := by
  unfold Cert.ReferenceIdeal.Step.b94
  rw [← al_90 h, ← al_93 h, h.f_17]
  try rfl
set_option maxRecDepth 8192 in
theorem al_95 (h : Holds V0 s j) : (constant S_ .f32 0x3F800000#32 : (Proc.devRef .tc main_while0b_cst_32 : DevRef τ sig).ty.Contents (Elt F)) = Cert.ReferenceIdeal.Step.b95 j s := by
  unfold Cert.ReferenceIdeal.Step.b95
  rfl
set_option maxRecDepth 8192 in
theorem al_96 (h : Holds V0 s j) : (broadcastInDim S64x1024 ![] bcast_S_S64x1024 (constant S_ .f32 0x3F800000#32) : (Proc.devRef .tc main_while0b_v54 : DevRef τ sig).ty.Contents (Elt F)) = Cert.ReferenceIdeal.Step.b96 j s := by
  unfold Cert.ReferenceIdeal.Step.b96
  rw [← al_95 h]
  try rfl
set_option maxRecDepth 8192 in
theorem al_97 (h : Holds V0 s j) : (subf (select (cmpf .oeq (res_main_while0b_v47 V0) (broadcastInDim S64x1024 ![] bcast_S_S64x1024 (constant S_ .f32 0x3F800000#32))) (broadcastInDim S64x1024 ![] bcast_S_S64x1024 (id (constant S_ .f32 0x00000000#32))) (V0 (Proc.devRef .tc main_v6_17))) (broadcastInDim S64x1024 ![] bcast_S_S64x1024 (constant S_ .f32 0x3F800000#32)) : (Proc.devRef .tc main_while0b_v55 : DevRef τ sig).ty.Contents (Elt F)) = Cert.ReferenceIdeal.Step.b97 j s := by
  unfold Cert.ReferenceIdeal.Step.b97
  rw [← al_94 h, ← al_96 h]
  try rfl
set_option maxRecDepth 8192 in
theorem al_98 (h : Holds V0 s j) : (concatenate S64x512 1 [⟨S64x256, (Host.dotGeneral dot_S64x1024_S64x1024x256_S64x256_1_1_n_2_0_0 none (addf (subf (res_main_while0b_v47 V0) (res_main_while0b_v45 V0)) (res_main_while0b_v45 V0)) (res_main_while0b_v10 V0))⟩, ⟨S64x256, (V0 (Proc.devRef .tc main_v6_15))⟩] concatenates_S64x256_S64x256_S64x512_d1 : (Proc.devRef .tc main_while0b_v56 : DevRef τ sig).ty.Contents (Elt F)) = Cert.ReferenceIdeal.Step.b98 j s := by
  unfold Cert.ReferenceIdeal.Step.b98
  rw [← al_87 h, h.f_15]
  try rfl
set_option maxRecDepth 8192 in
theorem al_99 (h : Holds V0 s j) : (Host.dotGeneral dot_S64x512_S512x256_S64x256_1_0_0_1_n_n none (concatenate S64x512 1 [⟨S64x256, (Host.dotGeneral dot_S64x1024_S64x1024x256_S64x256_1_1_n_2_0_0 none (addf (subf (res_main_while0b_v47 V0) (res_main_while0b_v45 V0)) (res_main_while0b_v45 V0)) (res_main_while0b_v10 V0))⟩, ⟨S64x256, (V0 (Proc.devRef .tc main_v6_15))⟩] concatenates_S64x256_S64x256_S64x512_d1) (V0 (Proc.devRef .tc main_v6_7)) : (Proc.devRef .tc main_while0b_v57 : DevRef τ sig).ty.Contents (Elt F)) = Cert.ReferenceIdeal.Step.b99 j s := by
  unfold Cert.ReferenceIdeal.Step.b99
  rw [← al_98 h, h.f_7]
  try rfl
set_option maxRecDepth 8192 in
theorem al_100 (h : Holds V0 s j) : (broadcastInDim S1x256 ![1] bcast_S256_S1x256_1 (V0 (Proc.devRef .tc main_v6_8)) : (Proc.devRef .tc main_while0b_v58 : DevRef τ sig).ty.Contents (Elt F)) = Cert.ReferenceIdeal.Step.b100 j s := by
  unfold Cert.ReferenceIdeal.Step.b100
  rw [h.f_8]
  try rfl
set_option maxRecDepth 8192 in
theorem al_101 (h : Holds V0 s j) : (broadcastInDim S64x256 ![0, 1] bcast_S1x256_S64x256_0_1 (broadcastInDim S1x256 ![1] bcast_S256_S1x256_1 (V0 (Proc.devRef .tc main_v6_8))) : (Proc.devRef .tc main_while0b_v59 : DevRef τ sig).ty.Contents (Elt F)) = Cert.ReferenceIdeal.Step.b101 j s := by
  unfold Cert.ReferenceIdeal.Step.b101
  rw [← al_100 h]
  try rfl
set_option maxRecDepth 8192 in
theorem al_102 (h : Holds V0 s j) : (res_main_while0b_v60 V0 : (Proc.devRef .tc main_while0b_v60 : DevRef τ sig).ty.Contents (Elt F)) = Cert.ReferenceIdeal.Step.b102 j s := by
  unfold res_main_while0b_v60 Cert.ReferenceIdeal.Step.b102
  rw [← al_99 h, ← al_101 h]
  try rfl
set_option maxRecDepth 8192 in
theorem al_103 (h : Holds V0 s j) : (Host.dotGeneral dot_S64x256_S256x768_S64x768_1_0_0_1_n_n none (res_main_while0b_v8 V0) (V0 (Proc.devRef .tc main_v6_9)) : (Proc.devRef .tc main_while0b_v61 : DevRef τ sig).ty.Contents (Elt F)) = Cert.ReferenceIdeal.Step.b103 j s := by
  unfold Cert.ReferenceIdeal.Step.b103
  rw [← al_11 h, h.f_9]
  try rfl
set_option maxRecDepth 8192 in
theorem al_104 (h : Holds V0 s j) : (broadcastInDim S1x768 ![1] bcast_S768_S1x768_1 (V0 (Proc.devRef .tc main_v6_10)) : (Proc.devRef .tc main_while0b_v62 : DevRef τ sig).ty.Contents (Elt F)) = Cert.ReferenceIdeal.Step.b104 j s := by
  unfold Cert.ReferenceIdeal.Step.b104
  rw [h.f_10]
  try rfl
set_option maxRecDepth 8192 in
theorem al_105 (h : Holds V0 s j) : (broadcastInDim S64x768 ![0, 1] bcast_S1x768_S64x768_0_1 (broadcastInDim S1x768 ![1] bcast_S768_S1x768_1 (V0 (Proc.devRef .tc main_v6_10))) : (Proc.devRef .tc main_while0b_v63 : DevRef τ sig).ty.Contents (Elt F)) = Cert.ReferenceIdeal.Step.b105 j s := by
  unfold Cert.ReferenceIdeal.Step.b105
  rw [← al_104 h]
  try rfl
set_option maxRecDepth 8192 in
theorem al_106 (h : Holds V0 s j) : (res_main_while0b_v64 V0 : (Proc.devRef .tc main_while0b_v64 : DevRef τ sig).ty.Contents (Elt F)) = Cert.ReferenceIdeal.Step.b106 j s := by
  unfold res_main_while0b_v64 Cert.ReferenceIdeal.Step.b106
  rw [← al_103 h, ← al_105 h]
  try rfl
set_option maxRecDepth 8192 in
theorem al_107 (h : Holds V0 s j) : (Host.dotGeneral dot_S64x256_S256x768_S64x768_1_0_0_1_n_n none (res_main_while0b_v60 V0) (V0 (Proc.devRef .tc main_v6_11)) : (Proc.devRef .tc main_while0b_v65 : DevRef τ sig).ty.Contents (Elt F)) = Cert.ReferenceIdeal.Step.b107 j s := by
  unfold Cert.ReferenceIdeal.Step.b107
  rw [← al_102 h, h.f_11]
  try rfl
set_option maxRecDepth 8192 in
theorem al_108 (h : Holds V0 s j) : (broadcastInDim S1x768 ![1] bcast_S768_S1x768_1 (V0 (Proc.devRef .tc main_v6_12)) : (Proc.devRef .tc main_while0b_v66 : DevRef τ sig).ty.Contents (Elt F)) = Cert.ReferenceIdeal.Step.b108 j s := by
  unfold Cert.ReferenceIdeal.Step.b108
  rw [h.f_12]
  try rfl
set_option maxRecDepth 8192 in
theorem al_109 (h : Holds V0 s j) : (broadcastInDim S64x768 ![0, 1] bcast_S1x768_S64x768_0_1 (broadcastInDim S1x768 ![1] bcast_S768_S1x768_1 (V0 (Proc.devRef .tc main_v6_12))) : (Proc.devRef .tc main_while0b_v67 : DevRef τ sig).ty.Contents (Elt F)) = Cert.ReferenceIdeal.Step.b109 j s := by
  unfold Cert.ReferenceIdeal.Step.b109
  rw [← al_108 h]
  try rfl
set_option maxRecDepth 8192 in
theorem al_110 (h : Holds V0 s j) : (res_main_while0b_v68 V0 : (Proc.devRef .tc main_while0b_v68 : DevRef τ sig).ty.Contents (Elt F)) = Cert.ReferenceIdeal.Step.b110 j s := by
  unfold res_main_while0b_v68 Cert.ReferenceIdeal.Step.b110
  rw [← al_107 h, ← al_109 h]
  try rfl
set_option maxRecDepth 8192 in
theorem al_111 (h : Holds V0 s j) : (extractStridedSlice S64x256 ![0, 0] (res_main_while0b_v64 V0) slices_S64x768_S64x256_0_0 : (Proc.devRef .tc main_while0b_v69 : DevRef τ sig).ty.Contents (Elt F)) = Cert.ReferenceIdeal.Step.b111 j s := by
  unfold Cert.ReferenceIdeal.Step.b111
  rw [← al_106 h]
  try rfl
set_option maxRecDepth 8192 in
theorem al_112 (h : Holds V0 s j) : (extractStridedSlice S64x256 ![0, 256] (res_main_while0b_v64 V0) slices_S64x768_S64x256_0_256 : (Proc.devRef .tc main_while0b_v70 : DevRef τ sig).ty.Contents (Elt F)) = Cert.ReferenceIdeal.Step.b112 j s := by
  unfold Cert.ReferenceIdeal.Step.b112
  rw [← al_106 h]
  try rfl
set_option maxRecDepth 8192 in
theorem al_113 (h : Holds V0 s j) : (extractStridedSlice S64x256 ![0, 512] (res_main_while0b_v64 V0) slices_S64x768_S64x256_0_512 : (Proc.devRef .tc main_while0b_v71 : DevRef τ sig).ty.Contents (Elt F)) = Cert.ReferenceIdeal.Step.b113 j s := by
  unfold Cert.ReferenceIdeal.Step.b113
  rw [← al_106 h]
  try rfl
set_option maxRecDepth 8192 in
theorem al_114 (h : Holds V0 s j) : (extractStridedSlice S64x256 ![0, 0] (res_main_while0b_v68 V0) slices_S64x768_S64x256_0_0 : (Proc.devRef .tc main_while0b_v72 : DevRef τ sig).ty.Contents (Elt F)) = Cert.ReferenceIdeal.Step.b114 j s := by
  unfold Cert.ReferenceIdeal.Step.b114
  rw [← al_110 h]
  try rfl
set_option maxRecDepth 8192 in
theorem al_115 (h : Holds V0 s j) : (extractStridedSlice S64x256 ![0, 256] (res_main_while0b_v68 V0) slices_S64x768_S64x256_0_256 : (Proc.devRef .tc main_while0b_v73 : DevRef τ sig).ty.Contents (Elt F)) = Cert.ReferenceIdeal.Step.b115 j s := by
  unfold Cert.ReferenceIdeal.Step.b115
  rw [← al_110 h]
  try rfl
set_option maxRecDepth 8192 in
theorem al_116 (h : Holds V0 s j) : (extractStridedSlice S64x256 ![0, 512] (res_main_while0b_v68 V0) slices_S64x768_S64x256_0_512 : (Proc.devRef .tc main_while0b_v74 : DevRef τ sig).ty.Contents (Elt F)) = Cert.ReferenceIdeal.Step.b116 j s := by
  unfold Cert.ReferenceIdeal.Step.b116
  rw [← al_110 h]
  try rfl
set_option maxRecDepth 8192 in
theorem al_117 (h : Holds V0 s j) : (addf (extractStridedSlice S64x256 ![0, 0] (res_main_while0b_v64 V0) slices_S64x768_S64x256_0_0) (extractStridedSlice S64x256 ![0, 0] (res_main_while0b_v68 V0) slices_S64x768_S64x256_0_0) : (Proc.devRef .tc main_while0b_v75 : DevRef τ sig).ty.Contents (Elt F)) = Cert.ReferenceIdeal.Step.b117 j s := by
  unfold Cert.ReferenceIdeal.Step.b117
  rw [← al_111 h, ← al_114 h]
  try rfl
set_option maxRecDepth 8192 in
theorem al_118 (h : Holds V0 s j) : (Host.negf (addf (extractStridedSlice S64x256 ![0, 0] (res_main_while0b_v64 V0) slices_S64x768_S64x256_0_0) (extractStridedSlice S64x256 ![0, 0] (res_main_while0b_v68 V0) slices_S64x768_S64x256_0_0)) : (Proc.devRef .tc main_while0b_v76 : DevRef τ sig).ty.Contents (Elt F)) = Cert.ReferenceIdeal.Step.b118 j s := by
  unfold Cert.ReferenceIdeal.Step.b118
  rw [← al_117 h]
  try rfl
set_option maxRecDepth 8192 in
theorem al_119 (h : Holds V0 s j) : (Host.exp (Host.negf (addf (extractStridedSlice S64x256 ![0, 0] (res_main_while0b_v64 V0) slices_S64x768_S64x256_0_0) (extractStridedSlice S64x256 ![0, 0] (res_main_while0b_v68 V0) slices_S64x768_S64x256_0_0))) : (Proc.devRef .tc main_while0b_v77 : DevRef τ sig).ty.Contents (Elt F)) = Cert.ReferenceIdeal.Step.b119 j s := by
  unfold Cert.ReferenceIdeal.Step.b119
  rw [← al_118 h]
  try rfl
set_option maxRecDepth 8192 in
theorem al_120 (h : Holds V0 s j) : (constant S_ .f32 0x3F800000#32 : (Proc.devRef .tc main_while0b_cst_33 : DevRef τ sig).ty.Contents (Elt F)) = Cert.ReferenceIdeal.Step.b120 j s := by
  unfold Cert.ReferenceIdeal.Step.b120
  rfl
set_option maxRecDepth 8192 in
theorem al_121 (h : Holds V0 s j) : (broadcastInDim S64x256 ![] bcast_S_S64x256 (constant S_ .f32 0x3F800000#32) : (Proc.devRef .tc main_while0b_v78 : DevRef τ sig).ty.Contents (Elt F)) = Cert.ReferenceIdeal.Step.b121 j s := by
  unfold Cert.ReferenceIdeal.Step.b121
  rw [← al_120 h]
  try rfl
set_option maxRecDepth 8192 in
theorem al_122 (h : Holds V0 s j) : (addf (broadcastInDim S64x256 ![] bcast_S_S64x256 (constant S_ .f32 0x3F800000#32)) (Host.exp (Host.negf (addf (extractStridedSlice S64x256 ![0, 0] (res_main_while0b_v64 V0) slices_S64x768_S64x256_0_0) (extractStridedSlice S64x256 ![0, 0] (res_main_while0b_v68 V0) slices_S64x768_S64x256_0_0)))) : (Proc.devRef .tc main_while0b_v79 : DevRef τ sig).ty.Contents (Elt F)) = Cert.ReferenceIdeal.Step.b122 j s := by
  unfold Cert.ReferenceIdeal.Step.b122
  rw [← al_121 h, ← al_119 h]
  try rfl
set_option maxRecDepth 8192 in
theorem al_123 (h : Holds V0 s j) : (constant S_ .f32 0x3F800000#32 : (Proc.devRef .tc main_while0b_cst_34 : DevRef τ sig).ty.Contents (Elt F)) = Cert.ReferenceIdeal.Step.b123 j s := by
  unfold Cert.ReferenceIdeal.Step.b123
  rfl
set_option maxRecDepth 8192 in
theorem al_124 (h : Holds V0 s j) : (broadcastInDim S64x256 ![] bcast_S_S64x256 (constant S_ .f32 0x3F800000#32) : (Proc.devRef .tc main_while0b_v80 : DevRef τ sig).ty.Contents (Elt F)) = Cert.ReferenceIdeal.Step.b124 j s := by
  unfold Cert.ReferenceIdeal.Step.b124
  rw [← al_123 h]
  try rfl
set_option maxRecDepth 8192 in
theorem al_125 (h : Holds V0 s j) : (Host.divf (broadcastInDim S64x256 ![] bcast_S_S64x256 (constant S_ .f32 0x3F800000#32)) (addf (broadcastInDim S64x256 ![] bcast_S_S64x256 (constant S_ .f32 0x3F800000#32)) (Host.exp (Host.negf (addf (extractStridedSlice S64x256 ![0, 0] (res_main_while0b_v64 V0) slices_S64x768_S64x256_0_0) (extractStridedSlice S64x256 ![0, 0] (res_main_while0b_v68 V0) slices_S64x768_S64x256_0_0))))) : (Proc.devRef .tc main_while0b_v81 : DevRef τ sig).ty.Contents (Elt F)) = Cert.ReferenceIdeal.Step.b125 j s := by
  unfold Cert.ReferenceIdeal.Step.b125
  rw [← al_124 h, ← al_122 h]
  try rfl
set_option maxRecDepth 8192 in
theorem al_126 (h : Holds V0 s j) : (addf (extractStridedSlice S64x256 ![0, 256] (res_main_while0b_v64 V0) slices_S64x768_S64x256_0_256) (extractStridedSlice S64x256 ![0, 256] (res_main_while0b_v68 V0) slices_S64x768_S64x256_0_256) : (Proc.devRef .tc main_while0b_v82 : DevRef τ sig).ty.Contents (Elt F)) = Cert.ReferenceIdeal.Step.b126 j s := by
  unfold Cert.ReferenceIdeal.Step.b126
  rw [← al_112 h, ← al_115 h]
  try rfl
set_option maxRecDepth 8192 in
theorem al_127 (h : Holds V0 s j) : (Host.negf (addf (extractStridedSlice S64x256 ![0, 256] (res_main_while0b_v64 V0) slices_S64x768_S64x256_0_256) (extractStridedSlice S64x256 ![0, 256] (res_main_while0b_v68 V0) slices_S64x768_S64x256_0_256)) : (Proc.devRef .tc main_while0b_v83 : DevRef τ sig).ty.Contents (Elt F)) = Cert.ReferenceIdeal.Step.b127 j s := by
  unfold Cert.ReferenceIdeal.Step.b127
  rw [← al_126 h]
  try rfl
set_option maxRecDepth 8192 in
theorem al_128 (h : Holds V0 s j) : (Host.exp (Host.negf (addf (extractStridedSlice S64x256 ![0, 256] (res_main_while0b_v64 V0) slices_S64x768_S64x256_0_256) (extractStridedSlice S64x256 ![0, 256] (res_main_while0b_v68 V0) slices_S64x768_S64x256_0_256))) : (Proc.devRef .tc main_while0b_v84 : DevRef τ sig).ty.Contents (Elt F)) = Cert.ReferenceIdeal.Step.b128 j s := by
  unfold Cert.ReferenceIdeal.Step.b128
  rw [← al_127 h]
  try rfl
set_option maxRecDepth 8192 in
theorem al_129 (h : Holds V0 s j) : (constant S_ .f32 0x3F800000#32 : (Proc.devRef .tc main_while0b_cst_35 : DevRef τ sig).ty.Contents (Elt F)) = Cert.ReferenceIdeal.Step.b129 j s := by
  unfold Cert.ReferenceIdeal.Step.b129
  rfl
set_option maxRecDepth 8192 in
theorem al_130 (h : Holds V0 s j) : (broadcastInDim S64x256 ![] bcast_S_S64x256 (constant S_ .f32 0x3F800000#32) : (Proc.devRef .tc main_while0b_v85 : DevRef τ sig).ty.Contents (Elt F)) = Cert.ReferenceIdeal.Step.b130 j s := by
  unfold Cert.ReferenceIdeal.Step.b130
  rw [← al_129 h]
  try rfl
set_option maxRecDepth 8192 in
theorem al_131 (h : Holds V0 s j) : (addf (broadcastInDim S64x256 ![] bcast_S_S64x256 (constant S_ .f32 0x3F800000#32)) (Host.exp (Host.negf (addf (extractStridedSlice S64x256 ![0, 256] (res_main_while0b_v64 V0) slices_S64x768_S64x256_0_256) (extractStridedSlice S64x256 ![0, 256] (res_main_while0b_v68 V0) slices_S64x768_S64x256_0_256)))) : (Proc.devRef .tc main_while0b_v86 : DevRef τ sig).ty.Contents (Elt F)) = Cert.ReferenceIdeal.Step.b131 j s := by
  unfold Cert.ReferenceIdeal.Step.b131
  rw [← al_130 h, ← al_128 h]
  try rfl
set_option maxRecDepth 8192 in
theorem al_132 (h : Holds V0 s j) : (constant S_ .f32 0x3F800000#32 : (Proc.devRef .tc main_while0b_cst_36 : DevRef τ sig).ty.Contents (Elt F)) = Cert.ReferenceIdeal.Step.b132 j s := by
  unfold Cert.ReferenceIdeal.Step.b132
  rfl
set_option maxRecDepth 8192 in
theorem al_133 (h : Holds V0 s j) : (broadcastInDim S64x256 ![] bcast_S_S64x256 (constant S_ .f32 0x3F800000#32) : (Proc.devRef .tc main_while0b_v87 : DevRef τ sig).ty.Contents (Elt F)) = Cert.ReferenceIdeal.Step.b133 j s := by
  unfold Cert.ReferenceIdeal.Step.b133
  rw [← al_132 h]
  try rfl
set_option maxRecDepth 8192 in
theorem al_134 (h : Holds V0 s j) : (res_main_while0b_v88 V0 : (Proc.devRef .tc main_while0b_v88 : DevRef τ sig).ty.Contents (Elt F)) = Cert.ReferenceIdeal.Step.b134 j s := by
  unfold res_main_while0b_v88 Cert.ReferenceIdeal.Step.b134
  rw [← al_133 h, ← al_131 h]
  try rfl
set_option maxRecDepth 8192 in
theorem al_135 (h : Holds V0 s j) : (mulf (Host.divf (broadcastInDim S64x256 ![] bcast_S_S64x256 (constant S_ .f32 0x3F800000#32)) (addf (broadcastInDim S64x256 ![] bcast_S_S64x256 (constant S_ .f32 0x3F800000#32)) (Host.exp (Host.negf (addf (extractStridedSlice S64x256 ![0, 0] (res_main_while0b_v64 V0) slices_S64x768_S64x256_0_0) (extractStridedSlice S64x256 ![0, 0] (res_main_while0b_v68 V0) slices_S64x768_S64x256_0_0)))))) (extractStridedSlice S64x256 ![0, 512] (res_main_while0b_v68 V0) slices_S64x768_S64x256_0_512) : (Proc.devRef .tc main_while0b_v89 : DevRef τ sig).ty.Contents (Elt F)) = Cert.ReferenceIdeal.Step.b135 j s := by
  unfold Cert.ReferenceIdeal.Step.b135
  rw [← al_125 h, ← al_116 h]
  try rfl
set_option maxRecDepth 8192 in
theorem al_136 (h : Holds V0 s j) : (addf (extractStridedSlice S64x256 ![0, 512] (res_main_while0b_v64 V0) slices_S64x768_S64x256_0_512) (mulf (Host.divf (broadcastInDim S64x256 ![] bcast_S_S64x256 (constant S_ .f32 0x3F800000#32)) (addf (broadcastInDim S64x256 ![] bcast_S_S64x256 (constant S_ .f32 0x3F800000#32)) (Host.exp (Host.negf (addf (extractStridedSlice S64x256 ![0, 0] (res_main_while0b_v64 V0) slices_S64x768_S64x256_0_0) (extractStridedSlice S64x256 ![0, 0] (res_main_while0b_v68 V0) slices_S64x768_S64x256_0_0)))))) (extractStridedSlice S64x256 ![0, 512] (res_main_while0b_v68 V0) slices_S64x768_S64x256_0_512)) : (Proc.devRef .tc main_while0b_v90 : DevRef τ sig).ty.Contents (Elt F)) = Cert.ReferenceIdeal.Step.b136 j s := by
  unfold Cert.ReferenceIdeal.Step.b136
  rw [← al_113 h, ← al_135 h]
  try rfl
set_option maxRecDepth 8192 in
theorem al_137 (h : Holds V0 s j) : (Host.tanh (addf (extractStridedSlice S64x256 ![0, 512] (res_main_while0b_v64 V0) slices_S64x768_S64x256_0_512) (mulf (Host.divf (broadcastInDim S64x256 ![] bcast_S_S64x256 (constant S_ .f32 0x3F800000#32)) (addf (broadcastInDim S64x256 ![] bcast_S_S64x256 (constant S_ .f32 0x3F800000#32)) (Host.exp (Host.negf (addf (extractStridedSlice S64x256 ![0, 0] (res_main_while0b_v64 V0) slices_S64x768_S64x256_0_0) (extractStridedSlice S64x256 ![0, 0] (res_main_while0b_v68 V0) slices_S64x768_S64x256_0_0)))))) (extractStridedSlice S64x256 ![0, 512] (res_main_while0b_v68 V0) slices_S64x768_S64x256_0_512))) : (Proc.devRef .tc main_while0b_v91 : DevRef τ sig).ty.Contents (Elt F)) = Cert.ReferenceIdeal.Step.b137 j s := by
  unfold Cert.ReferenceIdeal.Step.b137
  rw [← al_136 h]
  try rfl
set_option maxRecDepth 8192 in
theorem al_138 (h : Holds V0 s j) : (constant S_ .f32 0x3F800000#32 : (Proc.devRef .tc main_while0b_cst_37 : DevRef τ sig).ty.Contents (Elt F)) = Cert.ReferenceIdeal.Step.b138 j s := by
  unfold Cert.ReferenceIdeal.Step.b138
  rfl
set_option maxRecDepth 8192 in
theorem al_139 (h : Holds V0 s j) : (broadcastInDim S64x256 ![] bcast_S_S64x256 (constant S_ .f32 0x3F800000#32) : (Proc.devRef .tc main_while0b_v92 : DevRef τ sig).ty.Contents (Elt F)) = Cert.ReferenceIdeal.Step.b139 j s := by
  unfold Cert.ReferenceIdeal.Step.b139
  rw [← al_138 h]
  try rfl
set_option maxRecDepth 8192 in
theorem al_140 (h : Holds V0 s j) : (subf (broadcastInDim S64x256 ![] bcast_S_S64x256 (constant S_ .f32 0x3F800000#32)) (res_main_while0b_v88 V0) : (Proc.devRef .tc main_while0b_v93 : DevRef τ sig).ty.Contents (Elt F)) = Cert.ReferenceIdeal.Step.b140 j s := by
  unfold Cert.ReferenceIdeal.Step.b140
  rw [← al_139 h, ← al_134 h]
  try rfl
set_option maxRecDepth 8192 in
theorem al_141 (h : Holds V0 s j) : (mulf (subf (broadcastInDim S64x256 ![] bcast_S_S64x256 (constant S_ .f32 0x3F800000#32)) (res_main_while0b_v88 V0)) (Host.tanh (addf (extractStridedSlice S64x256 ![0, 512] (res_main_while0b_v64 V0) slices_S64x768_S64x256_0_512) (mulf (Host.divf (broadcastInDim S64x256 ![] bcast_S_S64x256 (constant S_ .f32 0x3F800000#32)) (addf (broadcastInDim S64x256 ![] bcast_S_S64x256 (constant S_ .f32 0x3F800000#32)) (Host.exp (Host.negf (addf (extractStridedSlice S64x256 ![0, 0] (res_main_while0b_v64 V0) slices_S64x768_S64x256_0_0) (extractStridedSlice S64x256 ![0, 0] (res_main_while0b_v68 V0) slices_S64x768_S64x256_0_0)))))) (extractStridedSlice S64x256 ![0, 512] (res_main_while0b_v68 V0) slices_S64x768_S64x256_0_512)))) : (Proc.devRef .tc main_while0b_v94 : DevRef τ sig).ty.Contents (Elt F)) = Cert.ReferenceIdeal.Step.b141 j s := by
  unfold Cert.ReferenceIdeal.Step.b141
  rw [← al_140 h, ← al_137 h]
  try rfl
set_option maxRecDepth 8192 in
theorem al_142 (h : Holds V0 s j) : (mulf (res_main_while0b_v88 V0) (res_main_while0b_v60 V0) : (Proc.devRef .tc main_while0b_v95 : DevRef τ sig).ty.Contents (Elt F)) = Cert.ReferenceIdeal.Step.b142 j s := by
  unfold Cert.ReferenceIdeal.Step.b142
  rw [← al_134 h, ← al_102 h]
  try rfl
set_option maxRecDepth 8192 in
theorem al_143 (h : Holds V0 s j) : (res_main_while0b_v96 V0 : (Proc.devRef .tc main_while0b_v96 : DevRef τ sig).ty.Contents (Elt F)) = Cert.ReferenceIdeal.Step.b143 j s := by
  unfold res_main_while0b_v96 Cert.ReferenceIdeal.Step.b143
  rw [← al_141 h, ← al_142 h]
  try rfl
set_option maxRecDepth 8192 in
theorem al_144 (h : Holds V0 s j) : (broadcastInDim S1x64x256 ![1, 2] bcast_S64x256_S1x64x256_1_2 (res_main_while0b_v96 V0) : (Proc.devRef .tc main_while0b_call6_v0 : DevRef τ sig).ty.Contents (Elt F)) = Cert.ReferenceIdeal.Step.b144 j s := by
  unfold Cert.ReferenceIdeal.Step.b144
  rw [← al_143 h]
  try rfl
set_option maxRecDepth 8192 in
theorem al_145 (h : Holds V0 s j) : (constantI S_ 32 0#32 : (Proc.devRef .tc main_while0b_call6_c : DevRef τ sig).ty.Contents (Elt F)) = Cert.ReferenceIdeal.Step.b145 j s := by
  unfold Cert.ReferenceIdeal.Step.b145
  rfl
set_option maxRecDepth 8192 in
theorem al_146 (h : Holds V0 s j) : (cmpi .slt (V0 (Proc.devRef .tc main_v6_14)) (constantI S_ 32 0#32) : (Proc.devRef .tc main_while0b_call6_v1 : DevRef τ sig).ty.Contents (Elt F)) = Cert.ReferenceIdeal.Step.b146 j s := by
  unfold Cert.ReferenceIdeal.Step.b146
  rw [← al_145 h, h.n_14]
  try rfl
set_option maxRecDepth 8192 in
theorem al_147 (h : Holds V0 s j) : (id (V0 (Proc.devRef .tc main_v6_14)) : (Proc.devRef .tc main_while0b_call6_v2 : DevRef τ sig).ty.Contents (Elt F)) = Cert.ReferenceIdeal.Step.b147 j s := by
  unfold Cert.ReferenceIdeal.Step.b147
  rw [h.n_14]
  try rfl
set_option maxRecDepth 8192 in
theorem al_148 (h : Holds V0 s j) : (constantI S_ 32 32#32 : (Proc.devRef .tc main_while0b_call6_c_0 : DevRef τ sig).ty.Contents (Elt F)) = Cert.ReferenceIdeal.Step.b148 j s := by
  unfold Cert.ReferenceIdeal.Step.b148
  rfl
set_option maxRecDepth 8192 in
theorem al_149 (h : Holds V0 s j) : (addi (id (V0 (Proc.devRef .tc main_v6_14))) (constantI S_ 32 32#32) : (Proc.devRef .tc main_while0b_call6_v3 : DevRef τ sig).ty.Contents (Elt F)) = Cert.ReferenceIdeal.Step.b149 j s := by
  unfold Cert.ReferenceIdeal.Step.b149
  rw [← al_147 h, ← al_148 h]
  try rfl
set_option maxRecDepth 8192 in
theorem al_150 (h : Holds V0 s j) : (select (cmpi .slt (V0 (Proc.devRef .tc main_v6_14)) (constantI S_ 32 0#32)) (addi (id (V0 (Proc.devRef .tc main_v6_14))) (constantI S_ 32 32#32)) (V0 (Proc.devRef .tc main_v6_14)) : (Proc.devRef .tc main_while0b_call6_v4 : DevRef τ sig).ty.Contents (Elt F)) = Cert.ReferenceIdeal.Step.b150 j s := by
  unfold Cert.ReferenceIdeal.Step.b150
  rw [← al_146 h, ← al_149 h, h.n_14]
  try rfl
set_option maxRecDepth 8192 in
theorem al_151 (h : Holds V0 s j) : (constantI S_ 32 0#32 : (Proc.devRef .tc main_while0b_call6_c_1 : DevRef τ sig).ty.Contents (Elt F)) = Cert.ReferenceIdeal.Step.b151 j s := by
  unfold Cert.ReferenceIdeal.Step.b151
  rfl
set_option maxRecDepth 8192 in
theorem al_152 (h : Holds V0 s j) : (constantI S_ 32 0#32 : (Proc.devRef .tc main_while0b_call6_c_2 : DevRef τ sig).ty.Contents (Elt F)) = Cert.ReferenceIdeal.Step.b152 j s := by
  unfold Cert.ReferenceIdeal.Step.b152
  rfl
set_option maxRecDepth 8192 in
theorem al_153 (h : Holds V0 s j) : (Host.dynamicUpdateSlice (V0 (Proc.devRef .tc main_v6_18)) (broadcastInDim S1x64x256 ![1, 2] bcast_S64x256_S1x64x256_1_2 (res_main_while0b_v96 V0)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) updateFits_S32x64x256_S1x64x256 : (Proc.devRef .tc main_while0b_v97 : DevRef τ sig).ty.Contents (Elt F)) = Cert.ReferenceIdeal.Step.b153 j s := by
  unfold Cert.ReferenceIdeal.Step.b153
  rw [← al_144 h, ← al_150 h, ← al_151 h, ← al_152 h, h.f_18]
  try rfl

/-! One trip's step of the carried values is `step`, field by field; a counter steps to the next number. -/

theorem step_15 (h : Holds V0 s j) : step_main_v6_15 V0 = (step j s).main_v6_15 := by
  unfold step_main_v6_15 Cert.ReferenceIdeal.Step.step
  show id (res_main_while0b_v96 V0) = _
  rw [al_143 h]
  try rfl
theorem step_16 (h : Holds V0 s j) : step_main_v6_16 V0 = (step j s).main_v6_16 := by
  unfold step_main_v6_16 Cert.ReferenceIdeal.Step.step
  show id (res_main_while0b_v10 V0) = _
  rw [al_31 h]
  try rfl
theorem step_17 (h : Holds V0 s j) : step_main_v6_17 V0 = (step j s).main_v6_17 := by
  unfold step_main_v6_17 Cert.ReferenceIdeal.Step.step
  show id (subf (select (cmpf .oeq (res_main_while0b_v47 V0) (broadcastInDim S64x1024 ![] bcast_S_S64x1024 (constant S_ .f32 0x3F800000#32))) (broadcastInDim S64x1024 ![] bcast_S_S64x1024 (id (constant S_ .f32 0x00000000#32))) (V0 (Proc.devRef .tc main_v6_17))) (broadcastInDim S64x1024 ![] bcast_S_S64x1024 (constant S_ .f32 0x3F800000#32))) = _
  rw [al_97 h]
  try rfl
theorem step_18 (h : Holds V0 s j) : step_main_v6_18 V0 = (step j s).main_v6_18 := by
  unfold step_main_v6_18 Cert.ReferenceIdeal.Step.step
  show id (Host.dynamicUpdateSlice (V0 (Proc.devRef .tc main_v6_18)) (broadcastInDim S1x64x256 ![1, 2] bcast_S64x256_S1x64x256_1_2 (res_main_while0b_v96 V0)) (fun k => (((![select (cmpi .slt (V0 (Proc.devRef .tc main_v6_14)) (constantI S_ 32 0#32)) (addi (id (V0 (Proc.devRef .tc main_v6_14))) (constantI S_ 32 32#32)) (V0 (Proc.devRef .tc main_v6_14)), constantI S_ 32 0#32, constantI S_ 32 0#32] : Fin 3 → (⟨S_, .i32⟩ : BufTy).Contents (Elt F))) k (Shape.Idx.first h_S_)).toInt) updateFits_S32x64x256_S1x64x256) = _
  exact al_153 h
theorem step_13 (h : Holds V0 s j) : step_main_v6_13 V0 = constantI S_ 32 (BitVec.ofNat 32 (j + 1)) := by
  unfold step_main_v6_13
  rw [h.n_13]
  funext i
  show BitVec.ofNat 32 j + 1#32 = BitVec.ofNat 32 (j + 1)
  simp only [BitVec.ofNat_add]
theorem step_14 (h : Holds V0 s j) : step_main_v6_14 V0 = constantI S_ 32 (BitVec.ofNat 32 (j + 1)) := by
  unfold step_main_v6_14
  rw [h.n_14]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_15 := (STEP_main_v6_15 V0).trans (step_15 h)
  f_16 := (STEP_main_v6_16 V0).trans (step_16 h)
  f_17 := (STEP_main_v6_17 V0).trans (step_17 h)
  f_18 := (STEP_main_v6_18 V0).trans (step_18 h)
  n_13 := (STEP_main_v6_13 V0).trans (step_13 h)
  n_14 := (STEP_main_v6_14 V0).trans (step_14 h)
  f_0 := (STEP_main_v6_0 V0).trans h.f_0
  f_1 := (STEP_main_v6_1 V0).trans h.f_1
  f_2 := (STEP_main_v6_2 V0).trans h.f_2
  f_3 := (STEP_main_v6_3 V0).trans h.f_3
  f_4 := (STEP_main_v6_4 V0).trans h.f_4
  f_5 := (STEP_main_v6_5 V0).trans h.f_5
  f_6 := (STEP_main_v6_6 V0).trans h.f_6
  f_7 := (STEP_main_v6_7 V0).trans h.f_7
  f_8 := (STEP_main_v6_8 V0).trans h.f_8
  f_9 := (STEP_main_v6_9 V0).trans h.f_9
  f_10 := (STEP_main_v6_10 V0).trans h.f_10
  f_11 := (STEP_main_v6_11 V0).trans h.f_11
  f_12 := (STEP_main_v6_12 V0).trans h.f_12

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v6_18) = (it c 32).main_v6_18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    have hk := holds_iter m c (it c) (h0 c) (hs c) 32
    ⟨(h c).1.trans hk.f_18, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.ReferenceIdeal.StepRun

end
-- ==== Proof.KCond.lean ====
/-
  The one branch condition of the body of `Kernel`.
-/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the point is the first. -/
abbrev cond0_0 (i : grid0.Coords) : Prop := (Scalar.cmpi .ne (Scalar.extui (Scalar.cmpi .eq (BitVec.ofNat 32 (i 0).val) 0#32)) 0#32) = 1#1

end Cert.Kernel.Gen

end
-- ==== Proof.KRunA.lean ====
/-
  The kernel body of `Kernel`, run once at the first grid point.
-/
module

public import proofs.«01_k».proof.Proof.KCond

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
theorem kernelRun_A (c : Dev nD) (i : grid0.Coords)
    (arg1 : Memref sig .tc .vmem S8x64x256 .f32) (harg1 : arg1.IsWhole)
    (arg2 : Memref sig .tc .vmem S8x64x1024 .f32) (harg2 : arg2.IsWhole)
    (arg3 : Memref sig .tc .vmem S256x768 .f32) (harg3 : arg3.IsWhole)
    (arg4 : Memref sig .tc .vmem S256x768 .f32) (harg4 : arg4.IsWhole)
    (arg5 : Memref sig .tc .vmem S1x768 .f32) (harg5 : arg5.IsWhole)
    (arg6 : Memref sig .tc .vmem S1x768 .f32) (harg6 : arg6.IsWhole)
    (arg7 : Memref sig .tc .vmem S256x256 .f32) (harg7 : arg7.IsWhole)
    (arg8 : Memref sig .tc .vmem S256x256 .f32) (harg8 : arg8.IsWhole)
    (arg9 : Memref sig .tc .vmem S1024x256 .f32) (harg9 : arg9.IsWhole)
    (arg10 : Memref sig .tc .vmem S256x1024 .f32) (harg10 : arg10.IsWhole)
    (arg11 : Memref sig .tc .vmem S1x1024 .f32) (harg11 : arg11.IsWhole)
    (arg12 : Memref sig .tc .vmem S256x256 .f32) (harg12 : arg12.IsWhole)
    (arg13 : Memref sig .tc .vmem S256x256 .f32) (harg13 : arg13.IsWhole)
    (arg14 : Memref sig .tc .vmem S1x256 .f32) (harg14 : arg14.IsWhole)
    (arg15 : Memref sig .tc .vmem S8x64x256 .f32) (harg15 : arg15.IsWhole)
    (arg16 : Memref sig .tc .vmem S64x256 .f32) (harg16 : arg16.IsWhole)
    (arg17 : Memref sig .tc .vmem S64x1024 .f32) (harg17 : arg17.IsWhole)
    (arg18 : Memref sig .tc .vmem S64x256 .f32) (harg18 : arg18.IsWhole)
    (arg19 : Memref sig .tc .vmem S32x64x256 .f32) (harg19 : arg19.IsWhole)
    (hc0 : cond0_0 i)
    (x0 : Vec F S8x64x256 .f32)
    (x1 : Vec F S8x64x1024 .f32)
    (x2 : Vec F S256x768 .f32)
    (x3 : Vec F S256x768 .f32)
    (x4 : Vec F S1x768 .f32)
    (x5 : Vec F S1x768 .f32)
    (x6 : Vec F S256x256 .f32)
    (x7 : Vec F S256x256 .f32)
    (x8 : Vec F S1024x256 .f32)
    (x9 : Vec F S256x1024 .f32)
    (x10 : Vec F S1x1024 .f32)
    (x11 : Vec F S256x256 .f32)
    (x12 : Vec F S256x256 .f32)
    (x13 : Vec F S1x256 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)) -∗ K ⟨⟩))
      ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__step_kernel_eq_skeleton]; unfold cc0__step_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

end Cert.Kernel.Gen

end
-- ==== Proof.KRunB.lean ====
/-
  The kernel body of `Kernel`, run once at any grid point that is not the first.
-/
module

public import proofs.«01_k».proof.Proof.KCond

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
theorem kernelRun_B (c : Dev nD) (i : grid0.Coords)
    (arg1 : Memref sig .tc .vmem S8x64x256 .f32) (harg1 : arg1.IsWhole)
    (arg2 : Memref sig .tc .vmem S8x64x1024 .f32) (harg2 : arg2.IsWhole)
    (arg3 : Memref sig .tc .vmem S256x768 .f32) (harg3 : arg3.IsWhole)
    (arg4 : Memref sig .tc .vmem S256x768 .f32) (harg4 : arg4.IsWhole)
    (arg5 : Memref sig .tc .vmem S1x768 .f32) (harg5 : arg5.IsWhole)
    (arg6 : Memref sig .tc .vmem S1x768 .f32) (harg6 : arg6.IsWhole)
    (arg7 : Memref sig .tc .vmem S256x256 .f32) (harg7 : arg7.IsWhole)
    (arg8 : Memref sig .tc .vmem S256x256 .f32) (harg8 : arg8.IsWhole)
    (arg9 : Memref sig .tc .vmem S1024x256 .f32) (harg9 : arg9.IsWhole)
    (arg10 : Memref sig .tc .vmem S256x1024 .f32) (harg10 : arg10.IsWhole)
    (arg11 : Memref sig .tc .vmem S1x1024 .f32) (harg11 : arg11.IsWhole)
    (arg12 : Memref sig .tc .vmem S256x256 .f32) (harg12 : arg12.IsWhole)
    (arg13 : Memref sig .tc .vmem S256x256 .f32) (harg13 : arg13.IsWhole)
    (arg14 : Memref sig .tc .vmem S1x256 .f32) (harg14 : arg14.IsWhole)
    (arg15 : Memref sig .tc .vmem S8x64x256 .f32) (harg15 : arg15.IsWhole)
    (arg16 : Memref sig .tc .vmem S64x256 .f32) (harg16 : arg16.IsWhole)
    (arg17 : Memref sig .tc .vmem S64x1024 .f32) (harg17 : arg17.IsWhole)
    (arg18 : Memref sig .tc .vmem S64x256 .f32) (harg18 : arg18.IsWhole)
    (arg19 : Memref sig .tc .vmem S32x64x256 .f32) (harg19 : arg19.IsWhole)
    (hc0 : ¬cond0_0 i)
    (x0 : Vec F S8x64x256 .f32)
    (x1 : Vec F S8x64x1024 .f32)
    (x2 : Vec F S256x768 .f32)
    (x3 : Vec F S256x768 .f32)
    (x4 : Vec F S1x768 .f32)
    (x5 : Vec F S1x768 .f32)
    (x6 : Vec F S256x256 .f32)
    (x7 : Vec F S256x256 .f32)
    (x8 : Vec F S1024x256 .f32)
    (x9 : Vec F S256x1024 .f32)
    (x10 : Vec F S1x1024 .f32)
    (x11 : Vec F S256x256 .f32)
    (x12 : Vec F S256x256 .f32)
    (x13 : Vec F S1x256 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)) -∗ K ⟨⟩))
      ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__step_kernel_eq_skeleton]; unfold cc0__step_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

end Cert.Kernel.Gen

end
-- ==== Proof.KFrame.lean ====
/-
  The launch of `Kernel`: the pipeline's proof data with the output window left unnamed and every scratch buffer at
  anything between points, the body obligation from the two runs (`KRunA`: the first point; `KRunB`: the others), and
  the frame: the program terminates, its arguments end unchanged, its counters end at zero.
-/
module

public import proofs.«01_k».proof.Proof.KRunA
public import proofs.«01_k».proof.Proof.KRunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' staging memrefs and the scratch buffers -/

abbrev ms0_0 (t : Fin cfg0.N) : Memref sig .tc .vmem S8x64x256 .f32 := win0_0.stage (cfg0.slots t 0)
abbrev ms0_1 (t : Fin cfg0.N) : Memref sig .tc .vmem S8x64x1024 .f32 := win0_1.stage (cfg0.slots t 1)
abbrev ms0_2 (t : Fin cfg0.N) : Memref sig .tc .vmem S256x768 .f32 := win0_2.stage (cfg0.slots t 2)
abbrev ms0_3 (t : Fin cfg0.N) : Memref sig .tc .vmem S256x768 .f32 := win0_3.stage (cfg0.slots t 3)
abbrev ms0_4 (t : Fin cfg0.N) : Memref sig .tc .vmem S1x768 .f32 := win0_4.stage (cfg0.slots t 4)
abbrev ms0_5 (t : Fin cfg0.N) : Memref sig .tc .vmem S1x768 .f32 := win0_5.stage (cfg0.slots t 5)
abbrev ms0_6 (t : Fin cfg0.N) : Memref sig .tc .vmem S256x256 .f32 := win0_6.stage (cfg0.slots t 6)
abbrev ms0_7 (t : Fin cfg0.N) : Memref sig .tc .vmem S256x256 .f32 := win0_7.stage (cfg0.slots t 7)
abbrev ms0_8 (t : Fin cfg0.N) : Memref sig .tc .vmem S1024x256 .f32 := win0_8.stage (cfg0.slots t 8)
abbrev ms0_9 (t : Fin cfg0.N) : Memref sig .tc .vmem S256x1024 .f32 := win0_9.stage (cfg0.slots t 9)
abbrev ms0_10 (t : Fin cfg0.N) : Memref sig .tc .vmem S1x1024 .f32 := win0_10.stage (cfg0.slots t 10)
abbrev ms0_11 (t : Fin cfg0.N) : Memref sig .tc .vmem S256x256 .f32 := win0_11.stage (cfg0.slots t 11)
abbrev ms0_12 (t : Fin cfg0.N) : Memref sig .tc .vmem S256x256 .f32 := win0_12.stage (cfg0.slots t 12)
abbrev ms0_13 (t : Fin cfg0.N) : Memref sig .tc .vmem S1x256 .f32 := win0_13.stage (cfg0.slots t 13)
abbrev ms0_14 (t : Fin cfg0.N) : Memref sig .tc .vmem S8x64x256 .f32 := win0_14.stage (cfg0.slots t 14)
abbrev scM0_0 : Memref sig .tc .vmem S64x256 .f32 := Memref.whole cc0_scratch0
abbrev scM0_1 : Memref sig .tc .vmem S64x1024 .f32 := Memref.whole cc0_scratch1
abbrev scM0_2 : Memref sig .tc .vmem S64x256 .f32 := Memref.whole cc0_scratch2
abbrev scM0_3 : Memref sig .tc .vmem S32x64x256 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The proof data -/

/-- The output window, of which nothing is named. -/
def forgets0 : Fin 15 → Bool := fun w => w.val == 14

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation -/

def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d))

def bodyPost (c : Dev nD) (t : Fin cfg0.N) : sProp 𝕄 :=
  iprop((dats m 0 c).Φ t.succ
    ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ d, owns (c : Thread nD τ) (ms0_14 t) fullShare d))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = Pipeline.ΦA spec0 c from rfl, show (dats m 0 c).Φ t.castSucc = Pipeline.ΦA spec0 c from rfl, PhiA0_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  by_cases hc : cond0_0 (grid0.coords t)
  · iapply (kernelRun_A c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [S0]; · iexact S0
    isplitl [S1]; · iexact S1
    isplitl [S2]; · iexact S2
    isplitl [S3]; · iexact S3
    iintro ⟨H0, H1, H2, H3, H4, H5, H6, H7, H8, H9, H10, H11, H12, H13, H14, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iapply (kernelRun_B c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [S0]; · iexact S0
    isplitl [S1]; · iexact S1
    isplitl [S2]; · iexact S2
    isplitl [S3]; · iexact S3
    iintro ⟨H0, H1, H2, H3, H4, H5, H6, H7, H8, H9, H10, H11, H12, H13, H14, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- THE FRAME: the program terminates, its arguments end unchanged, its counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      ((h.1 c).2 main_arg4 (Pipeline.mem_restRefs_of main_arg4 (by decide) (by decide))).trans (V_main_arg4 m c),
      (Pipeline.RDat.FramePost.arr_in h.1 c 6 rfl).trans ((A_eq m c 6).trans (V_main_arg5 m c)),
      (Pipeline.RDat.FramePost.arr_in h.1 c 7 rfl).trans ((A_eq m c 7).trans (V_main_arg6 m c)),
      (Pipeline.RDat.FramePost.arr_in h.1 c 8 rfl).trans ((A_eq m c 8).trans (V_main_arg7 m c)),
      (Pipeline.RDat.FramePost.arr_in h.1 c 9 rfl).trans ((A_eq m c 9).trans (V_main_arg8 m c)),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩) (run_main_quiescent m ρ)

end Cert.Kernel.Gen

end
-- ==== Proof.ICond.lean ====
/-
  The one branch condition of the body of `KernelIdeal`.
-/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first branch: the point is the first. -/
abbrev cond0_0 (i : grid0.Coords) : Prop := (Scalar.cmpi .ne (Scalar.extui (Scalar.cmpi .eq (BitVec.ofNat 32 (i 0).val) 0#32)) 0#32) = 1#1

end Cert.KernelIdeal.Gen

end
-- ==== Proof.KStep.lean ====
/-
  One step of the kernel as functions of whole arrays: the logits, the selected column, the usage, the entry read from
  the past states, and the two halves of the state's update; then eight of these steps, the way one grid point runs them.
-/
module

public import proofs.«01_k».proof.Proof.ICond

@[expose] public section

noncomputable section

namespace Cert.KernelIdeal.Step

open Idealize.ShloMosaic Cert.KernelIdeal Cert.KernelIdeal.Gen

variable {F : FTy → Type} [FloatOps F] [Named F]

/-- The arrays every step reads: the weights and biases. -/
structure Weights (F : FTy → Type) where
  ih : Vec F S256x768 .f32
  hh : Vec F S256x768 .f32
  bih : Vec F S1x768 .f32
  bhh : Vec F S1x768 .f32
  im : Vec F S256x256 .f32
  hm : Vec F S256x256 .f32
  um : Vec F S1024x256 .f32
  fc1 : Vec F S256x1024 .f32
  b1 : Vec F S1x1024 .f32
  fc2e : Vec F S256x256 .f32
  fc2h : Vec F S256x256 .f32
  b2 : Vec F S1x256 .f32

/-- Zero, as the accumulator a product starts from. -/
abbrev zeros : FVec F S64x256 .f32 := constant S64x256 .f32 0x00000000#32

/-- The Gumbel noise of a block of uniform draws. -/
def noise (u : FVec F S64x1024 .f32) : FVec F S64x1024 .f32 :=
  subf (broadcast S64x1024 (Scalar.ofBits .f32 0x00000000#32))
    (log (subf (broadcast S64x1024 (Scalar.ofBits .f32 507307272#32))
      (log (addf (broadcast S64x1024 (Scalar.ofBits .f32 507307272#32)) u))))

/-- The logits of the columns: from the state `h`, the usage term `c`, the input `x` and the draws `u`. -/
def logits (W : Weights F) (x : FVec F S64x256 .f32) (u : FVec F S64x1024 .f32) (h c : FVec F S64x256 .f32) :
    FVec F S64x1024 .f32 :=
  addf (addf (matmul dot_S64x256_S256x1024_S64x1024_1_0_0_1_n_n none
      (tanh (addf (addf (matmul dot_S64x256_S256x256_S64x256_1_0_0_1_n_n none h W.hm zeros)
        (matmul dot_S64x256_S256x256_S64x256_1_0_0_1_n_n none x W.im zeros)) c))
      W.fc1 (constant S64x1024 .f32 0x00000000#32))
    (broadcastTo S64x1024 (shapeCast S1x1024 W.b1 shapeCasts_S1x1024_S1x1024) broadcasts_S1x1024_S64x1024)) (noise u)

/-- The column numbers. -/
abbrev cols : IVec S64x1024 32 := iota .tc S64x1024 32 [1] iota_S64x1024_d1_w32

/-- The first column at which the row's largest logit lies. -/
def firstMax (l : FVec F S64x1024 .f32) : IVec S64x1 32 :=
  shapeCast S64x1 (multiReductionI .minsi [1] S64
    (select (cmpf .oeq l (broadcastTo S64x1024 (shapeCast S64x1
      (multiReduction .maximumf [1] S64 l 0xFF800000#32 reduces_S64x1024_S64 (.inl rfl) rfl) shapeCasts_S64_S64x1)
      broadcasts_S64x1_S64x1024)) cols (broadcast S64x1024 1024#32))
    2147483647#32 reduces_S64x1024_S64 rfl) shapeCasts_S64_S64x1

/-- The usage after the step: -1 in the selected column, one less elsewhere. -/
def usage (p : IVec S64x1 32) (l : FVec F S64x1024 .f32) : FVec F S64x1024 .f32 :=
  select (cmpi .eq cols (broadcastTo S64x1024 p broadcasts_S64x1_S64x1024))
    (broadcast S64x1024 (Scalar.ofBits .f32 3212836864#32))
    (subf l (broadcast S64x1024 (Scalar.ofBits .f32 1065353216#32)))

/-- The usage's term in the next step's logits. -/
def usageTerm (W : Weights F) (l : FVec F S64x1024 .f32) : FVec F S64x256 .f32 :=
  matmul dot_S64x1024_S1024x256_S64x256_1_0_0_1_n_n none (logistic l) W.um zeros

/-- Bit `k` of the row's index, along the row. -/
def bit (p : IVec S64x1 32) (k : BitVec 32) : IVec S64x256 1 :=
  broadcastTo S64x256 (shapeCast S64x1 (cmpi .eq (andi (shrsi p (broadcast S64x1 k)) (broadcast S64x1 1#32))
    (broadcast S64x1 1#32)) shapeCasts_S64x1_S64x1) broadcasts_S64x1_S64x256

/-- Of each pair of neighbours, the one the bit says. -/
def half {n : ℕ} (b : IVec S64x256 1) (f : Fin (2 * n) → FVec F S64x256 .f32) : Fin n → FVec F S64x256 .f32 :=
  fun j => select b (f ⟨2 * j.val + 1, by omega⟩) (f ⟨2 * j.val, by omega⟩)

/-- The past state an index names: five rounds of choosing between neighbours. -/
def choose (p : IVec S64x1 32) (rows : Fin 32 → FVec F S64x256 .f32) : FVec F S64x256 .f32 :=
  half (n := 1) (bit p 4#32) (half (n := 2) (bit p 3#32) (half (n := 4) (bit p 2#32)
    (half (n := 8) (bit p 1#32) (half (n := 16) (bit p 0#32) rows)))) 0

/-- The entry read: the past state of the selected column where that column has been written, zero elsewhere. -/
def entry (p : IVec S64x1 32) (rows : Fin 32 → FVec F S64x256 .f32) (t : BitVec 32) : FVec F S64x256 .f32 :=
  select (broadcastTo S64x256 (shapeCast S64x1 (andi (cmpi .sge p (broadcast S64x1 1#32))
      (cmpi .sle p (broadcast S64x1 t))) shapeCasts_S64x1_S64x1) broadcasts_S64x1_S64x256)
    (choose (minsi (broadcast S64x1 31#32) (maxsi (broadcast S64x1 0#32) (subi p (broadcast S64x1 1#32)))) rows)
    (broadcast S64x256 (Scalar.ofBits .f32 0x00000000#32))

/-- The state with the entry taken in. -/
def mixed (W : Weights F) (e h : FVec F S64x256 .f32) : FVec F S64x256 .f32 :=
  addf (addf (matmul dot_S64x256_S256x256_S64x256_1_0_0_1_n_n none e (shapeCast S256x256 W.fc2e shapeCasts_S256x256_S256x256) zeros)
      (matmul dot_S64x256_S256x256_S64x256_1_0_0_1_n_n none h (shapeCast S256x256 W.fc2h shapeCasts_S256x256_S256x256) zeros))
    (broadcastTo S64x256 (shapeCast S1x256 W.b2 shapeCasts_S1x256_S1x256) broadcasts_S1x256_S64x256)

/-- The gates' input part. -/
def inGates (W : Weights F) (x : FVec F S64x256 .f32) : FVec F S64x768 .f32 :=
  addf (matmul dot_S64x256_S256x768_S64x768_1_0_0_1_n_n none x W.ih (constant S64x768 .f32 0x00000000#32))
    (broadcastTo S64x768 (shapeCast S1x768 W.bih shapeCasts_S1x768_S1x768) broadcasts_S1x768_S64x768)

/-- The gates' state part. -/
def stGates (W : Weights F) (h : FVec F S64x256 .f32) : FVec F S64x768 .f32 :=
  addf (matmul dot_S64x256_S256x768_S64x768_1_0_0_1_n_n none h W.hh (constant S64x768 .f32 0x00000000#32))
    (broadcastTo S64x768 (shapeCast S1x768 W.bhh shapeCasts_S1x768_S1x768) broadcasts_S1x768_S64x768)

/-- The gated update. -/
def gated (a b : FVec F S64x768 .f32) (h : FVec F S64x256 .f32) : FVec F S64x256 .f32 :=
  addf
    (mulf (subf (broadcast S64x256 (Scalar.ofBits .f32 1065353216#32))
        (logistic (addf (extractStridedSlice S64x256 ![0, 256] a slices_S64x768_o0_256_S64x256)
          (extractStridedSlice S64x256 ![0, 256] b slices_S64x768_o0_256_S64x256))))
      (tanh (addf (extractStridedSlice S64x256 ![0, 512] a slices_S64x768_o0_512_S64x256)
        (mulf (logistic (addf (extractStridedSlice S64x256 ![0, 0] a slices_S64x768_o0_0_S64x256)
            (extractStridedSlice S64x256 ![0, 0] b slices_S64x768_o0_0_S64x256)))
          (extractStridedSlice S64x256 ![0, 512] b slices_S64x768_o0_512_S64x256)))))
    (mulf (logistic (addf (extractStridedSlice S64x256 ![0, 256] a slices_S64x768_o0_256_S64x256)
          (extractStridedSlice S64x256 ![0, 256] b slices_S64x768_o0_256_S64x256))) h)

/-- The next state. -/
def next (W : Weights F) (x e h : FVec F S64x256 .f32) : FVec F S64x256 .f32 :=
  gated (inGates W x) (stGates W (mixed W e h)) (mixed W e h)

/-- What a grid point carries from step to step: the state, the usage, its term, and the stores made so far into the
    output block and into the past states. -/
structure Block (F : FTy → Type) where
  h : FVec F S64x256 .f32
  l : FVec F S64x1024 .f32
  c : FVec F S64x256 .f32
  outs : List (View.Piece (Elt F) S8x64x256 .f32)
  past : List (View.Piece (Elt F) S32x64x256 .f32)

/-- The step number of step `r` of a grid point. -/
abbrev timeOf (i : grid0.Coords) (r : ℕ) : BitVec 32 :=
  Scalar.addi (Scalar.muli (BitVec.ofNat 32 (i 0).val) 8#32) (BitVec.ofNat 32 r)

theorem inb8 : ∀ (r : Fin 8), ∀ a, (![r.val, 0, 0] : Fin 3 → Nat) a + S1x64x256.size a ≤ S8x64x256.size a := by decide
theorem inb8u : ∀ (r : Fin 8), ∀ a, (![r.val, 0, 0] : Fin 3 → Nat) a + S1x64x1024.size a ≤ S8x64x1024.size a := by decide
theorem inb32 : ∀ (s : Fin 32), ∀ a, (![s.val, 0, 0] : Fin 3 → Nat) a + S1x64x256.size a ≤ S32x64x256.size a := by decide

/-- One step of a grid point; `rd` reads the past states behind the stores made so far. -/
def Block.step (W : Weights F) (i : grid0.Coords) (x : FVec F S64x256 .f32) (u : FVec F S64x1024 .f32) (r : Fin 8)
    (rd : List (View.Piece (Elt F) S32x64x256 .f32) → Fin 32 → FVec F S64x256 .f32) (s : Block F) : Block F where
  h := next W x (entry (firstMax (logits W x u s.h s.c)) (rd s.past) (timeOf i r.val)) s.h
  l := usage (firstMax (logits W x u s.h s.c)) s.l
  c := usageTerm W (usage (firstMax (logits W x u s.h s.c)) s.l)
  outs := ⟨Rect.unit ![r.val, 0, 0] S1x64x256.size (inb8 r),
    shapeCast S1x64x256 (next W x (entry (firstMax (logits W x u s.h s.c)) (rd s.past) (timeOf i r.val)) s.h)
      shapeCasts_S64x256_S1x64x256⟩ :: s.outs
  past := ⟨Rect.unit (k0_off1 i (BitVec.ofNat 32 r.val)) S1x64x256.size (k0_off1_inb i r),
    shapeCast S1x64x256 (next W x (entry (firstMax (logits W x u s.h s.c)) (rd s.past) (timeOf i r.val)) s.h)
      shapeCasts_S64x256_S1x64x256⟩ :: s.past

/-- The first `n` steps of a grid point. -/
def Block.steps (W : Weights F) (i : grid0.Coords) (X : Fin 8 → FVec F S64x256 .f32) (U : Fin 8 → FVec F S64x1024 .f32)
    (rd : List (View.Piece (Elt F) S32x64x256 .f32) → Fin 32 → FVec F S64x256 .f32) (s : Block F) :
    (n : ℕ) → n ≤ 8 → Block F
  | 0, _ => s
  | n + 1, h => (Block.steps W i X U rd s n (by omega)).step W i (X ⟨n, h⟩) (U ⟨n, h⟩) ⟨n, h⟩ rd

/-- What a grid point stores, buffer by buffer; `th tl tc` are the stores made before the first step. -/
def Block.stores (th : List (View.Piece (Elt F) S64x256 .f32)) (tl : List (View.Piece (Elt F) S64x1024 .f32))
    (tc : List (View.Piece (Elt F) S64x256 .f32)) (s : Block F) :
    List (View.Piece (Elt F) S8x64x256 .f32) × List (View.Piece (Elt F) S64x256 .f32)
    × List (View.Piece (Elt F) S64x1024 .f32) × List (View.Piece (Elt F) S64x256 .f32)
    × List (View.Piece (Elt F) S32x64x256 .f32) :=
  (s.outs, ⟨Rect.unit ![0, 0] S64x256.size inb_S64x256_S64x256_0_0, shapeCast S64x256 s.h shapeCasts_S64x256_S64x256⟩ :: th,
    ⟨Rect.unit ![0, 0] S64x1024.size inb_S64x1024_S64x1024_0_0, shapeCast S64x1024 s.l shapeCasts_S64x1024_S64x1024⟩ :: tl,
    ⟨Rect.unit ![0, 0] S64x256.size inb_S64x256_S64x256_0_0, shapeCast S64x256 s.c shapeCasts_S64x256_S64x256⟩ :: tc, s.past)

end Cert.KernelIdeal.Step

end
-- ==== Proof.KReads.lean ====
/-
  What the body's loads read: a whole buffer, a row of a block, a row of the past states behind the stores made so far.
-/
module

public import proofs.«01_k».proof.Proof.KStep

@[expose] public section

noncomputable section

namespace Cert.KernelIdeal.Step

open Idealize.ShloMosaic Idealize.ShloMosaic.TcCoe Cert.KernelIdeal Cert.KernelIdeal.Gen

variable {F : FTy → Type} [FloatOps F] [Named F]

/-- A load of a whole buffer. -/
abbrev ldw {s : Shape} (a : Memref sig .tc .vmem s .f32) (ha : a.IsWhole) (x : Vec F s .f32) (off : Fin s.rank → ℕ)
    (inb : ∀ k, off k + s.size k ≤ s.size k) : Vec F s .f32 :=
  View.readAt (Elt F) a.view (Rect.unit off s.size inb).toLoadRect (ha.unread x)

/-- A load of row `r` of an input block. -/
abbrev row8 (a : Memref sig .tc .vmem S8x64x256 .f32) (ha : a.IsWhole) (x : Vec F S8x64x256 .f32) (r : Fin 8) :
    Vec F S1x64x256 .f32 :=
  View.readAt (Elt F) a.view (Rect.unit (s := S8x64x256) ![r.val, 0, 0] S1x64x256.size (inb8 r)).toLoadRect (ha.unread x)

/-- A load of row `r` of a block of draws. -/
abbrev row8u (a : Memref sig .tc .vmem S8x64x1024 .f32) (ha : a.IsWhole) (x : Vec F S8x64x1024 .f32) (r : Fin 8) :
    Vec F S1x64x1024 .f32 :=
  View.readAt (Elt F) a.view (Rect.unit (s := S8x64x1024) ![r.val, 0, 0] S1x64x1024.size (inb8u r)).toLoadRect (ha.unread x)

/-- A load of row `s` of the past states behind the stores `L`. -/
abbrev row32 (a : Memref sig .tc .vmem S32x64x256 .f32) (ha : a.IsWhole) (x : Vec F S32x64x256 .f32)
    (L : List (View.Piece (Elt F) S32x64x256 .f32)) (s : Fin 32) : Vec F S1x64x256 .f32 :=
  View.readAt (Elt F) a.view (Rect.unit (s := S32x64x256) ![s.val, 0, 0] S1x64x256.size (inb32 s)).toLoadRect
    (a.view.writes (Elt F) (ha.unread x) L)

/-- What the first grid point sets the state to. -/
def Block.start : Block F :=
  ⟨shapeCast S64x256 (broadcast S64x256 (Scalar.ofBits .f32 0x00000000#32)) shapeCasts_S64x256_S64x256,
    shapeCast S64x1024 (broadcast S64x1024 (Named.named κ "never" 0xC7C34F80#32)) shapeCasts_S64x1024_S64x1024,
    shapeCast S64x256 (broadcast S64x256 (Scalar.ofBits .f32 0x00000000#32)) shapeCasts_S64x256_S64x256, [], []⟩

/-- The stores by which it does so. -/
abbrev startH : List (View.Piece (Elt F) S64x256 .f32) :=
  [⟨Rect.unit ![0, 0] S64x256.size inb_S64x256_S64x256_0_0, (Block.start (F := F)).h⟩]
abbrev startL : List (View.Piece (Elt F) S64x1024 .f32) :=
  [⟨Rect.unit ![0, 0] S64x1024.size inb_S64x1024_S64x1024_0_0, (Block.start (F := F)).l⟩]
abbrev startC : List (View.Piece (Elt F) S64x256 .f32) :=
  [⟨Rect.unit ![0, 0] S64x256.size inb_S64x256_S64x256_0_0, (Block.start (F := F)).c⟩]

end Cert.KernelIdeal.Step

end
-- ==== Proof.KEight.lean ====
/-
  Eight steps written out as relations between the values of consecutive steps, so that a run whose values are named one
  by one can be matched with them; and that these relations are eight applications of the step.
-/
module

public import proofs.«01_k».proof.Proof.KReads

@[expose] public section

noncomputable section

namespace Cert.KernelIdeal.Step

open Idealize.ShloMosaic Idealize.ShloMosaic.TcCoe Cert.KernelIdeal Cert.KernelIdeal.Gen

variable {F : FTy → Type} [FloatOps F] [Named F]

/-- The store of a state into row `r` of the output block. -/
abbrev outPiece (r : Fin 8) (h : FVec F S64x256 .f32) : View.Piece (Elt F) S8x64x256 .f32 :=
  ⟨Rect.unit (s := S8x64x256) ![r.val, 0, 0] S1x64x256.size (inb8 r), shapeCast S1x64x256 h shapeCasts_S64x256_S1x64x256⟩

/-- The store of a state into the past states. -/
abbrev pastPiece (i : grid0.Coords) (r : Fin 8) (h : FVec F S64x256 .f32) : View.Piece (Elt F) S32x64x256 .f32 :=
  ⟨Rect.unit (s := S32x64x256) (k0_off1 i (BitVec.ofNat 32 r.val)) S1x64x256.size (k0_off1_inb i r),
    shapeCast S1x64x256 h shapeCasts_S64x256_S1x64x256⟩

/-- One step as a relation. -/
def StepRel (W : Weights F) (i : grid0.Coords) (x : FVec F S64x256 .f32) (u : FVec F S64x1024 .f32) (r : Fin 8)
    (rd : List (View.Piece (Elt F) S32x64x256 .f32) → Fin 32 → FVec F S64x256 .f32)
    (past : List (View.Piece (Elt F) S32x64x256 .f32)) (h : FVec F S64x256 .f32) (l : FVec F S64x1024 .f32)
    (c h' : FVec F S64x256 .f32) (l' : FVec F S64x1024 .f32) (c' : FVec F S64x256 .f32) : Prop :=
  ∃ (m e : FVec F S64x256 .f32) (p : IVec S64x1 32) (g : FVec F S64x1024 .f32),
    h' = gated (inGates W x) (stGates W m) m ∧ m = mixed W e h ∧ e = entry p (rd past) (timeOf i r.val)
      ∧ c' = usageTerm W l' ∧ l' = usage p l ∧ p = firstMax g ∧ g = logits W x u h c

/-- Eight steps as relations, from `h0 l0 c0`, and what they store. -/
def Eight (th : List (View.Piece (Elt F) S64x256 .f32)) (tl : List (View.Piece (Elt F) S64x1024 .f32))
    (tc : List (View.Piece (Elt F) S64x256 .f32))
    (W : Weights F) (i : grid0.Coords) (X : Fin 8 → FVec F S64x256 .f32) (U : Fin 8 → FVec F S64x1024 .f32)
    (rd : List (View.Piece (Elt F) S32x64x256 .f32) → Fin 32 → FVec F S64x256 .f32)
    (h0 : FVec F S64x256 .f32) (l0 : FVec F S64x1024 .f32) (c0 : FVec F S64x256 .f32)
    (stores : List (View.Piece (Elt F) S8x64x256 .f32) × List (View.Piece (Elt F) S64x256 .f32)
      × List (View.Piece (Elt F) S64x1024 .f32) × List (View.Piece (Elt F) S64x256 .f32)
      × List (View.Piece (Elt F) S32x64x256 .f32)) : Prop :=
  ∃ (h1 h2 h3 h4 h5 h6 h7 h8 : FVec F S64x256 .f32) (l1 l2 l3 l4 l5 l6 l7 l8 : FVec F S64x1024 .f32)
    (c1 c2 c3 c4 c5 c6 c7 c8 : FVec F S64x256 .f32),
    stores = Block.stores th tl tc ⟨h8, l8, c8,
      [outPiece 7 h8, outPiece 6 h7, outPiece 5 h6, outPiece 4 h5, outPiece 3 h4, outPiece 2 h3, outPiece 1 h2, outPiece 0 h1],
      [pastPiece i 7 h8, pastPiece i 6 h7, pastPiece i 5 h6, pastPiece i 4 h5, pastPiece i 3 h4, pastPiece i 2 h3, pastPiece i 1 h2, pastPiece i 0 h1]⟩
    ∧ StepRel W i (X 7) (U 7) 7 rd [pastPiece i 6 h7, pastPiece i 5 h6, pastPiece i 4 h5, pastPiece i 3 h4, pastPiece i 2 h3, pastPiece i 1 h2, pastPiece i 0 h1] h7 l7 c7 h8 l8 c8
    ∧ StepRel W i (X 6) (U 6) 6 rd [pastPiece i 5 h6, pastPiece i 4 h5, pastPiece i 3 h4, pastPiece i 2 h3, pastPiece i 1 h2, pastPiece i 0 h1] h6 l6 c6 h7 l7 c7
    ∧ StepRel W i (X 5) (U 5) 5 rd [pastPiece i 4 h5, pastPiece i 3 h4, pastPiece i 2 h3, pastPiece i 1 h2, pastPiece i 0 h1] h5 l5 c5 h6 l6 c6
    ∧ StepRel W i (X 4) (U 4) 4 rd [pastPiece i 3 h4, pastPiece i 2 h3, pastPiece i 1 h2, pastPiece i 0 h1] h4 l4 c4 h5 l5 c5
    ∧ StepRel W i (X 3) (U 3) 3 rd [pastPiece i 2 h3, pastPiece i 1 h2, pastPiece i 0 h1] h3 l3 c3 h4 l4 c4
    ∧ StepRel W i (X 2) (U 2) 2 rd [pastPiece i 1 h2, pastPiece i 0 h1] h2 l2 c2 h3 l3 c3
    ∧ StepRel W i (X 1) (U 1) 1 rd [pastPiece i 0 h1] h1 l1 c1 h2 l2 c2
    ∧ StepRel W i (X 0) (U 0) 0 rd [] h0 l0 c0 h1 l1 c1

theorem StepRel.eq {W : Weights F} {i : grid0.Coords} {x : FVec F S64x256 .f32} {u : FVec F S64x1024 .f32} {r : Fin 8}
    {rd : List (View.Piece (Elt F) S32x64x256 .f32) → Fin 32 → FVec F S64x256 .f32}
    {past : List (View.Piece (Elt F) S32x64x256 .f32)} {h h' c c' : FVec F S64x256 .f32} {l l' : FVec F S64x1024 .f32}
    (H : StepRel W i x u r rd past h l c h' l' c') (outs : List (View.Piece (Elt F) S8x64x256 .f32)) :
    (⟨h', l', c', outPiece r h' :: outs, pastPiece i r h' :: past⟩ : Block F)
      = Block.step W i x u r rd ⟨h, l, c, outs, past⟩ := by
  obtain ⟨m, e, p, g, rfl, rfl, rfl, rfl, rfl, rfl, rfl⟩ := H
  rfl

theorem Eight.eq {th : List (View.Piece (Elt F) S64x256 .f32)} {tl : List (View.Piece (Elt F) S64x1024 .f32)}
    {tc : List (View.Piece (Elt F) S64x256 .f32)}
    {W : Weights F} {i : grid0.Coords} {X : Fin 8 → FVec F S64x256 .f32} {U : Fin 8 → FVec F S64x1024 .f32}
    {rd : List (View.Piece (Elt F) S32x64x256 .f32) → Fin 32 → FVec F S64x256 .f32}
    {h0 : FVec F S64x256 .f32} {l0 : FVec F S64x1024 .f32} {c0 : FVec F S64x256 .f32} {stores}
    (H : Eight th tl tc W i X U rd h0 l0 c0 stores) :
    stores = Block.stores th tl tc (Block.steps W i X U rd ⟨h0, l0, c0, [], []⟩ 8 le_rfl) := by
  obtain ⟨h1, h2, h3, h4, h5, h6, h7, h8, l1, l2, l3, l4, l5, l6, l7, l8, c1, c2, c3, c4, c5, c6, c7, c8, H, H7, H6, H5, H4, H3, H2, H1, H0⟩ := H
  rw [H]
  simp only [Block.steps]
  rw [H7.eq, H6.eq, H5.eq, H4.eq, H3.eq, H2.eq, H1.eq, H0.eq]
  rfl

end Cert.KernelIdeal.Step

end
-- ==== Proof.KEntry.lean ====
/-
  The entry read from the past states, element by element: the past state of the selected column minus one where the
  column is between 1 and the step's number, zero elsewhere.
-/
module

public import proofs.«01_k».proof.Proof.KStep
public import Idealize.ShloMosaic.Lib.Pointwise
public import Idealize.ShloMosaic.Lib.Tactic
public import Idealize.ShloMosaic.Lib.Tactic.WordOmega

@[expose] public section

set_option maxRecDepth 16384

noncomputable section

namespace Cert.KernelIdeal.Step

open Idealize.ShloMosaic Cert.KernelIdeal Cert.KernelIdeal.Gen

variable {F : FTy → Type} [FloatOps F] [Named F]

/-- Bit `j` of an index below 32. -/
theorem bit_apply (p : IVec S64x1 32) (b : Fin 64) (d : Fin 256) (k : Fin 32) (hp : p (ix2 b 0) = BitVec.ofNat 32 k.val)
    (j : Fin 5) : bit p (BitVec.ofNat 32 j.val) (ix2 b d) = BitVec.ofBool (k.val.testBit j.val) := by
  unfold bit
  pointwise
  rw [hp]
  clear hp
  revert k j
  decide

/-- Of each pair of neighbours, the one the bit says. -/
theorem half_apply {n : ℕ} (c : IVec S64x256 1) (f : Fin (2 * n) → FVec F S64x256 .f32) (i : Fin n) (x : S64x256.Idx) (v : Bool)
    (h : c x = BitVec.ofBool v) : half c f i x = f ⟨2 * i.val + v.toNat, by have := i.isLt; have := v.toNat_le; omega⟩ x := by
  unfold half
  pointwise
  rw [h]
  cases v <;> rfl

/-- Five rounds of choosing reach the past state the index names. -/
theorem choose_apply (p : IVec S64x1 32) (rows : Fin 32 → FVec F S64x256 .f32) (b : Fin 64) (d : Fin 256) (k : Fin 32)
    (hp : p (ix2 b 0) = BitVec.ofNat 32 k.val) : choose p rows (ix2 b d) = rows k (ix2 b d) := by
  unfold choose
  have h0 : bit p 0#32 (ix2 b d) = _ := bit_apply p b d k hp 0
  have h1 : bit p 1#32 (ix2 b d) = _ := bit_apply p b d k hp 1
  have h2 : bit p 2#32 (ix2 b d) = _ := bit_apply p b d k hp 2
  have h3 : bit p 3#32 (ix2 b d) = _ := bit_apply p b d k hp 3
  have h4 : bit p 4#32 (ix2 b d) = _ := bit_apply p b d k hp 4
  rw [half_apply _ _ _ _ _ h4, half_apply _ _ _ _ _ h3, half_apply _ _ _ _ _ h2, half_apply _ _ _ _ _ h1,
    half_apply _ _ _ _ _ h0]
  clear h0 h1 h2 h3 h4 hp
  exact congrArg (fun j => rows j (ix2 b d)) (by revert k; decide)

/-- The column before one between 1 and 31, as the clamped difference. -/
theorem clamp_pred : ∀ n : Fin 32, 1 ≤ n.val →
    IntOp.minsi 31#32 (IntOp.maxsi 0#32 (BitVec.ofNat 32 n.val - 1#32)) = BitVec.ofNat 32 (n.val - 1) := by
  decide

/-- Both comparisons hold of a column between 1 and the step's number. -/
theorem written_true (q : BitVec 32) (t : ℕ) (ht : t < 32) (h : 1 ≤ q.toNat ∧ q.toNat ≤ t) :
    IntOp.andi (IntOp.cmpi CmpIPredicate.sge q 1#32) (IntOp.cmpi CmpIPredicate.sle q (BitVec.ofNat 32 t)) = 1#1 := by
  word_omega

/-- Elsewhere one of the two comparisons fails. -/
theorem written_false (q : BitVec 32) (t : ℕ) (ht : t < 32) (h : ¬(1 ≤ q.toNat ∧ q.toNat ≤ t)) :
    IntOp.andi (IntOp.cmpi CmpIPredicate.sge q 1#32) (IntOp.cmpi CmpIPredicate.sle q (BitVec.ofNat 32 t)) = 0#1 := by
  have l : ∀ x : BitVec 1, IntOp.andi 0#1 x = 0#1 := by decide
  have r : ∀ x : BitVec 1, IntOp.andi x 0#1 = 0#1 := by decide
  by_cases h0 : q.toNat = 0 ∨ 2147483648 ≤ q.toNat
  · have e : IntOp.cmpi CmpIPredicate.sge q 1#32 = 0#1 := by
      rcases h0 with h0 | h0 <;> word_omega
    rw [e, l]
  · have e : IntOp.cmpi CmpIPredicate.sle q (BitVec.ofNat 32 t) = 0#1 := by
      have h1 : t < q.toNat := by omega
      have h2 : q.toNat < 2147483648 := by omega
      word_omega
    rw [e, r]

/-- The entry, element by element. -/
theorem entry_apply (p : IVec S64x1 32) (rows : Fin 32 → FVec F S64x256 .f32) (t : ℕ) (ht : t < 32) (b : Fin 64) (d : Fin 256) :
    entry p rows (BitVec.ofNat 32 t) (ix2 b d)
      = if h : 1 ≤ (p (ix2 b 0)).toNat ∧ (p (ix2 b 0)).toNat ≤ t then rows ⟨(p (ix2 b 0)).toNat - 1, by omega⟩ (ix2 b d)
        else FloatOps.ofBits .f32 0x00000000#32 := by
  unfold entry
  pointwise
  by_cases h : 1 ≤ (p (ix2 b 0)).toNat ∧ (p (ix2 b 0)).toNat ≤ t
  · rw [dif_pos h, written_true _ t ht h]
    refine (choose_apply _ rows b d ⟨(p (ix2 b 0)).toNat - 1, by omega⟩ ?_)
    pointwise
    have e := clamp_pred ⟨(p (ix2 b 0)).toNat, by omega⟩ h.1
    simp only [BitVec.ofNat_toNat, BitVec.setWidth_eq] at e
    exact e
  · rw [dif_neg h, written_false _ t ht h]
    rfl

/-- Past states that agree below the step's number give the same entry. -/
theorem entry_congr (p : IVec S64x1 32) (rows rows' : Fin 32 → FVec F S64x256 .f32) (t : ℕ) (ht : t < 32)
    (h : ∀ k : Fin 32, k.val < t → rows k = rows' k) :
    entry p rows (BitVec.ofNat 32 t) = entry p rows' (BitVec.ofNat 32 t) := by
  funext j
  obtain ⟨b, d, rfl⟩ : ∃ b d, j = ix2 b d := ⟨_, _, eq_ix2 j⟩
  rw [entry_apply p rows t ht, entry_apply p rows' t ht]
  split
  · rw [h]
    simp only
    omega
  · rfl

end Cert.KernelIdeal.Step

end
-- ==== Proof.KSeq.lean ====
/-
  The recurrence over all time steps, and that the eight steps of a grid point are eight of its steps: the values they
  carry on, the states they put into the output block and the states they add to the past ones.
-/
module

public import proofs.«01_k».proof.Proof.KEight
public import proofs.«01_k».proof.Proof.KEntry
public import Idealize.ShloMosaic.Lib.VecWindow
public import Idealize.ShloMosaic.Lib.WritesUnit
public import Idealize.ShloMosaic.Lib.WholeRead

@[expose] public section

set_option maxRecDepth 16384

noncomputable section

namespace Cert.KernelIdeal.Step

open Idealize.ShloMosaic Idealize.ShloMosaic.TcCoe Cert.KernelIdeal Cert.KernelIdeal.Gen

variable {F : FTy → Type} [FloatOps F] [Named F]

/-- What is carried from time step to time step: the state, the usage, its term and the past states. -/
structure Carry (F : FTy → Type) where
  h : FVec F S64x256 .f32
  l : FVec F S64x1024 .f32
  c : FVec F S64x256 .f32
  rows : ℕ → FVec F S64x256 .f32

/-- The state after time step `t`. -/
def Carry.nextH (W : Weights F) (x : FVec F S64x256 .f32) (u : FVec F S64x1024 .f32) (t : ℕ) (s : Carry F) : FVec F S64x256 .f32 :=
  next W x (entry (firstMax (logits W x u s.h s.c)) (fun k => s.rows k.val) (BitVec.ofNat 32 t)) s.h

/-- The usage after a time step. -/
def Carry.nextL (W : Weights F) (x : FVec F S64x256 .f32) (u : FVec F S64x1024 .f32) (s : Carry F) : FVec F S64x1024 .f32 :=
  usage (firstMax (logits W x u s.h s.c)) s.l

/-- Time step `t`. -/
def Carry.step (W : Weights F) (x : FVec F S64x256 .f32) (u : FVec F S64x1024 .f32) (t : ℕ) (s : Carry F) : Carry F where
  h := s.nextH W x u t
  l := s.nextL W x u
  c := usageTerm W (s.nextL W x u)
  rows := Function.update s.rows t (s.nextH W x u t)

/-- The carried values before time step `n`. -/
def Carry.run (W : Weights F) (X : ℕ → FVec F S64x256 .f32) (U : ℕ → FVec F S64x1024 .f32) : ℕ → Carry F
  | 0 => ⟨(Block.start (F := F)).h, (Block.start (F := F)).l, (Block.start (F := F)).c, fun _ => (Block.start (F := F)).h⟩
  | n + 1 => (Carry.run W X U n).step W (X n) (U n) n

theorem Carry.run_succ (W : Weights F) (X : ℕ → FVec F S64x256 .f32) (U : ℕ → FVec F S64x1024 .f32) (n : ℕ) :
    Carry.run W X U (n + 1) = (Carry.run W X U n).step W (X n) (U n) n := by
  rw [Carry.run]
theorem Carry.run_h (W : Weights F) (X : ℕ → FVec F S64x256 .f32) (U : ℕ → FVec F S64x1024 .f32) (n : ℕ) :
    (Carry.run W X U (n + 1)).h = (Carry.run W X U n).nextH W (X n) (U n) n := by
  rw [Carry.run_succ, Carry.step]
theorem Carry.run_l (W : Weights F) (X : ℕ → FVec F S64x256 .f32) (U : ℕ → FVec F S64x1024 .f32) (n : ℕ) :
    (Carry.run W X U (n + 1)).l = (Carry.run W X U n).nextL W (X n) (U n) := by
  rw [Carry.run_succ, Carry.step]
theorem Carry.run_c (W : Weights F) (X : ℕ → FVec F S64x256 .f32) (U : ℕ → FVec F S64x1024 .f32) (n : ℕ) :
    (Carry.run W X U (n + 1)).c = usageTerm W (Carry.run W X U (n + 1)).l := by
  rw [Carry.run_succ, Carry.step]

/-- A past state is the state after its time step. -/
theorem Carry.run_rows (W : Weights F) (X : ℕ → FVec F S64x256 .f32) (U : ℕ → FVec F S64x1024 .f32) (s n : ℕ) (h : s < n) :
    (Carry.run W X U n).rows s = (Carry.run W X U (s + 1)).h := by
  induction n with
  | zero => omega
  | succ n ih =>
    show Function.update (Carry.run W X U n).rows n _ s = _
    by_cases e : s = n
    · subst e
      rw [Function.update_self]
      rfl
    · rw [Function.update_of_ne e]
      exact ih (by omega)

/-- The output block read after one more store into it. -/
theorem out_cons (v : View sig .tc .vmem S8x64x256 .f32) (f : v.ty.Contents (Elt F)) (r : Fin 8) (h : FVec F S64x256 .f32)
    (L : List (View.Piece (Elt F) S8x64x256 .f32)) (q : Fin 8) (b : Fin 64) (d : Fin 256) :
    v.read (Elt F) (v.writes (Elt F) f (outPiece r h :: L)) (ix3 q b d)
      = if q = r then h (ix2 b d) else v.read (Elt F) (v.writes (Elt F) f L) (ix3 q b d) := by
  by_cases e : q = r
  · rw [if_pos e]
    subst e
    refine (View.read_writes_cons_unit_of_mem v f (inb8 q) _ L (ix3 q b d) (ix3 (0 : Fin 1) b d) rfl ?_).trans ?_
    · intro a
      fin_cases a
      · rfl
      · exact (Nat.zero_add _).symm
      · exact (Nat.zero_add _).symm
    · pointwise
  · rw [if_neg e]
    refine View.read_writes_cons_unit_of_not_mem v f (inb8 r) _ L (ix3 q b d) rfl (0 : Fin 3) ?_
    have : q.val ≠ r.val := fun h => e (Fin.ext h)
    show q.val < r.val ∨ r.val + 1 ≤ q.val
    omega

/-- The past states read after one more store into them. -/
theorem past_cons (v : View sig .tc .vmem S32x64x256 .f32) (f : v.ty.Contents (Elt F)) (i : grid0.Coords) (r : Fin 8)
    (h : FVec F S64x256 .f32) (L : List (View.Piece (Elt F) S32x64x256 .f32)) (q : Fin 32) (b : Fin 64) (d : Fin 256) :
    v.read (Elt F) (v.writes (Elt F) f (pastPiece i r h :: L)) (ix3 q b d)
      = if q.val = 8 * (i 0).val + r.val then h (ix2 b d) else v.read (Elt F) (v.writes (Elt F) f L) (ix3 q b d) := by
  by_cases e : q.val = 8 * (i 0).val + r.val
  · rw [if_pos e]
    refine (View.read_writes_cons_unit_of_mem v f (k0_off1_inb i r) _ L (ix3 q b d) (ix3 (0 : Fin 1) b d) (k0_off1_eq i r) ?_).trans ?_
    · intro a
      fin_cases a
      · exact e
      · exact (Nat.zero_add _).symm
      · exact (Nat.zero_add _).symm
    · pointwise
  · rw [if_neg e]
    refine View.read_writes_cons_unit_of_not_mem v f (k0_off1_inb i r) _ L (ix3 q b d) (k0_off1_eq i r) (0 : Fin 3) ?_
    show q.val < 8 * (i 0).val + r.val ∨ 8 * (i 0).val + r.val + 1 ≤ q.val
    omega

/-- A load of a past state, element by element. -/
theorem row32_apply (a : Memref sig .tc .vmem S32x64x256 .f32) (ha : a.IsWhole) (x : Vec F S32x64x256 .f32)
    (L : List (View.Piece (Elt F) S32x64x256 .f32)) (s : Fin 32) (b : Fin 64) (d : Fin 256) :
    shapeCast S64x256 (row32 a ha x L s) shapeCasts_S1x64x256_S64x256 (ix2 b d)
      = a.view.read (Elt F) (a.view.writes (Elt F) (ha.unread x) L) (ix3 s b d) := by
  pointwise
  refine congrArg (a.view.read (Elt F) (a.view.writes (Elt F) (ha.unread x) L)) (funext fun k => Fin.ext ?_)
  fin_cases k
  · show s.val + 1 * 0 = s.val
    omega
  · show 0 + 1 * b.val = b.val
    omega
  · show 0 + 1 * d.val = d.val
    omega

/-- A load of an input row, element by element. -/
theorem row8_apply (a : Memref sig .tc .vmem S8x64x256 .f32) (ha : a.IsWhole) (x : Vec F S8x64x256 .f32) (r : Fin 8)
    (b : Fin 64) (d : Fin 256) :
    shapeCast S64x256 (row8 a ha x r) shapeCasts_S1x64x256_S64x256 (ix2 b d) = x (ix3 r b d) := by
  pointwise
  refine (ha.readAt_unread x _ _).trans ?_
  refine congrArg x (funext fun k => Fin.ext ?_)
  fin_cases k
  · show r.val + 1 * 0 = r.val
    omega
  · show 0 + 1 * b.val = b.val
    omega
  · show 0 + 1 * d.val = d.val
    omega

/-- A load of a row of draws, element by element. -/
theorem row8u_apply (a : Memref sig .tc .vmem S8x64x1024 .f32) (ha : a.IsWhole) (x : Vec F S8x64x1024 .f32) (r : Fin 8)
    (b : Fin 64) (d : Fin 1024) :
    shapeCast S64x1024 (row8u a ha x r) shapeCasts_S1x64x1024_S64x1024 (ix2 b d) = x (ix3 r b d) := by
  pointwise
  refine (ha.readAt_unread x _ _).trans ?_
  refine congrArg x (funext fun k => Fin.ext ?_)
  fin_cases k
  · show r.val + 1 * 0 = r.val
    omega
  · show 0 + 1 * b.val = b.val
    omega
  · show 0 + 1 * d.val = d.val
    omega

/-- The step number of step `r` of a grid point. -/
theorem timeOf_eq : ∀ (i : grid0.Coords) (r : Fin 8), timeOf i r.val = BitVec.ofNat 32 (8 * (i 0).val + r.val) := by
  have h : ∀ (n : Fin 4) (r : Fin 8), IntOp.addi (IntOp.muli (BitVec.ofNat 32 n.val) 8#32) (BitVec.ofNat 32 r.val)
      = BitVec.ofNat 32 (8 * n.val + r.val) := by decide
  intro i r
  exact h (i 0) r

/-- What holds of a grid point's values after its first `k` steps. -/
structure Tracks (R : ℕ → Carry F) (i : grid0.Coords) (k : ℕ) (s : Block F) : Prop where
  h : s.h = (R (8 * (i 0).val + k)).h
  l : s.l = (R (8 * (i 0).val + k)).l
  c : s.c = (R (8 * (i 0).val + k)).c
  outs : ∀ (v : View sig .tc .vmem S8x64x256 .f32) (f : v.ty.Contents (Elt F)) (q : Fin 8) (b : Fin 64) (d : Fin 256),
    v.read (Elt F) (v.writes (Elt F) f s.outs) (ix3 q b d)
      = if q.val < k then (R (8 * (i 0).val + q.val + 1)).h (ix2 b d) else v.read (Elt F) f (ix3 q b d)
  past : ∀ (v : View sig .tc .vmem S32x64x256 .f32) (f : v.ty.Contents (Elt F)) (q : Fin 32) (b : Fin 64) (d : Fin 256),
    v.read (Elt F) (v.writes (Elt F) f s.past) (ix3 q b d)
      = if 8 * (i 0).val ≤ q.val ∧ q.val < 8 * (i 0).val + k then (R (q.val + 1)).h (ix2 b d) else v.read (Elt F) f (ix3 q b d)

/-- One more step's values. -/
theorem Tracks.push {R : ℕ → Carry F} {i : grid0.Coords} {k : ℕ} {s : Block F} (t : Tracks R i k s) (hk : k < 8)
    (h' : FVec F S64x256 .f32) (l' : FVec F S64x1024 .f32) (c' : FVec F S64x256 .f32)
    (hH : h' = (R (8 * (i 0).val + k + 1)).h) (hL : l' = (R (8 * (i 0).val + k + 1)).l) (hC : c' = (R (8 * (i 0).val + k + 1)).c) :
    Tracks R i (k + 1) ⟨h', l', c', outPiece ⟨k, hk⟩ h' :: s.outs, pastPiece i ⟨k, hk⟩ h' :: s.past⟩ := by
  refine ⟨hH, hL, hC, fun v f q b d => ?_, fun v f q b d => ?_⟩
  · refine (out_cons v f ⟨k, hk⟩ h' s.outs q b d).trans ?_
    rw [t.outs, hH]
    by_cases e : q = ⟨k, hk⟩
    · have e' : q.val = k := congrArg Fin.val e
      rw [if_pos e, if_pos (by omega), e']
    · have e' : q.val ≠ k := fun h => e (Fin.ext h)
      rw [if_neg e]
      by_cases e2 : q.val < k
      · rw [if_pos e2, if_pos (by omega)]
      · rw [if_neg e2, if_neg (by omega)]
  · refine (past_cons v f i ⟨k, hk⟩ h' s.past q b d).trans ?_
    rw [t.past, hH]
    by_cases e : q.val = 8 * (i 0).val + (⟨k, hk⟩ : Fin 8).val
    · have e' : q.val = 8 * (i 0).val + k := e
      rw [if_pos e, if_pos (by omega), e']
    · have e' : q.val ≠ 8 * (i 0).val + k := e
      rw [if_neg e]
      by_cases e2 : 8 * (i 0).val ≤ q.val ∧ q.val < 8 * (i 0).val + k
      · rw [if_pos e2, if_pos (by omega)]
      · rw [if_neg e2, if_neg (by omega)]

/-- The steps of a grid point are the recurrence's. -/
theorem tracks_steps (W : Weights F) (i : grid0.Coords) (X : Fin 8 → FVec F S64x256 .f32) (U : Fin 8 → FVec F S64x1024 .f32)
    (XX : ℕ → FVec F S64x256 .f32) (UU : ℕ → FVec F S64x1024 .f32)
    (hX : ∀ r : Fin 8, X r = XX (8 * (i 0).val + r.val)) (hU : ∀ r : Fin 8, U r = UU (8 * (i 0).val + r.val))
    (a : Memref sig .tc .vmem S32x64x256 .f32) (ha : a.IsWhole) (M : Vec F S32x64x256 .f32)
    (hM : ∀ (q : Fin 32) (b : Fin 64) (d : Fin 256), q.val < 8 * (i 0).val → M (ix3 q b d) = (Carry.run W XX UU (q.val + 1)).h (ix2 b d))
    (h0 : FVec F S64x256 .f32) (l0 : FVec F S64x1024 .f32) (c0 : FVec F S64x256 .f32)
    (hh : h0 = (Carry.run W XX UU (8 * (i 0).val)).h) (hl : l0 = (Carry.run W XX UU (8 * (i 0).val)).l)
    (hc : c0 = (Carry.run W XX UU (8 * (i 0).val)).c) (k : ℕ) (hk : k ≤ 8) :
    Tracks (Carry.run W XX UU) i k (Block.steps W i X U
      (fun L s => shapeCast S64x256 (row32 a ha M L s) shapeCasts_S1x64x256_S64x256) ⟨h0, l0, c0, [], []⟩ k hk) := by
  have h4 : (i 0).val < 4 := (i 0).isLt
  induction k with
  | zero =>
    refine ⟨hh, hl, hc, fun v f q b d => ?_, fun v f q b d => ?_⟩
    · rw [if_neg (by omega)]; rfl
    · rw [if_neg (by omega)]; rfl
  | succ k ih =>
    have t := ih (by omega)
    generalize hs : Block.steps W i X U _ _ k _ = s at t
    have hH : next W (X ⟨k, hk⟩) (entry (firstMax (logits W (X ⟨k, hk⟩) (U ⟨k, hk⟩) s.h s.c))
        (fun q => shapeCast S64x256 (row32 a ha M s.past q) shapeCasts_S1x64x256_S64x256) (timeOf i k)) s.h
        = (Carry.run W XX UU (8 * (i 0).val + k + 1)).h := by
      rw [Carry.run_h]
      unfold Carry.nextH
      rw [← hX ⟨k, hk⟩, ← hU ⟨k, hk⟩, ← t.h, ← t.c, timeOf_eq i ⟨k, hk⟩]
      refine congrArg (fun e => next W (X ⟨k, hk⟩) e s.h) (entry_congr _ _ _ (8 * (i 0).val + k) (by omega)
        fun q (hq : q.val < 8 * (i 0).val + k) => ?_)
      funext j
      obtain ⟨b, d, rfl⟩ : ∃ b d, j = ix2 b d := ⟨_, _, eq_ix2 j⟩
      rw [row32_apply, t.past, Carry.run_rows W XX UU q.val _ hq]
      split
      · rfl
      · rw [ha.read_unread, hM q b d (by omega)]
    have hL : usage (firstMax (logits W (X ⟨k, hk⟩) (U ⟨k, hk⟩) s.h s.c)) s.l = (Carry.run W XX UU (8 * (i 0).val + k + 1)).l := by
      rw [Carry.run_l]
      unfold Carry.nextL
      rw [← hX ⟨k, hk⟩, ← hU ⟨k, hk⟩, ← t.h, ← t.c, ← t.l]
    show Tracks _ i (k + 1) ((Block.steps W i X U _ _ k _).step W i (X ⟨k, hk⟩) (U ⟨k, hk⟩) ⟨k, hk⟩ _)
    rw [hs]
    exact t.push hk _ _ _ hH hL ((congrArg (usageTerm W) hL).trans (Carry.run_c W XX UU _).symm)

end Cert.KernelIdeal.Step

end
-- ==== Proof.VRunA.lean ====
/-
  The kernel body, run once at the first grid point: the state's scratch buffers are set first.
-/
module

public import proofs.«01_k».proof.Proof.ICond

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
/-- What the body stores, buffer by buffer (the output block, the three state buffers, the past states), with the proof
    that the body runs and leaves exactly these stores. -/
noncomputable def kernelRun_A (c : Dev nD) (i : grid0.Coords)
    (arg1 : Memref sig .tc .vmem S8x64x256 .f32) (harg1 : arg1.IsWhole)
    (arg2 : Memref sig .tc .vmem S8x64x1024 .f32) (harg2 : arg2.IsWhole)
    (arg3 : Memref sig .tc .vmem S256x768 .f32) (harg3 : arg3.IsWhole)
    (arg4 : Memref sig .tc .vmem S256x768 .f32) (harg4 : arg4.IsWhole)
    (arg5 : Memref sig .tc .vmem S1x768 .f32) (harg5 : arg5.IsWhole)
    (arg6 : Memref sig .tc .vmem S1x768 .f32) (harg6 : arg6.IsWhole)
    (arg7 : Memref sig .tc .vmem S256x256 .f32) (harg7 : arg7.IsWhole)
    (arg8 : Memref sig .tc .vmem S256x256 .f32) (harg8 : arg8.IsWhole)
    (arg9 : Memref sig .tc .vmem S1024x256 .f32) (harg9 : arg9.IsWhole)
    (arg10 : Memref sig .tc .vmem S256x1024 .f32) (harg10 : arg10.IsWhole)
    (arg11 : Memref sig .tc .vmem S1x1024 .f32) (harg11 : arg11.IsWhole)
    (arg12 : Memref sig .tc .vmem S256x256 .f32) (harg12 : arg12.IsWhole)
    (arg13 : Memref sig .tc .vmem S256x256 .f32) (harg13 : arg13.IsWhole)
    (arg14 : Memref sig .tc .vmem S1x256 .f32) (harg14 : arg14.IsWhole)
    (arg15 : Memref sig .tc .vmem S8x64x256 .f32) (harg15 : arg15.IsWhole)
    (arg16 : Memref sig .tc .vmem S64x256 .f32) (harg16 : arg16.IsWhole)
    (arg17 : Memref sig .tc .vmem S64x1024 .f32) (harg17 : arg17.IsWhole)
    (arg18 : Memref sig .tc .vmem S64x256 .f32) (harg18 : arg18.IsWhole)
    (arg19 : Memref sig .tc .vmem S32x64x256 .f32) (harg19 : arg19.IsWhole)
    (hc0 : cond0_0 i)
    (x0 : Vec F S8x64x256 .f32) (x1 : Vec F S8x64x1024 .f32) (x2 : Vec F S256x768 .f32) (x3 : Vec F S256x768 .f32) (x4 : Vec F S1x768 .f32) (x5 : Vec F S1x768 .f32) (x6 : Vec F S256x256 .f32) (x7 : Vec F S256x256 .f32) (x8 : Vec F S1024x256 .f32) (x9 : Vec F S256x1024 .f32) (x10 : Vec F S1x1024 .f32) (x11 : Vec F S256x256 .f32) (x12 : Vec F S256x256 .f32) (x13 : Vec F S1x256 .f32)
    (xM : Vec F S32x64x256 .f32) :
    { L : List (View.Piece (Elt F) S8x64x256 .f32) × List (View.Piece (Elt F) S64x256 .f32) × List (View.Piece (Elt F) S64x1024 .f32)
        × List (View.Piece (Elt F) S64x256 .f32) × List (View.Piece (Elt F) S32x64x256 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ owns (c : Thread nD τ) arg19 fullShare xM
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ (∃ f, arg15.view.loc (c : Thread nD τ) ↦[arg15.view.set]{fullShare} arg15.view.writes (Elt F) f L.1)
          ∗ (∃ f, arg16.view.loc (c : Thread nD τ) ↦[arg16.view.set]{fullShare} arg16.view.writes (Elt F) f L.2.1)
          ∗ (∃ f, arg17.view.loc (c : Thread nD τ) ↦[arg17.view.set]{fullShare} arg17.view.writes (Elt F) f L.2.2.1)
          ∗ (∃ f, arg18.view.loc (c : Thread nD τ) ↦[arg18.view.set]{fullShare} arg18.view.writes (Elt F) f L.2.2.2.1)
          ∗ (arg19.view.loc (c : Thread nD τ) ↦[arg19.view.set]{fullShare} arg19.view.writes (Elt F) (harg19.unread (Val := Elt F) xM) L.2.2.2.2)) -∗ K ⟨⟩))
        ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(?_, ?_, ?_, ?_, ?_), fun E K => ?run⟩
  case run =>
    simp only [cc0__step_kernel_eq_skeleton]; unfold cc0__step_kernel_skel
    unfold owns
    dsimp only
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [H15]
    · iexists _; iexact H15
    isplitl [H16]
    · iexists _; iexact H16
    isplitl [H17]
    · iexists _; iexact H17
    iexact H18

end Cert.KernelIdeal.Gen

end
-- ==== Proof.VValA.lean ====
/-
  The stores of the run at the first point are those of eight steps.
-/
module

public import proofs.«01_k».proof.Proof.VRunA
public import proofs.«01_k».proof.Proof.KEight

@[expose] public section

noncomputable section

namespace Cert.KernelIdeal.Step

open Idealize.ShloMosaic Idealize.ShloMosaic.TcCoe Cert.KernelIdeal Cert.KernelIdeal.Gen

variable {F : FTy → Type} [FloatOps F] [Named F]

set_option maxHeartbeats 0 in
set_option maxRecDepth 65536 in
/-- The stores of the run are those of eight steps. -/
theorem kernelRun_A_eight (c : Dev nD) (i : grid0.Coords)
    (arg1 : Memref sig .tc .vmem S8x64x256 .f32) (harg1 : arg1.IsWhole)
    (arg2 : Memref sig .tc .vmem S8x64x1024 .f32) (harg2 : arg2.IsWhole)
    (arg3 : Memref sig .tc .vmem S256x768 .f32) (harg3 : arg3.IsWhole)
    (arg4 : Memref sig .tc .vmem S256x768 .f32) (harg4 : arg4.IsWhole)
    (arg5 : Memref sig .tc .vmem S1x768 .f32) (harg5 : arg5.IsWhole)
    (arg6 : Memref sig .tc .vmem S1x768 .f32) (harg6 : arg6.IsWhole)
    (arg7 : Memref sig .tc .vmem S256x256 .f32) (harg7 : arg7.IsWhole)
    (arg8 : Memref sig .tc .vmem S256x256 .f32) (harg8 : arg8.IsWhole)
    (arg9 : Memref sig .tc .vmem S1024x256 .f32) (harg9 : arg9.IsWhole)
    (arg10 : Memref sig .tc .vmem S256x1024 .f32) (harg10 : arg10.IsWhole)
    (arg11 : Memref sig .tc .vmem S1x1024 .f32) (harg11 : arg11.IsWhole)
    (arg12 : Memref sig .tc .vmem S256x256 .f32) (harg12 : arg12.IsWhole)
    (arg13 : Memref sig .tc .vmem S256x256 .f32) (harg13 : arg13.IsWhole)
    (arg14 : Memref sig .tc .vmem S1x256 .f32) (harg14 : arg14.IsWhole)
    (arg15 : Memref sig .tc .vmem S8x64x256 .f32) (harg15 : arg15.IsWhole)
    (arg16 : Memref sig .tc .vmem S64x256 .f32) (harg16 : arg16.IsWhole)
    (arg17 : Memref sig .tc .vmem S64x1024 .f32) (harg17 : arg17.IsWhole)
    (arg18 : Memref sig .tc .vmem S64x256 .f32) (harg18 : arg18.IsWhole)
    (arg19 : Memref sig .tc .vmem S32x64x256 .f32) (harg19 : arg19.IsWhole)
    (hc0 : cond0_0 i)
    (x0 : Vec F S8x64x256 .f32) (x1 : Vec F S8x64x1024 .f32) (x2 : Vec F S256x768 .f32) (x3 : Vec F S256x768 .f32) (x4 : Vec F S1x768 .f32) (x5 : Vec F S1x768 .f32) (x6 : Vec F S256x256 .f32) (x7 : Vec F S256x256 .f32) (x8 : Vec F S1024x256 .f32) (x9 : Vec F S256x1024 .f32) (x10 : Vec F S1x1024 .f32) (x11 : Vec F S256x256 .f32) (x12 : Vec F S256x256 .f32) (x13 : Vec F S1x256 .f32)
    (xM : Vec F S32x64x256 .f32) :
    Eight startH startL startC
      ⟨ldw arg3 harg3 x2 ![0, 0] inb_S256x768_S256x768_0_0,
        ldw arg4 harg4 x3 ![0, 0] inb_S256x768_S256x768_0_0,
        ldw arg5 harg5 x4 ![0, 0] inb_S1x768_S1x768_0_0,
        ldw arg6 harg6 x5 ![0, 0] inb_S1x768_S1x768_0_0,
        ldw arg7 harg7 x6 ![0, 0] inb_S256x256_S256x256_0_0,
        ldw arg8 harg8 x7 ![0, 0] inb_S256x256_S256x256_0_0,
        ldw arg9 harg9 x8 ![0, 0] inb_S1024x256_S1024x256_0_0,
        ldw arg10 harg10 x9 ![0, 0] inb_S256x1024_S256x1024_0_0,
        ldw arg11 harg11 x10 ![0, 0] inb_S1x1024_S1x1024_0_0,
        ldw arg12 harg12 x11 ![0, 0] inb_S256x256_S256x256_0_0,
        ldw arg13 harg13 x12 ![0, 0] inb_S256x256_S256x256_0_0,
        ldw arg14 harg14 x13 ![0, 0] inb_S1x256_S1x256_0_0⟩ i
      (fun r => shapeCast S64x256 (row8 arg1 harg1 x0 r) shapeCasts_S1x64x256_S64x256)
      (fun r => shapeCast S64x1024 (row8u arg2 harg2 x1 r) shapeCasts_S1x64x1024_S64x1024)
      (fun L s => shapeCast S64x256 (row32 arg19 harg19 xM L s) shapeCasts_S1x64x256_S64x256)
      (arg16.view.readCov startH (Rect.unit ![0, 0] S64x256.size inb_S64x256_S64x256_0_0).toLoadRect)
      (arg17.view.readCov startL (Rect.unit ![0, 0] S64x1024.size inb_S64x1024_S64x1024_0_0).toLoadRect)
      (arg18.view.readCov startC (Rect.unit ![0, 0] S64x256.size inb_S64x256_S64x256_0_0).toLoadRect)
      (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xM).1 := by
  unfold Eight
  repeat apply Exists.intro
  refine ⟨?_, ?_, ?_, ?_, ?_, ?_, ?_, ?_, ?_⟩
  · unfold kernelRun_A Block.stores
    dsimp only
    refine Prod.ext ?_ (Prod.ext ?_ (Prod.ext ?_ (Prod.ext ?_ ?_)))
    all_goals dsimp only
    · unfold kernelRun_A.sl.v2099 kernelRun_A.sl.v1802 kernelRun_A.sl.v1505 kernelRun_A.sl.v1208 kernelRun_A.sl.v911 kernelRun_A.sl.v614 kernelRun_A.sl.v317
      dsimp only [k0_pay1]
      refine congrArg₂ List.cons ?_ ?_
      · exact rfl
      refine congrArg₂ List.cons ?_ ?_
      · exact rfl
      refine congrArg₂ List.cons ?_ ?_
      · exact rfl
      refine congrArg₂ List.cons ?_ ?_
      · exact rfl
      refine congrArg₂ List.cons ?_ ?_
      · exact rfl
      refine congrArg₂ List.cons ?_ ?_
      · exact rfl
      refine congrArg₂ List.cons ?_ ?_
      · exact rfl
      refine congrArg₂ List.cons ?_ ?_
      · exact rfl
      exact rfl
    · dsimp only [k0_pay3]
      exact rfl
    · dsimp only [k0_pay4]
      exact rfl
    · dsimp only [k0_pay5]
      exact rfl
    · dsimp only [k0_pay2]
      exact rfl
  all_goals
    unfold StepRel
    repeat apply Exists.intro
    refine ⟨?_, ?_, ?_, ?_, ?_, ?_, ?_⟩
    · exact rfl
    · exact rfl
    · dsimp only [entry, choose, half]
      exact rfl
    · exact rfl
    · exact rfl
    · exact rfl
    · exact rfl

end Cert.KernelIdeal.Step

end
-- ==== Proof.VRunB.lean ====
/-
  The kernel body, run once at a grid point that is not the first: the state is what the point before left.
-/
module

public import proofs.«01_k».proof.Proof.ICond

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
/-- What the body stores, buffer by buffer (the output block, the three state buffers, the past states), with the proof
    that the body runs and leaves exactly these stores. -/
noncomputable def kernelRun_B (c : Dev nD) (i : grid0.Coords)
    (arg1 : Memref sig .tc .vmem S8x64x256 .f32) (harg1 : arg1.IsWhole)
    (arg2 : Memref sig .tc .vmem S8x64x1024 .f32) (harg2 : arg2.IsWhole)
    (arg3 : Memref sig .tc .vmem S256x768 .f32) (harg3 : arg3.IsWhole)
    (arg4 : Memref sig .tc .vmem S256x768 .f32) (harg4 : arg4.IsWhole)
    (arg5 : Memref sig .tc .vmem S1x768 .f32) (harg5 : arg5.IsWhole)
    (arg6 : Memref sig .tc .vmem S1x768 .f32) (harg6 : arg6.IsWhole)
    (arg7 : Memref sig .tc .vmem S256x256 .f32) (harg7 : arg7.IsWhole)
    (arg8 : Memref sig .tc .vmem S256x256 .f32) (harg8 : arg8.IsWhole)
    (arg9 : Memref sig .tc .vmem S1024x256 .f32) (harg9 : arg9.IsWhole)
    (arg10 : Memref sig .tc .vmem S256x1024 .f32) (harg10 : arg10.IsWhole)
    (arg11 : Memref sig .tc .vmem S1x1024 .f32) (harg11 : arg11.IsWhole)
    (arg12 : Memref sig .tc .vmem S256x256 .f32) (harg12 : arg12.IsWhole)
    (arg13 : Memref sig .tc .vmem S256x256 .f32) (harg13 : arg13.IsWhole)
    (arg14 : Memref sig .tc .vmem S1x256 .f32) (harg14 : arg14.IsWhole)
    (arg15 : Memref sig .tc .vmem S8x64x256 .f32) (harg15 : arg15.IsWhole)
    (arg16 : Memref sig .tc .vmem S64x256 .f32) (harg16 : arg16.IsWhole)
    (arg17 : Memref sig .tc .vmem S64x1024 .f32) (harg17 : arg17.IsWhole)
    (arg18 : Memref sig .tc .vmem S64x256 .f32) (harg18 : arg18.IsWhole)
    (arg19 : Memref sig .tc .vmem S32x64x256 .f32) (harg19 : arg19.IsWhole)
    (hc0 : ¬cond0_0 i)
    (x0 : Vec F S8x64x256 .f32) (x1 : Vec F S8x64x1024 .f32) (x2 : Vec F S256x768 .f32) (x3 : Vec F S256x768 .f32) (x4 : Vec F S1x768 .f32) (x5 : Vec F S1x768 .f32) (x6 : Vec F S256x256 .f32) (x7 : Vec F S256x256 .f32) (x8 : Vec F S1024x256 .f32) (x9 : Vec F S256x1024 .f32) (x10 : Vec F S1x1024 .f32) (x11 : Vec F S256x256 .f32) (x12 : Vec F S256x256 .f32) (x13 : Vec F S1x256 .f32)
    (xh : Vec F S64x256 .f32) (xl : Vec F S64x1024 .f32) (xc : Vec F S64x256 .f32) (xM : Vec F S32x64x256 .f32) :
    { L : List (View.Piece (Elt F) S8x64x256 .f32) × List (View.Piece (Elt F) S64x256 .f32) × List (View.Piece (Elt F) S64x1024 .f32)
        × List (View.Piece (Elt F) S64x256 .f32) × List (View.Piece (Elt F) S32x64x256 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ (∃ d, owns (c : Thread nD τ) arg15 fullShare d)
          ∗ owns (c : Thread nD τ) arg16 fullShare xh
          ∗ owns (c : Thread nD τ) arg17 fullShare xl
          ∗ owns (c : Thread nD τ) arg18 fullShare xc
          ∗ owns (c : Thread nD τ) arg19 fullShare xM
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ (∃ f, arg15.view.loc (c : Thread nD τ) ↦[arg15.view.set]{fullShare} arg15.view.writes (Elt F) f L.1)
          ∗ (∃ f, arg16.view.loc (c : Thread nD τ) ↦[arg16.view.set]{fullShare} arg16.view.writes (Elt F) f L.2.1)
          ∗ (∃ f, arg17.view.loc (c : Thread nD τ) ↦[arg17.view.set]{fullShare} arg17.view.writes (Elt F) f L.2.2.1)
          ∗ (∃ f, arg18.view.loc (c : Thread nD τ) ↦[arg18.view.set]{fullShare} arg18.view.writes (Elt F) f L.2.2.2.1)
          ∗ (arg19.view.loc (c : Thread nD τ) ↦[arg19.view.set]{fullShare} arg19.view.writes (Elt F) (harg19.unread (Val := Elt F) xM) L.2.2.2.2)) -∗ K ⟨⟩))
        ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(?_, ?_, ?_, ?_, ?_), fun E K => ?run⟩
  case run =>
    simp only [cc0__step_kernel_eq_skeleton]; unfold cc0__step_kernel_skel
    unfold owns
    dsimp only
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg18.eq_unread hf17; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [H15]
    · iexists _; iexact H15
    isplitl [H16]
    · iexists _; iexact H16
    isplitl [H17]
    · iexists _; iexact H17
    iexact H18

end Cert.KernelIdeal.Gen

end
-- ==== Proof.VValB.lean ====
/-
  The stores of the run at the later points are those of eight steps.
-/
module

public import proofs.«01_k».proof.Proof.VRunB
public import proofs.«01_k».proof.Proof.KEight

@[expose] public section

noncomputable section

namespace Cert.KernelIdeal.Step

open Idealize.ShloMosaic Idealize.ShloMosaic.TcCoe Cert.KernelIdeal Cert.KernelIdeal.Gen

variable {F : FTy → Type} [FloatOps F] [Named F]

set_option maxHeartbeats 0 in
set_option maxRecDepth 65536 in
/-- The stores of the run are those of eight steps. -/
theorem kernelRun_B_eight (c : Dev nD) (i : grid0.Coords)
    (arg1 : Memref sig .tc .vmem S8x64x256 .f32) (harg1 : arg1.IsWhole)
    (arg2 : Memref sig .tc .vmem S8x64x1024 .f32) (harg2 : arg2.IsWhole)
    (arg3 : Memref sig .tc .vmem S256x768 .f32) (harg3 : arg3.IsWhole)
    (arg4 : Memref sig .tc .vmem S256x768 .f32) (harg4 : arg4.IsWhole)
    (arg5 : Memref sig .tc .vmem S1x768 .f32) (harg5 : arg5.IsWhole)
    (arg6 : Memref sig .tc .vmem S1x768 .f32) (harg6 : arg6.IsWhole)
    (arg7 : Memref sig .tc .vmem S256x256 .f32) (harg7 : arg7.IsWhole)
    (arg8 : Memref sig .tc .vmem S256x256 .f32) (harg8 : arg8.IsWhole)
    (arg9 : Memref sig .tc .vmem S1024x256 .f32) (harg9 : arg9.IsWhole)
    (arg10 : Memref sig .tc .vmem S256x1024 .f32) (harg10 : arg10.IsWhole)
    (arg11 : Memref sig .tc .vmem S1x1024 .f32) (harg11 : arg11.IsWhole)
    (arg12 : Memref sig .tc .vmem S256x256 .f32) (harg12 : arg12.IsWhole)
    (arg13 : Memref sig .tc .vmem S256x256 .f32) (harg13 : arg13.IsWhole)
    (arg14 : Memref sig .tc .vmem S1x256 .f32) (harg14 : arg14.IsWhole)
    (arg15 : Memref sig .tc .vmem S8x64x256 .f32) (harg15 : arg15.IsWhole)
    (arg16 : Memref sig .tc .vmem S64x256 .f32) (harg16 : arg16.IsWhole)
    (arg17 : Memref sig .tc .vmem S64x1024 .f32) (harg17 : arg17.IsWhole)
    (arg18 : Memref sig .tc .vmem S64x256 .f32) (harg18 : arg18.IsWhole)
    (arg19 : Memref sig .tc .vmem S32x64x256 .f32) (harg19 : arg19.IsWhole)
    (hc0 : ¬cond0_0 i)
    (x0 : Vec F S8x64x256 .f32) (x1 : Vec F S8x64x1024 .f32) (x2 : Vec F S256x768 .f32) (x3 : Vec F S256x768 .f32) (x4 : Vec F S1x768 .f32) (x5 : Vec F S1x768 .f32) (x6 : Vec F S256x256 .f32) (x7 : Vec F S256x256 .f32) (x8 : Vec F S1024x256 .f32) (x9 : Vec F S256x1024 .f32) (x10 : Vec F S1x1024 .f32) (x11 : Vec F S256x256 .f32) (x12 : Vec F S256x256 .f32) (x13 : Vec F S1x256 .f32)
    (xh : Vec F S64x256 .f32) (xl : Vec F S64x1024 .f32) (xc : Vec F S64x256 .f32) (xM : Vec F S32x64x256 .f32) :
    Eight [] [] []
      ⟨ldw arg3 harg3 x2 ![0, 0] inb_S256x768_S256x768_0_0,
        ldw arg4 harg4 x3 ![0, 0] inb_S256x768_S256x768_0_0,
        ldw arg5 harg5 x4 ![0, 0] inb_S1x768_S1x768_0_0,
        ldw arg6 harg6 x5 ![0, 0] inb_S1x768_S1x768_0_0,
        ldw arg7 harg7 x6 ![0, 0] inb_S256x256_S256x256_0_0,
        ldw arg8 harg8 x7 ![0, 0] inb_S256x256_S256x256_0_0,
        ldw arg9 harg9 x8 ![0, 0] inb_S1024x256_S1024x256_0_0,
        ldw arg10 harg10 x9 ![0, 0] inb_S256x1024_S256x1024_0_0,
        ldw arg11 harg11 x10 ![0, 0] inb_S1x1024_S1x1024_0_0,
        ldw arg12 harg12 x11 ![0, 0] inb_S256x256_S256x256_0_0,
        ldw arg13 harg13 x12 ![0, 0] inb_S256x256_S256x256_0_0,
        ldw arg14 harg14 x13 ![0, 0] inb_S1x256_S1x256_0_0⟩ i
      (fun r => shapeCast S64x256 (row8 arg1 harg1 x0 r) shapeCasts_S1x64x256_S64x256)
      (fun r => shapeCast S64x1024 (row8u arg2 harg2 x1 r) shapeCasts_S1x64x1024_S64x1024)
      (fun L s => shapeCast S64x256 (row32 arg19 harg19 xM L s) shapeCasts_S1x64x256_S64x256)
      (ldw arg16 harg16 xh ![0, 0] inb_S64x256_S64x256_0_0) (ldw arg17 harg17 xl ![0, 0] inb_S64x1024_S64x1024_0_0)
      (ldw arg18 harg18 xc ![0, 0] inb_S64x256_S64x256_0_0)
      (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xh xl xc xM).1 := by
  unfold Eight
  repeat apply Exists.intro
  refine ⟨?_, ?_, ?_, ?_, ?_, ?_, ?_, ?_, ?_⟩
  · unfold kernelRun_B Block.stores
    dsimp only
    refine Prod.ext ?_ (Prod.ext ?_ (Prod.ext ?_ (Prod.ext ?_ ?_)))
    all_goals dsimp only
    · unfold kernelRun_B.sl.v2099 kernelRun_B.sl.v1802 kernelRun_B.sl.v1505 kernelRun_B.sl.v1208 kernelRun_B.sl.v911 kernelRun_B.sl.v614 kernelRun_B.sl.v317
      dsimp only [k0_pay1]
      refine congrArg₂ List.cons ?_ ?_
      · exact rfl
      refine congrArg₂ List.cons ?_ ?_
      · exact rfl
      refine congrArg₂ List.cons ?_ ?_
      · exact rfl
      refine congrArg₂ List.cons ?_ ?_
      · exact rfl
      refine congrArg₂ List.cons ?_ ?_
      · exact rfl
      refine congrArg₂ List.cons ?_ ?_
      · exact rfl
      refine congrArg₂ List.cons ?_ ?_
      · exact rfl
      refine congrArg₂ List.cons ?_ ?_
      · exact rfl
      exact rfl
    · dsimp only [k0_pay3]
    · dsimp only [k0_pay4]
    · dsimp only [k0_pay5]
    · dsimp only [k0_pay2]
      exact rfl
  all_goals
    unfold StepRel
    repeat apply Exists.intro
    refine ⟨?_, ?_, ?_, ?_, ?_, ?_, ?_⟩
    · exact rfl
    · exact rfl
    · dsimp only [entry, choose, half]
      exact rfl
    · exact rfl
    · exact rfl
    · exact rfl
    · exact rfl

end Cert.KernelIdeal.Step

end
-- ==== Proof.VEnds.lean ====
/-
  What a grid point leaves in each buffer, read through any view: the recurrence's states in the output block, its values
  in the carried buffers, and its states added to the past ones.
-/
module

public import proofs.«01_k».proof.Proof.KSeq
public import proofs.«01_k».proof.Proof.VValA
public import proofs.«01_k».proof.Proof.VValB

@[expose] public section

set_option maxRecDepth 16384

noncomputable section

namespace Cert.KernelIdeal.Step

open Idealize.ShloMosaic Idealize.ShloMosaic.TcCoe Cert.KernelIdeal Cert.KernelIdeal.Gen

variable {F : FTy → Type} [FloatOps F] [Named F]

/-- A load of a whole buffer reads what it holds. -/
theorem ldw_full {s : Shape} (a : Memref sig .tc .vmem s .f32) (ha : a.IsWhole) (x : Vec F s .f32) {off : Fin s.rank → ℕ}
    (inb : ∀ k, off k + s.size k ≤ s.size k) : ldw a ha x off inb = x :=
  (View.readAt_full a.view _ inb).trans (ha.read_unread x)

/-- What a grid point leaves, buffer by buffer. -/
structure Ends (R : ℕ → Carry F) (i : grid0.Coords)
    (L : List (View.Piece (Elt F) S8x64x256 .f32) × List (View.Piece (Elt F) S64x256 .f32)
      × List (View.Piece (Elt F) S64x1024 .f32) × List (View.Piece (Elt F) S64x256 .f32)
      × List (View.Piece (Elt F) S32x64x256 .f32)) : Prop where
  outs : ∀ (v : View sig .tc .vmem S8x64x256 .f32) (f : v.ty.Contents (Elt F)),
    v.read (Elt F) (v.writes (Elt F) f L.1) = fun j => (R (8 * (i 0).val + (j 0).val + 1)).h (ix2 (j 1) (j 2))
  h : ∀ (v : View sig .tc .vmem S64x256 .f32) (f : v.ty.Contents (Elt F)),
    v.read (Elt F) (v.writes (Elt F) f L.2.1) = (R (8 * (i 0).val + 8)).h
  l : ∀ (v : View sig .tc .vmem S64x1024 .f32) (f : v.ty.Contents (Elt F)),
    v.read (Elt F) (v.writes (Elt F) f L.2.2.1) = (R (8 * (i 0).val + 8)).l
  c : ∀ (v : View sig .tc .vmem S64x256 .f32) (f : v.ty.Contents (Elt F)),
    v.read (Elt F) (v.writes (Elt F) f L.2.2.2.1) = (R (8 * (i 0).val + 8)).c
  past : ∀ (v : View sig .tc .vmem S32x64x256 .f32) (f : v.ty.Contents (Elt F)) (q : Fin 32) (b : Fin 64) (d : Fin 256),
    v.read (Elt F) (v.writes (Elt F) f L.2.2.2.2) (ix3 q b d)
      = if 8 * (i 0).val ≤ q.val ∧ q.val < 8 * (i 0).val + 8 then (R (q.val + 1)).h (ix2 b d) else v.read (Elt F) f (ix3 q b d)

theorem Ends.of_tracks {R : ℕ → Carry F} {i : grid0.Coords} {s : Block F} (th : List (View.Piece (Elt F) S64x256 .f32))
    (tl : List (View.Piece (Elt F) S64x1024 .f32)) (tc : List (View.Piece (Elt F) S64x256 .f32)) (t : Tracks R i 8 s) :
    Ends R i (Block.stores th tl tc s) := by
  refine ⟨fun v f => ?_, fun v f => ?_, fun v f => ?_, fun v f => ?_, t.past⟩
  · funext j
    obtain ⟨q, b, d, rfl⟩ : ∃ (q : Fin 8) (b : Fin 64) (d : Fin 256), j = ix3 q b d := ⟨_, _, _, eq_ix3 j⟩
    exact (t.outs v f q b d).trans (if_pos q.isLt)
  · refine (View.read_writes_full v f inb_S64x256_S64x256_0_0 _ th).trans ?_
    rw [shapeCast_self]
    exact t.h
  · refine (View.read_writes_full v f inb_S64x1024_S64x1024_0_0 _ tl).trans ?_
    rw [shapeCast_self]
    exact t.l
  · refine (View.read_writes_full v f inb_S64x256_S64x256_0_0 _ tc).trans ?_
    rw [shapeCast_self]
    exact t.c

/-- What the first grid point stores. -/
theorem endsA (c : Dev nD) (i : grid0.Coords)
    (arg1 : Memref sig .tc .vmem S8x64x256 .f32) (harg1 : arg1.IsWhole)
    (arg2 : Memref sig .tc .vmem S8x64x1024 .f32) (harg2 : arg2.IsWhole)
    (arg3 : Memref sig .tc .vmem S256x768 .f32) (harg3 : arg3.IsWhole)
    (arg4 : Memref sig .tc .vmem S256x768 .f32) (harg4 : arg4.IsWhole)
    (arg5 : Memref sig .tc .vmem S1x768 .f32) (harg5 : arg5.IsWhole)
    (arg6 : Memref sig .tc .vmem S1x768 .f32) (harg6 : arg6.IsWhole)
    (arg7 : Memref sig .tc .vmem S256x256 .f32) (harg7 : arg7.IsWhole)
    (arg8 : Memref sig .tc .vmem S256x256 .f32) (harg8 : arg8.IsWhole)
    (arg9 : Memref sig .tc .vmem S1024x256 .f32) (harg9 : arg9.IsWhole)
    (arg10 : Memref sig .tc .vmem S256x1024 .f32) (harg10 : arg10.IsWhole)
    (arg11 : Memref sig .tc .vmem S1x1024 .f32) (harg11 : arg11.IsWhole)
    (arg12 : Memref sig .tc .vmem S256x256 .f32) (harg12 : arg12.IsWhole)
    (arg13 : Memref sig .tc .vmem S256x256 .f32) (harg13 : arg13.IsWhole)
    (arg14 : Memref sig .tc .vmem S1x256 .f32) (harg14 : arg14.IsWhole)
    (arg15 : Memref sig .tc .vmem S8x64x256 .f32) (harg15 : arg15.IsWhole)
    (arg16 : Memref sig .tc .vmem S64x256 .f32) (harg16 : arg16.IsWhole)
    (arg17 : Memref sig .tc .vmem S64x1024 .f32) (harg17 : arg17.IsWhole)
    (arg18 : Memref sig .tc .vmem S64x256 .f32) (harg18 : arg18.IsWhole)
    (arg19 : Memref sig .tc .vmem S32x64x256 .f32) (harg19 : arg19.IsWhole)
    (hc0 : cond0_0 i)
    (x0 : Vec F S8x64x256 .f32) (x1 : Vec F S8x64x1024 .f32) (x2 : Vec F S256x768 .f32) (x3 : Vec F S256x768 .f32) (x4 : Vec F S1x768 .f32) (x5 : Vec F S1x768 .f32) (x6 : Vec F S256x256 .f32) (x7 : Vec F S256x256 .f32) (x8 : Vec F S1024x256 .f32) (x9 : Vec F S256x1024 .f32) (x10 : Vec F S1x1024 .f32) (x11 : Vec F S256x256 .f32) (x12 : Vec F S256x256 .f32) (x13 : Vec F S1x256 .f32)
    (xM : Vec F S32x64x256 .f32)
    (R : ℕ → Carry F) (W : Weights F) (XX : ℕ → FVec F S64x256 .f32) (UU : ℕ → FVec F S64x1024 .f32)
    (hR : R = Carry.run W XX UU)
    (hW : (⟨x2, x3, x4, x5, x6, x7, x8, x9, x10, x11, x12, x13⟩ : Weights F) = W)
    (hX : ∀ (r : Fin 8) (b : Fin 64) (d : Fin 256), x0 (ix3 r b d) = XX (8 * (i 0).val + r.val) (ix2 b d))
    (hU : ∀ (r : Fin 8) (b : Fin 64) (d : Fin 1024), x1 (ix3 r b d) = UU (8 * (i 0).val + r.val) (ix2 b d))
    (hi : (i 0).val = 0) :
    Ends R i (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xM).1 := by
  subst hR
  rw [(kernelRun_A_eight c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xM).eq]
  refine Ends.of_tracks _ _ _ ?_
  rw [ldw_full arg3 harg3, ldw_full arg4 harg4, ldw_full arg5 harg5, ldw_full arg6 harg6, ldw_full arg7 harg7,
    ldw_full arg8 harg8, ldw_full arg9 harg9, ldw_full arg10 harg10, ldw_full arg11 harg11, ldw_full arg12 harg12,
    ldw_full arg13 harg13, ldw_full arg14 harg14, hW]
  refine tracks_steps W i _ _ XX UU (fun r => ?_) (fun r => ?_) arg19 harg19 xM
    (fun q _ _ hq => absurd hq (by omega)) _ _ _ ?_ ?_ ?_ 8 le_rfl
  · exact funext fun j => by
      obtain ⟨b, d, rfl⟩ : ∃ b d, j = ix2 b d := ⟨_, _, eq_ix2 j⟩
      exact (row8_apply _ _ _ _ _ _).trans (hX r b d)
  · exact funext fun j => by
      obtain ⟨b, d, rfl⟩ : ∃ b d, j = ix2 b d := ⟨_, _, eq_ix2 j⟩
      exact (row8u_apply _ _ _ _ _ _).trans (hU r b d)
  · rw [hi]; exact View.readCov_full _ _ _ _ _
  · rw [hi]; exact View.readCov_full _ _ _ _ _
  · rw [hi]; exact View.readCov_full _ _ _ _ _

/-- What a later grid point stores. -/
theorem endsB (c : Dev nD) (i : grid0.Coords)
    (arg1 : Memref sig .tc .vmem S8x64x256 .f32) (harg1 : arg1.IsWhole)
    (arg2 : Memref sig .tc .vmem S8x64x1024 .f32) (harg2 : arg2.IsWhole)
    (arg3 : Memref sig .tc .vmem S256x768 .f32) (harg3 : arg3.IsWhole)
    (arg4 : Memref sig .tc .vmem S256x768 .f32) (harg4 : arg4.IsWhole)
    (arg5 : Memref sig .tc .vmem S1x768 .f32) (harg5 : arg5.IsWhole)
    (arg6 : Memref sig .tc .vmem S1x768 .f32) (harg6 : arg6.IsWhole)
    (arg7 : Memref sig .tc .vmem S256x256 .f32) (harg7 : arg7.IsWhole)
    (arg8 : Memref sig .tc .vmem S256x256 .f32) (harg8 : arg8.IsWhole)
    (arg9 : Memref sig .tc .vmem S1024x256 .f32) (harg9 : arg9.IsWhole)
    (arg10 : Memref sig .tc .vmem S256x1024 .f32) (harg10 : arg10.IsWhole)
    (arg11 : Memref sig .tc .vmem S1x1024 .f32) (harg11 : arg11.IsWhole)
    (arg12 : Memref sig .tc .vmem S256x256 .f32) (harg12 : arg12.IsWhole)
    (arg13 : Memref sig .tc .vmem S256x256 .f32) (harg13 : arg13.IsWhole)
    (arg14 : Memref sig .tc .vmem S1x256 .f32) (harg14 : arg14.IsWhole)
    (arg15 : Memref sig .tc .vmem S8x64x256 .f32) (harg15 : arg15.IsWhole)
    (arg16 : Memref sig .tc .vmem S64x256 .f32) (harg16 : arg16.IsWhole)
    (arg17 : Memref sig .tc .vmem S64x1024 .f32) (harg17 : arg17.IsWhole)
    (arg18 : Memref sig .tc .vmem S64x256 .f32) (harg18 : arg18.IsWhole)
    (arg19 : Memref sig .tc .vmem S32x64x256 .f32) (harg19 : arg19.IsWhole)
    (hc0 : ¬cond0_0 i)
    (x0 : Vec F S8x64x256 .f32) (x1 : Vec F S8x64x1024 .f32) (x2 : Vec F S256x768 .f32) (x3 : Vec F S256x768 .f32) (x4 : Vec F S1x768 .f32) (x5 : Vec F S1x768 .f32) (x6 : Vec F S256x256 .f32) (x7 : Vec F S256x256 .f32) (x8 : Vec F S1024x256 .f32) (x9 : Vec F S256x1024 .f32) (x10 : Vec F S1x1024 .f32) (x11 : Vec F S256x256 .f32) (x12 : Vec F S256x256 .f32) (x13 : Vec F S1x256 .f32)
    (xh : Vec F S64x256 .f32) (xl : Vec F S64x1024 .f32) (xc : Vec F S64x256 .f32) (xM : Vec F S32x64x256 .f32)
    (R : ℕ → Carry F) (W : Weights F) (XX : ℕ → FVec F S64x256 .f32) (UU : ℕ → FVec F S64x1024 .f32)
    (hR : R = Carry.run W XX UU)
    (hW : (⟨x2, x3, x4, x5, x6, x7, x8, x9, x10, x11, x12, x13⟩ : Weights F) = W)
    (hX : ∀ (r : Fin 8) (b : Fin 64) (d : Fin 256), x0 (ix3 r b d) = XX (8 * (i 0).val + r.val) (ix2 b d))
    (hU : ∀ (r : Fin 8) (b : Fin 64) (d : Fin 1024), x1 (ix3 r b d) = UU (8 * (i 0).val + r.val) (ix2 b d))
    (hh : xh = (R (8 * (i 0).val)).h) (hl : xl = (R (8 * (i 0).val)).l) (hc : xc = (R (8 * (i 0).val)).c)
    (hM : ∀ (q : Fin 32) (b : Fin 64) (d : Fin 256), q.val < 8 * (i 0).val → xM (ix3 q b d) = (R (q.val + 1)).h (ix2 b d)) :
    Ends R i (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xh xl xc xM).1 := by
  subst hR
  rw [(kernelRun_B_eight c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xh xl xc xM).eq]
  refine Ends.of_tracks _ _ _ ?_
  rw [ldw_full arg3 harg3, ldw_full arg4 harg4, ldw_full arg5 harg5, ldw_full arg6 harg6, ldw_full arg7 harg7,
    ldw_full arg8 harg8, ldw_full arg9 harg9, ldw_full arg10 harg10, ldw_full arg11 harg11, ldw_full arg12 harg12,
    ldw_full arg13 harg13, ldw_full arg14 harg14, hW]
  refine tracks_steps W i _ _ XX UU (fun r => ?_) (fun r => ?_) arg19 harg19 xM
    hM _ _ _ ?_ ?_ ?_ 8 le_rfl
  · exact funext fun j => by
      obtain ⟨b, d, rfl⟩ : ∃ b d, j = ix2 b d := ⟨_, _, eq_ix2 j⟩
      exact (row8_apply _ _ _ _ _ _).trans (hX r b d)
  · exact funext fun j => by
      obtain ⟨b, d, rfl⟩ : ∃ b d, j = ix2 b d := ⟨_, _, eq_ix2 j⟩
      exact (row8u_apply _ _ _ _ _ _).trans (hU r b d)
  · exact (ldw_full _ _ _ _).trans hh
  · exact (ldw_full _ _ _ _).trans hl
  · exact (ldw_full _ _ _ _).trans hc

end Cert.KernelIdeal.Step

end
-- ==== Proof.VBlocks.lean ====
/-
  What each grid point's windows hold: the eight input rows and draws of the point, and the weights whole.
-/
module

public import proofs.«01_k».proof.Proof.KSeq
public import proofs.«01_k».proof.Proof.Gen.KernelIdeal.Frame
public import Idealize.ShloMosaic.Lib.Pipeline.ValueKit.Geometry
public import Idealize.ShloMosaic.Lib.Claim

@[expose] public section

set_option maxRecDepth 16384

noncomputable section

namespace Cert.KernelIdeal.Step

open Idealize.ShloMosaic Idealize.ShloMosaic.TcCoe Cert.KernelIdeal Cert.KernelIdeal.Gen

variable {F : FTy → Type} [FloatOps F] [Named F]
variable (m : (ℓ : Loc nD τ sig) → Buf (Elt F) ℓ)

/-- The weights as the launch finds them. -/
def wts (c : Dev nD) : Weights F where
  ih := V m c main_arg2
  hh := V m c main_arg3
  bih := V m c main_call0_v1
  bhh := V m c main_call0_v3
  im := V m c main_arg5
  hm := V m c main_arg6
  um := V m c main_arg7
  fc1 := V m c main_arg8
  b1 := V m c main_call0_v4
  fc2e := V m c main_call0_v6
  fc2h := V m c main_call0_v7
  b2 := V m c main_call0_v5

/-- Input row `n`. -/
def inRow (c : Dev nD) (n : ℕ) : FVec F S64x256 .f32 :=
  fun j => (V m c main_arg0 : Vec F S32x64x256 .f32) (ix3 (⟨n % 32, Nat.mod_lt _ (by decide)⟩ : Fin 32) (j 0) (j 1))

/-- The draws of row `n`. -/
def drawRow (c : Dev nD) (n : ℕ) : FVec F S64x1024 .f32 :=
  fun j => (V m c main_arg1 : Vec F S32x64x1024 .f32) (ix3 (⟨n % 32, Nat.mod_lt _ (by decide)⟩ : Fin 32) (j 0) (j 1))

/-- The recurrence on the launch's arrays. -/
def Rec (c : Dev nD) : ℕ → Carry F := Carry.run (wts m c) (inRow m c) (drawRow m c)

theorem coords_val : ∀ t : Fin cfg0.N, (grid0.coords t 0).val = t.val := by decide

theorem index_first : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_14.index t 0 = t.val ∧ win0_14.index t 1 = 0 ∧ win0_14.index t 2 = 0) := by decide
theorem index_2 : ∀ t : Fin cfg0.N, win0_2.index t 0 = 0 ∧ win0_2.index t 1 = 0 := by decide
theorem index_3 : ∀ t : Fin cfg0.N, win0_3.index t 0 = 0 ∧ win0_3.index t 1 = 0 := by decide
theorem index_4 : ∀ t : Fin cfg0.N, win0_4.index t 0 = 0 ∧ win0_4.index t 1 = 0 := by decide
theorem index_5 : ∀ t : Fin cfg0.N, win0_5.index t 0 = 0 ∧ win0_5.index t 1 = 0 := by decide
theorem index_6 : ∀ t : Fin cfg0.N, win0_6.index t 0 = 0 ∧ win0_6.index t 1 = 0 := by decide
theorem index_7 : ∀ t : Fin cfg0.N, win0_7.index t 0 = 0 ∧ win0_7.index t 1 = 0 := by decide
theorem index_8 : ∀ t : Fin cfg0.N, win0_8.index t 0 = 0 ∧ win0_8.index t 1 = 0 := by decide
theorem index_9 : ∀ t : Fin cfg0.N, win0_9.index t 0 = 0 ∧ win0_9.index t 1 = 0 := by decide
theorem index_10 : ∀ t : Fin cfg0.N, win0_10.index t 0 = 0 ∧ win0_10.index t 1 = 0 := by decide
theorem index_11 : ∀ t : Fin cfg0.N, win0_11.index t 0 = 0 ∧ win0_11.index t 1 = 0 := by decide
theorem index_12 : ∀ t : Fin cfg0.N, win0_12.index t 0 = 0 ∧ win0_12.index t 1 = 0 := by decide
theorem index_13 : ∀ t : Fin cfg0.N, win0_13.index t 0 = 0 ∧ win0_13.index t 1 = 0 := by decide

theorem iblk_2 (c : Dev nD) (t : Fin cfg0.N) : iblk m c 2 t = (wts m c).ih := by
  funext y
  blk_ext [iblk, (index_2 t).1, (index_2 t).2] <;> omega
theorem iblk_3 (c : Dev nD) (t : Fin cfg0.N) : iblk m c 3 t = (wts m c).hh := by
  funext y
  blk_ext [iblk, (index_3 t).1, (index_3 t).2] <;> omega
theorem iblk_4 (c : Dev nD) (t : Fin cfg0.N) : iblk m c 4 t = (wts m c).bih := by
  funext y
  blk_ext [iblk, (index_4 t).1, (index_4 t).2] <;> omega
theorem iblk_5 (c : Dev nD) (t : Fin cfg0.N) : iblk m c 5 t = (wts m c).bhh := by
  funext y
  blk_ext [iblk, (index_5 t).1, (index_5 t).2] <;> omega
theorem iblk_6 (c : Dev nD) (t : Fin cfg0.N) : iblk m c 6 t = (wts m c).im := by
  funext y
  blk_ext [iblk, (index_6 t).1, (index_6 t).2] <;> omega
theorem iblk_7 (c : Dev nD) (t : Fin cfg0.N) : iblk m c 7 t = (wts m c).hm := by
  funext y
  blk_ext [iblk, (index_7 t).1, (index_7 t).2] <;> omega
theorem iblk_8 (c : Dev nD) (t : Fin cfg0.N) : iblk m c 8 t = (wts m c).um := by
  funext y
  blk_ext [iblk, (index_8 t).1, (index_8 t).2] <;> omega
theorem iblk_9 (c : Dev nD) (t : Fin cfg0.N) : iblk m c 9 t = (wts m c).fc1 := by
  funext y
  blk_ext [iblk, (index_9 t).1, (index_9 t).2] <;> omega
theorem iblk_10 (c : Dev nD) (t : Fin cfg0.N) : iblk m c 10 t = (wts m c).b1 := by
  funext y
  blk_ext [iblk, (index_10 t).1, (index_10 t).2] <;> omega
theorem iblk_11 (c : Dev nD) (t : Fin cfg0.N) : iblk m c 11 t = (wts m c).fc2e := by
  funext y
  blk_ext [iblk, (index_11 t).1, (index_11 t).2] <;> omega
theorem iblk_12 (c : Dev nD) (t : Fin cfg0.N) : iblk m c 12 t = (wts m c).fc2h := by
  funext y
  blk_ext [iblk, (index_12 t).1, (index_12 t).2] <;> omega
theorem iblk_13 (c : Dev nD) (t : Fin cfg0.N) : iblk m c 13 t = (wts m c).b2 := by
  funext y
  blk_ext [iblk, (index_13 t).1, (index_13 t).2] <;> omega

theorem iblk_0 (c : Dev nD) (t : Fin cfg0.N) (r : Fin 8) (b : Fin 64) (d : Fin 256) :
    (iblk m c 0 t : Vec F S8x64x256 .f32) (ix3 r b d) = inRow m c (8 * (grid0.coords t 0).val + r.val) (ix2 b d) := by
  unfold inRow
  rw [coords_val]
  obtain ⟨h0, h1, h2⟩ := (index_first t).1
  blk_ext [iblk, h0, h1, h2] <;> omega

theorem iblk_1 (c : Dev nD) (t : Fin cfg0.N) (r : Fin 8) (b : Fin 64) (d : Fin 1024) :
    (iblk m c 1 t : Vec F S8x64x1024 .f32) (ix3 r b d) = drawRow m c (8 * (grid0.coords t 0).val + r.val) (ix2 b d) := by
  unfold drawRow
  rw [coords_val]
  obtain ⟨h0, h1, h2⟩ := (index_first t).2.1
  blk_ext [iblk, h0, h1, h2] <;> omega

theorem wts_eq (c : Dev nD) (t : Fin cfg0.N) :
    (⟨iblk m c 2 t, iblk m c 3 t, iblk m c 4 t, iblk m c 5 t, iblk m c 6 t, iblk m c 7 t, iblk m c 8 t, iblk m c 9 t,
      iblk m c 10 t, iblk m c 11 t, iblk m c 12 t, iblk m c 13 t⟩ : Weights F) = wts m c := by
  rw [iblk_2, iblk_3, iblk_4, iblk_5, iblk_6, iblk_7, iblk_8, iblk_9, iblk_10, iblk_11, iblk_12, iblk_13]

end Cert.KernelIdeal.Step

end
-- ==== Proof.VFrame.lean ====
/-
  The launch of `KernelIdeal`: the pipeline's proof data with each point's output block at the recurrence's states and the
  scratch buffers at its values between points, the body obligation from the two runs, and the launch's end: the
  arguments unchanged, the counters at zero, and the result array at the states.
-/
module

public import proofs.«01_k».proof.Proof.VEnds
public import proofs.«01_k».proof.Proof.VBlocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Step
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The windows' staging memrefs and the scratch buffers -/

abbrev ms0_0 (t : Fin cfg0.N) : Memref sig .tc .vmem S8x64x256 .f32 := win0_0.stage (cfg0.slots t 0)
abbrev ms0_1 (t : Fin cfg0.N) : Memref sig .tc .vmem S8x64x1024 .f32 := win0_1.stage (cfg0.slots t 1)
abbrev ms0_2 (t : Fin cfg0.N) : Memref sig .tc .vmem S256x768 .f32 := win0_2.stage (cfg0.slots t 2)
abbrev ms0_3 (t : Fin cfg0.N) : Memref sig .tc .vmem S256x768 .f32 := win0_3.stage (cfg0.slots t 3)
abbrev ms0_4 (t : Fin cfg0.N) : Memref sig .tc .vmem S1x768 .f32 := win0_4.stage (cfg0.slots t 4)
abbrev ms0_5 (t : Fin cfg0.N) : Memref sig .tc .vmem S1x768 .f32 := win0_5.stage (cfg0.slots t 5)
abbrev ms0_6 (t : Fin cfg0.N) : Memref sig .tc .vmem S256x256 .f32 := win0_6.stage (cfg0.slots t 6)
abbrev ms0_7 (t : Fin cfg0.N) : Memref sig .tc .vmem S256x256 .f32 := win0_7.stage (cfg0.slots t 7)
abbrev ms0_8 (t : Fin cfg0.N) : Memref sig .tc .vmem S1024x256 .f32 := win0_8.stage (cfg0.slots t 8)
abbrev ms0_9 (t : Fin cfg0.N) : Memref sig .tc .vmem S256x1024 .f32 := win0_9.stage (cfg0.slots t 9)
abbrev ms0_10 (t : Fin cfg0.N) : Memref sig .tc .vmem S1x1024 .f32 := win0_10.stage (cfg0.slots t 10)
abbrev ms0_11 (t : Fin cfg0.N) : Memref sig .tc .vmem S256x256 .f32 := win0_11.stage (cfg0.slots t 11)
abbrev ms0_12 (t : Fin cfg0.N) : Memref sig .tc .vmem S256x256 .f32 := win0_12.stage (cfg0.slots t 12)
abbrev ms0_13 (t : Fin cfg0.N) : Memref sig .tc .vmem S1x256 .f32 := win0_13.stage (cfg0.slots t 13)
abbrev ms0_14 (t : Fin cfg0.N) : Memref sig .tc .vmem S8x64x256 .f32 := win0_14.stage (cfg0.slots t 14)
abbrev scM0_0 : Memref sig .tc .vmem S64x256 .f32 := Memref.whole cc0_scratch0
abbrev scM0_1 : Memref sig .tc .vmem S64x1024 .f32 := Memref.whole cc0_scratch1
abbrev scM0_2 : Memref sig .tc .vmem S64x256 .f32 := Memref.whole cc0_scratch2
abbrev scM0_3 : Memref sig .tc .vmem S32x64x256 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The proof data -/

/-- The states a grid point puts into the output block. -/
def outBlk (c : Dev nD) (t : Fin cfg0.N) : Vec F S8x64x256 .f32 :=
  fun j => (Rec m c (8 * (grid0.coords t 0).val + (j 0).val + 1)).h (ix2 (j 1) (j 2))

/-- The scratch buffers between points: anything before the first, afterwards the recurrence's values, with the states so
    far among the past ones. -/
def PhiS (c : Dev nD) : (n : ℕ) → n ≤ cfg0.N → sProp 𝕄
  | 0, _ => Pipeline.ΦA spec0 c
  | n + 1, _ => iprop(iprop(owns (c : Thread nD τ) scM0_0 fullShare (Rec m c (8 * (n + 1))).h
      ∗ owns (c : Thread nD τ) scM0_1 fullShare (Rec m c (8 * (n + 1))).l
      ∗ owns (c : Thread nD τ) scM0_2 fullShare (Rec m c (8 * (n + 1))).c
      ∗ (∃ M : Vec F S32x64x256 .f32, ⌜∀ (q : Fin 32) (b : Fin 64) (d : Fin 256), q.val < 8 * (n + 1) → M (ix3 q b d) = (Rec m c (q.val + 1)).h (ix2 b d)⌝
        ∗ owns (c : Thread nD τ) scM0_3 fullShare M)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (Rec m c (8 * n)).h
      ∗ owns (c : Thread nD τ) scM0_1 fullShare (Rec m c (8 * n)).l
      ∗ owns (c : Thread nD τ) scM0_2 fullShare (Rec m c (8 * n)).c
      ∗ (∃ M : Vec F S32x64x256 .f32, ⌜∀ (q : Fin 32) (b : Fin 64) (d : Fin 256), q.val < 8 * n → M (ix3 q b d) = (Rec m c (q.val + 1)).h (ix2 b d)⌝
        ∗ owns (c : Thread nD τ) scM0_3 fullShare M)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outBlk m c t := by dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation -/

def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ
    ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

theorem cond0_iff : ∀ t : Fin cfg0.N, cond0_0 (grid0.coords t) ↔ t.val = 0 := by decide

theorem next_start (t : Fin cfg0.N) : 8 * (grid0.coords t 0).val + 8 = 8 * (t.val + 1) := by
  rw [coords_val]; omega

/-- The past states after a point. -/
theorem past_next (c : Dev nD) (t : Fin cfg0.N) {a : Memref sig .tc .vmem S32x64x256 .f32} (ha : a.IsWhole) (M : Vec F S32x64x256 .f32)
    (hM : ∀ (q : Fin 32) (b : Fin 64) (d : Fin 256), q.val < 8 * t.val → M (ix3 q b d) = (Rec m c (q.val + 1)).h (ix2 b d))
    (L : List (View.Piece (Elt F) S8x64x256 .f32) × List (View.Piece (Elt F) S64x256 .f32)
      × List (View.Piece (Elt F) S64x1024 .f32) × List (View.Piece (Elt F) S64x256 .f32)
      × List (View.Piece (Elt F) S32x64x256 .f32)) (E : Ends (Rec m c) (grid0.coords t) L)
    (q : Fin 32) (b : Fin 64) (d : Fin 256) (hq : q.val < 8 * (t.val + 1)) :
    a.view.read (Elt F) (a.view.writes (Elt F) (ha.unread M) L.2.2.2.2) (ix3 q b d) = (Rec m c (q.val + 1)).h (ix2 b d) := by
  rw [E.past, coords_val]
  split
  · rfl
  · rw [ha.read_unread]
    exact hM q b d (by omega)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_pos m c (t.val + 1) _ (Nat.succ_ne_zero _), PhiS_castSucc m c t]
  by_cases hc : cond0_0 (grid0.coords t)
  · have hz := (cond0_iff t).mp hc
    have hi : (grid0.coords t 0).val = 0 := (coords_val t).trans hz
    rw [PhiS_zero m c _ _ hz, PhiA0_eq]
    iintro ⟨⟨⟨S0, S1, S2, ⟨%M, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun_A c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) M).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [S0]; · iexact S0
    isplitl [S1]; · iexact S1
    isplitl [S2]; · iexact S2
    isplitl [S3]; · iexact S3
    iintro ⟨H0, H1, H2, H3, H4, H5, H6, H7, H8, H9, H10, H11, H12, H13, ⟨%f14, H14⟩, ⟨%f0, S0⟩, ⟨%f1, S1⟩, ⟨%f2, S2⟩, S3⟩
    isplitl [S0 S1 S2 S3 Hg]
    · isplitl [S0 S1 S2 S3]
      · isplitl [S0]
        · unfold owns; iexists _; isplitr
          swap; · iexact S0
          ipureintro; exact (Ends.h (endsA c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) M (Rec m c) _ _ _ rfl (wts_eq m c t) (iblk_0 m c t) (iblk_1 m c t) hi) _ _).trans (congrArg (fun n => (Rec m c n).h) (next_start t))
        isplitl [S1]
        · unfold owns; iexists _; isplitr
          swap; · iexact S1
          ipureintro; exact (Ends.l (endsA c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) M (Rec m c) _ _ _ rfl (wts_eq m c t) (iblk_0 m c t) (iblk_1 m c t) hi) _ _).trans (congrArg (fun n => (Rec m c n).l) (next_start t))
        isplitl [S2]
        · unfold owns; iexists _; isplitr
          swap; · iexact S2
          ipureintro; exact (Ends.c (endsA c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) M (Rec m c) _ _ _ rfl (wts_eq m c t) (iblk_0 m c t) (iblk_1 m c t) hi) _ _).trans (congrArg (fun n => (Rec m c n).c) (next_start t))
        · iexists _; isplitr
          swap
          · unfold owns; iexists _; isplitr
            swap; · iexact S3
            ipureintro; rfl
          · ipureintro
            exact past_next m c t (Memref.isWhole_whole cc0_scratch3) M (fun q b d hq => absurd hq (by omega)) _ (endsA c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) M (Rec m c) _ _ _ rfl (wts_eq m c t) (iblk_0 m c t) (iblk_1 m c t) hi)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro; exact Ends.outs (endsA c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) M (Rec m c) _ _ _ rfl (wts_eq m c t) (iblk_0 m c t) (iblk_1 m c t) hi) _ _
  · have hz : t.val ≠ 0 := fun h => hc ((cond0_iff t).mpr h)
    rw [PhiS_pos m c _ _ hz]
    iintro ⟨⟨⟨S0, S1, S2, ⟨%M, %hM, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun_B c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ M).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [S0]; · iexact S0
    isplitl [S1]; · iexact S1
    isplitl [S2]; · iexact S2
    isplitl [S3]; · iexact S3
    iintro ⟨H0, H1, H2, H3, H4, H5, H6, H7, H8, H9, H10, H11, H12, H13, ⟨%f14, H14⟩, ⟨%f0, S0⟩, ⟨%f1, S1⟩, ⟨%f2, S2⟩, S3⟩
    isplitl [S0 S1 S2 S3 Hg]
    · isplitl [S0 S1 S2 S3]
      · isplitl [S0]
        · unfold owns; iexists _; isplitr
          swap; · iexact S0
          ipureintro; exact (Ends.h (endsB c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ M (Rec m c) _ _ _ rfl (wts_eq m c t) (iblk_0 m c t) (iblk_1 m c t) (congrArg (fun n => (Rec m c (8 * n)).h) (coords_val t).symm) (congrArg (fun n => (Rec m c (8 * n)).l) (coords_val t).symm) (congrArg (fun n => (Rec m c (8 * n)).c) (coords_val t).symm) (fun q b d hq => hM q b d (by rw [coords_val] at hq; exact hq))) _ _).trans (congrArg (fun n => (Rec m c n).h) (next_start t))
        isplitl [S1]
        · unfold owns; iexists _; isplitr
          swap; · iexact S1
          ipureintro; exact (Ends.l (endsB c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ M (Rec m c) _ _ _ rfl (wts_eq m c t) (iblk_0 m c t) (iblk_1 m c t) (congrArg (fun n => (Rec m c (8 * n)).h) (coords_val t).symm) (congrArg (fun n => (Rec m c (8 * n)).l) (coords_val t).symm) (congrArg (fun n => (Rec m c (8 * n)).c) (coords_val t).symm) (fun q b d hq => hM q b d (by rw [coords_val] at hq; exact hq))) _ _).trans (congrArg (fun n => (Rec m c n).l) (next_start t))
        isplitl [S2]
        · unfold owns; iexists _; isplitr
          swap; · iexact S2
          ipureintro; exact (Ends.c (endsB c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ M (Rec m c) _ _ _ rfl (wts_eq m c t) (iblk_0 m c t) (iblk_1 m c t) (congrArg (fun n => (Rec m c (8 * n)).h) (coords_val t).symm) (congrArg (fun n => (Rec m c (8 * n)).l) (coords_val t).symm) (congrArg (fun n => (Rec m c (8 * n)).c) (coords_val t).symm) (fun q b d hq => hM q b d (by rw [coords_val] at hq; exact hq))) _ _).trans (congrArg (fun n => (Rec m c n).c) (next_start t))
        · iexists _; isplitr
          swap
          · unfold owns; iexists _; isplitr
            swap; · iexact S3
            ipureintro; rfl
          · ipureintro
            exact past_next m c t (Memref.isWhole_whole cc0_scratch3) M (fun q b d hq => hM q b d hq) _ (endsB c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ M (Rec m c) _ _ _ rfl (wts_eq m c t) (iblk_0 m c t) (iblk_1 m c t) (congrArg (fun n => (Rec m c (8 * n)).h) (coords_val t).symm) (congrArg (fun n => (Rec m c (8 * n)).l) (coords_val t).symm) (congrArg (fun n => (Rec m c (8 * n)).c) (coords_val t).symm) (fun q b d hq => hM q b d (by rw [coords_val] at hq; exact hq)))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro; exact Ends.outs (endsB c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ M (Rec m c) _ _ _ rfl (wts_eq m c t) (iblk_0 m c t) (iblk_1 m c t) (congrArg (fun n => (Rec m c (8 * n)).h) (coords_val t).symm) (congrArg (fun n => (Rec m c (8 * n)).l) (coords_val t).symm) (congrArg (fun n => (Rec m c (8 * n)).c) (coords_val t).symm) (fun q b d hq => hM q b d (by rw [coords_val] at hq; exact hq))) _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N le_rfl from rfl, PhiS_pos m c _ _ (by decide), PhiA0_eq]
  iintro ⟨⟨S0, S1, S2, ⟨%M, %hM, S3⟩⟩, Hg⟩
  isplitl [S0 S1 S2 S3]
  · isplitl [S0]; · iexists _; iexact S0
    isplitl [S1]; · iexists _; iexact S1
    isplitl [S2]; · iexists _; iexact S2
    iexists _; iexact S3
  iexact Hg

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

/-- The result array: the states after each time step. -/
def states (c : Dev nD) : Vec F S32x64x256 .f32 := fun j => (Rec m c ((j 0).val + 1)).h (ix2 (j 1) (j 2))

theorem final_out (c : Dev nD) : (dats m 0 c).arrAt 14 (cfgs 0).N = states m c := by
  refine (dats m 0 c).arrAt_eq_of_covers 14 _ (by decide +kernel) fun t hf y => ?_
  blk_simp
  rw [after0_14]
  obtain ⟨h0, h1, h2⟩ := (index_first t).2.2
  unfold states outBlk
  rw [coords_val]
  have e0 : ((win0_14.blk t).view.emb y 0).val = 8 * t.val + (y 0).val := by blk_simp [h0]; omega
  have e1 : ((win0_14.blk t).view.emb y 1).val = (y 1).val := by blk_simp [h1]
  have e2 : ((win0_14.blk t).view.emb y 2).val = (y 2).val := by blk_simp [h2]
  exact congr (congrArg (fun n => (Rec m c (n + 1)).h) e0.symm) (congrArg₂ ix2 (Fin.ext e1.symm) (Fin.ext e2.symm))

/-- The run: the result array ends at the states, the arguments unchanged, the counters at zero. -/
theorem run : θ_run defs (onTc (τ := τ) (main (F := F))) ⟨m, fun _ => 0, ρ⟩ (fun r => (∀ c : Dev nD,
      r.2.mem ((c.tc : Thread nD τ).loc main_v0) = states m c) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and ((θ_run defs _ _).mono (fun _ h c => (h.1.out_eq c 14).trans (final_out m c)) (run_main_quiescent m ρ)) (frame m ρ)

end Cert.KernelIdeal.Gen

end
-- ==== Proof.MRow.lean ====
/-
  One row of 1024 numbers: its first largest place, how a fold of minima finds it, and why a softmax of finite numbers
  has it at the same place. Then the numbers that are finite: the hyperbolic tangent, a sum of products, the noise.
-/
module

public import Idealize.ShloMosaic.Lib.Pointwise
public import Idealize.ShloMosaic.Lib.Tactic.WordOmega
public import Idealize.ShloMosaic.Lib.SortNet.Extract
public import Idealize.ShloMosaic.Lib.IdealHost

@[expose] public section

noncomputable section

namespace Cert.Row

open Idealize.ShloMosaic

/-- `p` is the first place at which the row is largest. -/
def First (l : Fin 1024 → EReal) (p : Fin 1024) : Prop := ∀ q, l q < l p ∨ (l q = l p ∧ p ≤ q)

/-- The row's maximum is its value at the first largest place. -/
theorem fold_max {l : Fin 1024 → EReal} {p : Fin 1024} (h : First l p) :
    Finset.univ.fold max ⊥ l = l p := by
  apply le_antisymm
  · rw [Finset.fold_max_le]
    exact ⟨bot_le, fun q _ => (h q).elim le_of_lt fun e => e.1.le⟩
  · rw [Finset.le_fold_max]
    exact .inr ⟨p, Finset.mem_univ p, le_rfl⟩

/-- The least of the places where the row is largest is the first. -/
theorem fold_first {l : Fin 1024 → EReal} {p : Fin 1024} (h : First l p) :
    Finset.univ.fold IntOp.minsi 2147483647#32 (fun q : Fin 1024 => if l q = l p then BitVec.ofNat 32 q.val else 1024#32)
      = BitVec.ofNat 32 p.val := by
  apply BitVec.eq_of_toInt_eq
  have ofNat_toInt : ∀ q : Fin 1024, (BitVec.ofNat 32 q.val).toInt = q.val := fun q => by
    have := q.isLt
    word_omega
  rw [← Finset.fold_hom (op' := min) (m := BitVec.toInt) (fun a b => SortNet.toInt_minsi a b)]
  apply le_antisymm
  · rw [Finset.fold_min_le]
    exact .inr ⟨p, Finset.mem_univ p, by simp⟩
  · rw [Finset.le_fold_min]
    refine ⟨?_, fun q _ => ?_⟩
    · rw [ofNat_toInt]
      have := p.isLt
      have e : (2147483647#32).toInt = 2147483647 := by decide
      omega
    · rw [ofNat_toInt]
      have := p.isLt
      show (p.val : Int) ≤ (if l q = l p then BitVec.ofNat 32 q.val else 1024#32).toInt
      split
      · rename_i e
        rw [ofNat_toInt]
        rcases h q with hlt | ⟨_, hle⟩
        · exact absurd e hlt.ne
        · exact_mod_cast hle
      · have e : (1024#32).toInt = 1024 := by decide
        omega

/-- A finite number. -/
def Finite (x : EReal) : Prop := ∃ r : ℝ, x = r

theorem Finite.add {x y : EReal} : Finite x → Finite y → Finite (x + y)
  | ⟨a, ha⟩, ⟨b, hb⟩ => ⟨a + b, by rw [ha, hb, EReal.coe_add]⟩
theorem Finite.mul {x y : EReal} : Finite x → Finite y → Finite (x * y)
  | ⟨a, ha⟩, ⟨b, hb⟩ => ⟨a * b, by rw [ha, hb, EReal.coe_mul]⟩
theorem Finite.neg {x : EReal} : Finite x → Finite (-x)
  | ⟨a, ha⟩ => ⟨-a, by rw [ha, EReal.coe_neg]⟩

/-- A sum of reals, taken among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem Finite.sum {ι : Type} (s : Finset ι) {f : ι → EReal} (h : ∀ k, Finite (f k)) : Finite (∑ k ∈ s, f k) := by
  choose r hr using h
  exact ⟨∑ k ∈ s, r k, by rw [coe_sum]; exact Finset.sum_congr rfl fun k _ => hr k⟩

theorem finite_tanh (x : EReal) : Finite (Ideal.tanh x) := by
  induction x using EReal.rec with
  | bot => exact ⟨-1, by rw [EReal.coe_neg, EReal.coe_one]; rfl⟩
  | top => exact ⟨1, by rw [EReal.coe_one]; rfl⟩
  | coe r => exact ⟨Real.tanh r, rfl⟩

/-- Larger logits have larger softmaxes, and every softmax of finite logits is finite. -/
theorem softmax {l : Fin 1024 → EReal} (h : ∀ q, Finite (l q)) :
    ∃ g : Fin 1024 → ℝ, (∀ q, Ideal.div (Ideal.exp (l q - max ⊥ (Finset.univ.fold max ⊥ l)))
        (∑ x, Ideal.exp (l x - max ⊥ (Finset.univ.fold max ⊥ l))) = (g q : EReal))
      ∧ ∀ a b, (g a < g b → l a < l b) ∧ (g a = g b → l a = l b) := by
  choose r hr using h
  obtain ⟨m, hm⟩ : Finite (Finset.univ.fold max ⊥ l) := by
    obtain ⟨p, -, hp⟩ := Finset.exists_max_image Finset.univ l ⟨0, Finset.mem_univ 0⟩
    refine ⟨r p, ?_⟩
    rw [← hr p]
    apply le_antisymm
    · rw [Finset.fold_max_le]
      exact ⟨bot_le, hp⟩
    · rw [Finset.le_fold_max]
      exact .inr ⟨p, Finset.mem_univ p, le_rfl⟩
  have hS : (0 : ℝ) < ∑ x, Real.exp (r x - m) := Finset.sum_pos (fun _ _ => Real.exp_pos _) ⟨0, Finset.mem_univ 0⟩
  have hE : ∀ q, Ideal.exp (l q - max ⊥ (Finset.univ.fold max ⊥ l)) = (Real.exp (r q - m) : EReal) := fun q => by
    rw [hm, hr q, max_eq_right bot_le, ← EReal.coe_sub, Ideal.exp_coe]
  refine ⟨fun q => Real.exp (r q - m) * (1 / ∑ x, Real.exp (r x - m)), fun q => ?_, fun a b => ⟨fun hlt => ?_, fun he => ?_⟩⟩
  · simp only [hE]
    rw [← coe_sum, Ideal.div_coe hS.ne', ← EReal.coe_mul]
  · have := (mul_lt_mul_iff_left₀ (one_div_pos.mpr hS)).mp hlt
    rw [hr a, hr b, EReal.coe_lt_coe_iff]
    linarith [Real.exp_lt_exp.mp this]
  · have := mul_right_cancel₀ (one_div_pos.mpr hS).ne' he
    rw [hr a, hr b]
    have := Real.exp_injective this
    congr 1
    linarith

/-- The first largest softmax is at the first largest logit. -/
theorem First.of_softmax {l : Fin 1024 → EReal} {g : Fin 1024 → ℝ}
    (h : ∀ a b, (g a < g b → l a < l b) ∧ (g a = g b → l a = l b)) {p : Fin 1024}
    (hp : First (fun q => (g q : EReal)) p) : First l p := fun q =>
  (hp q).imp (fun hlt => (h q p).1 (EReal.coe_lt_coe_iff.mp hlt)) fun e => ⟨(h q p).2 (EReal.coe_eq_coe_iff.mp e.1), e.2⟩

/-- The small number added under the logarithms lies strictly between 0 and 1. -/
theorem eps : ∃ e : ℝ, Ideal.ofBits .f32 507307272#32 = (e : EReal) ∧ 0 < e ∧ e < 1 := by
  refine ⟨_, by simp [Ideal.ofBits, Ideal.ieee, -EReal.coe_mul]; rfl, ?_, ?_⟩
  · norm_num
  · norm_num

/-- The noise of a draw between 0 and 1 is finite. -/
theorem finite_noise {u : EReal} (h0 : 0 ≤ u) (h1 : u ≤ 1) :
    Finite (Ideal.log (Ideal.ofBits .f32 507307272#32 - Ideal.log (Ideal.ofBits .f32 507307272#32 + u))) := by
  obtain ⟨e, he, hpos, hlt⟩ := eps
  rw [he]
  induction u using EReal.rec with
  | bot => simp at h0
  | top => exact absurd h1 (by decide)
  | coe r =>
    have h0 : 0 ≤ r := by exact_mod_cast h0
    have h1 : r ≤ 1 := by exact_mod_cast h1
    have hs : 0 < e + r := by linarith
    have hl : 0 < e - Real.log (e + r) := by
      rcases eq_or_ne (e + r) 1 with h | h
      · rw [h, Real.log_one]; linarith
      · have := Real.log_lt_sub_one_of_pos hs h
        linarith
    rw [← EReal.coe_add, Ideal.log_coe, if_neg (not_le.mpr hs), ← EReal.coe_sub, Ideal.log_coe, if_neg (not_le.mpr hl)]
    exact ⟨_, rfl⟩

/-- Subtracting a finite number and adding it back changes nothing. -/
theorem sub_add_back {x y : EReal} (hx : Finite x) (hy : Finite y) : x - y + y = x := by
  obtain ⟨a, rfl⟩ := hx
  obtain ⟨b, rfl⟩ := hy
  rw [← EReal.coe_sub, ← EReal.coe_add]
  congr 1
  ring

end Cert.Row

end
-- ==== Proof.MArgmax.lean ====
/-
  The reference's argmax over a row of finite numbers is the first place at which the row is largest.
-/
module

public import proofs.«01_k».proof.Proof.MRow
public import proofs.«01_k».proof.Proof.RefStep

@[expose] public section

noncomputable section

namespace Cert.Row

open Idealize.ShloMosaic Cert.ReferenceIdeal
open Cert.ReferenceIdeal.Gen

/-- `r` is at least as good as `q`: larger, or as large and not later. -/
def Better (r q : EReal × BitVec 32) : Prop := q.1 < r.1 ∨ (q.1 = r.1 ∧ r.2.toInt ≤ q.2.toInt)

theorem Better.refl (r : EReal × BitVec 32) : Better r r := .inr ⟨rfl, le_rfl⟩

theorem Better.trans {a b c : EReal × BitVec 32} : Better a b → Better b c → Better a c
  | .inl h, .inl h' => .inl (h'.trans h)
  | .inl h, .inr h' => .inl (h'.1.trans_lt h)
  | .inr h, .inl h' => .inl (h'.trans_eq h.1)
  | .inr h, .inr h' => .inr ⟨h'.1.trans h.1, h.2.trans h'.2⟩

/-- The argmax's body keeps the better of its two pairs. -/
theorem keeps (a b : Ideal .f32 × BitVec 32) :
    (reducer_argmax_f32_i32 (F := Ideal) a b = a ∧ Better a b) ∨ (reducer_argmax_f32_i32 (F := Ideal) a b = b ∧ Better b a) := by
  obtain ⟨x, i⟩ := a
  obtain ⟨y, k⟩ := b
  unfold reducer_argmax_f32_i32
  simp only [Ideal.cmpf_def]
  rcases lt_trichotomy x y with h | h | h
  · refine .inr ⟨?_, .inl h⟩
    simp [Ideal.cmp, Scalar.select, IntOp.ori, IntOp.andi, h.not_gt, h.ne]
  · subst h
    by_cases hik : i.toInt < k.toInt
    · refine .inl ⟨?_, .inr ⟨rfl, hik.le⟩⟩
      simp [Ideal.cmp, Scalar.select, IntOp.ori, IntOp.andi, IntOp.cmpi, BitVec.slt, hik]
    · refine .inr ⟨?_, .inr ⟨rfl, not_lt.mp hik⟩⟩
      simp [Ideal.cmp, Scalar.select, IntOp.ori, IntOp.andi, IntOp.cmpi, BitVec.slt, hik]
  · refine .inl ⟨?_, .inl h⟩
    simp [Ideal.cmp, Scalar.select, IntOp.ori, IntOp.andi, h, h.ne']

/-- A fold of the argmax's body ends with one of its pairs, at least as good as every other. -/
theorem foldl_keeps (L : List (Ideal .f32 × BitVec 32)) (a : Ideal .f32 × BitVec 32) :
    L.foldl (reducer_argmax_f32_i32 (F := Ideal)) a ∈ a :: L
      ∧ ∀ q ∈ a :: L, Better (L.foldl (reducer_argmax_f32_i32 (F := Ideal)) a) q := by
  induction L generalizing a with
  | nil => exact ⟨by simp, fun q hq => by rw [List.mem_singleton.mp hq]; exact .refl _⟩
  | cons b L ih =>
    rw [List.foldl_cons]
    obtain ⟨hm, hb⟩ := ih (reducer_argmax_f32_i32 (F := Ideal) a b)
    have h0 := hb _ List.mem_cons_self
    have hL : ∀ q ∈ L, Better (L.foldl (reducer_argmax_f32_i32 (F := Ideal)) (reducer_argmax_f32_i32 (F := Ideal) a b)) q :=
      fun q hq => hb q (List.mem_cons_of_mem _ hq)
    rcases keeps a b with ⟨e, hk⟩ | ⟨e, hk⟩ <;> rw [e] at hm h0 hL ⊢
    · refine ⟨?_, fun q hq => ?_⟩
      · rcases List.mem_cons.mp hm with h | h
        · rw [h]; exact List.mem_cons_self
        · exact List.mem_cons_of_mem _ (List.mem_cons_of_mem _ h)
      · rcases List.mem_cons.mp hq with rfl | hq
        · exact h0
        · rcases List.mem_cons.mp hq with rfl | hq
          · exact h0.trans hk
          · exact hL q hq
    · refine ⟨List.mem_cons_of_mem _ hm, fun q hq => ?_⟩
      rcases List.mem_cons.mp hq with rfl | hq
      · exact h0.trans hk
      · rcases List.mem_cons.mp hq with rfl | hq
        · exact h0
        · exact hL q hq

/-- A place of the row is in the fiber the argmax folds over. -/
theorem mem_fiber (y : FVec Ideal S64x1024 .f32) (k : IVec S64x1024 32) (b : Fin 64) (z : Ideal .f32 × BitVec 32) :
    z ∈ Host.argReduceFiber y k reducesTo_S64x1024_S64_d1 (ix1 b) ↔ ∃ q : Fin 1024, z = (y (ix2 b q), k (ix2 b q)) := by
  unfold Host.argReduceFiber
  simp only [List.mem_map, List.mem_filter, List.mem_finRange, true_and, decide_eq_true_eq]
  have drop : ∀ i : S64x1024.Idx, reducesTo_S64x1024_S64_d1.drop i = ix1 b ↔ i 0 = b := fun i => by
    rw [show (reducesTo_S64x1024_S64_d1.drop i = ix1 b) ↔ (reducesTo_S64x1024_S64_d1.drop i 0 : Nat) = b.val from
      ⟨fun h => by rw [h]; rfl, fun h => by rw [eq_ix1 (reducesTo_S64x1024_S64_d1.drop i)]; congr 1; exact Fin.ext h⟩,
      Shape.ReducesTo.drop_apply_val_of_eq reducesTo_S64x1024_S64_d1 i 0 0]
    exact Fin.ext_iff.symm
  constructor
  · rintro ⟨n, hn, rfl⟩
    have := (drop _).mp hn
    refine ⟨S64x1024.rowMajor.symm n 1, ?_⟩
    rw [← this, ← eq_ix2]
  · rintro ⟨q, rfl⟩
    refine ⟨S64x1024.rowMajor (ix2 b q), ?_, ?_⟩
    · rw [Equiv.symm_apply_apply]
      exact (drop _).mpr rfl
    · rw [Equiv.symm_apply_apply]

variable {s : Step.State Ideal} (j : ℕ)

/-- The reference's argmax names the first largest place of its row. -/
theorem argmax (b : Fin 64) (h : ∀ q : Fin 1024, ⊥ < (Step.b73 j s (ix2 b q) : EReal)) :
    ∃ p : Fin 1024, Step.b78 j s (ix1 b) = BitVec.ofNat 32 p.val ∧ First (fun q => Step.b73 j s (ix2 b q)) p := by
  have hr : Step.b78 j s (ix1 b) = ((Host.argReduceFiber (Step.b73 j s) (Step.b74 j s) reducesTo_S64x1024_S64_d1 (ix1 b)).foldl
      (reducer_argmax_f32_i32 (F := Ideal)) (⊥, 0#32)).2 := by
    unfold Step.b78
    rw [Ideal.argReduce_eq_reduce2, Host.reduce2_eq_foldl_fiber]
    congr 2
  obtain ⟨hm, hb⟩ := foldl_keeps (Host.argReduceFiber (Step.b73 j s) (Step.b74 j s) reducesTo_S64x1024_S64_d1 (ix1 b)) (⊥, 0#32)
  have hk : ∀ q : Fin 1024, Step.b74 j s (ix2 b q) = BitVec.ofNat 32 q.val := fun q => by
    unfold Step.b74
    pointwise
  have better := fun q : Fin 1024 => hb _ (List.mem_cons_of_mem _ ((mem_fiber _ _ b _).mpr ⟨q, rfl⟩))
  rcases List.mem_cons.mp hm with e | hm
  · exfalso
    rw [e] at better
    rcases better 0 with hlt | ⟨he, -⟩
    · exact absurd hlt not_lt_bot
    · exact absurd he (h 0).ne'
  · obtain ⟨p, hp⟩ := (mem_fiber _ _ b _).mp hm
    rw [hp] at better hr
    refine ⟨p, hr.trans (hk p), fun q => (better q).imp id fun e => ⟨e.1, ?_⟩⟩
    have := e.2
    simp only [hk] at this
    have := p.isLt
    have := q.isLt
    show p.val ≤ q.val
    word_omega

end Cert.Row

end
-- ==== Proof.MLogits.lean ====
/-
  The reference's step and the kernel's step agree, value by value, on all that needs no case distinction: the usage's
  term, the logits, the mixing of the entry and the state, and the gated update.
-/
module

public import proofs.«01_k».proof.Proof.KSeq
public import proofs.«01_k».proof.Proof.RefStep
public import Idealize.ShloMosaic.Lib.Pointwise

@[expose] public section

noncomputable section

namespace Cert.Meet

open Idealize.ShloMosaic

abbrev RState := Cert.ReferenceIdeal.Step.State Ideal
abbrev KWeights := Cert.KernelIdeal.Step.Weights Ideal

open Cert.ReferenceIdeal.Step (b11 b21 b32 b33 b34 b35 b36 b37 b38 b39 b40 b41 b42 b43 b44 b45 b46 b47 b48 b49 b50 b51
  b52 b53 b54 b55 b56 b57 b58 b59)

/-- The weights the reference's state holds are the kernel's. -/
structure Same (W : KWeights) (s : RState) : Prop where
  im : s.main_v6_2 = W.im
  hm : s.main_v6_3 = W.hm
  um : s.main_v6_4 = W.um
  fc1 : s.main_v6_5 = W.fc1
  b1 : ∀ q : Fin 1024, s.main_v6_6 (ix1 q) = W.b1 (ix2 (0 : Fin 1) q)
  fc2e : ∀ (k d : Fin 256), s.main_v6_7 (ix2 (⟨k.val, by omega⟩ : Fin 512) d) = W.fc2e (ix2 k d)
  fc2h : ∀ (k d : Fin 256), s.main_v6_7 (ix2 (⟨256 + k.val, by omega⟩ : Fin 512) d) = W.fc2h (ix2 k d)
  b2 : ∀ d : Fin 256, s.main_v6_8 (ix1 d) = W.b2 (ix2 (0 : Fin 1) d)
  ih : s.main_v6_9 = W.ih
  bih : ∀ q : Fin 768, s.main_v6_10 (ix1 q) = W.bih (ix2 (0 : Fin 1) q)
  hh : s.main_v6_11 = W.hh
  bhh : ∀ q : Fin 768, s.main_v6_12 (ix1 q) = W.bhh (ix2 (0 : Fin 1) q)

variable {W : KWeights} {s : RState} (j : ℕ)

/-- The reference's sigmoid of the usage is the kernel's. -/
theorem sigmoid_usage : b39 j s = logistic (F := Ideal) (s := Cert.KernelIdeal.S64x1024) (φ := .f32) s.main_v6_17 := by
  funext i
  obtain ⟨b, q, rfl⟩ : ∃ (b : Fin 64) (q : Fin 1024), i = ix2 b q := ⟨i 0, i 1, eq_ix2 i⟩
  unfold b39 b38 b37 b36 b35 b34 b33 b32
  pointwise
  rfl

/-- The usage's term in the logits is the kernel's. -/
theorem usage_term (h : Same W s) : b43 j s = Cert.KernelIdeal.Step.usageTerm W s.main_v6_17 := by
  funext i
  obtain ⟨b, q, rfl⟩ : ∃ (b : Fin 64) (q : Fin 256), i = ix2 b q := ⟨i 0, i 1, eq_ix2 i⟩
  unfold b43 Cert.KernelIdeal.Step.usageTerm
  rw [sigmoid_usage, h.um]
  pointwise

/-- The logits are the kernel's. -/
theorem logits_eq (h : Same W s) : b59 j s = Cert.KernelIdeal.Step.logits W (b11 j s) (b21 j s) s.main_v6_15 (b43 j s) := by
  funext i
  obtain ⟨b, q, rfl⟩ : ∃ (b : Fin 64) (q : Fin 1024), i = ix2 b q := ⟨i 0, i 1, eq_ix2 i⟩
  unfold Cert.KernelIdeal.Step.logits Cert.KernelIdeal.Step.noise
  rw [← h.hm, ← h.im, ← h.fc1]
  simp only [b59, b58, b57, b56, b55, b54, b53, b52, b51, b50, b49, b48, b47, b46, b45, b44, b42, b41, b40]
  pointwise
  rw [h.b1, zero_sub]
  simp only [add_comm (∑ x : Fin 256, b11 j s (ix2 b x) * _)]

end Cert.Meet

end
-- ==== Proof.MGates.lean ====
/-
  The mixing of the entry with the state, and the gated update: the reference's and the kernel's agree value by value.
-/
module

public import proofs.«01_k».proof.Proof.MLogits

@[expose] public section

noncomputable section

namespace Cert.Meet

open Idealize.ShloMosaic
open Cert.ReferenceIdeal.Step

variable {W : KWeights} {s : RState} (j : ℕ)

/-- One product with the two halves stacked is the sum of the two products. -/
theorem mixed_eq (h : Same W s) : b102 j s = Cert.KernelIdeal.Step.mixed W (b87 j s) s.main_v6_15 := by
  funext i
  obtain ⟨b, q, rfl⟩ : ∃ (b : Fin 64) (q : Fin 256), i = ix2 b q := ⟨i 0, i 1, eq_ix2 i⟩
  unfold Cert.KernelIdeal.Step.mixed
  simp only [b102, b101, b100, b99, b98]
  pointwise
  simp only [h.fc2e, h.fc2h, h.b2]

/-- The gates' input part. -/
theorem inGates_eq (h : Same W s) : b106 j s = Cert.KernelIdeal.Step.inGates W (b11 j s) := by
  funext i
  obtain ⟨b, q, rfl⟩ : ∃ (b : Fin 64) (q : Fin 768), i = ix2 b q := ⟨i 0, i 1, eq_ix2 i⟩
  unfold Cert.KernelIdeal.Step.inGates
  simp only [b106, b105, b104, b103]
  pointwise
  rw [h.bih, h.ih]

/-- The gates' state part. -/
theorem stGates_eq (h : Same W s) : b110 j s = Cert.KernelIdeal.Step.stGates W (b102 j s) := by
  funext i
  obtain ⟨b, q, rfl⟩ : ∃ (b : Fin 64) (q : Fin 768), i = ix2 b q := ⟨i 0, i 1, eq_ix2 i⟩
  unfold Cert.KernelIdeal.Step.stGates
  simp only [b110, b109, b108, b107]
  pointwise
  rw [h.bhh, h.hh]

/-- The gated update. -/
theorem gated_eq : b143 j s = Cert.KernelIdeal.Step.gated (b106 j s) (b110 j s) (b102 j s) := by
  funext i
  obtain ⟨b, q, rfl⟩ : ∃ (b : Fin 64) (q : Fin 256), i = ix2 b q := ⟨i 0, i 1, eq_ix2 i⟩
  unfold Cert.KernelIdeal.Step.gated
  simp only [b143, b142, b141, b140, b139, b138, b137, b136, b135, b134, b133, b132, b131, b130, b129, b128, b127, b126,
    b125, b124, b123, b122, b121, b120, b119, b118, b117, b116, b115, b114, b113, b112, b111]
  pointwise
  rfl

end Cert.Meet

end
-- ==== Proof.MSelect.lean ====
/-
  The column the reference's step selects is the kernel's, where the logits are finite; so are the new usage and, of the
  memory, the row read.
-/
module

public import proofs.«01_k».proof.Proof.MArgmax
public import proofs.«01_k».proof.Proof.MGates

@[expose] public section

noncomputable section

namespace Cert.Meet

open Idealize.ShloMosaic Cert.Row
open Cert.ReferenceIdeal.Step

variable {s : RState} (j : ℕ)

/-- Finite weights of the logits, and draws between 0 and 1. -/
structure Tame (s : RState) (j : ℕ) : Prop where
  w : ∀ (k : Fin 256) (q : Fin 1024), Finite (s.main_v6_5 (ix2 k q))
  b : ∀ q : Fin 1024, Finite (s.main_v6_6 (ix1 q))
  lo : ∀ (b : Fin 64) (q : Fin 1024), (0 : EReal) ≤ b21 j s (ix2 b q)
  hi : ∀ (b : Fin 64) (q : Fin 1024), (b21 j s (ix2 b q) : EReal) ≤ 1

/-- Every logit is finite. -/
theorem finite_logits (h : Tame s j) (b : Fin 64) (q : Fin 1024) : Finite (b59 j s (ix2 b q)) := by
  have e : b59 j s (ix2 b q) = ∑ x : Fin 256, Ideal.tanh (b44 j s (ix2 b x)) * s.main_v6_5 (ix2 x q) + s.main_v6_6 (ix1 q)
      + -Ideal.log (Ideal.ofBits .f32 507307272#32 - Ideal.log (Ideal.ofBits .f32 507307272#32 + b21 j s (ix2 b q))) := by
    simp only [b59, b58, b57, b56, b55, b54, b53, b52, b51, b50, b49, b48, b47, b46, b45]
    pointwise
  rw [e]
  exact ((Finite.sum _ fun x => (finite_tanh _).mul (h.w x q)).add (h.b q)).add (finite_noise (h.lo b q) (h.hi b q)).neg

/-- The softmax as the reference computes it. -/
theorem softmax_apply (b : Fin 64) (q : Fin 1024) : b73 j s (ix2 b q)
    = Ideal.div (Ideal.exp (b59 j s (ix2 b q) - max ⊥ (Finset.univ.fold max ⊥ fun x : Fin 1024 => b59 j s (ix2 b x))))
      (∑ x : Fin 1024, Ideal.exp (b59 j s (ix2 b x) - max ⊥ (Finset.univ.fold max ⊥ fun x : Fin 1024 => b59 j s (ix2 b x)))) := by
  have e : Ideal.ofBits .f32 4286578688#32 = ⊥ := by simp [Ideal.ofBits, Ideal.ieee]
  simp only [b73, b72, b71, b70, b69, b68, b67, b66, b65, b64, b63, b62, b61, b60]
  pointwise
  rw [e]

/-- The column selected in each row. -/
theorem select_eq (h : Tame s j) : ∃ p : Fin 64 → Fin 1024, ∀ b : Fin 64,
    b78 j s (ix1 b) = BitVec.ofNat 32 (p b).val
    ∧ Cert.KernelIdeal.Step.firstMax (F := Ideal) (b59 j s) (ix2 b (0 : Fin 1)) = BitVec.ofNat 32 (p b).val
    ∧ ∀ q : Fin 1024, Finite (b73 j s (ix2 b q)) := by
  have key : ∀ b : Fin 64, ∃ p : Fin 1024, b78 j s (ix1 b) = BitVec.ofNat 32 p.val
      ∧ Cert.KernelIdeal.Step.firstMax (F := Ideal) (b59 j s) (ix2 b (0 : Fin 1)) = BitVec.ofNat 32 p.val
      ∧ ∀ q : Fin 1024, Finite (b73 j s (ix2 b q)) := fun b => by
    obtain ⟨g, hg, mono⟩ := softmax (finite_logits j h b)
    have hs : ∀ q, b73 j s (ix2 b q) = (g q : EReal) := fun q => (softmax_apply j b q).trans (hg q)
    obtain ⟨p, hp, hf⟩ := argmax j (s := s) b fun q => by rw [hs q]; exact EReal.bot_lt_coe _
    simp only [hs] at hf
    have first := First.of_softmax mono hf
    refine ⟨p, hp, ?_, fun q => ⟨g q, hs q⟩⟩
    have e : Ideal.ofBits .f32 4286578688#32 = ⊥ := by simp [Ideal.ofBits, Ideal.ieee]
    unfold Cert.KernelIdeal.Step.firstMax
    pointwise
    rw [e, fold_max first]
    exact fold_first first
  choose p hp using key
  exact ⟨p, hp⟩

/-- Equality of two column numbers, read as words. -/
theorem word_eq (p q : Fin 1024) : (BitVec.ofNat 32 p.val = BitVec.ofNat 32 q.val) ↔ p = q :=
  ⟨fun e => Fin.ext (by
    have := congrArg BitVec.toNat e
    have hp := p.isLt
    have hq := q.isLt
    simp at this
    omega), fun e => by rw [e]⟩

/-- Equality of two column numbers, as the one-hot row has it. -/
theorem hot (p q : Fin 1024) : (FloatOps.uitofp .f32 (IntOp.cmpi .eq (BitVec.ofNat 32 p.val) (BitVec.ofNat 32 q.val)) : Ideal .f32)
    = if q = p then (1 : EReal) else 0 := by
  by_cases h : q = p
  · subst h
    simp [IntOp.cmpi, FloatOps.uitofp]
  · simp [IntOp.cmpi, FloatOps.uitofp, h, (word_eq p q).not.mpr (Ne.symm h)]

/-- The new usage is the kernel's. -/
theorem usage_eq (h : Tame s j) : b97 j s
    = Cert.KernelIdeal.Step.usage (F := Ideal) (Cert.KernelIdeal.Step.firstMax (F := Ideal) (b59 j s)) s.main_v6_17 := by
  obtain ⟨p, hp⟩ := select_eq j h
  funext i
  obtain ⟨b, q, rfl⟩ : ∃ (b : Fin 64) (q : Fin 1024), i = ix2 b q := ⟨i 0, i 1, eq_ix2 i⟩
  simp only [b97, b96, b95, b94, b93, b92, b91, b90, b89, b88, b84, b83, b82, b81, b80, b79]
  unfold Cert.KernelIdeal.Step.usage
  pointwise
  rw [(hp b).1, (hp b).2.1, hot]
  have e : Ideal.ofBits .f32 3212836864#32 = -1 := by
    rw [show (-1 : EReal) = ((-1 : ℝ) : EReal) by rw [EReal.coe_neg, EReal.coe_one]]
    simp [Ideal.ofBits, Ideal.ieee, -EReal.coe_mul, -EReal.coe_neg]
    norm_num
  by_cases hq : q = p b
  · simp [hq, e, IntOp.cmpi, Scalar.select]
  · have ne : (BitVec.ofNat 32 q.val == BitVec.ofNat 32 (p b).val) = false :=
      beq_eq_false_iff_ne.mpr ((word_eq q (p b)).not.mpr hq)
    simp [hq, IntOp.cmpi, Scalar.select, ne]

/-- The row the reference reads of its memory is the selected one. -/
theorem read_eq (h : Tame s j) {p : Fin 64 → Fin 1024}
    (hp : ∀ b, Cert.KernelIdeal.Step.firstMax (F := Ideal) (b59 j s) (ix2 b (0 : Fin 1)) = BitVec.ofNat 32 (p b).val)
    (b : Fin 64) (d : Fin 256) : b87 j s (ix2 b d) = b31 j s (ix3 b (p b) d) := by
  obtain ⟨p', hp'⟩ := select_eq j h
  have e : p' b = p b := (word_eq _ _).mp ((hp' b).2.1.symm.trans (hp b))
  simp only [b87, b86, b85, b84, b83, b82, b81, b80, b79]
  pointwise
  simp only [(hp' b).1, hot, e]
  rw [Finset.sum_eq_single (p b)]
  · rw [if_pos rfl, sub_add_back ⟨1, EReal.coe_one.symm⟩ ((hp' b).2.2 _), one_mul]
  · intro q _ hq
    rw [if_neg hq, sub_add_back ⟨0, EReal.coe_zero.symm⟩ ((hp' b).2.2 _), zero_mul]
  · simp

end Cert.Meet

end
-- ==== Proof.MSlices.lean ====
/-
  The reference's slices and updates at the step's number: the step's input and draws, the memory with the state stored,
  and the outputs with the new state stored.
-/
module

public import proofs.«01_k».proof.Proof.MGates
public import Idealize.ShloMosaic.Lib.DynamicIndex
public import Idealize.ShloMosaic.Lib.Pipeline.Value
public import Idealize.ShloMosaic.Lib.Tactic.WordOmega

@[expose] public section

noncomputable section

namespace Cert.Meet

open Idealize.ShloMosaic Cert.ReferenceIdeal Cert.ReferenceIdeal.Gen
open Cert.ReferenceIdeal.Step

variable {s : RState} (j : ℕ)

/-- The step's number is not negative, so the index is the number itself. -/
theorem index_eq (hj : j < 32) (w : BitVec 32) (i : S_.Idx) :
    (select (cmpi .slt (constantI S_ 32 (BitVec.ofNat 32 j)) (constantI S_ 32 0#32))
      (addi (id (constantI S_ 32 (BitVec.ofNat 32 j))) (constantI S_ 32 w)) (constantI S_ 32 (BitVec.ofNat 32 j)) i).toInt = j := by
  have h : (BitVec.ofNat 32 j).toInt = j := by word_omega
  rw [select_slt_zero_of_nonneg]
  · exact h
  · show 0 ≤ (BitVec.ofNat 32 j).toInt
    omega

/-- The step's input. -/
theorem input_apply (hj : j < 32) (b : Fin 64) (d : Fin 256) : b11 j s (ix2 b d) = s.main_v6_0 (ix3 (⟨j, hj⟩ : Fin 32) b d) := by
  have h : S32x64x256.Slices ![j, 0, 0] S1x64x256 := ⟨rfl, fun a => by fin_cases a <;> simp <;> omega⟩
  unfold b11 b10
  rw [Host.dynamicSlice_eq_extractStridedSlice _ _ _ ![j, 0, 0] _ h]
  · pointwise
  · intro a
    fin_cases a
    · exact index_eq j hj 32#32 _
    · rfl
    · rfl

/-- The step's draws. -/
theorem draws_apply (hj : j < 32) (b : Fin 64) (q : Fin 1024) : b21 j s (ix2 b q) = s.main_v6_1 (ix3 (⟨j, hj⟩ : Fin 32) b q) := by
  have h : S32x64x1024.Slices ![j, 0, 0] S1x64x1024 := ⟨rfl, fun a => by fin_cases a <;> simp <;> omega⟩
  unfold b21 b20
  rw [Host.dynamicSlice_eq_extractStridedSlice _ _ _ ![j, 0, 0] _ h]
  · pointwise
  · intro a
    fin_cases a
    · exact index_eq j hj 32#32 _
    · rfl
    · rfl

/-- The memory with the state stored at the step's number. -/
theorem memory_apply (hj : j < 32) (b : Fin 64) (q : Fin 1024) (d : Fin 256) : b31 j s (ix3 b q d)
    = if q.val = j then s.main_v6_15 (ix2 b d) else s.main_v6_16 (ix3 b q d) := by
  have h : S64x1024x256.Slices ![0, j, 0] S64x1x256 := ⟨rfl, fun a => by fin_cases a <;> simp <;> omega⟩
  unfold b31 b22
  rw [Host.dynamicUpdateSlice_eq_updateSlice _ _ _ _ ![0, j, 0] (fun a => ?_) h]
  · pointwise
    exact if_congr ⟨fun h => by omega, fun h => by omega⟩ rfl rfl
  · fin_cases a
    · rfl
    · show (min (max (BitVec.toInt _) 0) (1023 : Int)).toNat = j
      erw [index_eq j hj 1024#32 _]
      omega
    · rfl

/-- The outputs with the new state stored at the step's number. -/
theorem outs_apply (hj : j < 32) (t : Fin 32) (b : Fin 64) (d : Fin 256) : b153 j s (ix3 t b d)
    = if t.val = j then b143 j s (ix2 b d) else s.main_v6_18 (ix3 t b d) := by
  have h : S32x64x256.Slices ![j, 0, 0] S1x64x256 := ⟨rfl, fun a => by fin_cases a <;> simp <;> omega⟩
  unfold b153 b144
  rw [Host.dynamicUpdateSlice_eq_updateSlice _ _ _ _ ![j, 0, 0] (fun a => ?_) h]
  · pointwise
    exact if_congr ⟨fun h => by omega, fun h => by omega⟩ rfl rfl
  · fin_cases a
    · show (min (max (BitVec.toInt _) 0) (31 : Int)).toNat = j
      erw [index_eq j hj 32#32 _]
      omega
    · rfl
    · rfl

end Cert.Meet

end
-- ==== Proof.MSteps.lean ====
/-
  Step by step the reference's state is the kernel's: the state, the usage, the outputs, and the memory, whose row `q` is
  the state before time step `q` once that step has begun and zero until then.
-/
module

public import proofs.«01_k».proof.Proof.MSelect
public import proofs.«01_k».proof.Proof.MSlices
public import proofs.«01_k».proof.Proof.KEntry

@[expose] public section

noncomputable section

namespace Cert.Meet

open Idealize.ShloMosaic Cert.Row Cert.KernelIdeal.Step
open Cert.ReferenceIdeal.Step (b11 b21 b31 b43 b59 b87 b97 b102 b106 b110 b143 b153)

variable (W : KWeights) (X : ℕ → FVec Ideal Cert.KernelIdeal.S64x256 .f32) (U : ℕ → FVec Ideal Cert.KernelIdeal.S64x1024 .f32)

/-- What holds before time step `n`. -/
structure Agree (n : ℕ) (s : RState) : Prop where
  same : Same W s
  x : ∀ (t : Fin 32) (b : Fin 64) (d : Fin 256), s.main_v6_0 (ix3 t b d) = X t.val (ix2 b d)
  u : ∀ (t : Fin 32) (b : Fin 64) (q : Fin 1024), s.main_v6_1 (ix3 t b q) = U t.val (ix2 b q)
  w : ∀ (k : Fin 256) (q : Fin 1024), Finite (s.main_v6_5 (ix2 k q))
  b : ∀ q : Fin 1024, Finite (s.main_v6_6 (ix1 q))
  lo : ∀ (t : Fin 32) (b : Fin 64) (q : Fin 1024), (0 : EReal) ≤ s.main_v6_1 (ix3 t b q)
  hi : ∀ (t : Fin 32) (b : Fin 64) (q : Fin 1024), (s.main_v6_1 (ix3 t b q) : EReal) ≤ 1
  h : s.main_v6_15 = (Carry.run W X U n).h
  l : s.main_v6_17 = (Carry.run W X U n).l
  c : (Carry.run W X U n).c = usageTerm W (Carry.run W X U n).l
  mem : ∀ (b : Fin 64) (q : Fin 1024) (d : Fin 256), s.main_v6_16 (ix3 b q d)
    = if q.val < n then (Carry.run W X U q.val).h (ix2 b d) else (0 : EReal)
  outs : ∀ t : Fin 32, t.val < n → ∀ (b : Fin 64) (d : Fin 256), s.main_v6_18 (ix3 t b d)
    = (Carry.run W X U (t.val + 1)).h (ix2 b d)

/-- The first state is zero. -/
theorem start_zero (b : Fin 64) (d : Fin 256) : ((Carry.run W X U 0).h (ix2 b d) : EReal) = 0 := by
  rw [Carry.run]
  unfold Block.start
  pointwise

variable {W X U} {n : ℕ} {s : RState}

theorem Agree.tame (a : Agree W X U n s) (hn : n < 32) : Tame s n where
  w := a.w
  b := a.b
  lo b q := by rw [draws_apply n hn]; exact a.lo _ _ _
  hi b q := by rw [draws_apply n hn]; exact a.hi _ _ _

theorem Agree.input (a : Agree W X U n s) (hn : n < 32) : b11 n s = X n := by
  funext i
  obtain ⟨b, d, rfl⟩ : ∃ (b : Fin 64) (d : Fin 256), i = ix2 b d := ⟨i 0, i 1, eq_ix2 i⟩
  rw [input_apply n hn, a.x]

theorem Agree.draws (a : Agree W X U n s) (hn : n < 32) : b21 n s = U n := by
  funext i
  obtain ⟨b, d, rfl⟩ : ∃ (b : Fin 64) (d : Fin 1024), i = ix2 b d := ⟨i 0, i 1, eq_ix2 i⟩
  rw [draws_apply n hn, a.u]

theorem Agree.logits (a : Agree W X U n s) (hn : n < 32) :
    b59 n s = Cert.KernelIdeal.Step.logits W (X n) (U n) (Carry.run W X U n).h (Carry.run W X U n).c := by
  rw [logits_eq n a.same, a.input hn, a.draws hn, usage_term n a.same, a.h, a.l, ← a.c]

theorem Agree.memory (a : Agree W X U n s) (hn : n < 32) (b : Fin 64) (q : Fin 1024) (d : Fin 256) :
    b31 n s (ix3 b q d) = if q.val < n + 1 then (Carry.run W X U q.val).h (ix2 b d) else (0 : EReal) := by
  rw [memory_apply n hn, a.mem, a.h]
  by_cases e : q.val = n
  · rw [if_pos e, if_pos (by omega), e]
  · rw [if_neg e]
    exact if_congr (by omega) rfl rfl

theorem Agree.entry (a : Agree W X U n s) (hn : n < 32) : b87 n s
    = Cert.KernelIdeal.Step.entry (F := Ideal) (firstMax (F := Ideal) (b59 n s)) (fun k => (Carry.run W X U n).rows k.val) (BitVec.ofNat 32 n) := by
  obtain ⟨p, hp⟩ := select_eq n (a.tame hn)
  funext i
  obtain ⟨b, d, rfl⟩ : ∃ (b : Fin 64) (d : Fin 256), i = ix2 b d := ⟨i 0, i 1, eq_ix2 i⟩
  have hv : (firstMax (F := Ideal) (b59 n s) (ix2 b (0 : Fin 1))).toNat = (p b).val := by
    rw [(hp b).2.1]
    have := (p b).isLt
    simp
    omega
  rw [read_eq n (a.tame hn) (fun b => (hp b).2.1), a.memory hn, entry_apply _ _ n hn]
  by_cases h1 : 1 ≤ (p b).val ∧ (p b).val ≤ n
  · rw [dif_pos (by rw [hv]; exact h1), if_pos (by omega)]
    show _ = (Carry.run W X U n).rows ((firstMax (F := Ideal) (b59 n s) (ix2 b (0 : Fin 1))).toNat - 1) (ix2 b d)
    rw [hv, Carry.run_rows W X U _ n (by omega), Nat.sub_add_cancel h1.1]
  · rw [dif_neg (by rw [hv]; exact h1)]
    have z : (FloatOps.ofBits .f32 0x00000000#32 : Ideal .f32) = (0 : EReal) := Ideal.ofBits_zero_f32
    rw [z]
    by_cases h0 : (p b).val < n + 1
    · have : (p b).val = 0 := by omega
      rw [if_pos h0, this, start_zero]
    · rw [if_neg h0]

theorem Agree.next (a : Agree W X U n s) (hn : n < 32) : b143 n s = (Carry.run W X U (n + 1)).h := by
  rw [Carry.run_h, Carry.nextH, gated_eq, inGates_eq n a.same, stGates_eq n a.same, mixed_eq n a.same, a.entry hn, a.input hn,
    a.logits hn, a.h]
  rfl

theorem Agree.usage (a : Agree W X U n s) (hn : n < 32) : b97 n s = (Carry.run W X U (n + 1)).l := by
  rw [Carry.run_l, Carry.nextL, usage_eq n (a.tame hn), a.logits hn, a.l]

/-- One more time step. -/
theorem Agree.step (a : Agree W X U n s) (hn : n < 32) : Agree W X U (n + 1) (Cert.ReferenceIdeal.Step.step n s) where
  same := ⟨a.same.im, a.same.hm, a.same.um, a.same.fc1, a.same.b1, a.same.fc2e, a.same.fc2h, a.same.b2, a.same.ih, a.same.bih,
    a.same.hh, a.same.bhh⟩
  x := a.x
  u := a.u
  w := a.w
  b := a.b
  lo := a.lo
  hi := a.hi
  h := (Cert.ReferenceIdeal.Step.step_main_v6_15 n s).trans (a.next hn)
  l := (Cert.ReferenceIdeal.Step.step_main_v6_17 n s).trans (a.usage hn)
  c := Carry.run_c W X U n
  mem b q d := (congrFun (Cert.ReferenceIdeal.Step.step_main_v6_16 n s) _).trans (a.memory hn b q d)
  outs t ht b d := by
    rw [Cert.ReferenceIdeal.Step.step_main_v6_18, outs_apply n hn, a.next hn]
    by_cases e : t.val = n
    · rw [if_pos e, e]
    · rw [if_neg e, a.outs t (by omega)]

/-- All 32 time steps. -/
theorem Agree.steps {it : ℕ → RState} (a : Agree W X U 0 (it 0)) (hs : ∀ n, it (n + 1) = Cert.ReferenceIdeal.Step.step n (it n)) :
    ∀ n, n ≤ 32 → Agree W X U n (it n)
  | 0, _ => a
  | n + 1, hn => by
    rw [hs]
    exact (Agree.steps a hs n (by omega)).step (by omega)

end Cert.Meet

end
-- ==== Proof.MStart.lean ====
/-
  Before the first time step the reference's state and the kernel's agree: the weights, the inputs, and the start values.
-/
module

public import proofs.«01_k».proof.Proof.MSteps
public import proofs.«01_k».proof.Proof.VBlocks
public import proofs.«01_k».proof.Proof.RefStepRun
public import proofs.«01_k».proof.Defs

@[expose] public section

noncomputable section

namespace Cert.Meet

open Idealize.ShloMosaic Cert.Row Cert.KernelIdeal Cert.KernelIdeal.Gen Cert.KernelIdeal.Step
open Cert.ReferenceIdeal.Step (A_main_v0 A_main_v1)

variable (m : (ℓ : Loc nD τ sig) → Buf (Elt Ideal) ℓ) (c : Dev nD)

/-- The reference's first state, on the kernel's arguments. -/
abbrev first : RState :=
  Cert.ReferenceIdeal.Step.init (m (c.tc.loc main_arg0)) (m (c.tc.loc main_arg1)) (m (c.tc.loc main_arg5)) (m (c.tc.loc main_arg6))
    (m (c.tc.loc main_arg7)) (m (c.tc.loc main_arg8)) (m (c.tc.loc main_arg9)) (m (c.tc.loc main_arg10)) (m (c.tc.loc main_arg11))
    (m (c.tc.loc main_arg2)) (m (c.tc.loc main_arg3)) (m (c.tc.loc main_arg4))

theorem V_b1 : V m c main_call0_v4 = (shapeCast S1x1024 (m (c.tc.loc main_arg9)) shapeCasts_S1024_S1x1024 : FVec Ideal S1x1024 .f32) := by
  entry_read
  rfl
theorem V_b2 : V m c main_call0_v5 = (shapeCast S1x256 (m (c.tc.loc main_arg11)) shapeCasts_S256_S1x256 : FVec Ideal S1x256 .f32) := by
  entry_read
  rfl
theorem V_fc2e : V m c main_call0_v6
    = (extractStridedSlice S256x256 ![0, 0] (m (c.tc.loc main_arg10)) slices_S512x256_S256x256_0_0 : FVec Ideal S256x256 .f32) := by
  entry_read
  rfl
theorem V_fc2h : V m c main_call0_v7
    = (extractStridedSlice S256x256 ![256, 0] (m (c.tc.loc main_arg10)) slices_S512x256_S256x256_256_0 : FVec Ideal S256x256 .f32) := by
  entry_read
  rfl
theorem V_bih : V m c main_call0_v1 = (shapeCast S1x768 (extractStridedSlice S768 ![0] (m (c.tc.loc main_arg4)) slices_S1536_S768_0)
    shapeCasts_S768_S1x768 : FVec Ideal S1x768 .f32) := by
  entry_read
  rfl
theorem V_bhh : V m c main_call0_v3 = (shapeCast S1x768 (extractStridedSlice S768 ![768] (m (c.tc.loc main_arg4)) slices_S1536_S768_768)
    shapeCasts_S768_S1x768 : FVec Ideal S1x768 .f32) := by
  entry_read
  rfl

/-- The weights are the same. -/
theorem same : Same (wts m c) (first m c) where
  im := (V_main_arg5 m c).symm
  hm := (V_main_arg6 m c).symm
  um := (V_main_arg7 m c).symm
  fc1 := (V_main_arg8 m c).symm
  b1 q := by
    show m (c.tc.loc main_arg9) (ix1 q) = V m c main_call0_v4 (ix2 (0 : Fin 1) q)
    rw [V_b1]
    pointwise
  fc2e k d := by
    show m (c.tc.loc main_arg10) (ix2 (⟨k.val, by omega⟩ : Fin 512) d) = V m c main_call0_v6 (ix2 k d)
    rw [V_fc2e]
    pointwise
  fc2h k d := by
    show m (c.tc.loc main_arg10) (ix2 (⟨256 + k.val, by omega⟩ : Fin 512) d) = V m c main_call0_v7 (ix2 k d)
    rw [V_fc2h]
    pointwise
  b2 d := by
    show m (c.tc.loc main_arg11) (ix1 d) = V m c main_call0_v5 (ix2 (0 : Fin 1) d)
    rw [V_b2]
    pointwise
  ih := (V_main_arg2 m c).symm
  bih q := by
    show A_main_v0 (F := Ideal) (m (c.tc.loc main_arg4)) (ix1 q) = V m c main_call0_v1 (ix2 (0 : Fin 1) q)
    rw [V_bih]
    unfold A_main_v0
    pointwise
  hh := (V_main_arg3 m c).symm
  bhh q := by
    show A_main_v1 (F := Ideal) (m (c.tc.loc main_arg4)) (ix1 q) = V m c main_call0_v3 (ix2 (0 : Fin 1) q)
    rw [V_bhh]
    unfold A_main_v1
    pointwise

/-- The usage starts at -∞ everywhere. -/
theorem start_usage (b : Fin 64) (q : Fin 1024) : ((Block.start (F := Ideal)).l (ix2 b q) : EReal) = ⊥ := by
  unfold Block.start
  pointwise
  rfl

/-- The usage's term starts at zero: the sigmoid of -∞ is zero. -/
theorem start_term (W : KWeights) : (Block.start (F := Ideal)).c = usageTerm W (Block.start (F := Ideal)).l := by
  funext i
  obtain ⟨b, d, rfl⟩ : ∃ (b : Fin 64) (d : Fin 256), i = ix2 b d := ⟨i 0, i 1, eq_ix2 i⟩
  have z : Ideal.logistic ⊥ = 0 := by
    rw [Ideal.logistic, EReal.neg_bot]
    show Ideal.div 1 (1 + ⊤) = 0
    rw [EReal.add_top_of_ne_bot (by decide)]
    unfold Ideal.div
    rw [if_neg (by decide), EReal.inv_top, mul_zero]
  unfold usageTerm
  pointwise
  simp only [start_usage, z]
  unfold Block.start
  pointwise
  simp

/-- What the precondition says of the draws and of the logits' weights. -/
structure Given (u : FVec Ideal S32x64x1024 .f32) (w : FVec Ideal S256x1024 .f32) (b : FVec Ideal S1024 .f32) : Prop where
  lo : ∀ i, (0 : EReal) ≤ u i
  hi : ∀ i, (u i : EReal) ≤ 1
  w : ∀ i, Finite (w i)
  b : ∀ i, Finite (b i)

/-- Before the first time step. -/
theorem agree_zero (g : Given (m (c.tc.loc main_arg1)) (m (c.tc.loc main_arg8)) (m (c.tc.loc main_arg9))) : Agree (wts m c) (inRow m c) (drawRow m c) 0 (first m c) where
  same := same m c
  x t b d := by
    show m (c.tc.loc main_arg0) (ix3 t b d) = V m c main_arg0 (ix3 (⟨t.val % 32, _⟩ : Fin 32) b d)
    rw [V_main_arg0]
    congr 2
    exact Fin.ext (Nat.mod_eq_of_lt t.isLt).symm
  u t b d := by
    show m (c.tc.loc main_arg1) (ix3 t b d) = V m c main_arg1 (ix3 (⟨t.val % 32, _⟩ : Fin 32) b d)
    rw [V_main_arg1]
    congr 2
    exact Fin.ext (Nat.mod_eq_of_lt t.isLt).symm
  w k q := g.w _
  b q := g.b _
  lo t b q := g.lo _
  hi t b q := g.hi _
  h := by
    funext i
    obtain ⟨b, d, rfl⟩ : ∃ (b : Fin 64) (d : Fin 256), i = ix2 b d := ⟨i 0, i 1, eq_ix2 i⟩
    rw [start_zero]
    show Cert.ReferenceIdeal.Step.K_main_v2 (F := Ideal) (ix2 b d) = (0 : EReal)
    unfold Cert.ReferenceIdeal.Step.K_main_v2 Cert.ReferenceIdeal.Step.K_main_cst
    pointwise
  l := by
    funext i
    obtain ⟨b, q, rfl⟩ : ∃ (b : Fin 64) (q : Fin 1024), i = ix2 b q := ⟨i 0, i 1, eq_ix2 i⟩
    rw [Carry.run]
    refine Eq.trans ?_ (start_usage b q).symm
    show Cert.ReferenceIdeal.Step.K_main_v4 (F := Ideal) (ix2 b q) = (⊥ : EReal)
    unfold Cert.ReferenceIdeal.Step.K_main_v4 Cert.ReferenceIdeal.Step.K_main_cst_1
    pointwise
    simp [Ideal.ofBits, Ideal.ieee]
  c := by
    rw [Carry.run]
    exact start_term _
  mem b q d := by
    rw [if_neg (Nat.not_lt_zero _)]
    show Cert.ReferenceIdeal.Step.K_main_v3 (F := Ideal) (ix3 b q d) = (0 : EReal)
    unfold Cert.ReferenceIdeal.Step.K_main_v3 Cert.ReferenceIdeal.Step.K_main_cst_0
    pointwise
  outs t ht := absurd ht (Nat.not_lt_zero _)

end Cert.Meet

end
-- ==== Proof.MPre.lean ====
/-
  The precondition read at an element: the draws lie between 0 and 1, and the weights and biases of the logits are finite.
-/
module

public import proofs.«01_k».proof.Proof.MStart

@[expose] public section

noncomputable section

namespace Cert.Pre_tame

open Idealize.ShloMosaic

instance facts : Cert.Pre_tame.Facts where
  bcast_S_S32x64x1024 := by decide
  bcast_S_S256x1024 := by decide
  bcast_S_S1024 := by decide

end Cert.Pre_tame

namespace Cert.Meet

open Idealize.ShloMosaic Cert.Row

/-- A number whose absolute value is below infinity is finite. -/
theorem finite_of_abs {x : EReal} (h : max x (-x) < ⊤) : Finite x := by
  induction x using EReal.rec with
  | bot => simp at h
  | top => simp at h
  | coe r => exact ⟨r, rfl⟩

/-- A one-bit word made of a truth value is one where the value is true. -/
theorem of_bit {p : Prop} [Decidable p] (h : BitVec.ofBool (decide p) = 1#1) : p := by
  by_contra hp
  simp [hp] at h

theorem given (a0 : FVec Ideal Pre_tame.S32x64x256 .f32) (a1 : FVec Ideal Pre_tame.S32x64x1024 .f32) (a2 a3 : FVec Ideal Pre_tame.S256x768 .f32)
    (a4 : FVec Ideal Pre_tame.S1536 .f32) (a5 a6 : FVec Ideal Pre_tame.S256x256 .f32) (a7 : FVec Ideal Pre_tame.S1024x256 .f32)
    (a8 : FVec Ideal Pre_tame.S256x1024 .f32) (a9 : FVec Ideal Pre_tame.S1024 .f32) (a10 : FVec Ideal Pre_tame.S512x256 .f32)
    (a11 : FVec Ideal Pre_tame.S256 .f32)
    (h1 : (Cert.Pre_tame.fn a0 a1 a2 a3 a4 a5 a6 a7 a8 a9 a10 a11).1 = fun _ => 1#1)
    (h2 : (Cert.Pre_tame.fn a0 a1 a2 a3 a4 a5 a6 a7 a8 a9 a10 a11).2.1 = fun _ => 1#1)
    (h3 : (Cert.Pre_tame.fn a0 a1 a2 a3 a4 a5 a6 a7 a8 a9 a10 a11).2.2 = fun _ => 1#1) : Given a1 a8 a9 := by
  have top : Ideal.ofBits .f32 0x7F800000#32 = ⊤ := by simp [Ideal.ofBits, Ideal.ieee]
  have e1 : ∀ i, BitVec.ofBool (decide ((0 : EReal) ≤ a1 i)) &&& BitVec.ofBool (decide ((a1 i : EReal) ≤ 1)) = 1#1 := fun i => by
    have := congrFun h1 i
    rw [← Ideal.ofBits_zero_f32, ← Ideal.ofBits_one_f32]
    exact this
  have e2 : ∀ i, BitVec.ofBool (decide (max (a8 i : EReal) (-(a8 i : EReal)) < ⊤)) = 1#1 := fun i => by
    rw [← top]
    exact congrFun h2 i
  have e3 : ∀ i, BitVec.ofBool (decide (max (a9 i : EReal) (-(a9 i : EReal)) < ⊤)) = 1#1 := fun i => by
    rw [← top]
    exact congrFun h3 i
  have both : ∀ x y : BitVec 1, x &&& y = 1#1 → x = 1#1 ∧ y = 1#1 := by decide
  exact ⟨fun i => of_bit (both _ _ (e1 i)).1, fun i => of_bit (both _ _ (e1 i)).2, fun i => finite_of_abs (of_bit (e2 i)),
    fun i => finite_of_abs (of_bit (e3 i))⟩

end Cert.Meet

end
-- ==== Proof.MFinal.lean ====
/-
  The kernel's result is the reference's: both are the 32 states of the one recurrence.
-/
module

public import proofs.«01_k».proof.Proof.MPre
public import proofs.«01_k».proof.Proof.VFrame

@[expose] public section

noncomputable section

namespace Cert.Meet

open Idealize.ShloMosaic Idealize.SL.Sem

/-- The reference's states from a first one. -/
def seq (s : RState) : ℕ → RState
  | 0 => s
  | n + 1 => Cert.ReferenceIdeal.Step.step n (seq s n)

/-- After 32 time steps the reference's outputs are the kernel's. -/
theorem outs_eq (m : (ℓ : Loc KernelIdeal.nD KernelIdeal.τ KernelIdeal.sig) → Buf (Elt Ideal) ℓ) (c : Dev KernelIdeal.nD)
    (g : Given (m (c.tc.loc KernelIdeal.main_arg1)) (m (c.tc.loc KernelIdeal.main_arg8)) (m (c.tc.loc KernelIdeal.main_arg9))) :
    (seq (first m c) 32).main_v6_18 = KernelIdeal.Gen.states m c := by
  have a := Agree.steps (it := seq (first m c)) (agree_zero m c g) (fun _ => rfl) 32 le_rfl
  funext i
  obtain ⟨t, b, d, rfl⟩ : ∃ (t : Fin 32) (b : Fin 64) (d : Fin 256), i = ix3 t b d := ⟨i 0, i 1, i 2, eq_ix3 i⟩
  exact a.outs t t.isLt b d

/-- The two programs end with equal results, under the precondition. -/
theorem algebraic : Cert.algebraic_KernelIdeal_ReferenceIdeal_pre_tame := by
  intro m g m' g' pre args
  have first_eq : ∀ c, Cert.ReferenceIdeal.StepRun.initState m' c = first m c := fun c => by
    obtain ⟨h0, h1, h2, h3, h4, h5, h6, h7, h8, h9, h10, h11⟩ := args c
    unfold Cert.ReferenceIdeal.StepRun.initState first
    exact congr (congr (congr (congr (congr (congr (congr (congr (congr (congr (congr (congrArg _ h0) h1) h5) h6) h7) h8) h9) h10) h11)
      h2) h3) h4
  have given_c : ∀ c : Dev KernelIdeal.nD, Given (m (c.tc.loc KernelIdeal.main_arg1)) (m (c.tc.loc KernelIdeal.main_arg8))
      (m (c.tc.loc KernelIdeal.main_arg9)) := fun c =>
    given _ _ _ _ _ _ _ _ _ _ _ _ (pre c).1 (pre c).2.1 (pre c).2.2
  refine ⟨fun c => KernelIdeal.Gen.states m c, ?_, ?_⟩
  · exact (θ_run _ _ _).mono (fun r h c => ⟨h.1 c, h.2.1 c⟩) (KernelIdeal.Gen.run m g)
  · refine (θ_run _ _ _).mono (fun r h c => ⟨(h c).1.trans ?_, (h c).2⟩)
      (Cert.ReferenceIdeal.StepRun.run_iter m' g' (fun c => seq (Cert.ReferenceIdeal.StepRun.initState m' c)) (fun _ => rfl)
        (fun _ _ => rfl))
    show (seq (Cert.ReferenceIdeal.StepRun.initState m' c) 32).main_v6_18 = _
    rw [first_eq c]
    exact outs_eq m c (given_c c)

end Cert.Meet

end
-- ==== Proof.lean ====
/-
  The claim: the three programs run and leave the machine quiet, the idealized kernel is the kernel, and under the
  precondition its result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefStepRun
public import proofs.«01_k».proof.Proof.KFrame
public import proofs.«01_k».proof.Proof.VFrame
public import proofs.«01_k».proof.Proof.MFinal
public import Idealize.ShloMosaic.Adequacy
public import Idealize.ShloMosaic.Init

@[expose] public section

noncomputable section

namespace Cert.Proof

open Idealize.ShloMosaic Idealize.SL.Sem Cert.Kernel

/-- The reference runs, leaves its arguments unchanged and the machine quiet. -/
theorem reference_frame : Cert.quiescent_ReferenceIdeal := fun m ρ _ => (θ_run _ _ _).mono
  (fun r h => ⟨fun c => (h c).2, Idealize.ShloMosaic.sem_eq_zero_of_no_sems (by decide) r.2⟩)
  (Cert.ReferenceIdeal.Value.run m ρ)

theorem claim : Cert.Claim := ⟨Cert.Kernel.Gen.facts, Cert.KernelIdeal.Gen.facts, Cert.ReferenceIdeal.Gen.facts, Cert.Pre_tame.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "never" .f32 0xC7C34F80#32 ⊥ rfl,
  Cert.Meet.algebraic⟩

end Cert.Proof

end
